-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RefRmsIdeal (m : (ℓ : Loc Cert.RefRmsIdeal.nD Cert.RefRmsIdeal.τ Cert.RefRmsIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_RefMergeIdeal (m : (ℓ : Loc Cert.RefMergeIdeal.nD Cert.RefMergeIdeal.τ Cert.RefMergeIdeal.sig) → Buf (Elt Ideal) ℓ) : Prop :=
  True

def Pre_ProjNorm (m : (ℓ : Loc Cert.ProjNorm.nD Cert.ProjNorm.τ Cert.ProjNorm.sig) → Buf (Elt Bits) ℓ) : Prop :=
  True

def Pre_ProjNormIdeal (m : (ℓ : Loc Cert.ProjNormIdeal.nD Cert.ProjNormIdeal.τ Cert.ProjNormIdeal.sig) → Buf (Elt Ideal) ℓ) : Prop :=
  True

def Pre_RefProjNormIdeal (m : (ℓ : Loc Cert.RefProjNormIdeal.nD Cert.RefProjNormIdeal.τ Cert.RefProjNormIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_RefMlpIdeal (m : (ℓ : Loc Cert.RefMlpIdeal.nD Cert.RefMlpIdeal.τ Cert.RefMlpIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_RefSampleIdeal (m : (ℓ : Loc Cert.RefSampleIdeal.nD Cert.RefSampleIdeal.τ Cert.RefSampleIdeal.sig) → Buf (Elt Ideal) ℓ) : Prop :=
  True

def Pre_SampleRms (m : (ℓ : Loc Cert.SampleRms.nD Cert.SampleRms.τ Cert.SampleRms.sig) → Buf (Elt Bits) ℓ) : Prop :=
  True

def Pre_SampleRmsIdeal (m : (ℓ : Loc Cert.SampleRmsIdeal.nD Cert.SampleRmsIdeal.τ Cert.SampleRmsIdeal.sig) → Buf (Elt Ideal) ℓ) : Prop :=
  True

def Pre_RefSampleRmsIdeal (m : (ℓ : Loc Cert.RefSampleRmsIdeal.nD Cert.RefSampleRmsIdeal.τ Cert.RefSampleRmsIdeal.sig) → Buf (Elt Ideal) ℓ) : Prop :=
  True

def Pre_SampleMerge (m : (ℓ : Loc Cert.SampleMerge.nD Cert.SampleMerge.τ Cert.SampleMerge.sig) → Buf (Elt Bits) ℓ) : Prop :=
  True

def Pre_SampleMergeIdeal (m : (ℓ : Loc Cert.SampleMergeIdeal.nD Cert.SampleMergeIdeal.τ Cert.SampleMergeIdeal.sig) → Buf (Elt Ideal) ℓ) : Prop :=
  True

def Pre_RefSampleMergeIdeal (m : (ℓ : Loc Cert.RefSampleMergeIdeal.nD Cert.RefSampleMergeIdeal.τ Cert.RefSampleMergeIdeal.sig) → Buf (Elt Ideal) ℓ) : Prop :=
  True

def Pre_SampleProjNorm (m : (ℓ : Loc Cert.SampleProjNorm.nD Cert.SampleProjNorm.τ Cert.SampleProjNorm.sig) → Buf (Elt Bits) ℓ) : Prop :=
  True

def Pre_SampleProjNormIdeal (m : (ℓ : Loc Cert.SampleProjNormIdeal.nD Cert.SampleProjNormIdeal.τ Cert.SampleProjNormIdeal.sig) → Buf (Elt Ideal) ℓ) : Prop :=
  True

def Pre_RefSampleProjNormIdeal (m : (ℓ : Loc Cert.RefSampleProjNormIdeal.nD Cert.RefSampleProjNormIdeal.τ Cert.RefSampleProjNormIdeal.sig) → Buf (Elt Ideal) ℓ) : Prop :=
  True

def Pre_SampleMlp (m : (ℓ : Loc Cert.SampleMlp.nD Cert.SampleMlp.τ Cert.SampleMlp.sig) → Buf (Elt Bits) ℓ) : Prop :=
  True

def Pre_SampleMlpIdeal (m : (ℓ : Loc Cert.SampleMlpIdeal.nD Cert.SampleMlpIdeal.τ Cert.SampleMlpIdeal.sig) → Buf (Elt Ideal) ℓ) : Prop :=
  True

def Pre_RefSampleMlpIdeal (m : (ℓ : Loc Cert.RefSampleMlpIdeal.nD Cert.RefSampleMlpIdeal.τ Cert.RefSampleMlpIdeal.sig) → Buf (Elt Ideal) ℓ) : Prop :=
  True

def Pre_SampleRows (m : (ℓ : Loc Cert.SampleRows.nD Cert.SampleRows.τ Cert.SampleRows.sig) → Buf (Elt Bits) ℓ) : Prop :=
  True

def Pre_SampleRowsIdeal (m : (ℓ : Loc Cert.SampleRowsIdeal.nD Cert.SampleRowsIdeal.τ Cert.SampleRowsIdeal.sig) → Buf (Elt Ideal) ℓ) : Prop :=
  True

def Pre_RefSampleRowsIdeal (m : (ℓ : Loc Cert.RefSampleRowsIdeal.nD Cert.RefSampleRowsIdeal.τ Cert.RefSampleRowsIdeal.sig) → Buf (Elt Ideal) ℓ) : Prop :=
  True

def Pre_PromptRows (m : (ℓ : Loc Cert.PromptRows.nD Cert.PromptRows.τ Cert.PromptRows.sig) → Buf (Elt Bits) ℓ) : Prop :=
  True

def Pre_PromptRowsIdeal (m : (ℓ : Loc Cert.PromptRowsIdeal.nD Cert.PromptRowsIdeal.τ Cert.PromptRowsIdeal.sig) → Buf (Elt Ideal) ℓ) : Prop :=
  True

def Pre_RefPromptRowsIdeal (m : (ℓ : Loc Cert.RefPromptRowsIdeal.nD Cert.RefPromptRowsIdeal.τ Cert.RefPromptRowsIdeal.sig) → Buf (Elt Ideal) ℓ) : Prop :=
  True

def Pre_PromptOut (m : (ℓ : Loc Cert.PromptOut.nD Cert.PromptOut.τ Cert.PromptOut.sig) → Buf (Elt Bits) ℓ) : Prop :=
  True

def Pre_PromptOutIdeal (m : (ℓ : Loc Cert.PromptOutIdeal.nD Cert.PromptOutIdeal.τ Cert.PromptOutIdeal.sig) → Buf (Elt Ideal) ℓ) : Prop :=
  True

def Pre_RefPromptOutIdeal (m : (ℓ : Loc Cert.RefPromptOutIdeal.nD Cert.RefPromptOutIdeal.τ Cert.RefPromptOutIdeal.sig) → Buf (Elt Ideal) ℓ) : Prop :=
  True

def Pre_SampleOut (m : (ℓ : Loc Cert.SampleOut.nD Cert.SampleOut.τ Cert.SampleOut.sig) → Buf (Elt Bits) ℓ) : Prop :=
  True

def Pre_SampleOutIdeal (m : (ℓ : Loc Cert.SampleOutIdeal.nD Cert.SampleOutIdeal.τ Cert.SampleOutIdeal.sig) → Buf (Elt Ideal) ℓ) : Prop :=
  True

def Pre_RefSampleOutIdeal (m : (ℓ : Loc Cert.RefSampleOutIdeal.nD Cert.RefSampleOutIdeal.τ Cert.RefSampleOutIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RefRmsIdeal [hRefRmsIdeal : Cert.RefRmsIdeal.Facts] : Prop :=
  ∀ (m : (ℓ : Loc Cert.RefRmsIdeal.nD Cert.RefRmsIdeal.τ Cert.RefRmsIdeal.sig) → Buf (Elt Ideal) ℓ) (g : Dev Cert.RefRmsIdeal.nD → PrngReg), Pre_RefRmsIdeal m →
    θ_run (Cert.RefRmsIdeal.defs (F := Ideal)) (onTc (τ := Cert.RefRmsIdeal.τ) (Cert.RefRmsIdeal.main (F := Ideal))) ⟨m, fun _ => 0, g⟩ (fun r => (∀ c : Dev Cert.RefRmsIdeal.nD,
      r.2.mem ((c.tc : Thread Cert.RefRmsIdeal.nD Cert.RefRmsIdeal.τ).loc Cert.RefRmsIdeal.main_arg0) = m ((c.tc : Thread Cert.RefRmsIdeal.nD Cert.RefRmsIdeal.τ).loc Cert.RefRmsIdeal.main_arg0)
      ∧ r.2.mem ((c.tc : Thread Cert.RefRmsIdeal.nD Cert.RefRmsIdeal.τ).loc Cert.RefRmsIdeal.main_arg1) = m ((c.tc : Thread Cert.RefRmsIdeal.nD Cert.RefRmsIdeal.τ).loc Cert.RefRmsIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4))
      ∧ r.2.sem = fun _ => 0)

def quiescent_ProjNorm [hProjNorm : Cert.ProjNorm.Facts] : Prop :=
  ∀ (m : (ℓ : Loc Cert.ProjNorm.nD Cert.ProjNorm.τ Cert.ProjNorm.sig) → Buf (Elt Bits) ℓ) (g : Dev Cert.ProjNorm.nD → PrngReg), Pre_ProjNorm m →
    θ_run (Cert.ProjNorm.defs (F := Bits)) (onTc (τ := Cert.ProjNorm.τ) (Cert.ProjNorm.main (F := Bits))) ⟨m, fun _ => 0, g⟩ (fun r => (∀ c : Dev Cert.ProjNorm.nD,
      r.2.mem ((c.tc : Thread Cert.ProjNorm.nD Cert.ProjNorm.τ).loc Cert.ProjNorm.main_arg0) = m ((c.tc : Thread Cert.ProjNorm.nD Cert.ProjNorm.τ).loc Cert.ProjNorm.main_arg0)
      ∧ r.2.mem ((c.tc : Thread Cert.ProjNorm.nD Cert.ProjNorm.τ).loc Cert.ProjNorm.main_arg1) = m ((c.tc : Thread Cert.ProjNorm.nD Cert.ProjNorm.τ).loc Cert.ProjNorm.main_arg1)
      ∧ r.2.mem ((c.tc : Thread Cert.ProjNorm.nD Cert.ProjNorm.τ).loc Cert.ProjNorm.main_arg2) = m ((c.tc : Thread Cert.ProjNorm.nD Cert.ProjNorm.τ).loc Cert.ProjNorm.main_arg2)
      ∧ r.2.mem ((c.tc : Thread Cert.ProjNorm.nD Cert.ProjNorm.τ).loc Cert.ProjNorm.main_arg3) = m ((c.tc : Thread Cert.ProjNorm.nD Cert.ProjNorm.τ).loc Cert.ProjNorm.main_arg3)
      ∧ r.2.mem ((c.tc : Thread Cert.ProjNorm.nD Cert.ProjNorm.τ).loc Cert.ProjNorm.main_arg4) = m ((c.tc : Thread Cert.ProjNorm.nD Cert.ProjNorm.τ).loc Cert.ProjNorm.main_arg4))
      ∧ r.2.sem = fun _ => 0)

def quiescent_ProjNormIdeal [hProjNormIdeal : Cert.ProjNormIdeal.Facts] : Prop :=
  ∀ (m : (ℓ : Loc Cert.ProjNormIdeal.nD Cert.ProjNormIdeal.τ Cert.ProjNormIdeal.sig) → Buf (Elt Ideal) ℓ) (g : Dev Cert.ProjNormIdeal.nD → PrngReg), Pre_ProjNormIdeal m →
    θ_run (Cert.ProjNormIdeal.defs (F := Ideal)) (onTc (τ := Cert.ProjNormIdeal.τ) (Cert.ProjNormIdeal.main (F := Ideal))) ⟨m, fun _ => 0, g⟩ (fun r => (∀ c : Dev Cert.ProjNormIdeal.nD,
      r.2.mem ((c.tc : Thread Cert.ProjNormIdeal.nD Cert.ProjNormIdeal.τ).loc Cert.ProjNormIdeal.main_arg0) = m ((c.tc : Thread Cert.ProjNormIdeal.nD Cert.ProjNormIdeal.τ).loc Cert.ProjNormIdeal.main_arg0)
      ∧ r.2.mem ((c.tc : Thread Cert.ProjNormIdeal.nD Cert.ProjNormIdeal.τ).loc Cert.ProjNormIdeal.main_arg1) = m ((c.tc : Thread Cert.ProjNormIdeal.nD Cert.ProjNormIdeal.τ).loc Cert.ProjNormIdeal.main_arg1)
      ∧ r.2.mem ((c.tc : Thread Cert.ProjNormIdeal.nD Cert.ProjNormIdeal.τ).loc Cert.ProjNormIdeal.main_arg2) = m ((c.tc : Thread Cert.ProjNormIdeal.nD Cert.ProjNormIdeal.τ).loc Cert.ProjNormIdeal.main_arg2)
      ∧ r.2.mem ((c.tc : Thread Cert.ProjNormIdeal.nD Cert.ProjNormIdeal.τ).loc Cert.ProjNormIdeal.main_arg3) = m ((c.tc : Thread Cert.ProjNormIdeal.nD Cert.ProjNormIdeal.τ).loc Cert.ProjNormIdeal.main_arg3)
      ∧ r.2.mem ((c.tc : Thread Cert.ProjNormIdeal.nD Cert.ProjNormIdeal.τ).loc Cert.ProjNormIdeal.main_arg4) = m ((c.tc : Thread Cert.ProjNormIdeal.nD Cert.ProjNormIdeal.τ).loc Cert.ProjNormIdeal.main_arg4))
      ∧ r.2.sem = fun _ => 0)

def quiescent_RefProjNormIdeal [hRefProjNormIdeal : Cert.RefProjNormIdeal.Facts] : Prop :=
  ∀ (m : (ℓ : Loc Cert.RefProjNormIdeal.nD Cert.RefProjNormIdeal.τ Cert.RefProjNormIdeal.sig) → Buf (Elt Ideal) ℓ) (g : Dev Cert.RefProjNormIdeal.nD → PrngReg), Pre_RefProjNormIdeal m →
    θ_run (Cert.RefProjNormIdeal.defs (F := Ideal)) (onTc (τ := Cert.RefProjNormIdeal.τ) (Cert.RefProjNormIdeal.main (F := Ideal))) ⟨m, fun _ => 0, g⟩ (fun r => (∀ c : Dev Cert.RefProjNormIdeal.nD,
      r.2.mem ((c.tc : Thread Cert.RefProjNormIdeal.nD Cert.RefProjNormIdeal.τ).loc Cert.RefProjNormIdeal.main_arg0) = m ((c.tc : Thread Cert.RefProjNormIdeal.nD Cert.RefProjNormIdeal.τ).loc Cert.RefProjNormIdeal.main_arg0)
      ∧ r.2.mem ((c.tc : Thread Cert.RefProjNormIdeal.nD Cert.RefProjNormIdeal.τ).loc Cert.RefProjNormIdeal.main_arg1) = m ((c.tc : Thread Cert.RefProjNormIdeal.nD Cert.RefProjNormIdeal.τ).loc Cert.RefProjNormIdeal.main_arg1)
      ∧ r.2.mem ((c.tc : Thread Cert.RefProjNormIdeal.nD Cert.RefProjNormIdeal.τ).loc Cert.RefProjNormIdeal.main_arg2) = m ((c.tc : Thread Cert.RefProjNormIdeal.nD Cert.RefProjNormIdeal.τ).loc Cert.RefProjNormIdeal.main_arg2)
      ∧ r.2.mem ((c.tc : Thread Cert.RefProjNormIdeal.nD Cert.RefProjNormIdeal.τ).loc Cert.RefProjNormIdeal.main_arg3) = m ((c.tc : Thread Cert.RefProjNormIdeal.nD Cert.RefProjNormIdeal.τ).loc Cert.RefProjNormIdeal.main_arg3)
      ∧ r.2.mem ((c.tc : Thread Cert.RefProjNormIdeal.nD Cert.RefProjNormIdeal.τ).loc Cert.RefProjNormIdeal.main_arg4) = m ((c.tc : Thread Cert.RefProjNormIdeal.nD Cert.RefProjNormIdeal.τ).loc Cert.RefProjNormIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_RefMlpIdeal [hRefMlpIdeal : Cert.RefMlpIdeal.Facts] : Prop :=
  ∀ (m : (ℓ : Loc Cert.RefMlpIdeal.nD Cert.RefMlpIdeal.τ Cert.RefMlpIdeal.sig) → Buf (Elt Ideal) ℓ) (g : Dev Cert.RefMlpIdeal.nD → PrngReg), Pre_RefMlpIdeal m →
    θ_run (Cert.RefMlpIdeal.defs (F := Ideal)) (onTc (τ := Cert.RefMlpIdeal.τ) (Cert.RefMlpIdeal.main (F := Ideal))) ⟨m, fun _ => 0, g⟩ (fun r => (∀ c : Dev Cert.RefMlpIdeal.nD,
      r.2.mem ((c.tc : Thread Cert.RefMlpIdeal.nD Cert.RefMlpIdeal.τ).loc Cert.RefMlpIdeal.main_arg0) = m ((c.tc : Thread Cert.RefMlpIdeal.nD Cert.RefMlpIdeal.τ).loc Cert.RefMlpIdeal.main_arg0)
      ∧ r.2.mem ((c.tc : Thread Cert.RefMlpIdeal.nD Cert.RefMlpIdeal.τ).loc Cert.RefMlpIdeal.main_arg1) = m ((c.tc : Thread Cert.RefMlpIdeal.nD Cert.RefMlpIdeal.τ).loc Cert.RefMlpIdeal.main_arg1)
      ∧ r.2.mem ((c.tc : Thread Cert.RefMlpIdeal.nD Cert.RefMlpIdeal.τ).loc Cert.RefMlpIdeal.main_arg2) = m ((c.tc : Thread Cert.RefMlpIdeal.nD Cert.RefMlpIdeal.τ).loc Cert.RefMlpIdeal.main_arg2)
      ∧ r.2.mem ((c.tc : Thread Cert.RefMlpIdeal.nD Cert.RefMlpIdeal.τ).loc Cert.RefMlpIdeal.main_arg3) = m ((c.tc : Thread Cert.RefMlpIdeal.nD Cert.RefMlpIdeal.τ).loc Cert.RefMlpIdeal.main_arg3)
      ∧ r.2.mem ((c.tc : Thread Cert.RefMlpIdeal.nD Cert.RefMlpIdeal.τ).loc Cert.RefMlpIdeal.main_arg4) = m ((c.tc : Thread Cert.RefMlpIdeal.nD Cert.RefMlpIdeal.τ).loc Cert.RefMlpIdeal.main_arg4))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1))
      ∧ r.2.sem = fun _ => 0)

def quiescent_RefSampleIdeal [hRefSampleIdeal : Cert.RefSampleIdeal.Facts] : Prop :=
  ∀ (m : (ℓ : Loc Cert.RefSampleIdeal.nD Cert.RefSampleIdeal.τ Cert.RefSampleIdeal.sig) → Buf (Elt Ideal) ℓ) (g : Dev Cert.RefSampleIdeal.nD → PrngReg), Pre_RefSampleIdeal m →
    θ_run (Cert.RefSampleIdeal.defs (F := Ideal)) (onTc (τ := Cert.RefSampleIdeal.τ) (Cert.RefSampleIdeal.main (F := Ideal))) ⟨m, fun _ => 0, g⟩ (fun r => (∀ c : Dev Cert.RefSampleIdeal.nD,
      r.2.mem ((c.tc : Thread Cert.RefSampleIdeal.nD Cert.RefSampleIdeal.τ).loc Cert.RefSampleIdeal.main_arg0) = m ((c.tc : Thread Cert.RefSampleIdeal.nD Cert.RefSampleIdeal.τ).loc Cert.RefSampleIdeal.main_arg0)
      ∧ r.2.mem ((c.tc : Thread Cert.RefSampleIdeal.nD Cert.RefSampleIdeal.τ).loc Cert.RefSampleIdeal.main_arg1) = m ((c.tc : Thread Cert.RefSampleIdeal.nD Cert.RefSampleIdeal.τ).loc Cert.RefSampleIdeal.main_arg1))
      ∧ r.2.sem = fun _ => 0)

def quiescent_SampleRms [hSampleRms : Cert.SampleRms.Facts] : Prop :=
  ∀ (m : (ℓ : Loc Cert.SampleRms.nD Cert.SampleRms.τ Cert.SampleRms.sig) → Buf (Elt Bits) ℓ) (g : Dev Cert.SampleRms.nD → PrngReg), Pre_SampleRms m →
    θ_run (Cert.SampleRms.defs (F := Bits)) (onTc (τ := Cert.SampleRms.τ) (Cert.SampleRms.main (F := Bits))) ⟨m, fun _ => 0, g⟩ (fun r => (∀ c : Dev Cert.SampleRms.nD,
      r.2.mem ((c.tc : Thread Cert.SampleRms.nD Cert.SampleRms.τ).loc Cert.SampleRms.main_arg0) = m ((c.tc : Thread Cert.SampleRms.nD Cert.SampleRms.τ).loc Cert.SampleRms.main_arg0)
      ∧ r.2.mem ((c.tc : Thread Cert.SampleRms.nD Cert.SampleRms.τ).loc Cert.SampleRms.main_arg1) = m ((c.tc : Thread Cert.SampleRms.nD Cert.SampleRms.τ).loc Cert.SampleRms.main_arg1))
      ∧ r.2.sem = fun _ => 0)

def quiescent_SampleRmsIdeal [hSampleRmsIdeal : Cert.SampleRmsIdeal.Facts] : Prop :=
  ∀ (m : (ℓ : Loc Cert.SampleRmsIdeal.nD Cert.SampleRmsIdeal.τ Cert.SampleRmsIdeal.sig) → Buf (Elt Ideal) ℓ) (g : Dev Cert.SampleRmsIdeal.nD → PrngReg), Pre_SampleRmsIdeal m →
    θ_run (Cert.SampleRmsIdeal.defs (F := Ideal)) (onTc (τ := Cert.SampleRmsIdeal.τ) (Cert.SampleRmsIdeal.main (F := Ideal))) ⟨m, fun _ => 0, g⟩ (fun r => (∀ c : Dev Cert.SampleRmsIdeal.nD,
      r.2.mem ((c.tc : Thread Cert.SampleRmsIdeal.nD Cert.SampleRmsIdeal.τ).loc Cert.SampleRmsIdeal.main_arg0) = m ((c.tc : Thread Cert.SampleRmsIdeal.nD Cert.SampleRmsIdeal.τ).loc Cert.SampleRmsIdeal.main_arg0)
      ∧ r.2.mem ((c.tc : Thread Cert.SampleRmsIdeal.nD Cert.SampleRmsIdeal.τ).loc Cert.SampleRmsIdeal.main_arg1) = m ((c.tc : Thread Cert.SampleRmsIdeal.nD Cert.SampleRmsIdeal.τ).loc Cert.SampleRmsIdeal.main_arg1))
      ∧ r.2.sem = fun _ => 0)

def quiescent_RefSampleRmsIdeal [hRefSampleRmsIdeal : Cert.RefSampleRmsIdeal.Facts] : Prop :=
  ∀ (m : (ℓ : Loc Cert.RefSampleRmsIdeal.nD Cert.RefSampleRmsIdeal.τ Cert.RefSampleRmsIdeal.sig) → Buf (Elt Ideal) ℓ) (g : Dev Cert.RefSampleRmsIdeal.nD → PrngReg), Pre_RefSampleRmsIdeal m →
    θ_run (Cert.RefSampleRmsIdeal.defs (F := Ideal)) (onTc (τ := Cert.RefSampleRmsIdeal.τ) (Cert.RefSampleRmsIdeal.main (F := Ideal))) ⟨m, fun _ => 0, g⟩ (fun r => (∀ c : Dev Cert.RefSampleRmsIdeal.nD,
      r.2.mem ((c.tc : Thread Cert.RefSampleRmsIdeal.nD Cert.RefSampleRmsIdeal.τ).loc Cert.RefSampleRmsIdeal.main_arg0) = m ((c.tc : Thread Cert.RefSampleRmsIdeal.nD Cert.RefSampleRmsIdeal.τ).loc Cert.RefSampleRmsIdeal.main_arg0)
      ∧ r.2.mem ((c.tc : Thread Cert.RefSampleRmsIdeal.nD Cert.RefSampleRmsIdeal.τ).loc Cert.RefSampleRmsIdeal.main_arg1) = m ((c.tc : Thread Cert.RefSampleRmsIdeal.nD Cert.RefSampleRmsIdeal.τ).loc Cert.RefSampleRmsIdeal.main_arg1))
      ∧ r.2.sem = fun _ => 0)

def quiescent_SampleMerge [hSampleMerge : Cert.SampleMerge.Facts] : Prop :=
  ∀ (m : (ℓ : Loc Cert.SampleMerge.nD Cert.SampleMerge.τ Cert.SampleMerge.sig) → Buf (Elt Bits) ℓ) (g : Dev Cert.SampleMerge.nD → PrngReg), Pre_SampleMerge m →
    θ_run (Cert.SampleMerge.defs (F := Bits)) (onTc (τ := Cert.SampleMerge.τ) (Cert.SampleMerge.main (F := Bits))) ⟨m, fun _ => 0, g⟩ (fun r => (∀ c : Dev Cert.SampleMerge.nD,
      r.2.mem ((c.tc : Thread Cert.SampleMerge.nD Cert.SampleMerge.τ).loc Cert.SampleMerge.main_arg0) = m ((c.tc : Thread Cert.SampleMerge.nD Cert.SampleMerge.τ).loc Cert.SampleMerge.main_arg0)
      ∧ r.2.mem ((c.tc : Thread Cert.SampleMerge.nD Cert.SampleMerge.τ).loc Cert.SampleMerge.main_arg1) = m ((c.tc : Thread Cert.SampleMerge.nD Cert.SampleMerge.τ).loc Cert.SampleMerge.main_arg1)
      ∧ r.2.mem ((c.tc : Thread Cert.SampleMerge.nD Cert.SampleMerge.τ).loc Cert.SampleMerge.main_arg2) = m ((c.tc : Thread Cert.SampleMerge.nD Cert.SampleMerge.τ).loc Cert.SampleMerge.main_arg2)
      ∧ r.2.mem ((c.tc : Thread Cert.SampleMerge.nD Cert.SampleMerge.τ).loc Cert.SampleMerge.main_arg3) = m ((c.tc : Thread Cert.SampleMerge.nD Cert.SampleMerge.τ).loc Cert.SampleMerge.main_arg3)
      ∧ r.2.mem ((c.tc : Thread Cert.SampleMerge.nD Cert.SampleMerge.τ).loc Cert.SampleMerge.main_arg4) = m ((c.tc : Thread Cert.SampleMerge.nD Cert.SampleMerge.τ).loc Cert.SampleMerge.main_arg4))
      ∧ r.2.sem = fun _ => 0)

def quiescent_SampleMergeIdeal [hSampleMergeIdeal : Cert.SampleMergeIdeal.Facts] : Prop :=
  ∀ (m : (ℓ : Loc Cert.SampleMergeIdeal.nD Cert.SampleMergeIdeal.τ Cert.SampleMergeIdeal.sig) → Buf (Elt Ideal) ℓ) (g : Dev Cert.SampleMergeIdeal.nD → PrngReg), Pre_SampleMergeIdeal m →
    θ_run (Cert.SampleMergeIdeal.defs (F := Ideal)) (onTc (τ := Cert.SampleMergeIdeal.τ) (Cert.SampleMergeIdeal.main (F := Ideal))) ⟨m, fun _ => 0, g⟩ (fun r => (∀ c : Dev Cert.SampleMergeIdeal.nD,
      r.2.mem ((c.tc : Thread Cert.SampleMergeIdeal.nD Cert.SampleMergeIdeal.τ).loc Cert.SampleMergeIdeal.main_arg0) = m ((c.tc : Thread Cert.SampleMergeIdeal.nD Cert.SampleMergeIdeal.τ).loc Cert.SampleMergeIdeal.main_arg0)
      ∧ r.2.mem ((c.tc : Thread Cert.SampleMergeIdeal.nD Cert.SampleMergeIdeal.τ).loc Cert.SampleMergeIdeal.main_arg1) = m ((c.tc : Thread Cert.SampleMergeIdeal.nD Cert.SampleMergeIdeal.τ).loc Cert.SampleMergeIdeal.main_arg1)
      ∧ r.2.mem ((c.tc : Thread Cert.SampleMergeIdeal.nD Cert.SampleMergeIdeal.τ).loc Cert.SampleMergeIdeal.main_arg2) = m ((c.tc : Thread Cert.SampleMergeIdeal.nD Cert.SampleMergeIdeal.τ).loc Cert.SampleMergeIdeal.main_arg2)
      ∧ r.2.mem ((c.tc : Thread Cert.SampleMergeIdeal.nD Cert.SampleMergeIdeal.τ).loc Cert.SampleMergeIdeal.main_arg3) = m ((c.tc : Thread Cert.SampleMergeIdeal.nD Cert.SampleMergeIdeal.τ).loc Cert.SampleMergeIdeal.main_arg3)
      ∧ r.2.mem ((c.tc : Thread Cert.SampleMergeIdeal.nD Cert.SampleMergeIdeal.τ).loc Cert.SampleMergeIdeal.main_arg4) = m ((c.tc : Thread Cert.SampleMergeIdeal.nD Cert.SampleMergeIdeal.τ).loc Cert.SampleMergeIdeal.main_arg4))
      ∧ r.2.sem = fun _ => 0)

def quiescent_RefSampleMergeIdeal [hRefSampleMergeIdeal : Cert.RefSampleMergeIdeal.Facts] : Prop :=
  ∀ (m : (ℓ : Loc Cert.RefSampleMergeIdeal.nD Cert.RefSampleMergeIdeal.τ Cert.RefSampleMergeIdeal.sig) → Buf (Elt Ideal) ℓ) (g : Dev Cert.RefSampleMergeIdeal.nD → PrngReg), Pre_RefSampleMergeIdeal m →
    θ_run (Cert.RefSampleMergeIdeal.defs (F := Ideal)) (onTc (τ := Cert.RefSampleMergeIdeal.τ) (Cert.RefSampleMergeIdeal.main (F := Ideal))) ⟨m, fun _ => 0, g⟩ (fun r => (∀ c : Dev Cert.RefSampleMergeIdeal.nD,
      r.2.mem ((c.tc : Thread Cert.RefSampleMergeIdeal.nD Cert.RefSampleMergeIdeal.τ).loc Cert.RefSampleMergeIdeal.main_arg0) = m ((c.tc : Thread Cert.RefSampleMergeIdeal.nD Cert.RefSampleMergeIdeal.τ).loc Cert.RefSampleMergeIdeal.main_arg0)
      ∧ r.2.mem ((c.tc : Thread Cert.RefSampleMergeIdeal.nD Cert.RefSampleMergeIdeal.τ).loc Cert.RefSampleMergeIdeal.main_arg1) = m ((c.tc : Thread Cert.RefSampleMergeIdeal.nD Cert.RefSampleMergeIdeal.τ).loc Cert.RefSampleMergeIdeal.main_arg1)
      ∧ r.2.mem ((c.tc : Thread Cert.RefSampleMergeIdeal.nD Cert.RefSampleMergeIdeal.τ).loc Cert.RefSampleMergeIdeal.main_arg2) = m ((c.tc : Thread Cert.RefSampleMergeIdeal.nD Cert.RefSampleMergeIdeal.τ).loc Cert.RefSampleMergeIdeal.main_arg2)
      ∧ r.2.mem ((c.tc : Thread Cert.RefSampleMergeIdeal.nD Cert.RefSampleMergeIdeal.τ).loc Cert.RefSampleMergeIdeal.main_arg3) = m ((c.tc : Thread Cert.RefSampleMergeIdeal.nD Cert.RefSampleMergeIdeal.τ).loc Cert.RefSampleMergeIdeal.main_arg3)
      ∧ r.2.mem ((c.tc : Thread Cert.RefSampleMergeIdeal.nD Cert.RefSampleMergeIdeal.τ).loc Cert.RefSampleMergeIdeal.main_arg4) = m ((c.tc : Thread Cert.RefSampleMergeIdeal.nD Cert.RefSampleMergeIdeal.τ).loc Cert.RefSampleMergeIdeal.main_arg4))
      ∧ r.2.sem = fun _ => 0)

def quiescent_SampleProjNorm [hSampleProjNorm : Cert.SampleProjNorm.Facts] : Prop :=
  ∀ (m : (ℓ : Loc Cert.SampleProjNorm.nD Cert.SampleProjNorm.τ Cert.SampleProjNorm.sig) → Buf (Elt Bits) ℓ) (g : Dev Cert.SampleProjNorm.nD → PrngReg), Pre_SampleProjNorm m →
    θ_run (Cert.SampleProjNorm.defs (F := Bits)) (onTc (τ := Cert.SampleProjNorm.τ) (Cert.SampleProjNorm.main (F := Bits))) ⟨m, fun _ => 0, g⟩ (fun r => (∀ c : Dev Cert.SampleProjNorm.nD,
      r.2.mem ((c.tc : Thread Cert.SampleProjNorm.nD Cert.SampleProjNorm.τ).loc Cert.SampleProjNorm.main_arg0) = m ((c.tc : Thread Cert.SampleProjNorm.nD Cert.SampleProjNorm.τ).loc Cert.SampleProjNorm.main_arg0)
      ∧ r.2.mem ((c.tc : Thread Cert.SampleProjNorm.nD Cert.SampleProjNorm.τ).loc Cert.SampleProjNorm.main_arg1) = m ((c.tc : Thread Cert.SampleProjNorm.nD Cert.SampleProjNorm.τ).loc Cert.SampleProjNorm.main_arg1)
      ∧ r.2.mem ((c.tc : Thread Cert.SampleProjNorm.nD Cert.SampleProjNorm.τ).loc Cert.SampleProjNorm.main_arg2) = m ((c.tc : Thread Cert.SampleProjNorm.nD Cert.SampleProjNorm.τ).loc Cert.SampleProjNorm.main_arg2)
      ∧ r.2.mem ((c.tc : Thread Cert.SampleProjNorm.nD Cert.SampleProjNorm.τ).loc Cert.SampleProjNorm.main_arg3) = m ((c.tc : Thread Cert.SampleProjNorm.nD Cert.SampleProjNorm.τ).loc Cert.SampleProjNorm.main_arg3)
      ∧ r.2.mem ((c.tc : Thread Cert.SampleProjNorm.nD Cert.SampleProjNorm.τ).loc Cert.SampleProjNorm.main_arg4) = m ((c.tc : Thread Cert.SampleProjNorm.nD Cert.SampleProjNorm.τ).loc Cert.SampleProjNorm.main_arg4))
      ∧ r.2.sem = fun _ => 0)

def quiescent_SampleProjNormIdeal [hSampleProjNormIdeal : Cert.SampleProjNormIdeal.Facts] : Prop :=
  ∀ (m : (ℓ : Loc Cert.SampleProjNormIdeal.nD Cert.SampleProjNormIdeal.τ Cert.SampleProjNormIdeal.sig) → Buf (Elt Ideal) ℓ) (g : Dev Cert.SampleProjNormIdeal.nD → PrngReg), Pre_SampleProjNormIdeal m →
    θ_run (Cert.SampleProjNormIdeal.defs (F := Ideal)) (onTc (τ := Cert.SampleProjNormIdeal.τ) (Cert.SampleProjNormIdeal.main (F := Ideal))) ⟨m, fun _ => 0, g⟩ (fun r => (∀ c : Dev Cert.SampleProjNormIdeal.nD,
      r.2.mem ((c.tc : Thread Cert.SampleProjNormIdeal.nD Cert.SampleProjNormIdeal.τ).loc Cert.SampleProjNormIdeal.main_arg0) = m ((c.tc : Thread Cert.SampleProjNormIdeal.nD Cert.SampleProjNormIdeal.τ).loc Cert.SampleProjNormIdeal.main_arg0)
      ∧ r.2.mem ((c.tc : Thread Cert.SampleProjNormIdeal.nD Cert.SampleProjNormIdeal.τ).loc Cert.SampleProjNormIdeal.main_arg1) = m ((c.tc : Thread Cert.SampleProjNormIdeal.nD Cert.SampleProjNormIdeal.τ).loc Cert.SampleProjNormIdeal.main_arg1)
      ∧ r.2.mem ((c.tc : Thread Cert.SampleProjNormIdeal.nD Cert.SampleProjNormIdeal.τ).loc Cert.SampleProjNormIdeal.main_arg2) = m ((c.tc : Thread Cert.SampleProjNormIdeal.nD Cert.SampleProjNormIdeal.τ).loc Cert.SampleProjNormIdeal.main_arg2)
      ∧ r.2.mem ((c.tc : Thread Cert.SampleProjNormIdeal.nD Cert.SampleProjNormIdeal.τ).loc Cert.SampleProjNormIdeal.main_arg3) = m ((c.tc : Thread Cert.SampleProjNormIdeal.nD Cert.SampleProjNormIdeal.τ).loc Cert.SampleProjNormIdeal.main_arg3)
      ∧ r.2.mem ((c.tc : Thread Cert.SampleProjNormIdeal.nD Cert.SampleProjNormIdeal.τ).loc Cert.SampleProjNormIdeal.main_arg4) = m ((c.tc : Thread Cert.SampleProjNormIdeal.nD Cert.SampleProjNormIdeal.τ).loc Cert.SampleProjNormIdeal.main_arg4))
      ∧ r.2.sem = fun _ => 0)

def quiescent_RefSampleProjNormIdeal [hRefSampleProjNormIdeal : Cert.RefSampleProjNormIdeal.Facts] : Prop :=
  ∀ (m : (ℓ : Loc Cert.RefSampleProjNormIdeal.nD Cert.RefSampleProjNormIdeal.τ Cert.RefSampleProjNormIdeal.sig) → Buf (Elt Ideal) ℓ) (g : Dev Cert.RefSampleProjNormIdeal.nD → PrngReg), Pre_RefSampleProjNormIdeal m →
    θ_run (Cert.RefSampleProjNormIdeal.defs (F := Ideal)) (onTc (τ := Cert.RefSampleProjNormIdeal.τ) (Cert.RefSampleProjNormIdeal.main (F := Ideal))) ⟨m, fun _ => 0, g⟩ (fun r => (∀ c : Dev Cert.RefSampleProjNormIdeal.nD,
      r.2.mem ((c.tc : Thread Cert.RefSampleProjNormIdeal.nD Cert.RefSampleProjNormIdeal.τ).loc Cert.RefSampleProjNormIdeal.main_arg0) = m ((c.tc : Thread Cert.RefSampleProjNormIdeal.nD Cert.RefSampleProjNormIdeal.τ).loc Cert.RefSampleProjNormIdeal.main_arg0)
      ∧ r.2.mem ((c.tc : Thread Cert.RefSampleProjNormIdeal.nD Cert.RefSampleProjNormIdeal.τ).loc Cert.RefSampleProjNormIdeal.main_arg1) = m ((c.tc : Thread Cert.RefSampleProjNormIdeal.nD Cert.RefSampleProjNormIdeal.τ).loc Cert.RefSampleProjNormIdeal.main_arg1)
      ∧ r.2.mem ((c.tc : Thread Cert.RefSampleProjNormIdeal.nD Cert.RefSampleProjNormIdeal.τ).loc Cert.RefSampleProjNormIdeal.main_arg2) = m ((c.tc : Thread Cert.RefSampleProjNormIdeal.nD Cert.RefSampleProjNormIdeal.τ).loc Cert.RefSampleProjNormIdeal.main_arg2)
      ∧ r.2.mem ((c.tc : Thread Cert.RefSampleProjNormIdeal.nD Cert.RefSampleProjNormIdeal.τ).loc Cert.RefSampleProjNormIdeal.main_arg3) = m ((c.tc : Thread Cert.RefSampleProjNormIdeal.nD Cert.RefSampleProjNormIdeal.τ).loc Cert.RefSampleProjNormIdeal.main_arg3)
      ∧ r.2.mem ((c.tc : Thread Cert.RefSampleProjNormIdeal.nD Cert.RefSampleProjNormIdeal.τ).loc Cert.RefSampleProjNormIdeal.main_arg4) = m ((c.tc : Thread Cert.RefSampleProjNormIdeal.nD Cert.RefSampleProjNormIdeal.τ).loc Cert.RefSampleProjNormIdeal.main_arg4))
      ∧ r.2.sem = fun _ => 0)

def quiescent_SampleMlp [hSampleMlp : Cert.SampleMlp.Facts] : Prop :=
  ∀ (m : (ℓ : Loc Cert.SampleMlp.nD Cert.SampleMlp.τ Cert.SampleMlp.sig) → Buf (Elt Bits) ℓ) (g : Dev Cert.SampleMlp.nD → PrngReg), Pre_SampleMlp m →
    θ_run (Cert.SampleMlp.defs (F := Bits)) (onTc (τ := Cert.SampleMlp.τ) (Cert.SampleMlp.main (F := Bits))) ⟨m, fun _ => 0, g⟩ (fun r => (∀ c : Dev Cert.SampleMlp.nD,
      r.2.mem ((c.tc : Thread Cert.SampleMlp.nD Cert.SampleMlp.τ).loc Cert.SampleMlp.main_arg0) = m ((c.tc : Thread Cert.SampleMlp.nD Cert.SampleMlp.τ).loc Cert.SampleMlp.main_arg0)
      ∧ r.2.mem ((c.tc : Thread Cert.SampleMlp.nD Cert.SampleMlp.τ).loc Cert.SampleMlp.main_arg1) = m ((c.tc : Thread Cert.SampleMlp.nD Cert.SampleMlp.τ).loc Cert.SampleMlp.main_arg1)
      ∧ r.2.mem ((c.tc : Thread Cert.SampleMlp.nD Cert.SampleMlp.τ).loc Cert.SampleMlp.main_arg2) = m ((c.tc : Thread Cert.SampleMlp.nD Cert.SampleMlp.τ).loc Cert.SampleMlp.main_arg2)
      ∧ r.2.mem ((c.tc : Thread Cert.SampleMlp.nD Cert.SampleMlp.τ).loc Cert.SampleMlp.main_arg3) = m ((c.tc : Thread Cert.SampleMlp.nD Cert.SampleMlp.τ).loc Cert.SampleMlp.main_arg3)
      ∧ r.2.mem ((c.tc : Thread Cert.SampleMlp.nD Cert.SampleMlp.τ).loc Cert.SampleMlp.main_arg4) = m ((c.tc : Thread Cert.SampleMlp.nD Cert.SampleMlp.τ).loc Cert.SampleMlp.main_arg4))
      ∧ r.2.sem = fun _ => 0)

def quiescent_SampleMlpIdeal [hSampleMlpIdeal : Cert.SampleMlpIdeal.Facts] : Prop :=
  ∀ (m : (ℓ : Loc Cert.SampleMlpIdeal.nD Cert.SampleMlpIdeal.τ Cert.SampleMlpIdeal.sig) → Buf (Elt Ideal) ℓ) (g : Dev Cert.SampleMlpIdeal.nD → PrngReg), Pre_SampleMlpIdeal m →
    θ_run (Cert.SampleMlpIdeal.defs (F := Ideal)) (onTc (τ := Cert.SampleMlpIdeal.τ) (Cert.SampleMlpIdeal.main (F := Ideal))) ⟨m, fun _ => 0, g⟩ (fun r => (∀ c : Dev Cert.SampleMlpIdeal.nD,
      r.2.mem ((c.tc : Thread Cert.SampleMlpIdeal.nD Cert.SampleMlpIdeal.τ).loc Cert.SampleMlpIdeal.main_arg0) = m ((c.tc : Thread Cert.SampleMlpIdeal.nD Cert.SampleMlpIdeal.τ).loc Cert.SampleMlpIdeal.main_arg0)
      ∧ r.2.mem ((c.tc : Thread Cert.SampleMlpIdeal.nD Cert.SampleMlpIdeal.τ).loc Cert.SampleMlpIdeal.main_arg1) = m ((c.tc : Thread Cert.SampleMlpIdeal.nD Cert.SampleMlpIdeal.τ).loc Cert.SampleMlpIdeal.main_arg1)
      ∧ r.2.mem ((c.tc : Thread Cert.SampleMlpIdeal.nD Cert.SampleMlpIdeal.τ).loc Cert.SampleMlpIdeal.main_arg2) = m ((c.tc : Thread Cert.SampleMlpIdeal.nD Cert.SampleMlpIdeal.τ).loc Cert.SampleMlpIdeal.main_arg2)
      ∧ r.2.mem ((c.tc : Thread Cert.SampleMlpIdeal.nD Cert.SampleMlpIdeal.τ).loc Cert.SampleMlpIdeal.main_arg3) = m ((c.tc : Thread Cert.SampleMlpIdeal.nD Cert.SampleMlpIdeal.τ).loc Cert.SampleMlpIdeal.main_arg3)
      ∧ r.2.mem ((c.tc : Thread Cert.SampleMlpIdeal.nD Cert.SampleMlpIdeal.τ).loc Cert.SampleMlpIdeal.main_arg4) = m ((c.tc : Thread Cert.SampleMlpIdeal.nD Cert.SampleMlpIdeal.τ).loc Cert.SampleMlpIdeal.main_arg4))
      ∧ r.2.sem = fun _ => 0)

def quiescent_RefSampleMlpIdeal [hRefSampleMlpIdeal : Cert.RefSampleMlpIdeal.Facts] : Prop :=
  ∀ (m : (ℓ : Loc Cert.RefSampleMlpIdeal.nD Cert.RefSampleMlpIdeal.τ Cert.RefSampleMlpIdeal.sig) → Buf (Elt Ideal) ℓ) (g : Dev Cert.RefSampleMlpIdeal.nD → PrngReg), Pre_RefSampleMlpIdeal m →
    θ_run (Cert.RefSampleMlpIdeal.defs (F := Ideal)) (onTc (τ := Cert.RefSampleMlpIdeal.τ) (Cert.RefSampleMlpIdeal.main (F := Ideal))) ⟨m, fun _ => 0, g⟩ (fun r => (∀ c : Dev Cert.RefSampleMlpIdeal.nD,
      r.2.mem ((c.tc : Thread Cert.RefSampleMlpIdeal.nD Cert.RefSampleMlpIdeal.τ).loc Cert.RefSampleMlpIdeal.main_arg0) = m ((c.tc : Thread Cert.RefSampleMlpIdeal.nD Cert.RefSampleMlpIdeal.τ).loc Cert.RefSampleMlpIdeal.main_arg0)
      ∧ r.2.mem ((c.tc : Thread Cert.RefSampleMlpIdeal.nD Cert.RefSampleMlpIdeal.τ).loc Cert.RefSampleMlpIdeal.main_arg1) = m ((c.tc : Thread Cert.RefSampleMlpIdeal.nD Cert.RefSampleMlpIdeal.τ).loc Cert.RefSampleMlpIdeal.main_arg1)
      ∧ r.2.mem ((c.tc : Thread Cert.RefSampleMlpIdeal.nD Cert.RefSampleMlpIdeal.τ).loc Cert.RefSampleMlpIdeal.main_arg2) = m ((c.tc : Thread Cert.RefSampleMlpIdeal.nD Cert.RefSampleMlpIdeal.τ).loc Cert.RefSampleMlpIdeal.main_arg2)
      ∧ r.2.mem ((c.tc : Thread Cert.RefSampleMlpIdeal.nD Cert.RefSampleMlpIdeal.τ).loc Cert.RefSampleMlpIdeal.main_arg3) = m ((c.tc : Thread Cert.RefSampleMlpIdeal.nD Cert.RefSampleMlpIdeal.τ).loc Cert.RefSampleMlpIdeal.main_arg3)
      ∧ r.2.mem ((c.tc : Thread Cert.RefSampleMlpIdeal.nD Cert.RefSampleMlpIdeal.τ).loc Cert.RefSampleMlpIdeal.main_arg4) = m ((c.tc : Thread Cert.RefSampleMlpIdeal.nD Cert.RefSampleMlpIdeal.τ).loc Cert.RefSampleMlpIdeal.main_arg4))
      ∧ r.2.sem = fun _ => 0)

def quiescent_SampleRows [hSampleRows : Cert.SampleRows.Facts] : Prop :=
  ∀ (m : (ℓ : Loc Cert.SampleRows.nD Cert.SampleRows.τ Cert.SampleRows.sig) → Buf (Elt Bits) ℓ) (g : Dev Cert.SampleRows.nD → PrngReg), Pre_SampleRows m →
    θ_run (Cert.SampleRows.defs (F := Bits)) (onTc (τ := Cert.SampleRows.τ) (Cert.SampleRows.main (F := Bits))) ⟨m, fun _ => 0, g⟩ (fun r => (∀ c : Dev Cert.SampleRows.nD,
      r.2.mem ((c.tc : Thread Cert.SampleRows.nD Cert.SampleRows.τ).loc Cert.SampleRows.main_arg0) = m ((c.tc : Thread Cert.SampleRows.nD Cert.SampleRows.τ).loc Cert.SampleRows.main_arg0)
      ∧ r.2.mem ((c.tc : Thread Cert.SampleRows.nD Cert.SampleRows.τ).loc Cert.SampleRows.main_arg1) = m ((c.tc : Thread Cert.SampleRows.nD Cert.SampleRows.τ).loc Cert.SampleRows.main_arg1)
      ∧ r.2.mem ((c.tc : Thread Cert.SampleRows.nD Cert.SampleRows.τ).loc Cert.SampleRows.main_arg2) = m ((c.tc : Thread Cert.SampleRows.nD Cert.SampleRows.τ).loc Cert.SampleRows.main_arg2))
      ∧ r.2.sem = fun _ => 0)

def quiescent_SampleRowsIdeal [hSampleRowsIdeal : Cert.SampleRowsIdeal.Facts] : Prop :=
  ∀ (m : (ℓ : Loc Cert.SampleRowsIdeal.nD Cert.SampleRowsIdeal.τ Cert.SampleRowsIdeal.sig) → Buf (Elt Ideal) ℓ) (g : Dev Cert.SampleRowsIdeal.nD → PrngReg), Pre_SampleRowsIdeal m →
    θ_run (Cert.SampleRowsIdeal.defs (F := Ideal)) (onTc (τ := Cert.SampleRowsIdeal.τ) (Cert.SampleRowsIdeal.main (F := Ideal))) ⟨m, fun _ => 0, g⟩ (fun r => (∀ c : Dev Cert.SampleRowsIdeal.nD,
      r.2.mem ((c.tc : Thread Cert.SampleRowsIdeal.nD Cert.SampleRowsIdeal.τ).loc Cert.SampleRowsIdeal.main_arg0) = m ((c.tc : Thread Cert.SampleRowsIdeal.nD Cert.SampleRowsIdeal.τ).loc Cert.SampleRowsIdeal.main_arg0)
      ∧ r.2.mem ((c.tc : Thread Cert.SampleRowsIdeal.nD Cert.SampleRowsIdeal.τ).loc Cert.SampleRowsIdeal.main_arg1) = m ((c.tc : Thread Cert.SampleRowsIdeal.nD Cert.SampleRowsIdeal.τ).loc Cert.SampleRowsIdeal.main_arg1)
      ∧ r.2.mem ((c.tc : Thread Cert.SampleRowsIdeal.nD Cert.SampleRowsIdeal.τ).loc Cert.SampleRowsIdeal.main_arg2) = m ((c.tc : Thread Cert.SampleRowsIdeal.nD Cert.SampleRowsIdeal.τ).loc Cert.SampleRowsIdeal.main_arg2))
      ∧ r.2.sem = fun _ => 0)

def quiescent_RefSampleRowsIdeal [hRefSampleRowsIdeal : Cert.RefSampleRowsIdeal.Facts] : Prop :=
  ∀ (m : (ℓ : Loc Cert.RefSampleRowsIdeal.nD Cert.RefSampleRowsIdeal.τ Cert.RefSampleRowsIdeal.sig) → Buf (Elt Ideal) ℓ) (g : Dev Cert.RefSampleRowsIdeal.nD → PrngReg), Pre_RefSampleRowsIdeal m →
    θ_run (Cert.RefSampleRowsIdeal.defs (F := Ideal)) (onTc (τ := Cert.RefSampleRowsIdeal.τ) (Cert.RefSampleRowsIdeal.main (F := Ideal))) ⟨m, fun _ => 0, g⟩ (fun r => (∀ c : Dev Cert.RefSampleRowsIdeal.nD,
      r.2.mem ((c.tc : Thread Cert.RefSampleRowsIdeal.nD Cert.RefSampleRowsIdeal.τ).loc Cert.RefSampleRowsIdeal.main_arg0) = m ((c.tc : Thread Cert.RefSampleRowsIdeal.nD Cert.RefSampleRowsIdeal.τ).loc Cert.RefSampleRowsIdeal.main_arg0)
      ∧ r.2.mem ((c.tc : Thread Cert.RefSampleRowsIdeal.nD Cert.RefSampleRowsIdeal.τ).loc Cert.RefSampleRowsIdeal.main_arg1) = m ((c.tc : Thread Cert.RefSampleRowsIdeal.nD Cert.RefSampleRowsIdeal.τ).loc Cert.RefSampleRowsIdeal.main_arg1)
      ∧ r.2.mem ((c.tc : Thread Cert.RefSampleRowsIdeal.nD Cert.RefSampleRowsIdeal.τ).loc Cert.RefSampleRowsIdeal.main_arg2) = m ((c.tc : Thread Cert.RefSampleRowsIdeal.nD Cert.RefSampleRowsIdeal.τ).loc Cert.RefSampleRowsIdeal.main_arg2))
      ∧ r.2.sem = fun _ => 0)

def quiescent_PromptRows [hPromptRows : Cert.PromptRows.Facts] : Prop :=
  ∀ (m : (ℓ : Loc Cert.PromptRows.nD Cert.PromptRows.τ Cert.PromptRows.sig) → Buf (Elt Bits) ℓ) (g : Dev Cert.PromptRows.nD → PrngReg), Pre_PromptRows m →
    θ_run (Cert.PromptRows.defs (F := Bits)) (onTc (τ := Cert.PromptRows.τ) (Cert.PromptRows.main (F := Bits))) ⟨m, fun _ => 0, g⟩ (fun r => (∀ c : Dev Cert.PromptRows.nD,
      r.2.mem ((c.tc : Thread Cert.PromptRows.nD Cert.PromptRows.τ).loc Cert.PromptRows.main_arg0) = m ((c.tc : Thread Cert.PromptRows.nD Cert.PromptRows.τ).loc Cert.PromptRows.main_arg0)
      ∧ r.2.mem ((c.tc : Thread Cert.PromptRows.nD Cert.PromptRows.τ).loc Cert.PromptRows.main_arg1) = m ((c.tc : Thread Cert.PromptRows.nD Cert.PromptRows.τ).loc Cert.PromptRows.main_arg1)
      ∧ r.2.mem ((c.tc : Thread Cert.PromptRows.nD Cert.PromptRows.τ).loc Cert.PromptRows.main_arg2) = m ((c.tc : Thread Cert.PromptRows.nD Cert.PromptRows.τ).loc Cert.PromptRows.main_arg2))
      ∧ r.2.sem = fun _ => 0)

def quiescent_PromptRowsIdeal [hPromptRowsIdeal : Cert.PromptRowsIdeal.Facts] : Prop :=
  ∀ (m : (ℓ : Loc Cert.PromptRowsIdeal.nD Cert.PromptRowsIdeal.τ Cert.PromptRowsIdeal.sig) → Buf (Elt Ideal) ℓ) (g : Dev Cert.PromptRowsIdeal.nD → PrngReg), Pre_PromptRowsIdeal m →
    θ_run (Cert.PromptRowsIdeal.defs (F := Ideal)) (onTc (τ := Cert.PromptRowsIdeal.τ) (Cert.PromptRowsIdeal.main (F := Ideal))) ⟨m, fun _ => 0, g⟩ (fun r => (∀ c : Dev Cert.PromptRowsIdeal.nD,
      r.2.mem ((c.tc : Thread Cert.PromptRowsIdeal.nD Cert.PromptRowsIdeal.τ).loc Cert.PromptRowsIdeal.main_arg0) = m ((c.tc : Thread Cert.PromptRowsIdeal.nD Cert.PromptRowsIdeal.τ).loc Cert.PromptRowsIdeal.main_arg0)
      ∧ r.2.mem ((c.tc : Thread Cert.PromptRowsIdeal.nD Cert.PromptRowsIdeal.τ).loc Cert.PromptRowsIdeal.main_arg1) = m ((c.tc : Thread Cert.PromptRowsIdeal.nD Cert.PromptRowsIdeal.τ).loc Cert.PromptRowsIdeal.main_arg1)
      ∧ r.2.mem ((c.tc : Thread Cert.PromptRowsIdeal.nD Cert.PromptRowsIdeal.τ).loc Cert.PromptRowsIdeal.main_arg2) = m ((c.tc : Thread Cert.PromptRowsIdeal.nD Cert.PromptRowsIdeal.τ).loc Cert.PromptRowsIdeal.main_arg2))
      ∧ r.2.sem = fun _ => 0)

def quiescent_RefPromptRowsIdeal [hRefPromptRowsIdeal : Cert.RefPromptRowsIdeal.Facts] : Prop :=
  ∀ (m : (ℓ : Loc Cert.RefPromptRowsIdeal.nD Cert.RefPromptRowsIdeal.τ Cert.RefPromptRowsIdeal.sig) → Buf (Elt Ideal) ℓ) (g : Dev Cert.RefPromptRowsIdeal.nD → PrngReg), Pre_RefPromptRowsIdeal m →
    θ_run (Cert.RefPromptRowsIdeal.defs (F := Ideal)) (onTc (τ := Cert.RefPromptRowsIdeal.τ) (Cert.RefPromptRowsIdeal.main (F := Ideal))) ⟨m, fun _ => 0, g⟩ (fun r => (∀ c : Dev Cert.RefPromptRowsIdeal.nD,
      r.2.mem ((c.tc : Thread Cert.RefPromptRowsIdeal.nD Cert.RefPromptRowsIdeal.τ).loc Cert.RefPromptRowsIdeal.main_arg0) = m ((c.tc : Thread Cert.RefPromptRowsIdeal.nD Cert.RefPromptRowsIdeal.τ).loc Cert.RefPromptRowsIdeal.main_arg0)
      ∧ r.2.mem ((c.tc : Thread Cert.RefPromptRowsIdeal.nD Cert.RefPromptRowsIdeal.τ).loc Cert.RefPromptRowsIdeal.main_arg1) = m ((c.tc : Thread Cert.RefPromptRowsIdeal.nD Cert.RefPromptRowsIdeal.τ).loc Cert.RefPromptRowsIdeal.main_arg1)
      ∧ r.2.mem ((c.tc : Thread Cert.RefPromptRowsIdeal.nD Cert.RefPromptRowsIdeal.τ).loc Cert.RefPromptRowsIdeal.main_arg2) = m ((c.tc : Thread Cert.RefPromptRowsIdeal.nD Cert.RefPromptRowsIdeal.τ).loc Cert.RefPromptRowsIdeal.main_arg2))
      ∧ r.2.sem = fun _ => 0)

def quiescent_PromptOut [hPromptOut : Cert.PromptOut.Facts] : Prop :=
  ∀ (m : (ℓ : Loc Cert.PromptOut.nD Cert.PromptOut.τ Cert.PromptOut.sig) → Buf (Elt Bits) ℓ) (g : Dev Cert.PromptOut.nD → PrngReg), Pre_PromptOut m →
    θ_run (Cert.PromptOut.defs (F := Bits)) (onTc (τ := Cert.PromptOut.τ) (Cert.PromptOut.main (F := Bits))) ⟨m, fun _ => 0, g⟩ (fun r => (∀ c : Dev Cert.PromptOut.nD,
      r.2.mem ((c.tc : Thread Cert.PromptOut.nD Cert.PromptOut.τ).loc Cert.PromptOut.main_arg0) = m ((c.tc : Thread Cert.PromptOut.nD Cert.PromptOut.τ).loc Cert.PromptOut.main_arg0)
      ∧ r.2.mem ((c.tc : Thread Cert.PromptOut.nD Cert.PromptOut.τ).loc Cert.PromptOut.main_arg1) = m ((c.tc : Thread Cert.PromptOut.nD Cert.PromptOut.τ).loc Cert.PromptOut.main_arg1)
      ∧ r.2.mem ((c.tc : Thread Cert.PromptOut.nD Cert.PromptOut.τ).loc Cert.PromptOut.main_arg2) = m ((c.tc : Thread Cert.PromptOut.nD Cert.PromptOut.τ).loc Cert.PromptOut.main_arg2)
      ∧ r.2.mem ((c.tc : Thread Cert.PromptOut.nD Cert.PromptOut.τ).loc Cert.PromptOut.main_arg3) = m ((c.tc : Thread Cert.PromptOut.nD Cert.PromptOut.τ).loc Cert.PromptOut.main_arg3)
      ∧ r.2.mem ((c.tc : Thread Cert.PromptOut.nD Cert.PromptOut.τ).loc Cert.PromptOut.main_arg4) = m ((c.tc : Thread Cert.PromptOut.nD Cert.PromptOut.τ).loc Cert.PromptOut.main_arg4)
      ∧ r.2.mem ((c.tc : Thread Cert.PromptOut.nD Cert.PromptOut.τ).loc Cert.PromptOut.main_arg5) = m ((c.tc : Thread Cert.PromptOut.nD Cert.PromptOut.τ).loc Cert.PromptOut.main_arg5)
      ∧ r.2.mem ((c.tc : Thread Cert.PromptOut.nD Cert.PromptOut.τ).loc Cert.PromptOut.main_arg6) = m ((c.tc : Thread Cert.PromptOut.nD Cert.PromptOut.τ).loc Cert.PromptOut.main_arg6)
      ∧ r.2.mem ((c.tc : Thread Cert.PromptOut.nD Cert.PromptOut.τ).loc Cert.PromptOut.main_arg7) = m ((c.tc : Thread Cert.PromptOut.nD Cert.PromptOut.τ).loc Cert.PromptOut.main_arg7)
      ∧ r.2.mem ((c.tc : Thread Cert.PromptOut.nD Cert.PromptOut.τ).loc Cert.PromptOut.main_arg8) = m ((c.tc : Thread Cert.PromptOut.nD Cert.PromptOut.τ).loc Cert.PromptOut.main_arg8)
      ∧ r.2.mem ((c.tc : Thread Cert.PromptOut.nD Cert.PromptOut.τ).loc Cert.PromptOut.main_arg9) = m ((c.tc : Thread Cert.PromptOut.nD Cert.PromptOut.τ).loc Cert.PromptOut.main_arg9)
      ∧ r.2.mem ((c.tc : Thread Cert.PromptOut.nD Cert.PromptOut.τ).loc Cert.PromptOut.main_arg10) = m ((c.tc : Thread Cert.PromptOut.nD Cert.PromptOut.τ).loc Cert.PromptOut.main_arg10)
      ∧ r.2.mem ((c.tc : Thread Cert.PromptOut.nD Cert.PromptOut.τ).loc Cert.PromptOut.main_arg11) = m ((c.tc : Thread Cert.PromptOut.nD Cert.PromptOut.τ).loc Cert.PromptOut.main_arg11)
      ∧ r.2.mem ((c.tc : Thread Cert.PromptOut.nD Cert.PromptOut.τ).loc Cert.PromptOut.main_arg12) = m ((c.tc : Thread Cert.PromptOut.nD Cert.PromptOut.τ).loc Cert.PromptOut.main_arg12))
      ∧ r.2.sem = fun _ => 0)

def quiescent_PromptOutIdeal [hPromptOutIdeal : Cert.PromptOutIdeal.Facts] : Prop :=
  ∀ (m : (ℓ : Loc Cert.PromptOutIdeal.nD Cert.PromptOutIdeal.τ Cert.PromptOutIdeal.sig) → Buf (Elt Ideal) ℓ) (g : Dev Cert.PromptOutIdeal.nD → PrngReg), Pre_PromptOutIdeal m →
    θ_run (Cert.PromptOutIdeal.defs (F := Ideal)) (onTc (τ := Cert.PromptOutIdeal.τ) (Cert.PromptOutIdeal.main (F := Ideal))) ⟨m, fun _ => 0, g⟩ (fun r => (∀ c : Dev Cert.PromptOutIdeal.nD,
      r.2.mem ((c.tc : Thread Cert.PromptOutIdeal.nD Cert.PromptOutIdeal.τ).loc Cert.PromptOutIdeal.main_arg0) = m ((c.tc : Thread Cert.PromptOutIdeal.nD Cert.PromptOutIdeal.τ).loc Cert.PromptOutIdeal.main_arg0)
      ∧ r.2.mem ((c.tc : Thread Cert.PromptOutIdeal.nD Cert.PromptOutIdeal.τ).loc Cert.PromptOutIdeal.main_arg1) = m ((c.tc : Thread Cert.PromptOutIdeal.nD Cert.PromptOutIdeal.τ).loc Cert.PromptOutIdeal.main_arg1)
      ∧ r.2.mem ((c.tc : Thread Cert.PromptOutIdeal.nD Cert.PromptOutIdeal.τ).loc Cert.PromptOutIdeal.main_arg2) = m ((c.tc : Thread Cert.PromptOutIdeal.nD Cert.PromptOutIdeal.τ).loc Cert.PromptOutIdeal.main_arg2)
      ∧ r.2.mem ((c.tc : Thread Cert.PromptOutIdeal.nD Cert.PromptOutIdeal.τ).loc Cert.PromptOutIdeal.main_arg3) = m ((c.tc : Thread Cert.PromptOutIdeal.nD Cert.PromptOutIdeal.τ).loc Cert.PromptOutIdeal.main_arg3)
      ∧ r.2.mem ((c.tc : Thread Cert.PromptOutIdeal.nD Cert.PromptOutIdeal.τ).loc Cert.PromptOutIdeal.main_arg4) = m ((c.tc : Thread Cert.PromptOutIdeal.nD Cert.PromptOutIdeal.τ).loc Cert.PromptOutIdeal.main_arg4)
      ∧ r.2.mem ((c.tc : Thread Cert.PromptOutIdeal.nD Cert.PromptOutIdeal.τ).loc Cert.PromptOutIdeal.main_arg5) = m ((c.tc : Thread Cert.PromptOutIdeal.nD Cert.PromptOutIdeal.τ).loc Cert.PromptOutIdeal.main_arg5)
      ∧ r.2.mem ((c.tc : Thread Cert.PromptOutIdeal.nD Cert.PromptOutIdeal.τ).loc Cert.PromptOutIdeal.main_arg6) = m ((c.tc : Thread Cert.PromptOutIdeal.nD Cert.PromptOutIdeal.τ).loc Cert.PromptOutIdeal.main_arg6)
      ∧ r.2.mem ((c.tc : Thread Cert.PromptOutIdeal.nD Cert.PromptOutIdeal.τ).loc Cert.PromptOutIdeal.main_arg7) = m ((c.tc : Thread Cert.PromptOutIdeal.nD Cert.PromptOutIdeal.τ).loc Cert.PromptOutIdeal.main_arg7)
      ∧ r.2.mem ((c.tc : Thread Cert.PromptOutIdeal.nD Cert.PromptOutIdeal.τ).loc Cert.PromptOutIdeal.main_arg8) = m ((c.tc : Thread Cert.PromptOutIdeal.nD Cert.PromptOutIdeal.τ).loc Cert.PromptOutIdeal.main_arg8)
      ∧ r.2.mem ((c.tc : Thread Cert.PromptOutIdeal.nD Cert.PromptOutIdeal.τ).loc Cert.PromptOutIdeal.main_arg9) = m ((c.tc : Thread Cert.PromptOutIdeal.nD Cert.PromptOutIdeal.τ).loc Cert.PromptOutIdeal.main_arg9)
      ∧ r.2.mem ((c.tc : Thread Cert.PromptOutIdeal.nD Cert.PromptOutIdeal.τ).loc Cert.PromptOutIdeal.main_arg10) = m ((c.tc : Thread Cert.PromptOutIdeal.nD Cert.PromptOutIdeal.τ).loc Cert.PromptOutIdeal.main_arg10)
      ∧ r.2.mem ((c.tc : Thread Cert.PromptOutIdeal.nD Cert.PromptOutIdeal.τ).loc Cert.PromptOutIdeal.main_arg11) = m ((c.tc : Thread Cert.PromptOutIdeal.nD Cert.PromptOutIdeal.τ).loc Cert.PromptOutIdeal.main_arg11)
      ∧ r.2.mem ((c.tc : Thread Cert.PromptOutIdeal.nD Cert.PromptOutIdeal.τ).loc Cert.PromptOutIdeal.main_arg12) = m ((c.tc : Thread Cert.PromptOutIdeal.nD Cert.PromptOutIdeal.τ).loc Cert.PromptOutIdeal.main_arg12))
      ∧ r.2.sem = fun _ => 0)

def quiescent_RefPromptOutIdeal [hRefPromptOutIdeal : Cert.RefPromptOutIdeal.Facts] : Prop :=
  ∀ (m : (ℓ : Loc Cert.RefPromptOutIdeal.nD Cert.RefPromptOutIdeal.τ Cert.RefPromptOutIdeal.sig) → Buf (Elt Ideal) ℓ) (g : Dev Cert.RefPromptOutIdeal.nD → PrngReg), Pre_RefPromptOutIdeal m →
    θ_run (Cert.RefPromptOutIdeal.defs (F := Ideal)) (onTc (τ := Cert.RefPromptOutIdeal.τ) (Cert.RefPromptOutIdeal.main (F := Ideal))) ⟨m, fun _ => 0, g⟩ (fun r => (∀ c : Dev Cert.RefPromptOutIdeal.nD,
      r.2.mem ((c.tc : Thread Cert.RefPromptOutIdeal.nD Cert.RefPromptOutIdeal.τ).loc Cert.RefPromptOutIdeal.main_arg0) = m ((c.tc : Thread Cert.RefPromptOutIdeal.nD Cert.RefPromptOutIdeal.τ).loc Cert.RefPromptOutIdeal.main_arg0)
      ∧ r.2.mem ((c.tc : Thread Cert.RefPromptOutIdeal.nD Cert.RefPromptOutIdeal.τ).loc Cert.RefPromptOutIdeal.main_arg1) = m ((c.tc : Thread Cert.RefPromptOutIdeal.nD Cert.RefPromptOutIdeal.τ).loc Cert.RefPromptOutIdeal.main_arg1)
      ∧ r.2.mem ((c.tc : Thread Cert.RefPromptOutIdeal.nD Cert.RefPromptOutIdeal.τ).loc Cert.RefPromptOutIdeal.main_arg2) = m ((c.tc : Thread Cert.RefPromptOutIdeal.nD Cert.RefPromptOutIdeal.τ).loc Cert.RefPromptOutIdeal.main_arg2)
      ∧ r.2.mem ((c.tc : Thread Cert.RefPromptOutIdeal.nD Cert.RefPromptOutIdeal.τ).loc Cert.RefPromptOutIdeal.main_arg3) = m ((c.tc : Thread Cert.RefPromptOutIdeal.nD Cert.RefPromptOutIdeal.τ).loc Cert.RefPromptOutIdeal.main_arg3)
      ∧ r.2.mem ((c.tc : Thread Cert.RefPromptOutIdeal.nD Cert.RefPromptOutIdeal.τ).loc Cert.RefPromptOutIdeal.main_arg4) = m ((c.tc : Thread Cert.RefPromptOutIdeal.nD Cert.RefPromptOutIdeal.τ).loc Cert.RefPromptOutIdeal.main_arg4)
      ∧ r.2.mem ((c.tc : Thread Cert.RefPromptOutIdeal.nD Cert.RefPromptOutIdeal.τ).loc Cert.RefPromptOutIdeal.main_arg5) = m ((c.tc : Thread Cert.RefPromptOutIdeal.nD Cert.RefPromptOutIdeal.τ).loc Cert.RefPromptOutIdeal.main_arg5)
      ∧ r.2.mem ((c.tc : Thread Cert.RefPromptOutIdeal.nD Cert.RefPromptOutIdeal.τ).loc Cert.RefPromptOutIdeal.main_arg6) = m ((c.tc : Thread Cert.RefPromptOutIdeal.nD Cert.RefPromptOutIdeal.τ).loc Cert.RefPromptOutIdeal.main_arg6)
      ∧ r.2.mem ((c.tc : Thread Cert.RefPromptOutIdeal.nD Cert.RefPromptOutIdeal.τ).loc Cert.RefPromptOutIdeal.main_arg7) = m ((c.tc : Thread Cert.RefPromptOutIdeal.nD Cert.RefPromptOutIdeal.τ).loc Cert.RefPromptOutIdeal.main_arg7)
      ∧ r.2.mem ((c.tc : Thread Cert.RefPromptOutIdeal.nD Cert.RefPromptOutIdeal.τ).loc Cert.RefPromptOutIdeal.main_arg8) = m ((c.tc : Thread Cert.RefPromptOutIdeal.nD Cert.RefPromptOutIdeal.τ).loc Cert.RefPromptOutIdeal.main_arg8)
      ∧ r.2.mem ((c.tc : Thread Cert.RefPromptOutIdeal.nD Cert.RefPromptOutIdeal.τ).loc Cert.RefPromptOutIdeal.main_arg9) = m ((c.tc : Thread Cert.RefPromptOutIdeal.nD Cert.RefPromptOutIdeal.τ).loc Cert.RefPromptOutIdeal.main_arg9)
      ∧ r.2.mem ((c.tc : Thread Cert.RefPromptOutIdeal.nD Cert.RefPromptOutIdeal.τ).loc Cert.RefPromptOutIdeal.main_arg10) = m ((c.tc : Thread Cert.RefPromptOutIdeal.nD Cert.RefPromptOutIdeal.τ).loc Cert.RefPromptOutIdeal.main_arg10)
      ∧ r.2.mem ((c.tc : Thread Cert.RefPromptOutIdeal.nD Cert.RefPromptOutIdeal.τ).loc Cert.RefPromptOutIdeal.main_arg11) = m ((c.tc : Thread Cert.RefPromptOutIdeal.nD Cert.RefPromptOutIdeal.τ).loc Cert.RefPromptOutIdeal.main_arg11)
      ∧ r.2.mem ((c.tc : Thread Cert.RefPromptOutIdeal.nD Cert.RefPromptOutIdeal.τ).loc Cert.RefPromptOutIdeal.main_arg12) = m ((c.tc : Thread Cert.RefPromptOutIdeal.nD Cert.RefPromptOutIdeal.τ).loc Cert.RefPromptOutIdeal.main_arg12))
      ∧ r.2.sem = fun _ => 0)

def quiescent_SampleOut [hSampleOut : Cert.SampleOut.Facts] : Prop :=
  ∀ (m : (ℓ : Loc Cert.SampleOut.nD Cert.SampleOut.τ Cert.SampleOut.sig) → Buf (Elt Bits) ℓ) (g : Dev Cert.SampleOut.nD → PrngReg), Pre_SampleOut m →
    θ_run (Cert.SampleOut.defs (F := Bits)) (onTc (τ := Cert.SampleOut.τ) (Cert.SampleOut.main (F := Bits))) ⟨m, fun _ => 0, g⟩ (fun r => (∀ c : Dev Cert.SampleOut.nD,
      r.2.mem ((c.tc : Thread Cert.SampleOut.nD Cert.SampleOut.τ).loc Cert.SampleOut.main_arg0) = m ((c.tc : Thread Cert.SampleOut.nD Cert.SampleOut.τ).loc Cert.SampleOut.main_arg0)
      ∧ r.2.mem ((c.tc : Thread Cert.SampleOut.nD Cert.SampleOut.τ).loc Cert.SampleOut.main_arg1) = m ((c.tc : Thread Cert.SampleOut.nD Cert.SampleOut.τ).loc Cert.SampleOut.main_arg1)
      ∧ r.2.mem ((c.tc : Thread Cert.SampleOut.nD Cert.SampleOut.τ).loc Cert.SampleOut.main_arg2) = m ((c.tc : Thread Cert.SampleOut.nD Cert.SampleOut.τ).loc Cert.SampleOut.main_arg2)
      ∧ r.2.mem ((c.tc : Thread Cert.SampleOut.nD Cert.SampleOut.τ).loc Cert.SampleOut.main_arg3) = m ((c.tc : Thread Cert.SampleOut.nD Cert.SampleOut.τ).loc Cert.SampleOut.main_arg3)
      ∧ r.2.mem ((c.tc : Thread Cert.SampleOut.nD Cert.SampleOut.τ).loc Cert.SampleOut.main_arg4) = m ((c.tc : Thread Cert.SampleOut.nD Cert.SampleOut.τ).loc Cert.SampleOut.main_arg4)
      ∧ r.2.mem ((c.tc : Thread Cert.SampleOut.nD Cert.SampleOut.τ).loc Cert.SampleOut.main_arg5) = m ((c.tc : Thread Cert.SampleOut.nD Cert.SampleOut.τ).loc Cert.SampleOut.main_arg5)
      ∧ r.2.mem ((c.tc : Thread Cert.SampleOut.nD Cert.SampleOut.τ).loc Cert.SampleOut.main_arg6) = m ((c.tc : Thread Cert.SampleOut.nD Cert.SampleOut.τ).loc Cert.SampleOut.main_arg6)
      ∧ r.2.mem ((c.tc : Thread Cert.SampleOut.nD Cert.SampleOut.τ).loc Cert.SampleOut.main_arg7) = m ((c.tc : Thread Cert.SampleOut.nD Cert.SampleOut.τ).loc Cert.SampleOut.main_arg7)
      ∧ r.2.mem ((c.tc : Thread Cert.SampleOut.nD Cert.SampleOut.τ).loc Cert.SampleOut.main_arg8) = m ((c.tc : Thread Cert.SampleOut.nD Cert.SampleOut.τ).loc Cert.SampleOut.main_arg8)
      ∧ r.2.mem ((c.tc : Thread Cert.SampleOut.nD Cert.SampleOut.τ).loc Cert.SampleOut.main_arg9) = m ((c.tc : Thread Cert.SampleOut.nD Cert.SampleOut.τ).loc Cert.SampleOut.main_arg9)
      ∧ r.2.mem ((c.tc : Thread Cert.SampleOut.nD Cert.SampleOut.τ).loc Cert.SampleOut.main_arg10) = m ((c.tc : Thread Cert.SampleOut.nD Cert.SampleOut.τ).loc Cert.SampleOut.main_arg10)
      ∧ r.2.mem ((c.tc : Thread Cert.SampleOut.nD Cert.SampleOut.τ).loc Cert.SampleOut.main_arg11) = m ((c.tc : Thread Cert.SampleOut.nD Cert.SampleOut.τ).loc Cert.SampleOut.main_arg11)
      ∧ r.2.mem ((c.tc : Thread Cert.SampleOut.nD Cert.SampleOut.τ).loc Cert.SampleOut.main_arg12) = m ((c.tc : Thread Cert.SampleOut.nD Cert.SampleOut.τ).loc Cert.SampleOut.main_arg12))
      ∧ r.2.sem = fun _ => 0)

def quiescent_SampleOutIdeal [hSampleOutIdeal : Cert.SampleOutIdeal.Facts] : Prop :=
  ∀ (m : (ℓ : Loc Cert.SampleOutIdeal.nD Cert.SampleOutIdeal.τ Cert.SampleOutIdeal.sig) → Buf (Elt Ideal) ℓ) (g : Dev Cert.SampleOutIdeal.nD → PrngReg), Pre_SampleOutIdeal m →
    θ_run (Cert.SampleOutIdeal.defs (F := Ideal)) (onTc (τ := Cert.SampleOutIdeal.τ) (Cert.SampleOutIdeal.main (F := Ideal))) ⟨m, fun _ => 0, g⟩ (fun r => (∀ c : Dev Cert.SampleOutIdeal.nD,
      r.2.mem ((c.tc : Thread Cert.SampleOutIdeal.nD Cert.SampleOutIdeal.τ).loc Cert.SampleOutIdeal.main_arg0) = m ((c.tc : Thread Cert.SampleOutIdeal.nD Cert.SampleOutIdeal.τ).loc Cert.SampleOutIdeal.main_arg0)
      ∧ r.2.mem ((c.tc : Thread Cert.SampleOutIdeal.nD Cert.SampleOutIdeal.τ).loc Cert.SampleOutIdeal.main_arg1) = m ((c.tc : Thread Cert.SampleOutIdeal.nD Cert.SampleOutIdeal.τ).loc Cert.SampleOutIdeal.main_arg1)
      ∧ r.2.mem ((c.tc : Thread Cert.SampleOutIdeal.nD Cert.SampleOutIdeal.τ).loc Cert.SampleOutIdeal.main_arg2) = m ((c.tc : Thread Cert.SampleOutIdeal.nD Cert.SampleOutIdeal.τ).loc Cert.SampleOutIdeal.main_arg2)
      ∧ r.2.mem ((c.tc : Thread Cert.SampleOutIdeal.nD Cert.SampleOutIdeal.τ).loc Cert.SampleOutIdeal.main_arg3) = m ((c.tc : Thread Cert.SampleOutIdeal.nD Cert.SampleOutIdeal.τ).loc Cert.SampleOutIdeal.main_arg3)
      ∧ r.2.mem ((c.tc : Thread Cert.SampleOutIdeal.nD Cert.SampleOutIdeal.τ).loc Cert.SampleOutIdeal.main_arg4) = m ((c.tc : Thread Cert.SampleOutIdeal.nD Cert.SampleOutIdeal.τ).loc Cert.SampleOutIdeal.main_arg4)
      ∧ r.2.mem ((c.tc : Thread Cert.SampleOutIdeal.nD Cert.SampleOutIdeal.τ).loc Cert.SampleOutIdeal.main_arg5) = m ((c.tc : Thread Cert.SampleOutIdeal.nD Cert.SampleOutIdeal.τ).loc Cert.SampleOutIdeal.main_arg5)
      ∧ r.2.mem ((c.tc : Thread Cert.SampleOutIdeal.nD Cert.SampleOutIdeal.τ).loc Cert.SampleOutIdeal.main_arg6) = m ((c.tc : Thread Cert.SampleOutIdeal.nD Cert.SampleOutIdeal.τ).loc Cert.SampleOutIdeal.main_arg6)
      ∧ r.2.mem ((c.tc : Thread Cert.SampleOutIdeal.nD Cert.SampleOutIdeal.τ).loc Cert.SampleOutIdeal.main_arg7) = m ((c.tc : Thread Cert.SampleOutIdeal.nD Cert.SampleOutIdeal.τ).loc Cert.SampleOutIdeal.main_arg7)
      ∧ r.2.mem ((c.tc : Thread Cert.SampleOutIdeal.nD Cert.SampleOutIdeal.τ).loc Cert.SampleOutIdeal.main_arg8) = m ((c.tc : Thread Cert.SampleOutIdeal.nD Cert.SampleOutIdeal.τ).loc Cert.SampleOutIdeal.main_arg8)
      ∧ r.2.mem ((c.tc : Thread Cert.SampleOutIdeal.nD Cert.SampleOutIdeal.τ).loc Cert.SampleOutIdeal.main_arg9) = m ((c.tc : Thread Cert.SampleOutIdeal.nD Cert.SampleOutIdeal.τ).loc Cert.SampleOutIdeal.main_arg9)
      ∧ r.2.mem ((c.tc : Thread Cert.SampleOutIdeal.nD Cert.SampleOutIdeal.τ).loc Cert.SampleOutIdeal.main_arg10) = m ((c.tc : Thread Cert.SampleOutIdeal.nD Cert.SampleOutIdeal.τ).loc Cert.SampleOutIdeal.main_arg10)
      ∧ r.2.mem ((c.tc : Thread Cert.SampleOutIdeal.nD Cert.SampleOutIdeal.τ).loc Cert.SampleOutIdeal.main_arg11) = m ((c.tc : Thread Cert.SampleOutIdeal.nD Cert.SampleOutIdeal.τ).loc Cert.SampleOutIdeal.main_arg11)
      ∧ r.2.mem ((c.tc : Thread Cert.SampleOutIdeal.nD Cert.SampleOutIdeal.τ).loc Cert.SampleOutIdeal.main_arg12) = m ((c.tc : Thread Cert.SampleOutIdeal.nD Cert.SampleOutIdeal.τ).loc Cert.SampleOutIdeal.main_arg12))
      ∧ r.2.sem = fun _ => 0)

def quiescent_RefSampleOutIdeal [hRefSampleOutIdeal : Cert.RefSampleOutIdeal.Facts] : Prop :=
  ∀ (m : (ℓ : Loc Cert.RefSampleOutIdeal.nD Cert.RefSampleOutIdeal.τ Cert.RefSampleOutIdeal.sig) → Buf (Elt Ideal) ℓ) (g : Dev Cert.RefSampleOutIdeal.nD → PrngReg), Pre_RefSampleOutIdeal m →
    θ_run (Cert.RefSampleOutIdeal.defs (F := Ideal)) (onTc (τ := Cert.RefSampleOutIdeal.τ) (Cert.RefSampleOutIdeal.main (F := Ideal))) ⟨m, fun _ => 0, g⟩ (fun r => (∀ c : Dev Cert.RefSampleOutIdeal.nD,
      r.2.mem ((c.tc : Thread Cert.RefSampleOutIdeal.nD Cert.RefSampleOutIdeal.τ).loc Cert.RefSampleOutIdeal.main_arg0) = m ((c.tc : Thread Cert.RefSampleOutIdeal.nD Cert.RefSampleOutIdeal.τ).loc Cert.RefSampleOutIdeal.main_arg0)
      ∧ r.2.mem ((c.tc : Thread Cert.RefSampleOutIdeal.nD Cert.RefSampleOutIdeal.τ).loc Cert.RefSampleOutIdeal.main_arg1) = m ((c.tc : Thread Cert.RefSampleOutIdeal.nD Cert.RefSampleOutIdeal.τ).loc Cert.RefSampleOutIdeal.main_arg1)
      ∧ r.2.mem ((c.tc : Thread Cert.RefSampleOutIdeal.nD Cert.RefSampleOutIdeal.τ).loc Cert.RefSampleOutIdeal.main_arg2) = m ((c.tc : Thread Cert.RefSampleOutIdeal.nD Cert.RefSampleOutIdeal.τ).loc Cert.RefSampleOutIdeal.main_arg2)
      ∧ r.2.mem ((c.tc : Thread Cert.RefSampleOutIdeal.nD Cert.RefSampleOutIdeal.τ).loc Cert.RefSampleOutIdeal.main_arg3) = m ((c.tc : Thread Cert.RefSampleOutIdeal.nD Cert.RefSampleOutIdeal.τ).loc Cert.RefSampleOutIdeal.main_arg3)
      ∧ r.2.mem ((c.tc : Thread Cert.RefSampleOutIdeal.nD Cert.RefSampleOutIdeal.τ).loc Cert.RefSampleOutIdeal.main_arg4) = m ((c.tc : Thread Cert.RefSampleOutIdeal.nD Cert.RefSampleOutIdeal.τ).loc Cert.RefSampleOutIdeal.main_arg4)
      ∧ r.2.mem ((c.tc : Thread Cert.RefSampleOutIdeal.nD Cert.RefSampleOutIdeal.τ).loc Cert.RefSampleOutIdeal.main_arg5) = m ((c.tc : Thread Cert.RefSampleOutIdeal.nD Cert.RefSampleOutIdeal.τ).loc Cert.RefSampleOutIdeal.main_arg5)
      ∧ r.2.mem ((c.tc : Thread Cert.RefSampleOutIdeal.nD Cert.RefSampleOutIdeal.τ).loc Cert.RefSampleOutIdeal.main_arg6) = m ((c.tc : Thread Cert.RefSampleOutIdeal.nD Cert.RefSampleOutIdeal.τ).loc Cert.RefSampleOutIdeal.main_arg6)
      ∧ r.2.mem ((c.tc : Thread Cert.RefSampleOutIdeal.nD Cert.RefSampleOutIdeal.τ).loc Cert.RefSampleOutIdeal.main_arg7) = m ((c.tc : Thread Cert.RefSampleOutIdeal.nD Cert.RefSampleOutIdeal.τ).loc Cert.RefSampleOutIdeal.main_arg7)
      ∧ r.2.mem ((c.tc : Thread Cert.RefSampleOutIdeal.nD Cert.RefSampleOutIdeal.τ).loc Cert.RefSampleOutIdeal.main_arg8) = m ((c.tc : Thread Cert.RefSampleOutIdeal.nD Cert.RefSampleOutIdeal.τ).loc Cert.RefSampleOutIdeal.main_arg8)
      ∧ r.2.mem ((c.tc : Thread Cert.RefSampleOutIdeal.nD Cert.RefSampleOutIdeal.τ).loc Cert.RefSampleOutIdeal.main_arg9) = m ((c.tc : Thread Cert.RefSampleOutIdeal.nD Cert.RefSampleOutIdeal.τ).loc Cert.RefSampleOutIdeal.main_arg9)
      ∧ r.2.mem ((c.tc : Thread Cert.RefSampleOutIdeal.nD Cert.RefSampleOutIdeal.τ).loc Cert.RefSampleOutIdeal.main_arg10) = m ((c.tc : Thread Cert.RefSampleOutIdeal.nD Cert.RefSampleOutIdeal.τ).loc Cert.RefSampleOutIdeal.main_arg10)
      ∧ r.2.mem ((c.tc : Thread Cert.RefSampleOutIdeal.nD Cert.RefSampleOutIdeal.τ).loc Cert.RefSampleOutIdeal.main_arg11) = m ((c.tc : Thread Cert.RefSampleOutIdeal.nD Cert.RefSampleOutIdeal.τ).loc Cert.RefSampleOutIdeal.main_arg11)
      ∧ r.2.mem ((c.tc : Thread Cert.RefSampleOutIdeal.nD Cert.RefSampleOutIdeal.τ).loc Cert.RefSampleOutIdeal.main_arg12) = m ((c.tc : Thread Cert.RefSampleOutIdeal.nD Cert.RefSampleOutIdeal.τ).loc Cert.RefSampleOutIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v15)) (v4 : (c : Dev Cert.KernelIdeal.nD) → Buf (Elt Ideal) ((c.tc : Thread Cert.KernelIdeal.nD Cert.KernelIdeal.τ).loc Cert.KernelIdeal.main_v16)) (v5 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_v16) = v4 c
          ∧ r.2.mem ((c.tc : Thread Cert.KernelIdeal.nD Cert.KernelIdeal.τ).loc Cert.KernelIdeal.main_v17) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_v12) = v3 c
          ∧ r.2.mem ((c.tc : Thread Cert.ReferenceIdeal.nD Cert.ReferenceIdeal.τ).loc Cert.ReferenceIdeal.main_v14) = v4 c
          ∧ r.2.mem ((c.tc : Thread Cert.ReferenceIdeal.nD Cert.ReferenceIdeal.τ).loc Cert.ReferenceIdeal.main_v16) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Rms_RmsIdeal : Prop :=
  True

def algebraic_RmsIdeal_RefRmsIdeal [hRmsIdeal : Cert.RmsIdeal.Facts] [hRefRmsIdeal : Cert.RefRmsIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RefRmsIdeal.nD Cert.RefRmsIdeal.τ Cert.RefRmsIdeal.sig) → Buf (Elt Ideal) ℓ) (g' : Dev Cert.RefRmsIdeal.nD → PrngReg), Pre_RmsIdeal m →
    (∀ c : Dev Cert.RmsIdeal.nD,
      m' ((c.tc : Thread Cert.RefRmsIdeal.nD Cert.RefRmsIdeal.τ).loc Cert.RefRmsIdeal.main_arg0) = m ((c.tc : Thread Cert.RmsIdeal.nD Cert.RmsIdeal.τ).loc Cert.RmsIdeal.main_arg0)
      ∧ m' ((c.tc : Thread Cert.RefRmsIdeal.nD Cert.RefRmsIdeal.τ).loc Cert.RefRmsIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v3)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v3) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RefRmsIdeal.defs (F := Ideal)) (onTc (τ := Cert.RefRmsIdeal.τ) (Cert.RefRmsIdeal.main (F := Ideal))) ⟨m', fun _ => 0, g'⟩ (fun r => ∀ c : Dev Cert.RefRmsIdeal.nD,
          r.2.mem ((c.tc : Thread Cert.RefRmsIdeal.nD Cert.RefRmsIdeal.τ).loc Cert.RefRmsIdeal.main_v15) = v0 c
          ∧ r.2.mem ((c.tc : Thread Cert.RefRmsIdeal.nD Cert.RefRmsIdeal.τ).loc Cert.RefRmsIdeal.main_arg0) = m' ((c.tc : Thread Cert.RefRmsIdeal.nD Cert.RefRmsIdeal.τ).loc Cert.RefRmsIdeal.main_arg0)
          ∧ r.2.mem ((c.tc : Thread Cert.RefRmsIdeal.nD Cert.RefRmsIdeal.τ).loc Cert.RefRmsIdeal.main_arg1) = m' ((c.tc : Thread Cert.RefRmsIdeal.nD Cert.RefRmsIdeal.τ).loc Cert.RefRmsIdeal.main_arg1))

def preserves_Merge_MergeIdeal : Prop :=
  True

def algebraic_MergeIdeal_RefMergeIdeal [hMergeIdeal : Cert.MergeIdeal.Facts] [hRefMergeIdeal : Cert.RefMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)
      ∧ m' ((c.tc : Thread Cert.RefMergeIdeal.nD Cert.RefMergeIdeal.τ).loc Cert.RefMergeIdeal.main_arg3) = m ((c.tc : Thread Cert.MergeIdeal.nD Cert.MergeIdeal.τ).loc Cert.MergeIdeal.main_arg3)
      ∧ m' ((c.tc : Thread Cert.RefMergeIdeal.nD Cert.RefMergeIdeal.τ).loc Cert.RefMergeIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v23) = v0 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2)
          ∧ r.2.mem ((c.tc : Thread Cert.RefMergeIdeal.nD Cert.RefMergeIdeal.τ).loc Cert.RefMergeIdeal.main_arg3) = m' ((c.tc : Thread Cert.RefMergeIdeal.nD Cert.RefMergeIdeal.τ).loc Cert.RefMergeIdeal.main_arg3)
          ∧ r.2.mem ((c.tc : Thread Cert.RefMergeIdeal.nD Cert.RefMergeIdeal.τ).loc Cert.RefMergeIdeal.main_arg4) = m' ((c.tc : Thread Cert.RefMergeIdeal.nD Cert.RefMergeIdeal.τ).loc Cert.RefMergeIdeal.main_arg4))

def preserves_ProjNorm_ProjNormIdeal : Prop :=
  True

def algebraic_ProjNormIdeal_RefProjNormIdeal [hProjNormIdeal : Cert.ProjNormIdeal.Facts] [hRefProjNormIdeal : Cert.RefProjNormIdeal.Facts] : Prop :=
  ∀ (m : (ℓ : Loc Cert.ProjNormIdeal.nD Cert.ProjNormIdeal.τ Cert.ProjNormIdeal.sig) → Buf (Elt Ideal) ℓ) (g : Dev Cert.ProjNormIdeal.nD → PrngReg)
    (m' : (ℓ : Loc Cert.RefProjNormIdeal.nD Cert.RefProjNormIdeal.τ Cert.RefProjNormIdeal.sig) → Buf (Elt Ideal) ℓ) (g' : Dev Cert.RefProjNormIdeal.nD → PrngReg), Pre_ProjNormIdeal m →
    (∀ c : Dev Cert.ProjNormIdeal.nD,
      m' ((c.tc : Thread Cert.RefProjNormIdeal.nD Cert.RefProjNormIdeal.τ).loc Cert.RefProjNormIdeal.main_arg0) = m ((c.tc : Thread Cert.ProjNormIdeal.nD Cert.ProjNormIdeal.τ).loc Cert.ProjNormIdeal.main_arg0)
      ∧ m' ((c.tc : Thread Cert.RefProjNormIdeal.nD Cert.RefProjNormIdeal.τ).loc Cert.RefProjNormIdeal.main_arg1) = m ((c.tc : Thread Cert.ProjNormIdeal.nD Cert.ProjNormIdeal.τ).loc Cert.ProjNormIdeal.main_arg1)
      ∧ m' ((c.tc : Thread Cert.RefProjNormIdeal.nD Cert.RefProjNormIdeal.τ).loc Cert.RefProjNormIdeal.main_arg2) = m ((c.tc : Thread Cert.ProjNormIdeal.nD Cert.ProjNormIdeal.τ).loc Cert.ProjNormIdeal.main_arg2)
      ∧ m' ((c.tc : Thread Cert.RefProjNormIdeal.nD Cert.RefProjNormIdeal.τ).loc Cert.RefProjNormIdeal.main_arg3) = m ((c.tc : Thread Cert.ProjNormIdeal.nD Cert.ProjNormIdeal.τ).loc Cert.ProjNormIdeal.main_arg3)
      ∧ m' ((c.tc : Thread Cert.RefProjNormIdeal.nD Cert.RefProjNormIdeal.τ).loc Cert.RefProjNormIdeal.main_arg4) = m ((c.tc : Thread Cert.ProjNormIdeal.nD Cert.ProjNormIdeal.τ).loc Cert.ProjNormIdeal.main_arg4)) →
    ∃ (v0 : (c : Dev Cert.ProjNormIdeal.nD) → Buf (Elt Ideal) ((c.tc : Thread Cert.ProjNormIdeal.nD Cert.ProjNormIdeal.τ).loc Cert.ProjNormIdeal.main_v6_0)) (v1 : (c : Dev Cert.ProjNormIdeal.nD) → Buf (Elt Ideal) ((c.tc : Thread Cert.ProjNormIdeal.nD Cert.ProjNormIdeal.τ).loc Cert.ProjNormIdeal.main_v6_1)),
      θ_run (Cert.ProjNormIdeal.defs (F := Ideal)) (onTc (τ := Cert.ProjNormIdeal.τ) (Cert.ProjNormIdeal.main (F := Ideal))) ⟨m, fun _ => 0, g⟩ (fun r => ∀ c : Dev Cert.ProjNormIdeal.nD,
          r.2.mem ((c.tc : Thread Cert.ProjNormIdeal.nD Cert.ProjNormIdeal.τ).loc Cert.ProjNormIdeal.main_v6_0) = v0 c
          ∧ r.2.mem ((c.tc : Thread Cert.ProjNormIdeal.nD Cert.ProjNormIdeal.τ).loc Cert.ProjNormIdeal.main_v6_1) = v1 c
          ∧ r.2.mem ((c.tc : Thread Cert.ProjNormIdeal.nD Cert.ProjNormIdeal.τ).loc Cert.ProjNormIdeal.main_arg0) = m ((c.tc : Thread Cert.ProjNormIdeal.nD Cert.ProjNormIdeal.τ).loc Cert.ProjNormIdeal.main_arg0)
          ∧ r.2.mem ((c.tc : Thread Cert.ProjNormIdeal.nD Cert.ProjNormIdeal.τ).loc Cert.ProjNormIdeal.main_arg1) = m ((c.tc : Thread Cert.ProjNormIdeal.nD Cert.ProjNormIdeal.τ).loc Cert.ProjNormIdeal.main_arg1)
          ∧ r.2.mem ((c.tc : Thread Cert.ProjNormIdeal.nD Cert.ProjNormIdeal.τ).loc Cert.ProjNormIdeal.main_arg2) = m ((c.tc : Thread Cert.ProjNormIdeal.nD Cert.ProjNormIdeal.τ).loc Cert.ProjNormIdeal.main_arg2)
          ∧ r.2.mem ((c.tc : Thread Cert.ProjNormIdeal.nD Cert.ProjNormIdeal.τ).loc Cert.ProjNormIdeal.main_arg3) = m ((c.tc : Thread Cert.ProjNormIdeal.nD Cert.ProjNormIdeal.τ).loc Cert.ProjNormIdeal.main_arg3)
          ∧ r.2.mem ((c.tc : Thread Cert.ProjNormIdeal.nD Cert.ProjNormIdeal.τ).loc Cert.ProjNormIdeal.main_arg4) = m ((c.tc : Thread Cert.ProjNormIdeal.nD Cert.ProjNormIdeal.τ).loc Cert.ProjNormIdeal.main_arg4))
      ∧ θ_run (Cert.RefProjNormIdeal.defs (F := Ideal)) (onTc (τ := Cert.RefProjNormIdeal.τ) (Cert.RefProjNormIdeal.main (F := Ideal))) ⟨m', fun _ => 0, g'⟩ (fun r => ∀ c : Dev Cert.RefProjNormIdeal.nD,
          r.2.mem ((c.tc : Thread Cert.RefProjNormIdeal.nD Cert.RefProjNormIdeal.τ).loc Cert.RefProjNormIdeal.main_v17) = v0 c
          ∧ r.2.mem ((c.tc : Thread Cert.RefProjNormIdeal.nD Cert.RefProjNormIdeal.τ).loc Cert.RefProjNormIdeal.main_v32) = v1 c
          ∧ r.2.mem ((c.tc : Thread Cert.RefProjNormIdeal.nD Cert.RefProjNormIdeal.τ).loc Cert.RefProjNormIdeal.main_arg0) = m' ((c.tc : Thread Cert.RefProjNormIdeal.nD Cert.RefProjNormIdeal.τ).loc Cert.RefProjNormIdeal.main_arg0)
          ∧ r.2.mem ((c.tc : Thread Cert.RefProjNormIdeal.nD Cert.RefProjNormIdeal.τ).loc Cert.RefProjNormIdeal.main_arg1) = m' ((c.tc : Thread Cert.RefProjNormIdeal.nD Cert.RefProjNormIdeal.τ).loc Cert.RefProjNormIdeal.main_arg1)
          ∧ r.2.mem ((c.tc : Thread Cert.RefProjNormIdeal.nD Cert.RefProjNormIdeal.τ).loc Cert.RefProjNormIdeal.main_arg2) = m' ((c.tc : Thread Cert.RefProjNormIdeal.nD Cert.RefProjNormIdeal.τ).loc Cert.RefProjNormIdeal.main_arg2)
          ∧ r.2.mem ((c.tc : Thread Cert.RefProjNormIdeal.nD Cert.RefProjNormIdeal.τ).loc Cert.RefProjNormIdeal.main_arg3) = m' ((c.tc : Thread Cert.RefProjNormIdeal.nD Cert.RefProjNormIdeal.τ).loc Cert.RefProjNormIdeal.main_arg3)
          ∧ r.2.mem ((c.tc : Thread Cert.RefProjNormIdeal.nD Cert.RefProjNormIdeal.τ).loc Cert.RefProjNormIdeal.main_arg4) = m' ((c.tc : Thread Cert.RefProjNormIdeal.nD Cert.RefProjNormIdeal.τ).loc Cert.RefProjNormIdeal.main_arg4))

def preserves_Mlp_MlpIdeal : Prop :=
  True

def algebraic_MlpIdeal_RefMlpIdeal [hMlpIdeal : Cert.MlpIdeal.Facts] [hRefMlpIdeal : Cert.RefMlpIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.RefMlpIdeal.nD Cert.RefMlpIdeal.τ Cert.RefMlpIdeal.sig) → Buf (Elt Ideal) ℓ) (g' : Dev Cert.RefMlpIdeal.nD → PrngReg), Pre_MlpIdeal m →
    (∀ c : Dev Cert.MlpIdeal.nD,
      m' ((c.tc : Thread Cert.RefMlpIdeal.nD Cert.RefMlpIdeal.τ).loc Cert.RefMlpIdeal.main_arg0) = m ((c.tc : Thread Cert.MlpIdeal.nD Cert.MlpIdeal.τ).loc Cert.MlpIdeal.main_arg0)
      ∧ m' ((c.tc : Thread Cert.RefMlpIdeal.nD Cert.RefMlpIdeal.τ).loc Cert.RefMlpIdeal.main_arg1) = m ((c.tc : Thread Cert.MlpIdeal.nD Cert.MlpIdeal.τ).loc Cert.MlpIdeal.main_arg1)
      ∧ m' ((c.tc : Thread Cert.RefMlpIdeal.nD Cert.RefMlpIdeal.τ).loc Cert.RefMlpIdeal.main_arg2) = m ((c.tc : Thread Cert.MlpIdeal.nD Cert.MlpIdeal.τ).loc Cert.MlpIdeal.main_arg2)
      ∧ m' ((c.tc : Thread Cert.RefMlpIdeal.nD Cert.RefMlpIdeal.τ).loc Cert.RefMlpIdeal.main_arg3) = m ((c.tc : Thread Cert.MlpIdeal.nD Cert.MlpIdeal.τ).loc Cert.MlpIdeal.main_arg3)
      ∧ m' ((c.tc : Thread Cert.RefMlpIdeal.nD Cert.RefMlpIdeal.τ).loc Cert.RefMlpIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v6)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v6) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.RefMlpIdeal.defs (F := Ideal)) (onTc (τ := Cert.RefMlpIdeal.τ) (Cert.RefMlpIdeal.main (F := Ideal))) ⟨m', fun _ => 0, g'⟩ (fun r => ∀ c : Dev Cert.RefMlpIdeal.nD,
          r.2.mem ((c.tc : Thread Cert.RefMlpIdeal.nD Cert.RefMlpIdeal.τ).loc Cert.RefMlpIdeal.main_v21) = v0 c
          ∧ r.2.mem ((c.tc : Thread Cert.RefMlpIdeal.nD Cert.RefMlpIdeal.τ).loc Cert.RefMlpIdeal.main_arg0) = m' ((c.tc : Thread Cert.RefMlpIdeal.nD Cert.RefMlpIdeal.τ).loc Cert.RefMlpIdeal.main_arg0)
          ∧ r.2.mem ((c.tc : Thread Cert.RefMlpIdeal.nD Cert.RefMlpIdeal.τ).loc Cert.RefMlpIdeal.main_arg1) = m' ((c.tc : Thread Cert.RefMlpIdeal.nD Cert.RefMlpIdeal.τ).loc Cert.RefMlpIdeal.main_arg1)
          ∧ r.2.mem ((c.tc : Thread Cert.RefMlpIdeal.nD Cert.RefMlpIdeal.τ).loc Cert.RefMlpIdeal.main_arg2) = m' ((c.tc : Thread Cert.RefMlpIdeal.nD Cert.RefMlpIdeal.τ).loc Cert.RefMlpIdeal.main_arg2)
          ∧ r.2.mem ((c.tc : Thread Cert.RefMlpIdeal.nD Cert.RefMlpIdeal.τ).loc Cert.RefMlpIdeal.main_arg3) = m' ((c.tc : Thread Cert.RefMlpIdeal.nD Cert.RefMlpIdeal.τ).loc Cert.RefMlpIdeal.main_arg3)
          ∧ r.2.mem ((c.tc : Thread Cert.RefMlpIdeal.nD Cert.RefMlpIdeal.τ).loc Cert.RefMlpIdeal.main_arg4) = m' ((c.tc : Thread Cert.RefMlpIdeal.nD Cert.RefMlpIdeal.τ).loc Cert.RefMlpIdeal.main_arg4))

def preserves_Sample_SampleIdeal : Prop :=
  True

def algebraic_SampleIdeal_RefSampleIdeal [hSampleIdeal : Cert.SampleIdeal.Facts] [hRefSampleIdeal : Cert.RefSampleIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.RefSampleIdeal.nD Cert.RefSampleIdeal.τ Cert.RefSampleIdeal.sig) → Buf (Elt Ideal) ℓ) (g' : Dev Cert.RefSampleIdeal.nD → PrngReg), Pre_SampleIdeal m →
    (∀ c : Dev Cert.SampleIdeal.nD,
      m' ((c.tc : Thread Cert.RefSampleIdeal.nD Cert.RefSampleIdeal.τ).loc Cert.RefSampleIdeal.main_arg0) = m ((c.tc : Thread Cert.SampleIdeal.nD Cert.SampleIdeal.τ).loc Cert.SampleIdeal.main_arg0)
      ∧ m' ((c.tc : Thread Cert.RefSampleIdeal.nD Cert.RefSampleIdeal.τ).loc Cert.RefSampleIdeal.main_arg1) = m ((c.tc : Thread Cert.SampleIdeal.nD Cert.SampleIdeal.τ).loc Cert.SampleIdeal.main_arg1)) →
    ∃ (v0 : (c : Dev Cert.SampleIdeal.nD) → Buf (Elt Ideal) ((c.tc : Thread Cert.SampleIdeal.nD Cert.SampleIdeal.τ).loc Cert.SampleIdeal.main_v2)) (v1 : (c : Dev Cert.SampleIdeal.nD) → Buf (Elt Ideal) ((c.tc : Thread Cert.SampleIdeal.nD Cert.SampleIdeal.τ).loc Cert.SampleIdeal.main_v13)) (v2 : (c : Dev Cert.SampleIdeal.nD) → Buf (Elt Ideal) ((c.tc : Thread Cert.SampleIdeal.nD Cert.SampleIdeal.τ).loc Cert.SampleIdeal.main_v14)) (v3 : (c : Dev Cert.SampleIdeal.nD) → Buf (Elt Ideal) ((c.tc : Thread Cert.SampleIdeal.nD Cert.SampleIdeal.τ).loc Cert.SampleIdeal.main_v15)) (v4 : (c : Dev Cert.SampleIdeal.nD) → Buf (Elt Ideal) ((c.tc : Thread Cert.SampleIdeal.nD Cert.SampleIdeal.τ).loc Cert.SampleIdeal.main_v16)) (v5 : (c : Dev Cert.SampleIdeal.nD) → Buf (Elt Ideal) ((c.tc : Thread Cert.SampleIdeal.nD Cert.SampleIdeal.τ).loc Cert.SampleIdeal.main_v17)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v2) = v0 c
          ∧ r.2.mem ((c.tc : Thread Cert.SampleIdeal.nD Cert.SampleIdeal.τ).loc Cert.SampleIdeal.main_v13) = v1 c
          ∧ r.2.mem ((c.tc : Thread Cert.SampleIdeal.nD Cert.SampleIdeal.τ).loc Cert.SampleIdeal.main_v14) = v2 c
          ∧ r.2.mem ((c.tc : Thread Cert.SampleIdeal.nD Cert.SampleIdeal.τ).loc Cert.SampleIdeal.main_v15) = v3 c
          ∧ r.2.mem ((c.tc : Thread Cert.SampleIdeal.nD Cert.SampleIdeal.τ).loc Cert.SampleIdeal.main_v16) = v4 c
          ∧ r.2.mem ((c.tc : Thread Cert.SampleIdeal.nD Cert.SampleIdeal.τ).loc Cert.SampleIdeal.main_v17) = v5 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1))
      ∧ θ_run (Cert.RefSampleIdeal.defs (F := Ideal)) (onTc (τ := Cert.RefSampleIdeal.τ) (Cert.RefSampleIdeal.main (F := Ideal))) ⟨m', fun _ => 0, g'⟩ (fun r => ∀ c : Dev Cert.RefSampleIdeal.nD,
          r.2.mem ((c.tc : Thread Cert.RefSampleIdeal.nD Cert.RefSampleIdeal.τ).loc Cert.RefSampleIdeal.main_v8) = v0 c
          ∧ r.2.mem ((c.tc : Thread Cert.RefSampleIdeal.nD Cert.RefSampleIdeal.τ).loc Cert.RefSampleIdeal.main_v10) = v1 c
          ∧ r.2.mem ((c.tc : Thread Cert.RefSampleIdeal.nD Cert.RefSampleIdeal.τ).loc Cert.RefSampleIdeal.main_v12) = v2 c
          ∧ r.2.mem ((c.tc : Thread Cert.RefSampleIdeal.nD Cert.RefSampleIdeal.τ).loc Cert.RefSampleIdeal.main_v14) = v3 c
          ∧ r.2.mem ((c.tc : Thread Cert.RefSampleIdeal.nD Cert.RefSampleIdeal.τ).loc Cert.RefSampleIdeal.main_v16) = v4 c
          ∧ r.2.mem ((c.tc : Thread Cert.RefSampleIdeal.nD Cert.RefSampleIdeal.τ).loc Cert.RefSampleIdeal.main_v18) = v5 c
          ∧ r.2.mem ((c.tc : Thread Cert.RefSampleIdeal.nD Cert.RefSampleIdeal.τ).loc Cert.RefSampleIdeal.main_arg0) = m' ((c.tc : Thread Cert.RefSampleIdeal.nD Cert.RefSampleIdeal.τ).loc Cert.RefSampleIdeal.main_arg0)
          ∧ r.2.mem ((c.tc : Thread Cert.RefSampleIdeal.nD Cert.RefSampleIdeal.τ).loc Cert.RefSampleIdeal.main_arg1) = m' ((c.tc : Thread Cert.RefSampleIdeal.nD Cert.RefSampleIdeal.τ).loc Cert.RefSampleIdeal.main_arg1))

def preserves_SampleRms_SampleRmsIdeal : Prop :=
  True

def algebraic_SampleRmsIdeal_RefSampleRmsIdeal [hSampleRmsIdeal : Cert.SampleRmsIdeal.Facts] [hRefSampleRmsIdeal : Cert.RefSampleRmsIdeal.Facts] : Prop :=
  ∀ (m : (ℓ : Loc Cert.SampleRmsIdeal.nD Cert.SampleRmsIdeal.τ Cert.SampleRmsIdeal.sig) → Buf (Elt Ideal) ℓ) (g : Dev Cert.SampleRmsIdeal.nD → PrngReg)
    (m' : (ℓ : Loc Cert.RefSampleRmsIdeal.nD Cert.RefSampleRmsIdeal.τ Cert.RefSampleRmsIdeal.sig) → Buf (Elt Ideal) ℓ) (g' : Dev Cert.RefSampleRmsIdeal.nD → PrngReg), Pre_SampleRmsIdeal m →
    (∀ c : Dev Cert.SampleRmsIdeal.nD,
      m' ((c.tc : Thread Cert.RefSampleRmsIdeal.nD Cert.RefSampleRmsIdeal.τ).loc Cert.RefSampleRmsIdeal.main_arg0) = m ((c.tc : Thread Cert.SampleRmsIdeal.nD Cert.SampleRmsIdeal.τ).loc Cert.SampleRmsIdeal.main_arg0)
      ∧ m' ((c.tc : Thread Cert.RefSampleRmsIdeal.nD Cert.RefSampleRmsIdeal.τ).loc Cert.RefSampleRmsIdeal.main_arg1) = m ((c.tc : Thread Cert.SampleRmsIdeal.nD Cert.SampleRmsIdeal.τ).loc Cert.SampleRmsIdeal.main_arg1)) →
    ∃ (v0 : (c : Dev Cert.SampleRmsIdeal.nD) → Buf (Elt Ideal) ((c.tc : Thread Cert.SampleRmsIdeal.nD Cert.SampleRmsIdeal.τ).loc Cert.SampleRmsIdeal.main_v6)),
      θ_run (Cert.SampleRmsIdeal.defs (F := Ideal)) (onTc (τ := Cert.SampleRmsIdeal.τ) (Cert.SampleRmsIdeal.main (F := Ideal))) ⟨m, fun _ => 0, g⟩ (fun r => ∀ c : Dev Cert.SampleRmsIdeal.nD,
          r.2.mem ((c.tc : Thread Cert.SampleRmsIdeal.nD Cert.SampleRmsIdeal.τ).loc Cert.SampleRmsIdeal.main_v6) = v0 c
          ∧ r.2.mem ((c.tc : Thread Cert.SampleRmsIdeal.nD Cert.SampleRmsIdeal.τ).loc Cert.SampleRmsIdeal.main_arg0) = m ((c.tc : Thread Cert.SampleRmsIdeal.nD Cert.SampleRmsIdeal.τ).loc Cert.SampleRmsIdeal.main_arg0)
          ∧ r.2.mem ((c.tc : Thread Cert.SampleRmsIdeal.nD Cert.SampleRmsIdeal.τ).loc Cert.SampleRmsIdeal.main_arg1) = m ((c.tc : Thread Cert.SampleRmsIdeal.nD Cert.SampleRmsIdeal.τ).loc Cert.SampleRmsIdeal.main_arg1))
      ∧ θ_run (Cert.RefSampleRmsIdeal.defs (F := Ideal)) (onTc (τ := Cert.RefSampleRmsIdeal.τ) (Cert.RefSampleRmsIdeal.main (F := Ideal))) ⟨m', fun _ => 0, g'⟩ (fun r => ∀ c : Dev Cert.RefSampleRmsIdeal.nD,
          r.2.mem ((c.tc : Thread Cert.RefSampleRmsIdeal.nD Cert.RefSampleRmsIdeal.τ).loc Cert.RefSampleRmsIdeal.main_v14) = v0 c
          ∧ r.2.mem ((c.tc : Thread Cert.RefSampleRmsIdeal.nD Cert.RefSampleRmsIdeal.τ).loc Cert.RefSampleRmsIdeal.main_arg0) = m' ((c.tc : Thread Cert.RefSampleRmsIdeal.nD Cert.RefSampleRmsIdeal.τ).loc Cert.RefSampleRmsIdeal.main_arg0)
          ∧ r.2.mem ((c.tc : Thread Cert.RefSampleRmsIdeal.nD Cert.RefSampleRmsIdeal.τ).loc Cert.RefSampleRmsIdeal.main_arg1) = m' ((c.tc : Thread Cert.RefSampleRmsIdeal.nD Cert.RefSampleRmsIdeal.τ).loc Cert.RefSampleRmsIdeal.main_arg1))

def preserves_SampleMerge_SampleMergeIdeal : Prop :=
  True

def algebraic_SampleMergeIdeal_RefSampleMergeIdeal [hSampleMergeIdeal : Cert.SampleMergeIdeal.Facts] [hRefSampleMergeIdeal : Cert.RefSampleMergeIdeal.Facts] : Prop :=
  ∀ (m : (ℓ : Loc Cert.SampleMergeIdeal.nD Cert.SampleMergeIdeal.τ Cert.SampleMergeIdeal.sig) → Buf (Elt Ideal) ℓ) (g : Dev Cert.SampleMergeIdeal.nD → PrngReg)
    (m' : (ℓ : Loc Cert.RefSampleMergeIdeal.nD Cert.RefSampleMergeIdeal.τ Cert.RefSampleMergeIdeal.sig) → Buf (Elt Ideal) ℓ) (g' : Dev Cert.RefSampleMergeIdeal.nD → PrngReg), Pre_SampleMergeIdeal m →
    (∀ c : Dev Cert.SampleMergeIdeal.nD,
      m' ((c.tc : Thread Cert.RefSampleMergeIdeal.nD Cert.RefSampleMergeIdeal.τ).loc Cert.RefSampleMergeIdeal.main_arg0) = m ((c.tc : Thread Cert.SampleMergeIdeal.nD Cert.SampleMergeIdeal.τ).loc Cert.SampleMergeIdeal.main_arg0)
      ∧ m' ((c.tc : Thread Cert.RefSampleMergeIdeal.nD Cert.RefSampleMergeIdeal.τ).loc Cert.RefSampleMergeIdeal.main_arg1) = m ((c.tc : Thread Cert.SampleMergeIdeal.nD Cert.SampleMergeIdeal.τ).loc Cert.SampleMergeIdeal.main_arg1)
      ∧ m' ((c.tc : Thread Cert.RefSampleMergeIdeal.nD Cert.RefSampleMergeIdeal.τ).loc Cert.RefSampleMergeIdeal.main_arg2) = m ((c.tc : Thread Cert.SampleMergeIdeal.nD Cert.SampleMergeIdeal.τ).loc Cert.SampleMergeIdeal.main_arg2)
      ∧ m' ((c.tc : Thread Cert.RefSampleMergeIdeal.nD Cert.RefSampleMergeIdeal.τ).loc Cert.RefSampleMergeIdeal.main_arg3) = m ((c.tc : Thread Cert.SampleMergeIdeal.nD Cert.SampleMergeIdeal.τ).loc Cert.SampleMergeIdeal.main_arg3)
      ∧ m' ((c.tc : Thread Cert.RefSampleMergeIdeal.nD Cert.RefSampleMergeIdeal.τ).loc Cert.RefSampleMergeIdeal.main_arg4) = m ((c.tc : Thread Cert.SampleMergeIdeal.nD Cert.SampleMergeIdeal.τ).loc Cert.SampleMergeIdeal.main_arg4)) →
    ∃ (v0 : (c : Dev Cert.SampleMergeIdeal.nD) → Buf (Elt Ideal) ((c.tc : Thread Cert.SampleMergeIdeal.nD Cert.SampleMergeIdeal.τ).loc Cert.SampleMergeIdeal.main_v4)),
      θ_run (Cert.SampleMergeIdeal.defs (F := Ideal)) (onTc (τ := Cert.SampleMergeIdeal.τ) (Cert.SampleMergeIdeal.main (F := Ideal))) ⟨m, fun _ => 0, g⟩ (fun r => ∀ c : Dev Cert.SampleMergeIdeal.nD,
          r.2.mem ((c.tc : Thread Cert.SampleMergeIdeal.nD Cert.SampleMergeIdeal.τ).loc Cert.SampleMergeIdeal.main_v4) = v0 c
          ∧ r.2.mem ((c.tc : Thread Cert.SampleMergeIdeal.nD Cert.SampleMergeIdeal.τ).loc Cert.SampleMergeIdeal.main_arg0) = m ((c.tc : Thread Cert.SampleMergeIdeal.nD Cert.SampleMergeIdeal.τ).loc Cert.SampleMergeIdeal.main_arg0)
          ∧ r.2.mem ((c.tc : Thread Cert.SampleMergeIdeal.nD Cert.SampleMergeIdeal.τ).loc Cert.SampleMergeIdeal.main_arg1) = m ((c.tc : Thread Cert.SampleMergeIdeal.nD Cert.SampleMergeIdeal.τ).loc Cert.SampleMergeIdeal.main_arg1)
          ∧ r.2.mem ((c.tc : Thread Cert.SampleMergeIdeal.nD Cert.SampleMergeIdeal.τ).loc Cert.SampleMergeIdeal.main_arg2) = m ((c.tc : Thread Cert.SampleMergeIdeal.nD Cert.SampleMergeIdeal.τ).loc Cert.SampleMergeIdeal.main_arg2)
          ∧ r.2.mem ((c.tc : Thread Cert.SampleMergeIdeal.nD Cert.SampleMergeIdeal.τ).loc Cert.SampleMergeIdeal.main_arg3) = m ((c.tc : Thread Cert.SampleMergeIdeal.nD Cert.SampleMergeIdeal.τ).loc Cert.SampleMergeIdeal.main_arg3)
          ∧ r.2.mem ((c.tc : Thread Cert.SampleMergeIdeal.nD Cert.SampleMergeIdeal.τ).loc Cert.SampleMergeIdeal.main_arg4) = m ((c.tc : Thread Cert.SampleMergeIdeal.nD Cert.SampleMergeIdeal.τ).loc Cert.SampleMergeIdeal.main_arg4))
      ∧ θ_run (Cert.RefSampleMergeIdeal.defs (F := Ideal)) (onTc (τ := Cert.RefSampleMergeIdeal.τ) (Cert.RefSampleMergeIdeal.main (F := Ideal))) ⟨m', fun _ => 0, g'⟩ (fun r => ∀ c : Dev Cert.RefSampleMergeIdeal.nD,
          r.2.mem ((c.tc : Thread Cert.RefSampleMergeIdeal.nD Cert.RefSampleMergeIdeal.τ).loc Cert.RefSampleMergeIdeal.main_v21) = v0 c
          ∧ r.2.mem ((c.tc : Thread Cert.RefSampleMergeIdeal.nD Cert.RefSampleMergeIdeal.τ).loc Cert.RefSampleMergeIdeal.main_arg0) = m' ((c.tc : Thread Cert.RefSampleMergeIdeal.nD Cert.RefSampleMergeIdeal.τ).loc Cert.RefSampleMergeIdeal.main_arg0)
          ∧ r.2.mem ((c.tc : Thread Cert.RefSampleMergeIdeal.nD Cert.RefSampleMergeIdeal.τ).loc Cert.RefSampleMergeIdeal.main_arg1) = m' ((c.tc : Thread Cert.RefSampleMergeIdeal.nD Cert.RefSampleMergeIdeal.τ).loc Cert.RefSampleMergeIdeal.main_arg1)
          ∧ r.2.mem ((c.tc : Thread Cert.RefSampleMergeIdeal.nD Cert.RefSampleMergeIdeal.τ).loc Cert.RefSampleMergeIdeal.main_arg2) = m' ((c.tc : Thread Cert.RefSampleMergeIdeal.nD Cert.RefSampleMergeIdeal.τ).loc Cert.RefSampleMergeIdeal.main_arg2)
          ∧ r.2.mem ((c.tc : Thread Cert.RefSampleMergeIdeal.nD Cert.RefSampleMergeIdeal.τ).loc Cert.RefSampleMergeIdeal.main_arg3) = m' ((c.tc : Thread Cert.RefSampleMergeIdeal.nD Cert.RefSampleMergeIdeal.τ).loc Cert.RefSampleMergeIdeal.main_arg3)
          ∧ r.2.mem ((c.tc : Thread Cert.RefSampleMergeIdeal.nD Cert.RefSampleMergeIdeal.τ).loc Cert.RefSampleMergeIdeal.main_arg4) = m' ((c.tc : Thread Cert.RefSampleMergeIdeal.nD Cert.RefSampleMergeIdeal.τ).loc Cert.RefSampleMergeIdeal.main_arg4))

def preserves_SampleProjNorm_SampleProjNormIdeal : Prop :=
  True

def algebraic_SampleProjNormIdeal_RefSampleProjNormIdeal [hSampleProjNormIdeal : Cert.SampleProjNormIdeal.Facts] [hRefSampleProjNormIdeal : Cert.RefSampleProjNormIdeal.Facts] : Prop :=
  ∀ (m : (ℓ : Loc Cert.SampleProjNormIdeal.nD Cert.SampleProjNormIdeal.τ Cert.SampleProjNormIdeal.sig) → Buf (Elt Ideal) ℓ) (g : Dev Cert.SampleProjNormIdeal.nD → PrngReg)
    (m' : (ℓ : Loc Cert.RefSampleProjNormIdeal.nD Cert.RefSampleProjNormIdeal.τ Cert.RefSampleProjNormIdeal.sig) → Buf (Elt Ideal) ℓ) (g' : Dev Cert.RefSampleProjNormIdeal.nD → PrngReg), Pre_SampleProjNormIdeal m →
    (∀ c : Dev Cert.SampleProjNormIdeal.nD,
      m' ((c.tc : Thread Cert.RefSampleProjNormIdeal.nD Cert.RefSampleProjNormIdeal.τ).loc Cert.RefSampleProjNormIdeal.main_arg0) = m ((c.tc : Thread Cert.SampleProjNormIdeal.nD Cert.SampleProjNormIdeal.τ).loc Cert.SampleProjNormIdeal.main_arg0)
      ∧ m' ((c.tc : Thread Cert.RefSampleProjNormIdeal.nD Cert.RefSampleProjNormIdeal.τ).loc Cert.RefSampleProjNormIdeal.main_arg1) = m ((c.tc : Thread Cert.SampleProjNormIdeal.nD Cert.SampleProjNormIdeal.τ).loc Cert.SampleProjNormIdeal.main_arg1)
      ∧ m' ((c.tc : Thread Cert.RefSampleProjNormIdeal.nD Cert.RefSampleProjNormIdeal.τ).loc Cert.RefSampleProjNormIdeal.main_arg2) = m ((c.tc : Thread Cert.SampleProjNormIdeal.nD Cert.SampleProjNormIdeal.τ).loc Cert.SampleProjNormIdeal.main_arg2)
      ∧ m' ((c.tc : Thread Cert.RefSampleProjNormIdeal.nD Cert.RefSampleProjNormIdeal.τ).loc Cert.RefSampleProjNormIdeal.main_arg3) = m ((c.tc : Thread Cert.SampleProjNormIdeal.nD Cert.SampleProjNormIdeal.τ).loc Cert.SampleProjNormIdeal.main_arg3)
      ∧ m' ((c.tc : Thread Cert.RefSampleProjNormIdeal.nD Cert.RefSampleProjNormIdeal.τ).loc Cert.RefSampleProjNormIdeal.main_arg4) = m ((c.tc : Thread Cert.SampleProjNormIdeal.nD Cert.SampleProjNormIdeal.τ).loc Cert.SampleProjNormIdeal.main_arg4)) →
    ∃ (v0 : (c : Dev Cert.SampleProjNormIdeal.nD) → Buf (Elt Ideal) ((c.tc : Thread Cert.SampleProjNormIdeal.nD Cert.SampleProjNormIdeal.τ).loc Cert.SampleProjNormIdeal.main_v6_0)) (v1 : (c : Dev Cert.SampleProjNormIdeal.nD) → Buf (Elt Ideal) ((c.tc : Thread Cert.SampleProjNormIdeal.nD Cert.SampleProjNormIdeal.τ).loc Cert.SampleProjNormIdeal.main_v6_1)),
      θ_run (Cert.SampleProjNormIdeal.defs (F := Ideal)) (onTc (τ := Cert.SampleProjNormIdeal.τ) (Cert.SampleProjNormIdeal.main (F := Ideal))) ⟨m, fun _ => 0, g⟩ (fun r => ∀ c : Dev Cert.SampleProjNormIdeal.nD,
          r.2.mem ((c.tc : Thread Cert.SampleProjNormIdeal.nD Cert.SampleProjNormIdeal.τ).loc Cert.SampleProjNormIdeal.main_v6_0) = v0 c
          ∧ r.2.mem ((c.tc : Thread Cert.SampleProjNormIdeal.nD Cert.SampleProjNormIdeal.τ).loc Cert.SampleProjNormIdeal.main_v6_1) = v1 c
          ∧ r.2.mem ((c.tc : Thread Cert.SampleProjNormIdeal.nD Cert.SampleProjNormIdeal.τ).loc Cert.SampleProjNormIdeal.main_arg0) = m ((c.tc : Thread Cert.SampleProjNormIdeal.nD Cert.SampleProjNormIdeal.τ).loc Cert.SampleProjNormIdeal.main_arg0)
          ∧ r.2.mem ((c.tc : Thread Cert.SampleProjNormIdeal.nD Cert.SampleProjNormIdeal.τ).loc Cert.SampleProjNormIdeal.main_arg1) = m ((c.tc : Thread Cert.SampleProjNormIdeal.nD Cert.SampleProjNormIdeal.τ).loc Cert.SampleProjNormIdeal.main_arg1)
          ∧ r.2.mem ((c.tc : Thread Cert.SampleProjNormIdeal.nD Cert.SampleProjNormIdeal.τ).loc Cert.SampleProjNormIdeal.main_arg2) = m ((c.tc : Thread Cert.SampleProjNormIdeal.nD Cert.SampleProjNormIdeal.τ).loc Cert.SampleProjNormIdeal.main_arg2)
          ∧ r.2.mem ((c.tc : Thread Cert.SampleProjNormIdeal.nD Cert.SampleProjNormIdeal.τ).loc Cert.SampleProjNormIdeal.main_arg3) = m ((c.tc : Thread Cert.SampleProjNormIdeal.nD Cert.SampleProjNormIdeal.τ).loc Cert.SampleProjNormIdeal.main_arg3)
          ∧ r.2.mem ((c.tc : Thread Cert.SampleProjNormIdeal.nD Cert.SampleProjNormIdeal.τ).loc Cert.SampleProjNormIdeal.main_arg4) = m ((c.tc : Thread Cert.SampleProjNormIdeal.nD Cert.SampleProjNormIdeal.τ).loc Cert.SampleProjNormIdeal.main_arg4))
      ∧ θ_run (Cert.RefSampleProjNormIdeal.defs (F := Ideal)) (onTc (τ := Cert.RefSampleProjNormIdeal.τ) (Cert.RefSampleProjNormIdeal.main (F := Ideal))) ⟨m', fun _ => 0, g'⟩ (fun r => ∀ c : Dev Cert.RefSampleProjNormIdeal.nD,
          r.2.mem ((c.tc : Thread Cert.RefSampleProjNormIdeal.nD Cert.RefSampleProjNormIdeal.τ).loc Cert.RefSampleProjNormIdeal.main_v17) = v0 c
          ∧ r.2.mem ((c.tc : Thread Cert.RefSampleProjNormIdeal.nD Cert.RefSampleProjNormIdeal.τ).loc Cert.RefSampleProjNormIdeal.main_v32) = v1 c
          ∧ r.2.mem ((c.tc : Thread Cert.RefSampleProjNormIdeal.nD Cert.RefSampleProjNormIdeal.τ).loc Cert.RefSampleProjNormIdeal.main_arg0) = m' ((c.tc : Thread Cert.RefSampleProjNormIdeal.nD Cert.RefSampleProjNormIdeal.τ).loc Cert.RefSampleProjNormIdeal.main_arg0)
          ∧ r.2.mem ((c.tc : Thread Cert.RefSampleProjNormIdeal.nD Cert.RefSampleProjNormIdeal.τ).loc Cert.RefSampleProjNormIdeal.main_arg1) = m' ((c.tc : Thread Cert.RefSampleProjNormIdeal.nD Cert.RefSampleProjNormIdeal.τ).loc Cert.RefSampleProjNormIdeal.main_arg1)
          ∧ r.2.mem ((c.tc : Thread Cert.RefSampleProjNormIdeal.nD Cert.RefSampleProjNormIdeal.τ).loc Cert.RefSampleProjNormIdeal.main_arg2) = m' ((c.tc : Thread Cert.RefSampleProjNormIdeal.nD Cert.RefSampleProjNormIdeal.τ).loc Cert.RefSampleProjNormIdeal.main_arg2)
          ∧ r.2.mem ((c.tc : Thread Cert.RefSampleProjNormIdeal.nD Cert.RefSampleProjNormIdeal.τ).loc Cert.RefSampleProjNormIdeal.main_arg3) = m' ((c.tc : Thread Cert.RefSampleProjNormIdeal.nD Cert.RefSampleProjNormIdeal.τ).loc Cert.RefSampleProjNormIdeal.main_arg3)
          ∧ r.2.mem ((c.tc : Thread Cert.RefSampleProjNormIdeal.nD Cert.RefSampleProjNormIdeal.τ).loc Cert.RefSampleProjNormIdeal.main_arg4) = m' ((c.tc : Thread Cert.RefSampleProjNormIdeal.nD Cert.RefSampleProjNormIdeal.τ).loc Cert.RefSampleProjNormIdeal.main_arg4))

def preserves_SampleMlp_SampleMlpIdeal : Prop :=
  True

def algebraic_SampleMlpIdeal_RefSampleMlpIdeal [hSampleMlpIdeal : Cert.SampleMlpIdeal.Facts] [hRefSampleMlpIdeal : Cert.RefSampleMlpIdeal.Facts] : Prop :=
  ∀ (m : (ℓ : Loc Cert.SampleMlpIdeal.nD Cert.SampleMlpIdeal.τ Cert.SampleMlpIdeal.sig) → Buf (Elt Ideal) ℓ) (g : Dev Cert.SampleMlpIdeal.nD → PrngReg)
    (m' : (ℓ : Loc Cert.RefSampleMlpIdeal.nD Cert.RefSampleMlpIdeal.τ Cert.RefSampleMlpIdeal.sig) → Buf (Elt Ideal) ℓ) (g' : Dev Cert.RefSampleMlpIdeal.nD → PrngReg), Pre_SampleMlpIdeal m →
    (∀ c : Dev Cert.SampleMlpIdeal.nD,
      m' ((c.tc : Thread Cert.RefSampleMlpIdeal.nD Cert.RefSampleMlpIdeal.τ).loc Cert.RefSampleMlpIdeal.main_arg0) = m ((c.tc : Thread Cert.SampleMlpIdeal.nD Cert.SampleMlpIdeal.τ).loc Cert.SampleMlpIdeal.main_arg0)
      ∧ m' ((c.tc : Thread Cert.RefSampleMlpIdeal.nD Cert.RefSampleMlpIdeal.τ).loc Cert.RefSampleMlpIdeal.main_arg1) = m ((c.tc : Thread Cert.SampleMlpIdeal.nD Cert.SampleMlpIdeal.τ).loc Cert.SampleMlpIdeal.main_arg1)
      ∧ m' ((c.tc : Thread Cert.RefSampleMlpIdeal.nD Cert.RefSampleMlpIdeal.τ).loc Cert.RefSampleMlpIdeal.main_arg2) = m ((c.tc : Thread Cert.SampleMlpIdeal.nD Cert.SampleMlpIdeal.τ).loc Cert.SampleMlpIdeal.main_arg2)
      ∧ m' ((c.tc : Thread Cert.RefSampleMlpIdeal.nD Cert.RefSampleMlpIdeal.τ).loc Cert.RefSampleMlpIdeal.main_arg3) = m ((c.tc : Thread Cert.SampleMlpIdeal.nD Cert.SampleMlpIdeal.τ).loc Cert.SampleMlpIdeal.main_arg3)
      ∧ m' ((c.tc : Thread Cert.RefSampleMlpIdeal.nD Cert.RefSampleMlpIdeal.τ).loc Cert.RefSampleMlpIdeal.main_arg4) = m ((c.tc : Thread Cert.SampleMlpIdeal.nD Cert.SampleMlpIdeal.τ).loc Cert.SampleMlpIdeal.main_arg4)) →
    ∃ (v0 : (c : Dev Cert.SampleMlpIdeal.nD) → Buf (Elt Ideal) ((c.tc : Thread Cert.SampleMlpIdeal.nD Cert.SampleMlpIdeal.τ).loc Cert.SampleMlpIdeal.main_v8)),
      θ_run (Cert.SampleMlpIdeal.defs (F := Ideal)) (onTc (τ := Cert.SampleMlpIdeal.τ) (Cert.SampleMlpIdeal.main (F := Ideal))) ⟨m, fun _ => 0, g⟩ (fun r => ∀ c : Dev Cert.SampleMlpIdeal.nD,
          r.2.mem ((c.tc : Thread Cert.SampleMlpIdeal.nD Cert.SampleMlpIdeal.τ).loc Cert.SampleMlpIdeal.main_v8) = v0 c
          ∧ r.2.mem ((c.tc : Thread Cert.SampleMlpIdeal.nD Cert.SampleMlpIdeal.τ).loc Cert.SampleMlpIdeal.main_arg0) = m ((c.tc : Thread Cert.SampleMlpIdeal.nD Cert.SampleMlpIdeal.τ).loc Cert.SampleMlpIdeal.main_arg0)
          ∧ r.2.mem ((c.tc : Thread Cert.SampleMlpIdeal.nD Cert.SampleMlpIdeal.τ).loc Cert.SampleMlpIdeal.main_arg1) = m ((c.tc : Thread Cert.SampleMlpIdeal.nD Cert.SampleMlpIdeal.τ).loc Cert.SampleMlpIdeal.main_arg1)
          ∧ r.2.mem ((c.tc : Thread Cert.SampleMlpIdeal.nD Cert.SampleMlpIdeal.τ).loc Cert.SampleMlpIdeal.main_arg2) = m ((c.tc : Thread Cert.SampleMlpIdeal.nD Cert.SampleMlpIdeal.τ).loc Cert.SampleMlpIdeal.main_arg2)
          ∧ r.2.mem ((c.tc : Thread Cert.SampleMlpIdeal.nD Cert.SampleMlpIdeal.τ).loc Cert.SampleMlpIdeal.main_arg3) = m ((c.tc : Thread Cert.SampleMlpIdeal.nD Cert.SampleMlpIdeal.τ).loc Cert.SampleMlpIdeal.main_arg3)
          ∧ r.2.mem ((c.tc : Thread Cert.SampleMlpIdeal.nD Cert.SampleMlpIdeal.τ).loc Cert.SampleMlpIdeal.main_arg4) = m ((c.tc : Thread Cert.SampleMlpIdeal.nD Cert.SampleMlpIdeal.τ).loc Cert.SampleMlpIdeal.main_arg4))
      ∧ θ_run (Cert.RefSampleMlpIdeal.defs (F := Ideal)) (onTc (τ := Cert.RefSampleMlpIdeal.τ) (Cert.RefSampleMlpIdeal.main (F := Ideal))) ⟨m', fun _ => 0, g'⟩ (fun r => ∀ c : Dev Cert.RefSampleMlpIdeal.nD,
          r.2.mem ((c.tc : Thread Cert.RefSampleMlpIdeal.nD Cert.RefSampleMlpIdeal.τ).loc Cert.RefSampleMlpIdeal.main_v25) = v0 c
          ∧ r.2.mem ((c.tc : Thread Cert.RefSampleMlpIdeal.nD Cert.RefSampleMlpIdeal.τ).loc Cert.RefSampleMlpIdeal.main_arg0) = m' ((c.tc : Thread Cert.RefSampleMlpIdeal.nD Cert.RefSampleMlpIdeal.τ).loc Cert.RefSampleMlpIdeal.main_arg0)
          ∧ r.2.mem ((c.tc : Thread Cert.RefSampleMlpIdeal.nD Cert.RefSampleMlpIdeal.τ).loc Cert.RefSampleMlpIdeal.main_arg1) = m' ((c.tc : Thread Cert.RefSampleMlpIdeal.nD Cert.RefSampleMlpIdeal.τ).loc Cert.RefSampleMlpIdeal.main_arg1)
          ∧ r.2.mem ((c.tc : Thread Cert.RefSampleMlpIdeal.nD Cert.RefSampleMlpIdeal.τ).loc Cert.RefSampleMlpIdeal.main_arg2) = m' ((c.tc : Thread Cert.RefSampleMlpIdeal.nD Cert.RefSampleMlpIdeal.τ).loc Cert.RefSampleMlpIdeal.main_arg2)
          ∧ r.2.mem ((c.tc : Thread Cert.RefSampleMlpIdeal.nD Cert.RefSampleMlpIdeal.τ).loc Cert.RefSampleMlpIdeal.main_arg3) = m' ((c.tc : Thread Cert.RefSampleMlpIdeal.nD Cert.RefSampleMlpIdeal.τ).loc Cert.RefSampleMlpIdeal.main_arg3)
          ∧ r.2.mem ((c.tc : Thread Cert.RefSampleMlpIdeal.nD Cert.RefSampleMlpIdeal.τ).loc Cert.RefSampleMlpIdeal.main_arg4) = m' ((c.tc : Thread Cert.RefSampleMlpIdeal.nD Cert.RefSampleMlpIdeal.τ).loc Cert.RefSampleMlpIdeal.main_arg4))

def preserves_SampleRows_SampleRowsIdeal : Prop :=
  True

def algebraic_SampleRowsIdeal_RefSampleRowsIdeal [hSampleRowsIdeal : Cert.SampleRowsIdeal.Facts] [hRefSampleRowsIdeal : Cert.RefSampleRowsIdeal.Facts] : Prop :=
  ∀ (m : (ℓ : Loc Cert.SampleRowsIdeal.nD Cert.SampleRowsIdeal.τ Cert.SampleRowsIdeal.sig) → Buf (Elt Ideal) ℓ) (g : Dev Cert.SampleRowsIdeal.nD → PrngReg)
    (m' : (ℓ : Loc Cert.RefSampleRowsIdeal.nD Cert.RefSampleRowsIdeal.τ Cert.RefSampleRowsIdeal.sig) → Buf (Elt Ideal) ℓ) (g' : Dev Cert.RefSampleRowsIdeal.nD → PrngReg), Pre_SampleRowsIdeal m →
    (∀ c : Dev Cert.SampleRowsIdeal.nD,
      m' ((c.tc : Thread Cert.RefSampleRowsIdeal.nD Cert.RefSampleRowsIdeal.τ).loc Cert.RefSampleRowsIdeal.main_arg0) = m ((c.tc : Thread Cert.SampleRowsIdeal.nD Cert.SampleRowsIdeal.τ).loc Cert.SampleRowsIdeal.main_arg0)
      ∧ m' ((c.tc : Thread Cert.RefSampleRowsIdeal.nD Cert.RefSampleRowsIdeal.τ).loc Cert.RefSampleRowsIdeal.main_arg1) = m ((c.tc : Thread Cert.SampleRowsIdeal.nD Cert.SampleRowsIdeal.τ).loc Cert.SampleRowsIdeal.main_arg1)
      ∧ m' ((c.tc : Thread Cert.RefSampleRowsIdeal.nD Cert.RefSampleRowsIdeal.τ).loc Cert.RefSampleRowsIdeal.main_arg2) = m ((c.tc : Thread Cert.SampleRowsIdeal.nD Cert.SampleRowsIdeal.τ).loc Cert.SampleRowsIdeal.main_arg2)) →
    ∃ (v0 : (c : Dev Cert.SampleRowsIdeal.nD) → Buf (Elt Ideal) ((c.tc : Thread Cert.SampleRowsIdeal.nD Cert.SampleRowsIdeal.τ).loc Cert.SampleRowsIdeal.main_v18)) (v1 : (c : Dev Cert.SampleRowsIdeal.nD) → Buf (Elt Ideal) ((c.tc : Thread Cert.SampleRowsIdeal.nD Cert.SampleRowsIdeal.τ).loc Cert.SampleRowsIdeal.main_v19)) (v2 : (c : Dev Cert.SampleRowsIdeal.nD) → Buf (Elt Ideal) ((c.tc : Thread Cert.SampleRowsIdeal.nD Cert.SampleRowsIdeal.τ).loc Cert.SampleRowsIdeal.main_v20)) (v3 : (c : Dev Cert.SampleRowsIdeal.nD) → Buf (Elt Ideal) ((c.tc : Thread Cert.SampleRowsIdeal.nD Cert.SampleRowsIdeal.τ).loc Cert.SampleRowsIdeal.main_v21)) (v4 : (c : Dev Cert.SampleRowsIdeal.nD) → Buf (Elt Ideal) ((c.tc : Thread Cert.SampleRowsIdeal.nD Cert.SampleRowsIdeal.τ).loc Cert.SampleRowsIdeal.main_v22)),
      θ_run (Cert.SampleRowsIdeal.defs (F := Ideal)) (onTc (τ := Cert.SampleRowsIdeal.τ) (Cert.SampleRowsIdeal.main (F := Ideal))) ⟨m, fun _ => 0, g⟩ (fun r => ∀ c : Dev Cert.SampleRowsIdeal.nD,
          r.2.mem ((c.tc : Thread Cert.SampleRowsIdeal.nD Cert.SampleRowsIdeal.τ).loc Cert.SampleRowsIdeal.main_v18) = v0 c
          ∧ r.2.mem ((c.tc : Thread Cert.SampleRowsIdeal.nD Cert.SampleRowsIdeal.τ).loc Cert.SampleRowsIdeal.main_v19) = v1 c
          ∧ r.2.mem ((c.tc : Thread Cert.SampleRowsIdeal.nD Cert.SampleRowsIdeal.τ).loc Cert.SampleRowsIdeal.main_v20) = v2 c
          ∧ r.2.mem ((c.tc : Thread Cert.SampleRowsIdeal.nD Cert.SampleRowsIdeal.τ).loc Cert.SampleRowsIdeal.main_v21) = v3 c
          ∧ r.2.mem ((c.tc : Thread Cert.SampleRowsIdeal.nD Cert.SampleRowsIdeal.τ).loc Cert.SampleRowsIdeal.main_v22) = v4 c
          ∧ r.2.mem ((c.tc : Thread Cert.SampleRowsIdeal.nD Cert.SampleRowsIdeal.τ).loc Cert.SampleRowsIdeal.main_arg0) = m ((c.tc : Thread Cert.SampleRowsIdeal.nD Cert.SampleRowsIdeal.τ).loc Cert.SampleRowsIdeal.main_arg0)
          ∧ r.2.mem ((c.tc : Thread Cert.SampleRowsIdeal.nD Cert.SampleRowsIdeal.τ).loc Cert.SampleRowsIdeal.main_arg1) = m ((c.tc : Thread Cert.SampleRowsIdeal.nD Cert.SampleRowsIdeal.τ).loc Cert.SampleRowsIdeal.main_arg1)
          ∧ r.2.mem ((c.tc : Thread Cert.SampleRowsIdeal.nD Cert.SampleRowsIdeal.τ).loc Cert.SampleRowsIdeal.main_arg2) = m ((c.tc : Thread Cert.SampleRowsIdeal.nD Cert.SampleRowsIdeal.τ).loc Cert.SampleRowsIdeal.main_arg2))
      ∧ θ_run (Cert.RefSampleRowsIdeal.defs (F := Ideal)) (onTc (τ := Cert.RefSampleRowsIdeal.τ) (Cert.RefSampleRowsIdeal.main (F := Ideal))) ⟨m', fun _ => 0, g'⟩ (fun r => ∀ c : Dev Cert.RefSampleRowsIdeal.nD,
          r.2.mem ((c.tc : Thread Cert.RefSampleRowsIdeal.nD Cert.RefSampleRowsIdeal.τ).loc Cert.RefSampleRowsIdeal.main_v17) = v0 c
          ∧ r.2.mem ((c.tc : Thread Cert.RefSampleRowsIdeal.nD Cert.RefSampleRowsIdeal.τ).loc Cert.RefSampleRowsIdeal.main_v19) = v1 c
          ∧ r.2.mem ((c.tc : Thread Cert.RefSampleRowsIdeal.nD Cert.RefSampleRowsIdeal.τ).loc Cert.RefSampleRowsIdeal.main_v21) = v2 c
          ∧ r.2.mem ((c.tc : Thread Cert.RefSampleRowsIdeal.nD Cert.RefSampleRowsIdeal.τ).loc Cert.RefSampleRowsIdeal.main_v23) = v3 c
          ∧ r.2.mem ((c.tc : Thread Cert.RefSampleRowsIdeal.nD Cert.RefSampleRowsIdeal.τ).loc Cert.RefSampleRowsIdeal.main_v25) = v4 c
          ∧ r.2.mem ((c.tc : Thread Cert.RefSampleRowsIdeal.nD Cert.RefSampleRowsIdeal.τ).loc Cert.RefSampleRowsIdeal.main_arg0) = m' ((c.tc : Thread Cert.RefSampleRowsIdeal.nD Cert.RefSampleRowsIdeal.τ).loc Cert.RefSampleRowsIdeal.main_arg0)
          ∧ r.2.mem ((c.tc : Thread Cert.RefSampleRowsIdeal.nD Cert.RefSampleRowsIdeal.τ).loc Cert.RefSampleRowsIdeal.main_arg1) = m' ((c.tc : Thread Cert.RefSampleRowsIdeal.nD Cert.RefSampleRowsIdeal.τ).loc Cert.RefSampleRowsIdeal.main_arg1)
          ∧ r.2.mem ((c.tc : Thread Cert.RefSampleRowsIdeal.nD Cert.RefSampleRowsIdeal.τ).loc Cert.RefSampleRowsIdeal.main_arg2) = m' ((c.tc : Thread Cert.RefSampleRowsIdeal.nD Cert.RefSampleRowsIdeal.τ).loc Cert.RefSampleRowsIdeal.main_arg2))

def preserves_PromptRows_PromptRowsIdeal : Prop :=
  True

def algebraic_PromptRowsIdeal_RefPromptRowsIdeal [hPromptRowsIdeal : Cert.PromptRowsIdeal.Facts] [hRefPromptRowsIdeal : Cert.RefPromptRowsIdeal.Facts] : Prop :=
  ∀ (m : (ℓ : Loc Cert.PromptRowsIdeal.nD Cert.PromptRowsIdeal.τ Cert.PromptRowsIdeal.sig) → Buf (Elt Ideal) ℓ) (g : Dev Cert.PromptRowsIdeal.nD → PrngReg)
    (m' : (ℓ : Loc Cert.RefPromptRowsIdeal.nD Cert.RefPromptRowsIdeal.τ Cert.RefPromptRowsIdeal.sig) → Buf (Elt Ideal) ℓ) (g' : Dev Cert.RefPromptRowsIdeal.nD → PrngReg), Pre_PromptRowsIdeal m →
    (∀ c : Dev Cert.PromptRowsIdeal.nD,
      m' ((c.tc : Thread Cert.RefPromptRowsIdeal.nD Cert.RefPromptRowsIdeal.τ).loc Cert.RefPromptRowsIdeal.main_arg0) = m ((c.tc : Thread Cert.PromptRowsIdeal.nD Cert.PromptRowsIdeal.τ).loc Cert.PromptRowsIdeal.main_arg0)
      ∧ m' ((c.tc : Thread Cert.RefPromptRowsIdeal.nD Cert.RefPromptRowsIdeal.τ).loc Cert.RefPromptRowsIdeal.main_arg1) = m ((c.tc : Thread Cert.PromptRowsIdeal.nD Cert.PromptRowsIdeal.τ).loc Cert.PromptRowsIdeal.main_arg1)
      ∧ m' ((c.tc : Thread Cert.RefPromptRowsIdeal.nD Cert.RefPromptRowsIdeal.τ).loc Cert.RefPromptRowsIdeal.main_arg2) = m ((c.tc : Thread Cert.PromptRowsIdeal.nD Cert.PromptRowsIdeal.τ).loc Cert.PromptRowsIdeal.main_arg2)) →
    ∃ (v0 : (c : Dev Cert.PromptRowsIdeal.nD) → Buf (Elt Ideal) ((c.tc : Thread Cert.PromptRowsIdeal.nD Cert.PromptRowsIdeal.τ).loc Cert.PromptRowsIdeal.main_v17)) (v1 : (c : Dev Cert.PromptRowsIdeal.nD) → Buf (Elt Ideal) ((c.tc : Thread Cert.PromptRowsIdeal.nD Cert.PromptRowsIdeal.τ).loc Cert.PromptRowsIdeal.main_v18)) (v2 : (c : Dev Cert.PromptRowsIdeal.nD) → Buf (Elt Ideal) ((c.tc : Thread Cert.PromptRowsIdeal.nD Cert.PromptRowsIdeal.τ).loc Cert.PromptRowsIdeal.main_v19)) (v3 : (c : Dev Cert.PromptRowsIdeal.nD) → Buf (Elt Ideal) ((c.tc : Thread Cert.PromptRowsIdeal.nD Cert.PromptRowsIdeal.τ).loc Cert.PromptRowsIdeal.main_v20)) (v4 : (c : Dev Cert.PromptRowsIdeal.nD) → Buf (Elt Ideal) ((c.tc : Thread Cert.PromptRowsIdeal.nD Cert.PromptRowsIdeal.τ).loc Cert.PromptRowsIdeal.main_v21)),
      θ_run (Cert.PromptRowsIdeal.defs (F := Ideal)) (onTc (τ := Cert.PromptRowsIdeal.τ) (Cert.PromptRowsIdeal.main (F := Ideal))) ⟨m, fun _ => 0, g⟩ (fun r => ∀ c : Dev Cert.PromptRowsIdeal.nD,
          r.2.mem ((c.tc : Thread Cert.PromptRowsIdeal.nD Cert.PromptRowsIdeal.τ).loc Cert.PromptRowsIdeal.main_v17) = v0 c
          ∧ r.2.mem ((c.tc : Thread Cert.PromptRowsIdeal.nD Cert.PromptRowsIdeal.τ).loc Cert.PromptRowsIdeal.main_v18) = v1 c
          ∧ r.2.mem ((c.tc : Thread Cert.PromptRowsIdeal.nD Cert.PromptRowsIdeal.τ).loc Cert.PromptRowsIdeal.main_v19) = v2 c
          ∧ r.2.mem ((c.tc : Thread Cert.PromptRowsIdeal.nD Cert.PromptRowsIdeal.τ).loc Cert.PromptRowsIdeal.main_v20) = v3 c
          ∧ r.2.mem ((c.tc : Thread Cert.PromptRowsIdeal.nD Cert.PromptRowsIdeal.τ).loc Cert.PromptRowsIdeal.main_v21) = v4 c
          ∧ r.2.mem ((c.tc : Thread Cert.PromptRowsIdeal.nD Cert.PromptRowsIdeal.τ).loc Cert.PromptRowsIdeal.main_arg0) = m ((c.tc : Thread Cert.PromptRowsIdeal.nD Cert.PromptRowsIdeal.τ).loc Cert.PromptRowsIdeal.main_arg0)
          ∧ r.2.mem ((c.tc : Thread Cert.PromptRowsIdeal.nD Cert.PromptRowsIdeal.τ).loc Cert.PromptRowsIdeal.main_arg1) = m ((c.tc : Thread Cert.PromptRowsIdeal.nD Cert.PromptRowsIdeal.τ).loc Cert.PromptRowsIdeal.main_arg1)
          ∧ r.2.mem ((c.tc : Thread Cert.PromptRowsIdeal.nD Cert.PromptRowsIdeal.τ).loc Cert.PromptRowsIdeal.main_arg2) = m ((c.tc : Thread Cert.PromptRowsIdeal.nD Cert.PromptRowsIdeal.τ).loc Cert.PromptRowsIdeal.main_arg2))
      ∧ θ_run (Cert.RefPromptRowsIdeal.defs (F := Ideal)) (onTc (τ := Cert.RefPromptRowsIdeal.τ) (Cert.RefPromptRowsIdeal.main (F := Ideal))) ⟨m', fun _ => 0, g'⟩ (fun r => ∀ c : Dev Cert.RefPromptRowsIdeal.nD,
          r.2.mem ((c.tc : Thread Cert.RefPromptRowsIdeal.nD Cert.RefPromptRowsIdeal.τ).loc Cert.RefPromptRowsIdeal.main_v17) = v0 c
          ∧ r.2.mem ((c.tc : Thread Cert.RefPromptRowsIdeal.nD Cert.RefPromptRowsIdeal.τ).loc Cert.RefPromptRowsIdeal.main_v19) = v1 c
          ∧ r.2.mem ((c.tc : Thread Cert.RefPromptRowsIdeal.nD Cert.RefPromptRowsIdeal.τ).loc Cert.RefPromptRowsIdeal.main_v21) = v2 c
          ∧ r.2.mem ((c.tc : Thread Cert.RefPromptRowsIdeal.nD Cert.RefPromptRowsIdeal.τ).loc Cert.RefPromptRowsIdeal.main_v23) = v3 c
          ∧ r.2.mem ((c.tc : Thread Cert.RefPromptRowsIdeal.nD Cert.RefPromptRowsIdeal.τ).loc Cert.RefPromptRowsIdeal.main_v25) = v4 c
          ∧ r.2.mem ((c.tc : Thread Cert.RefPromptRowsIdeal.nD Cert.RefPromptRowsIdeal.τ).loc Cert.RefPromptRowsIdeal.main_arg0) = m' ((c.tc : Thread Cert.RefPromptRowsIdeal.nD Cert.RefPromptRowsIdeal.τ).loc Cert.RefPromptRowsIdeal.main_arg0)
          ∧ r.2.mem ((c.tc : Thread Cert.RefPromptRowsIdeal.nD Cert.RefPromptRowsIdeal.τ).loc Cert.RefPromptRowsIdeal.main_arg1) = m' ((c.tc : Thread Cert.RefPromptRowsIdeal.nD Cert.RefPromptRowsIdeal.τ).loc Cert.RefPromptRowsIdeal.main_arg1)
          ∧ r.2.mem ((c.tc : Thread Cert.RefPromptRowsIdeal.nD Cert.RefPromptRowsIdeal.τ).loc Cert.RefPromptRowsIdeal.main_arg2) = m' ((c.tc : Thread Cert.RefPromptRowsIdeal.nD Cert.RefPromptRowsIdeal.τ).loc Cert.RefPromptRowsIdeal.main_arg2))

def preserves_PromptOut_PromptOutIdeal : Prop :=
  True

def algebraic_PromptOutIdeal_RefPromptOutIdeal [hPromptOutIdeal : Cert.PromptOutIdeal.Facts] [hRefPromptOutIdeal : Cert.RefPromptOutIdeal.Facts] : Prop :=
  ∀ (m : (ℓ : Loc Cert.PromptOutIdeal.nD Cert.PromptOutIdeal.τ Cert.PromptOutIdeal.sig) → Buf (Elt Ideal) ℓ) (g : Dev Cert.PromptOutIdeal.nD → PrngReg)
    (m' : (ℓ : Loc Cert.RefPromptOutIdeal.nD Cert.RefPromptOutIdeal.τ Cert.RefPromptOutIdeal.sig) → Buf (Elt Ideal) ℓ) (g' : Dev Cert.RefPromptOutIdeal.nD → PrngReg), Pre_PromptOutIdeal m →
    (∀ c : Dev Cert.PromptOutIdeal.nD,
      m' ((c.tc : Thread Cert.RefPromptOutIdeal.nD Cert.RefPromptOutIdeal.τ).loc Cert.RefPromptOutIdeal.main_arg0) = m ((c.tc : Thread Cert.PromptOutIdeal.nD Cert.PromptOutIdeal.τ).loc Cert.PromptOutIdeal.main_arg0)
      ∧ m' ((c.tc : Thread Cert.RefPromptOutIdeal.nD Cert.RefPromptOutIdeal.τ).loc Cert.RefPromptOutIdeal.main_arg1) = m ((c.tc : Thread Cert.PromptOutIdeal.nD Cert.PromptOutIdeal.τ).loc Cert.PromptOutIdeal.main_arg1)
      ∧ m' ((c.tc : Thread Cert.RefPromptOutIdeal.nD Cert.RefPromptOutIdeal.τ).loc Cert.RefPromptOutIdeal.main_arg2) = m ((c.tc : Thread Cert.PromptOutIdeal.nD Cert.PromptOutIdeal.τ).loc Cert.PromptOutIdeal.main_arg2)
      ∧ m' ((c.tc : Thread Cert.RefPromptOutIdeal.nD Cert.RefPromptOutIdeal.τ).loc Cert.RefPromptOutIdeal.main_arg3) = m ((c.tc : Thread Cert.PromptOutIdeal.nD Cert.PromptOutIdeal.τ).loc Cert.PromptOutIdeal.main_arg3)
      ∧ m' ((c.tc : Thread Cert.RefPromptOutIdeal.nD Cert.RefPromptOutIdeal.τ).loc Cert.RefPromptOutIdeal.main_arg4) = m ((c.tc : Thread Cert.PromptOutIdeal.nD Cert.PromptOutIdeal.τ).loc Cert.PromptOutIdeal.main_arg4)
      ∧ m' ((c.tc : Thread Cert.RefPromptOutIdeal.nD Cert.RefPromptOutIdeal.τ).loc Cert.RefPromptOutIdeal.main_arg5) = m ((c.tc : Thread Cert.PromptOutIdeal.nD Cert.PromptOutIdeal.τ).loc Cert.PromptOutIdeal.main_arg5)
      ∧ m' ((c.tc : Thread Cert.RefPromptOutIdeal.nD Cert.RefPromptOutIdeal.τ).loc Cert.RefPromptOutIdeal.main_arg6) = m ((c.tc : Thread Cert.PromptOutIdeal.nD Cert.PromptOutIdeal.τ).loc Cert.PromptOutIdeal.main_arg6)
      ∧ m' ((c.tc : Thread Cert.RefPromptOutIdeal.nD Cert.RefPromptOutIdeal.τ).loc Cert.RefPromptOutIdeal.main_arg7) = m ((c.tc : Thread Cert.PromptOutIdeal.nD Cert.PromptOutIdeal.τ).loc Cert.PromptOutIdeal.main_arg7)
      ∧ m' ((c.tc : Thread Cert.RefPromptOutIdeal.nD Cert.RefPromptOutIdeal.τ).loc Cert.RefPromptOutIdeal.main_arg8) = m ((c.tc : Thread Cert.PromptOutIdeal.nD Cert.PromptOutIdeal.τ).loc Cert.PromptOutIdeal.main_arg8)
      ∧ m' ((c.tc : Thread Cert.RefPromptOutIdeal.nD Cert.RefPromptOutIdeal.τ).loc Cert.RefPromptOutIdeal.main_arg9) = m ((c.tc : Thread Cert.PromptOutIdeal.nD Cert.PromptOutIdeal.τ).loc Cert.PromptOutIdeal.main_arg9)
      ∧ m' ((c.tc : Thread Cert.RefPromptOutIdeal.nD Cert.RefPromptOutIdeal.τ).loc Cert.RefPromptOutIdeal.main_arg10) = m ((c.tc : Thread Cert.PromptOutIdeal.nD Cert.PromptOutIdeal.τ).loc Cert.PromptOutIdeal.main_arg10)
      ∧ m' ((c.tc : Thread Cert.RefPromptOutIdeal.nD Cert.RefPromptOutIdeal.τ).loc Cert.RefPromptOutIdeal.main_arg11) = m ((c.tc : Thread Cert.PromptOutIdeal.nD Cert.PromptOutIdeal.τ).loc Cert.PromptOutIdeal.main_arg11)
      ∧ m' ((c.tc : Thread Cert.RefPromptOutIdeal.nD Cert.RefPromptOutIdeal.τ).loc Cert.RefPromptOutIdeal.main_arg12) = m ((c.tc : Thread Cert.PromptOutIdeal.nD Cert.PromptOutIdeal.τ).loc Cert.PromptOutIdeal.main_arg12)) →
    ∃ (v0 : (c : Dev Cert.PromptOutIdeal.nD) → Buf (Elt Ideal) ((c.tc : Thread Cert.PromptOutIdeal.nD Cert.PromptOutIdeal.τ).loc Cert.PromptOutIdeal.main_v26)),
      θ_run (Cert.PromptOutIdeal.defs (F := Ideal)) (onTc (τ := Cert.PromptOutIdeal.τ) (Cert.PromptOutIdeal.main (F := Ideal))) ⟨m, fun _ => 0, g⟩ (fun r => ∀ c : Dev Cert.PromptOutIdeal.nD,
          r.2.mem ((c.tc : Thread Cert.PromptOutIdeal.nD Cert.PromptOutIdeal.τ).loc Cert.PromptOutIdeal.main_v26) = v0 c
          ∧ r.2.mem ((c.tc : Thread Cert.PromptOutIdeal.nD Cert.PromptOutIdeal.τ).loc Cert.PromptOutIdeal.main_arg0) = m ((c.tc : Thread Cert.PromptOutIdeal.nD Cert.PromptOutIdeal.τ).loc Cert.PromptOutIdeal.main_arg0)
          ∧ r.2.mem ((c.tc : Thread Cert.PromptOutIdeal.nD Cert.PromptOutIdeal.τ).loc Cert.PromptOutIdeal.main_arg1) = m ((c.tc : Thread Cert.PromptOutIdeal.nD Cert.PromptOutIdeal.τ).loc Cert.PromptOutIdeal.main_arg1)
          ∧ r.2.mem ((c.tc : Thread Cert.PromptOutIdeal.nD Cert.PromptOutIdeal.τ).loc Cert.PromptOutIdeal.main_arg2) = m ((c.tc : Thread Cert.PromptOutIdeal.nD Cert.PromptOutIdeal.τ).loc Cert.PromptOutIdeal.main_arg2)
          ∧ r.2.mem ((c.tc : Thread Cert.PromptOutIdeal.nD Cert.PromptOutIdeal.τ).loc Cert.PromptOutIdeal.main_arg3) = m ((c.tc : Thread Cert.PromptOutIdeal.nD Cert.PromptOutIdeal.τ).loc Cert.PromptOutIdeal.main_arg3)
          ∧ r.2.mem ((c.tc : Thread Cert.PromptOutIdeal.nD Cert.PromptOutIdeal.τ).loc Cert.PromptOutIdeal.main_arg4) = m ((c.tc : Thread Cert.PromptOutIdeal.nD Cert.PromptOutIdeal.τ).loc Cert.PromptOutIdeal.main_arg4)
          ∧ r.2.mem ((c.tc : Thread Cert.PromptOutIdeal.nD Cert.PromptOutIdeal.τ).loc Cert.PromptOutIdeal.main_arg5) = m ((c.tc : Thread Cert.PromptOutIdeal.nD Cert.PromptOutIdeal.τ).loc Cert.PromptOutIdeal.main_arg5)
          ∧ r.2.mem ((c.tc : Thread Cert.PromptOutIdeal.nD Cert.PromptOutIdeal.τ).loc Cert.PromptOutIdeal.main_arg6) = m ((c.tc : Thread Cert.PromptOutIdeal.nD Cert.PromptOutIdeal.τ).loc Cert.PromptOutIdeal.main_arg6)
          ∧ r.2.mem ((c.tc : Thread Cert.PromptOutIdeal.nD Cert.PromptOutIdeal.τ).loc Cert.PromptOutIdeal.main_arg7) = m ((c.tc : Thread Cert.PromptOutIdeal.nD Cert.PromptOutIdeal.τ).loc Cert.PromptOutIdeal.main_arg7)
          ∧ r.2.mem ((c.tc : Thread Cert.PromptOutIdeal.nD Cert.PromptOutIdeal.τ).loc Cert.PromptOutIdeal.main_arg8) = m ((c.tc : Thread Cert.PromptOutIdeal.nD Cert.PromptOutIdeal.τ).loc Cert.PromptOutIdeal.main_arg8)
          ∧ r.2.mem ((c.tc : Thread Cert.PromptOutIdeal.nD Cert.PromptOutIdeal.τ).loc Cert.PromptOutIdeal.main_arg9) = m ((c.tc : Thread Cert.PromptOutIdeal.nD Cert.PromptOutIdeal.τ).loc Cert.PromptOutIdeal.main_arg9)
          ∧ r.2.mem ((c.tc : Thread Cert.PromptOutIdeal.nD Cert.PromptOutIdeal.τ).loc Cert.PromptOutIdeal.main_arg10) = m ((c.tc : Thread Cert.PromptOutIdeal.nD Cert.PromptOutIdeal.τ).loc Cert.PromptOutIdeal.main_arg10)
          ∧ r.2.mem ((c.tc : Thread Cert.PromptOutIdeal.nD Cert.PromptOutIdeal.τ).loc Cert.PromptOutIdeal.main_arg11) = m ((c.tc : Thread Cert.PromptOutIdeal.nD Cert.PromptOutIdeal.τ).loc Cert.PromptOutIdeal.main_arg11)
          ∧ r.2.mem ((c.tc : Thread Cert.PromptOutIdeal.nD Cert.PromptOutIdeal.τ).loc Cert.PromptOutIdeal.main_arg12) = m ((c.tc : Thread Cert.PromptOutIdeal.nD Cert.PromptOutIdeal.τ).loc Cert.PromptOutIdeal.main_arg12))
      ∧ θ_run (Cert.RefPromptOutIdeal.defs (F := Ideal)) (onTc (τ := Cert.RefPromptOutIdeal.τ) (Cert.RefPromptOutIdeal.main (F := Ideal))) ⟨m', fun _ => 0, g'⟩ (fun r => ∀ c : Dev Cert.RefPromptOutIdeal.nD,
          r.2.mem ((c.tc : Thread Cert.RefPromptOutIdeal.nD Cert.RefPromptOutIdeal.τ).loc Cert.RefPromptOutIdeal.main_v92) = v0 c
          ∧ r.2.mem ((c.tc : Thread Cert.RefPromptOutIdeal.nD Cert.RefPromptOutIdeal.τ).loc Cert.RefPromptOutIdeal.main_arg0) = m' ((c.tc : Thread Cert.RefPromptOutIdeal.nD Cert.RefPromptOutIdeal.τ).loc Cert.RefPromptOutIdeal.main_arg0)
          ∧ r.2.mem ((c.tc : Thread Cert.RefPromptOutIdeal.nD Cert.RefPromptOutIdeal.τ).loc Cert.RefPromptOutIdeal.main_arg1) = m' ((c.tc : Thread Cert.RefPromptOutIdeal.nD Cert.RefPromptOutIdeal.τ).loc Cert.RefPromptOutIdeal.main_arg1)
          ∧ r.2.mem ((c.tc : Thread Cert.RefPromptOutIdeal.nD Cert.RefPromptOutIdeal.τ).loc Cert.RefPromptOutIdeal.main_arg2) = m' ((c.tc : Thread Cert.RefPromptOutIdeal.nD Cert.RefPromptOutIdeal.τ).loc Cert.RefPromptOutIdeal.main_arg2)
          ∧ r.2.mem ((c.tc : Thread Cert.RefPromptOutIdeal.nD Cert.RefPromptOutIdeal.τ).loc Cert.RefPromptOutIdeal.main_arg3) = m' ((c.tc : Thread Cert.RefPromptOutIdeal.nD Cert.RefPromptOutIdeal.τ).loc Cert.RefPromptOutIdeal.main_arg3)
          ∧ r.2.mem ((c.tc : Thread Cert.RefPromptOutIdeal.nD Cert.RefPromptOutIdeal.τ).loc Cert.RefPromptOutIdeal.main_arg4) = m' ((c.tc : Thread Cert.RefPromptOutIdeal.nD Cert.RefPromptOutIdeal.τ).loc Cert.RefPromptOutIdeal.main_arg4)
          ∧ r.2.mem ((c.tc : Thread Cert.RefPromptOutIdeal.nD Cert.RefPromptOutIdeal.τ).loc Cert.RefPromptOutIdeal.main_arg5) = m' ((c.tc : Thread Cert.RefPromptOutIdeal.nD Cert.RefPromptOutIdeal.τ).loc Cert.RefPromptOutIdeal.main_arg5)
          ∧ r.2.mem ((c.tc : Thread Cert.RefPromptOutIdeal.nD Cert.RefPromptOutIdeal.τ).loc Cert.RefPromptOutIdeal.main_arg6) = m' ((c.tc : Thread Cert.RefPromptOutIdeal.nD Cert.RefPromptOutIdeal.τ).loc Cert.RefPromptOutIdeal.main_arg6)
          ∧ r.2.mem ((c.tc : Thread Cert.RefPromptOutIdeal.nD Cert.RefPromptOutIdeal.τ).loc Cert.RefPromptOutIdeal.main_arg7) = m' ((c.tc : Thread Cert.RefPromptOutIdeal.nD Cert.RefPromptOutIdeal.τ).loc Cert.RefPromptOutIdeal.main_arg7)
          ∧ r.2.mem ((c.tc : Thread Cert.RefPromptOutIdeal.nD Cert.RefPromptOutIdeal.τ).loc Cert.RefPromptOutIdeal.main_arg8) = m' ((c.tc : Thread Cert.RefPromptOutIdeal.nD Cert.RefPromptOutIdeal.τ).loc Cert.RefPromptOutIdeal.main_arg8)
          ∧ r.2.mem ((c.tc : Thread Cert.RefPromptOutIdeal.nD Cert.RefPromptOutIdeal.τ).loc Cert.RefPromptOutIdeal.main_arg9) = m' ((c.tc : Thread Cert.RefPromptOutIdeal.nD Cert.RefPromptOutIdeal.τ).loc Cert.RefPromptOutIdeal.main_arg9)
          ∧ r.2.mem ((c.tc : Thread Cert.RefPromptOutIdeal.nD Cert.RefPromptOutIdeal.τ).loc Cert.RefPromptOutIdeal.main_arg10) = m' ((c.tc : Thread Cert.RefPromptOutIdeal.nD Cert.RefPromptOutIdeal.τ).loc Cert.RefPromptOutIdeal.main_arg10)
          ∧ r.2.mem ((c.tc : Thread Cert.RefPromptOutIdeal.nD Cert.RefPromptOutIdeal.τ).loc Cert.RefPromptOutIdeal.main_arg11) = m' ((c.tc : Thread Cert.RefPromptOutIdeal.nD Cert.RefPromptOutIdeal.τ).loc Cert.RefPromptOutIdeal.main_arg11)
          ∧ r.2.mem ((c.tc : Thread Cert.RefPromptOutIdeal.nD Cert.RefPromptOutIdeal.τ).loc Cert.RefPromptOutIdeal.main_arg12) = m' ((c.tc : Thread Cert.RefPromptOutIdeal.nD Cert.RefPromptOutIdeal.τ).loc Cert.RefPromptOutIdeal.main_arg12))

def preserves_SampleOut_SampleOutIdeal : Prop :=
  True

def algebraic_SampleOutIdeal_RefSampleOutIdeal [hSampleOutIdeal : Cert.SampleOutIdeal.Facts] [hRefSampleOutIdeal : Cert.RefSampleOutIdeal.Facts] : Prop :=
  ∀ (m : (ℓ : Loc Cert.SampleOutIdeal.nD Cert.SampleOutIdeal.τ Cert.SampleOutIdeal.sig) → Buf (Elt Ideal) ℓ) (g : Dev Cert.SampleOutIdeal.nD → PrngReg)
    (m' : (ℓ : Loc Cert.RefSampleOutIdeal.nD Cert.RefSampleOutIdeal.τ Cert.RefSampleOutIdeal.sig) → Buf (Elt Ideal) ℓ) (g' : Dev Cert.RefSampleOutIdeal.nD → PrngReg), Pre_SampleOutIdeal m →
    (∀ c : Dev Cert.SampleOutIdeal.nD,
      m' ((c.tc : Thread Cert.RefSampleOutIdeal.nD Cert.RefSampleOutIdeal.τ).loc Cert.RefSampleOutIdeal.main_arg0) = m ((c.tc : Thread Cert.SampleOutIdeal.nD Cert.SampleOutIdeal.τ).loc Cert.SampleOutIdeal.main_arg0)
      ∧ m' ((c.tc : Thread Cert.RefSampleOutIdeal.nD Cert.RefSampleOutIdeal.τ).loc Cert.RefSampleOutIdeal.main_arg1) = m ((c.tc : Thread Cert.SampleOutIdeal.nD Cert.SampleOutIdeal.τ).loc Cert.SampleOutIdeal.main_arg1)
      ∧ m' ((c.tc : Thread Cert.RefSampleOutIdeal.nD Cert.RefSampleOutIdeal.τ).loc Cert.RefSampleOutIdeal.main_arg2) = m ((c.tc : Thread Cert.SampleOutIdeal.nD Cert.SampleOutIdeal.τ).loc Cert.SampleOutIdeal.main_arg2)
      ∧ m' ((c.tc : Thread Cert.RefSampleOutIdeal.nD Cert.RefSampleOutIdeal.τ).loc Cert.RefSampleOutIdeal.main_arg3) = m ((c.tc : Thread Cert.SampleOutIdeal.nD Cert.SampleOutIdeal.τ).loc Cert.SampleOutIdeal.main_arg3)
      ∧ m' ((c.tc : Thread Cert.RefSampleOutIdeal.nD Cert.RefSampleOutIdeal.τ).loc Cert.RefSampleOutIdeal.main_arg4) = m ((c.tc : Thread Cert.SampleOutIdeal.nD Cert.SampleOutIdeal.τ).loc Cert.SampleOutIdeal.main_arg4)
      ∧ m' ((c.tc : Thread Cert.RefSampleOutIdeal.nD Cert.RefSampleOutIdeal.τ).loc Cert.RefSampleOutIdeal.main_arg5) = m ((c.tc : Thread Cert.SampleOutIdeal.nD Cert.SampleOutIdeal.τ).loc Cert.SampleOutIdeal.main_arg5)
      ∧ m' ((c.tc : Thread Cert.RefSampleOutIdeal.nD Cert.RefSampleOutIdeal.τ).loc Cert.RefSampleOutIdeal.main_arg6) = m ((c.tc : Thread Cert.SampleOutIdeal.nD Cert.SampleOutIdeal.τ).loc Cert.SampleOutIdeal.main_arg6)
      ∧ m' ((c.tc : Thread Cert.RefSampleOutIdeal.nD Cert.RefSampleOutIdeal.τ).loc Cert.RefSampleOutIdeal.main_arg7) = m ((c.tc : Thread Cert.SampleOutIdeal.nD Cert.SampleOutIdeal.τ).loc Cert.SampleOutIdeal.main_arg7)
      ∧ m' ((c.tc : Thread Cert.RefSampleOutIdeal.nD Cert.RefSampleOutIdeal.τ).loc Cert.RefSampleOutIdeal.main_arg8) = m ((c.tc : Thread Cert.SampleOutIdeal.nD Cert.SampleOutIdeal.τ).loc Cert.SampleOutIdeal.main_arg8)
      ∧ m' ((c.tc : Thread Cert.RefSampleOutIdeal.nD Cert.RefSampleOutIdeal.τ).loc Cert.RefSampleOutIdeal.main_arg9) = m ((c.tc : Thread Cert.SampleOutIdeal.nD Cert.SampleOutIdeal.τ).loc Cert.SampleOutIdeal.main_arg9)
      ∧ m' ((c.tc : Thread Cert.RefSampleOutIdeal.nD Cert.RefSampleOutIdeal.τ).loc Cert.RefSampleOutIdeal.main_arg10) = m ((c.tc : Thread Cert.SampleOutIdeal.nD Cert.SampleOutIdeal.τ).loc Cert.SampleOutIdeal.main_arg10)
      ∧ m' ((c.tc : Thread Cert.RefSampleOutIdeal.nD Cert.RefSampleOutIdeal.τ).loc Cert.RefSampleOutIdeal.main_arg11) = m ((c.tc : Thread Cert.SampleOutIdeal.nD Cert.SampleOutIdeal.τ).loc Cert.SampleOutIdeal.main_arg11)
      ∧ m' ((c.tc : Thread Cert.RefSampleOutIdeal.nD Cert.RefSampleOutIdeal.τ).loc Cert.RefSampleOutIdeal.main_arg12) = m ((c.tc : Thread Cert.SampleOutIdeal.nD Cert.SampleOutIdeal.τ).loc Cert.SampleOutIdeal.main_arg12)) →
    ∃ (v0 : (c : Dev Cert.SampleOutIdeal.nD) → Buf (Elt Ideal) ((c.tc : Thread Cert.SampleOutIdeal.nD Cert.SampleOutIdeal.τ).loc Cert.SampleOutIdeal.main_v30)),
      θ_run (Cert.SampleOutIdeal.defs (F := Ideal)) (onTc (τ := Cert.SampleOutIdeal.τ) (Cert.SampleOutIdeal.main (F := Ideal))) ⟨m, fun _ => 0, g⟩ (fun r => ∀ c : Dev Cert.SampleOutIdeal.nD,
          r.2.mem ((c.tc : Thread Cert.SampleOutIdeal.nD Cert.SampleOutIdeal.τ).loc Cert.SampleOutIdeal.main_v30) = v0 c
          ∧ r.2.mem ((c.tc : Thread Cert.SampleOutIdeal.nD Cert.SampleOutIdeal.τ).loc Cert.SampleOutIdeal.main_arg0) = m ((c.tc : Thread Cert.SampleOutIdeal.nD Cert.SampleOutIdeal.τ).loc Cert.SampleOutIdeal.main_arg0)
          ∧ r.2.mem ((c.tc : Thread Cert.SampleOutIdeal.nD Cert.SampleOutIdeal.τ).loc Cert.SampleOutIdeal.main_arg1) = m ((c.tc : Thread Cert.SampleOutIdeal.nD Cert.SampleOutIdeal.τ).loc Cert.SampleOutIdeal.main_arg1)
          ∧ r.2.mem ((c.tc : Thread Cert.SampleOutIdeal.nD Cert.SampleOutIdeal.τ).loc Cert.SampleOutIdeal.main_arg2) = m ((c.tc : Thread Cert.SampleOutIdeal.nD Cert.SampleOutIdeal.τ).loc Cert.SampleOutIdeal.main_arg2)
          ∧ r.2.mem ((c.tc : Thread Cert.SampleOutIdeal.nD Cert.SampleOutIdeal.τ).loc Cert.SampleOutIdeal.main_arg3) = m ((c.tc : Thread Cert.SampleOutIdeal.nD Cert.SampleOutIdeal.τ).loc Cert.SampleOutIdeal.main_arg3)
          ∧ r.2.mem ((c.tc : Thread Cert.SampleOutIdeal.nD Cert.SampleOutIdeal.τ).loc Cert.SampleOutIdeal.main_arg4) = m ((c.tc : Thread Cert.SampleOutIdeal.nD Cert.SampleOutIdeal.τ).loc Cert.SampleOutIdeal.main_arg4)
          ∧ r.2.mem ((c.tc : Thread Cert.SampleOutIdeal.nD Cert.SampleOutIdeal.τ).loc Cert.SampleOutIdeal.main_arg5) = m ((c.tc : Thread Cert.SampleOutIdeal.nD Cert.SampleOutIdeal.τ).loc Cert.SampleOutIdeal.main_arg5)
          ∧ r.2.mem ((c.tc : Thread Cert.SampleOutIdeal.nD Cert.SampleOutIdeal.τ).loc Cert.SampleOutIdeal.main_arg6) = m ((c.tc : Thread Cert.SampleOutIdeal.nD Cert.SampleOutIdeal.τ).loc Cert.SampleOutIdeal.main_arg6)
          ∧ r.2.mem ((c.tc : Thread Cert.SampleOutIdeal.nD Cert.SampleOutIdeal.τ).loc Cert.SampleOutIdeal.main_arg7) = m ((c.tc : Thread Cert.SampleOutIdeal.nD Cert.SampleOutIdeal.τ).loc Cert.SampleOutIdeal.main_arg7)
          ∧ r.2.mem ((c.tc : Thread Cert.SampleOutIdeal.nD Cert.SampleOutIdeal.τ).loc Cert.SampleOutIdeal.main_arg8) = m ((c.tc : Thread Cert.SampleOutIdeal.nD Cert.SampleOutIdeal.τ).loc Cert.SampleOutIdeal.main_arg8)
          ∧ r.2.mem ((c.tc : Thread Cert.SampleOutIdeal.nD Cert.SampleOutIdeal.τ).loc Cert.SampleOutIdeal.main_arg9) = m ((c.tc : Thread Cert.SampleOutIdeal.nD Cert.SampleOutIdeal.τ).loc Cert.SampleOutIdeal.main_arg9)
          ∧ r.2.mem ((c.tc : Thread Cert.SampleOutIdeal.nD Cert.SampleOutIdeal.τ).loc Cert.SampleOutIdeal.main_arg10) = m ((c.tc : Thread Cert.SampleOutIdeal.nD Cert.SampleOutIdeal.τ).loc Cert.SampleOutIdeal.main_arg10)
          ∧ r.2.mem ((c.tc : Thread Cert.SampleOutIdeal.nD Cert.SampleOutIdeal.τ).loc Cert.SampleOutIdeal.main_arg11) = m ((c.tc : Thread Cert.SampleOutIdeal.nD Cert.SampleOutIdeal.τ).loc Cert.SampleOutIdeal.main_arg11)
          ∧ r.2.mem ((c.tc : Thread Cert.SampleOutIdeal.nD Cert.SampleOutIdeal.τ).loc Cert.SampleOutIdeal.main_arg12) = m ((c.tc : Thread Cert.SampleOutIdeal.nD Cert.SampleOutIdeal.τ).loc Cert.SampleOutIdeal.main_arg12))
      ∧ θ_run (Cert.RefSampleOutIdeal.defs (F := Ideal)) (onTc (τ := Cert.RefSampleOutIdeal.τ) (Cert.RefSampleOutIdeal.main (F := Ideal))) ⟨m', fun _ => 0, g'⟩ (fun r => ∀ c : Dev Cert.RefSampleOutIdeal.nD,
          r.2.mem ((c.tc : Thread Cert.RefSampleOutIdeal.nD Cert.RefSampleOutIdeal.τ).loc Cert.RefSampleOutIdeal.main_v90) = v0 c
          ∧ r.2.mem ((c.tc : Thread Cert.RefSampleOutIdeal.nD Cert.RefSampleOutIdeal.τ).loc Cert.RefSampleOutIdeal.main_arg0) = m' ((c.tc : Thread Cert.RefSampleOutIdeal.nD Cert.RefSampleOutIdeal.τ).loc Cert.RefSampleOutIdeal.main_arg0)
          ∧ r.2.mem ((c.tc : Thread Cert.RefSampleOutIdeal.nD Cert.RefSampleOutIdeal.τ).loc Cert.RefSampleOutIdeal.main_arg1) = m' ((c.tc : Thread Cert.RefSampleOutIdeal.nD Cert.RefSampleOutIdeal.τ).loc Cert.RefSampleOutIdeal.main_arg1)
          ∧ r.2.mem ((c.tc : Thread Cert.RefSampleOutIdeal.nD Cert.RefSampleOutIdeal.τ).loc Cert.RefSampleOutIdeal.main_arg2) = m' ((c.tc : Thread Cert.RefSampleOutIdeal.nD Cert.RefSampleOutIdeal.τ).loc Cert.RefSampleOutIdeal.main_arg2)
          ∧ r.2.mem ((c.tc : Thread Cert.RefSampleOutIdeal.nD Cert.RefSampleOutIdeal.τ).loc Cert.RefSampleOutIdeal.main_arg3) = m' ((c.tc : Thread Cert.RefSampleOutIdeal.nD Cert.RefSampleOutIdeal.τ).loc Cert.RefSampleOutIdeal.main_arg3)
          ∧ r.2.mem ((c.tc : Thread Cert.RefSampleOutIdeal.nD Cert.RefSampleOutIdeal.τ).loc Cert.RefSampleOutIdeal.main_arg4) = m' ((c.tc : Thread Cert.RefSampleOutIdeal.nD Cert.RefSampleOutIdeal.τ).loc Cert.RefSampleOutIdeal.main_arg4)
          ∧ r.2.mem ((c.tc : Thread Cert.RefSampleOutIdeal.nD Cert.RefSampleOutIdeal.τ).loc Cert.RefSampleOutIdeal.main_arg5) = m' ((c.tc : Thread Cert.RefSampleOutIdeal.nD Cert.RefSampleOutIdeal.τ).loc Cert.RefSampleOutIdeal.main_arg5)
          ∧ r.2.mem ((c.tc : Thread Cert.RefSampleOutIdeal.nD Cert.RefSampleOutIdeal.τ).loc Cert.RefSampleOutIdeal.main_arg6) = m' ((c.tc : Thread Cert.RefSampleOutIdeal.nD Cert.RefSampleOutIdeal.τ).loc Cert.RefSampleOutIdeal.main_arg6)
          ∧ r.2.mem ((c.tc : Thread Cert.RefSampleOutIdeal.nD Cert.RefSampleOutIdeal.τ).loc Cert.RefSampleOutIdeal.main_arg7) = m' ((c.tc : Thread Cert.RefSampleOutIdeal.nD Cert.RefSampleOutIdeal.τ).loc Cert.RefSampleOutIdeal.main_arg7)
          ∧ r.2.mem ((c.tc : Thread Cert.RefSampleOutIdeal.nD Cert.RefSampleOutIdeal.τ).loc Cert.RefSampleOutIdeal.main_arg8) = m' ((c.tc : Thread Cert.RefSampleOutIdeal.nD Cert.RefSampleOutIdeal.τ).loc Cert.RefSampleOutIdeal.main_arg8)
          ∧ r.2.mem ((c.tc : Thread Cert.RefSampleOutIdeal.nD Cert.RefSampleOutIdeal.τ).loc Cert.RefSampleOutIdeal.main_arg9) = m' ((c.tc : Thread Cert.RefSampleOutIdeal.nD Cert.RefSampleOutIdeal.τ).loc Cert.RefSampleOutIdeal.main_arg9)
          ∧ r.2.mem ((c.tc : Thread Cert.RefSampleOutIdeal.nD Cert.RefSampleOutIdeal.τ).loc Cert.RefSampleOutIdeal.main_arg10) = m' ((c.tc : Thread Cert.RefSampleOutIdeal.nD Cert.RefSampleOutIdeal.τ).loc Cert.RefSampleOutIdeal.main_arg10)
          ∧ r.2.mem ((c.tc : Thread Cert.RefSampleOutIdeal.nD Cert.RefSampleOutIdeal.τ).loc Cert.RefSampleOutIdeal.main_arg11) = m' ((c.tc : Thread Cert.RefSampleOutIdeal.nD Cert.RefSampleOutIdeal.τ).loc Cert.RefSampleOutIdeal.main_arg11)
          ∧ r.2.mem ((c.tc : Thread Cert.RefSampleOutIdeal.nD Cert.RefSampleOutIdeal.τ).loc Cert.RefSampleOutIdeal.main_arg12) = m' ((c.tc : Thread Cert.RefSampleOutIdeal.nD Cert.RefSampleOutIdeal.τ).loc Cert.RefSampleOutIdeal.main_arg12))

def Claim : Prop :=
  ∃ (hKernel : Cert.Kernel.Facts) (hKernelIdeal : Cert.KernelIdeal.Facts) (hReferenceIdeal : Cert.ReferenceIdeal.Facts) (hRms : Cert.Rms.Facts) (hRmsIdeal : Cert.RmsIdeal.Facts) (hRefRmsIdeal : Cert.RefRmsIdeal.Facts) (hMerge : Cert.Merge.Facts) (hMergeIdeal : Cert.MergeIdeal.Facts) (hRefMergeIdeal : Cert.RefMergeIdeal.Facts) (hProjNorm : Cert.ProjNorm.Facts) (hProjNormIdeal : Cert.ProjNormIdeal.Facts) (hRefProjNormIdeal : Cert.RefProjNormIdeal.Facts) (hMlp : Cert.Mlp.Facts) (hMlpIdeal : Cert.MlpIdeal.Facts) (hRefMlpIdeal : Cert.RefMlpIdeal.Facts) (hSample : Cert.Sample.Facts) (hSampleIdeal : Cert.SampleIdeal.Facts) (hRefSampleIdeal : Cert.RefSampleIdeal.Facts) (hSampleRms : Cert.SampleRms.Facts) (hSampleRmsIdeal : Cert.SampleRmsIdeal.Facts) (hRefSampleRmsIdeal : Cert.RefSampleRmsIdeal.Facts) (hSampleMerge : Cert.SampleMerge.Facts) (hSampleMergeIdeal : Cert.SampleMergeIdeal.Facts) (hRefSampleMergeIdeal : Cert.RefSampleMergeIdeal.Facts) (hSampleProjNorm : Cert.SampleProjNorm.Facts) (hSampleProjNormIdeal : Cert.SampleProjNormIdeal.Facts) (hRefSampleProjNormIdeal : Cert.RefSampleProjNormIdeal.Facts) (hSampleMlp : Cert.SampleMlp.Facts) (hSampleMlpIdeal : Cert.SampleMlpIdeal.Facts) (hRefSampleMlpIdeal : Cert.RefSampleMlpIdeal.Facts) (hSampleRows : Cert.SampleRows.Facts) (hSampleRowsIdeal : Cert.SampleRowsIdeal.Facts) (hRefSampleRowsIdeal : Cert.RefSampleRowsIdeal.Facts) (hPromptRows : Cert.PromptRows.Facts) (hPromptRowsIdeal : Cert.PromptRowsIdeal.Facts) (hRefPromptRowsIdeal : Cert.RefPromptRowsIdeal.Facts) (hPromptOut : Cert.PromptOut.Facts) (hPromptOutIdeal : Cert.PromptOutIdeal.Facts) (hRefPromptOutIdeal : Cert.RefPromptOutIdeal.Facts) (hSampleOut : Cert.SampleOut.Facts) (hSampleOutIdeal : Cert.SampleOutIdeal.Facts) (hRefSampleOutIdeal : Cert.RefSampleOutIdeal.Facts),
    quiescent_Kernel (hKernel := hKernel)
    ∧ quiescent_KernelIdeal (hKernelIdeal := hKernelIdeal)
    ∧ quiescent_ReferenceIdeal (hReferenceIdeal := hReferenceIdeal)
    ∧ quiescent_Rms (hRms := hRms)
    ∧ quiescent_RmsIdeal (hRmsIdeal := hRmsIdeal)
    ∧ quiescent_RefRmsIdeal (hRefRmsIdeal := hRefRmsIdeal)
    ∧ quiescent_Merge (hMerge := hMerge)
    ∧ quiescent_MergeIdeal (hMergeIdeal := hMergeIdeal)
    ∧ quiescent_RefMergeIdeal (hRefMergeIdeal := hRefMergeIdeal)
    ∧ quiescent_ProjNorm (hProjNorm := hProjNorm)
    ∧ quiescent_ProjNormIdeal (hProjNormIdeal := hProjNormIdeal)
    ∧ quiescent_RefProjNormIdeal (hRefProjNormIdeal := hRefProjNormIdeal)
    ∧ quiescent_Mlp (hMlp := hMlp)
    ∧ quiescent_MlpIdeal (hMlpIdeal := hMlpIdeal)
    ∧ quiescent_RefMlpIdeal (hRefMlpIdeal := hRefMlpIdeal)
    ∧ quiescent_Sample (hSample := hSample)
    ∧ quiescent_SampleIdeal (hSampleIdeal := hSampleIdeal)
    ∧ quiescent_RefSampleIdeal (hRefSampleIdeal := hRefSampleIdeal)
    ∧ quiescent_SampleRms (hSampleRms := hSampleRms)
    ∧ quiescent_SampleRmsIdeal (hSampleRmsIdeal := hSampleRmsIdeal)
    ∧ quiescent_RefSampleRmsIdeal (hRefSampleRmsIdeal := hRefSampleRmsIdeal)
    ∧ quiescent_SampleMerge (hSampleMerge := hSampleMerge)
    ∧ quiescent_SampleMergeIdeal (hSampleMergeIdeal := hSampleMergeIdeal)
    ∧ quiescent_RefSampleMergeIdeal (hRefSampleMergeIdeal := hRefSampleMergeIdeal)
    ∧ quiescent_SampleProjNorm (hSampleProjNorm := hSampleProjNorm)
    ∧ quiescent_SampleProjNormIdeal (hSampleProjNormIdeal := hSampleProjNormIdeal)
    ∧ quiescent_RefSampleProjNormIdeal (hRefSampleProjNormIdeal := hRefSampleProjNormIdeal)
    ∧ quiescent_SampleMlp (hSampleMlp := hSampleMlp)
    ∧ quiescent_SampleMlpIdeal (hSampleMlpIdeal := hSampleMlpIdeal)
    ∧ quiescent_RefSampleMlpIdeal (hRefSampleMlpIdeal := hRefSampleMlpIdeal)
    ∧ quiescent_SampleRows (hSampleRows := hSampleRows)
    ∧ quiescent_SampleRowsIdeal (hSampleRowsIdeal := hSampleRowsIdeal)
    ∧ quiescent_RefSampleRowsIdeal (hRefSampleRowsIdeal := hRefSampleRowsIdeal)
    ∧ quiescent_PromptRows (hPromptRows := hPromptRows)
    ∧ quiescent_PromptRowsIdeal (hPromptRowsIdeal := hPromptRowsIdeal)
    ∧ quiescent_RefPromptRowsIdeal (hRefPromptRowsIdeal := hRefPromptRowsIdeal)
    ∧ quiescent_PromptOut (hPromptOut := hPromptOut)
    ∧ quiescent_PromptOutIdeal (hPromptOutIdeal := hPromptOutIdeal)
    ∧ quiescent_RefPromptOutIdeal (hRefPromptOutIdeal := hRefPromptOutIdeal)
    ∧ quiescent_SampleOut (hSampleOut := hSampleOut)
    ∧ quiescent_SampleOutIdeal (hSampleOutIdeal := hSampleOutIdeal)
    ∧ quiescent_RefSampleOutIdeal (hRefSampleOutIdeal := hRefSampleOutIdeal)
    ∧ preserves_Kernel_KernelIdeal
    ∧ algebraic_KernelIdeal_ReferenceIdeal (hKernelIdeal := hKernelIdeal) (hReferenceIdeal := hReferenceIdeal)
    ∧ preserves_Rms_RmsIdeal
    ∧ algebraic_RmsIdeal_RefRmsIdeal (hRmsIdeal := hRmsIdeal) (hRefRmsIdeal := hRefRmsIdeal)
    ∧ preserves_Merge_MergeIdeal
    ∧ algebraic_MergeIdeal_RefMergeIdeal (hMergeIdeal := hMergeIdeal) (hRefMergeIdeal := hRefMergeIdeal)
    ∧ preserves_ProjNorm_ProjNormIdeal
    ∧ algebraic_ProjNormIdeal_RefProjNormIdeal (hProjNormIdeal := hProjNormIdeal) (hRefProjNormIdeal := hRefProjNormIdeal)
    ∧ preserves_Mlp_MlpIdeal
    ∧ algebraic_MlpIdeal_RefMlpIdeal (hMlpIdeal := hMlpIdeal) (hRefMlpIdeal := hRefMlpIdeal)
    ∧ preserves_Sample_SampleIdeal
    ∧ algebraic_SampleIdeal_RefSampleIdeal (hSampleIdeal := hSampleIdeal) (hRefSampleIdeal := hRefSampleIdeal)
    ∧ preserves_SampleRms_SampleRmsIdeal
    ∧ algebraic_SampleRmsIdeal_RefSampleRmsIdeal (hSampleRmsIdeal := hSampleRmsIdeal) (hRefSampleRmsIdeal := hRefSampleRmsIdeal)
    ∧ preserves_SampleMerge_SampleMergeIdeal
    ∧ algebraic_SampleMergeIdeal_RefSampleMergeIdeal (hSampleMergeIdeal := hSampleMergeIdeal) (hRefSampleMergeIdeal := hRefSampleMergeIdeal)
    ∧ preserves_SampleProjNorm_SampleProjNormIdeal
    ∧ algebraic_SampleProjNormIdeal_RefSampleProjNormIdeal (hSampleProjNormIdeal := hSampleProjNormIdeal) (hRefSampleProjNormIdeal := hRefSampleProjNormIdeal)
    ∧ preserves_SampleMlp_SampleMlpIdeal
    ∧ algebraic_SampleMlpIdeal_RefSampleMlpIdeal (hSampleMlpIdeal := hSampleMlpIdeal) (hRefSampleMlpIdeal := hRefSampleMlpIdeal)
    ∧ preserves_SampleRows_SampleRowsIdeal
    ∧ algebraic_SampleRowsIdeal_RefSampleRowsIdeal (hSampleRowsIdeal := hSampleRowsIdeal) (hRefSampleRowsIdeal := hRefSampleRowsIdeal)
    ∧ preserves_PromptRows_PromptRowsIdeal
    ∧ algebraic_PromptRowsIdeal_RefPromptRowsIdeal (hPromptRowsIdeal := hPromptRowsIdeal) (hRefPromptRowsIdeal := hRefPromptRowsIdeal)
    ∧ preserves_PromptOut_PromptOutIdeal
    ∧ algebraic_PromptOutIdeal_RefPromptOutIdeal (hPromptOutIdeal := hPromptOutIdeal) (hRefPromptOutIdeal := hRefPromptOutIdeal)
    ∧ preserves_SampleOut_SampleOutIdeal
    ∧ algebraic_SampleOutIdeal_RefSampleOutIdeal (hSampleOutIdeal := hSampleOutIdeal) (hRefSampleOutIdeal := hRefSampleOutIdeal)
-- ==== Kernel.lean ====
abbrev S8192x2048 : Shape := ⟨2, ![8192, 2048]⟩
abbrev S1x2048x11344 : Shape := ⟨3, ![1, 2048, 11344]⟩
abbrev S2048x11344 : Shape := ⟨2, ![2048, 11344]⟩
abbrev S11344x2048 : Shape := ⟨2, ![11344, 2048]⟩
abbrev S8192x12288 : Shape := ⟨2, ![8192, 12288]⟩
abbrev S1024x2048 : Shape := ⟨2, ![1024, 2048]⟩
abbrev S1024x1024 : Shape := ⟨2, ![1024, 1024]⟩
abbrev S8192x1024 : Shape := ⟨2, ![8192, 1024]⟩
abbrev S2x4096x8x128 : Shape := ⟨4, ![2, 4096, 8, 128]⟩
abbrev S8192x64 : Shape := ⟨2, ![8192, 64]⟩
abbrev S2x4096x64 : Shape := ⟨3, ![2, 4096, 64]⟩
abbrev S1x2x4096x8x128 : Shape := ⟨5, ![1, 2, 4096, 8, 128]⟩
abbrev S1x2x4096x64 : Shape := ⟨4, ![1, 2, 4096, 64]⟩

abbrev nBuf : Space → Nat
  | .hbm => 20
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x11344, .f32⟩
  | .hbm, ⟨2, _⟩ => ⟨S2048x11344, .f32⟩
  | .hbm, ⟨3, _⟩ => ⟨S11344x2048, .f32⟩
  | .hbm, ⟨4, _⟩ => ⟨S8192x12288, .f32⟩
  | .hbm, ⟨5, _⟩ => ⟨S8192x1024, .f32⟩
  | .hbm, ⟨6, _⟩ => ⟨S2x4096x8x128, .f32⟩
  | .hbm, ⟨7, _⟩ => ⟨S8192x1024, .f32⟩
  | .hbm, ⟨8, _⟩ => ⟨S2x4096x8x128, .f32⟩
  | .hbm, ⟨9, _⟩ => ⟨S8192x64, .f32⟩
  | .hbm, ⟨10, _⟩ => ⟨S2x4096x64, .f32⟩
  | .hbm, ⟨11, _⟩ => ⟨S8192x1024, .f32⟩
  | .hbm, ⟨12, _⟩ => ⟨S2x4096x8x128, .f32⟩
  | .hbm, ⟨13, _⟩ => ⟨S8192x1024, .f32⟩
  | .hbm, ⟨14, _⟩ => ⟨S2x4096x8x128, .f32⟩
  | .hbm, ⟨15, _⟩ => ⟨S1x2x4096x8x128, .f32⟩
  | .hbm, ⟨16, _⟩ => ⟨S1x2x4096x8x128, .f32⟩
  | .hbm, ⟨17, _⟩ => ⟨S1x2x4096x64, .f32⟩
  | .hbm, ⟨18, _⟩ => ⟨S1x2x4096x8x128, .f32⟩
  | .hbm, ⟨19, _⟩ => ⟨S1x2x4096x8x128, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c128_i32 : BitVec 32 := 128#32
  let v1 : BitVec 32 := Scalar.muli arg0 c128_i32
  let c11_i32 : BitVec 32 := 11#32
  let v2 : BitVec 1 := Scalar.cmpi .slt arg0 c11_i32
  let c4_i32_0 : BitVec 32 := 4#32
  let v3 : BitVec 32 := Scalar.subi arg0 c4_i32_0
  let c128_i32_1 : BitVec 32 := 128#32
  let v4 : BitVec 32 := Scalar.muli v3 c128_i32_1
  let c522_i32 : BitVec 32 := 522#32
  let v5 : BitVec 32 := Scalar.addi c522_i32 v4
  let c512_i32 : BitVec 32 := 512#32
  let v6 : BitVec 32 := Scalar.select v2 v5 c512_i32
  let v7 : BitVec 32 := Scalar.select v0 v1 v6
  let c8_i32 : BitVec 32 := 8#32
  let v8 : BitVec 32 := Scalar.muli v7 c8_i32
  let c0_i32 : BitVec 32 := 0#32
  let c0_i32_2 : BitVec 32 := 0#32
  ![v8.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S8192x2048 : Shape := ⟨2, ![8192, 2048]⟩
abbrev S1x2048x11344 : Shape := ⟨3, ![1, 2048, 11344]⟩
abbrev S2048x11344 : Shape := ⟨2, ![2048, 11344]⟩
abbrev S8192x11344 : Shape := ⟨2, ![8192, 11344]⟩
abbrev S8192x4096 : Shape := ⟨2, ![8192, 4096]⟩
abbrev S8192x7168 : Shape := ⟨2, ![8192, 7168]⟩
abbrev S8192x1024 : Shape := ⟨2, ![8192, 1024]⟩
abbrev S8192x12288 : Shape := ⟨2, ![8192, 12288]⟩
abbrev S1x2x4096x8x128 : Shape := ⟨5, ![1, 2, 4096, 8, 128]⟩
abbrev S8192x64 : Shape := ⟨2, ![8192, 64]⟩
abbrev S1x2x4096x64 : Shape := ⟨4, ![1, 2, 4096, 64]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x11344, .f32⟩
  | .hbm, ⟨2, _⟩ => ⟨S8192x2048, .f32⟩
  | .hbm, ⟨3, _⟩ => ⟨S2048x11344, .f32⟩
  | .hbm, ⟨4, _⟩ => ⟨S8192x11344, .f32⟩
  | .hbm, ⟨5, _⟩ => ⟨S8192x4096, .f32⟩
  | .hbm, ⟨6, _⟩ => ⟨S8192x7168, .f32⟩
  | .hbm, ⟨7, _⟩ => ⟨S8192x1024, .f32⟩
  | .hbm, ⟨8, _⟩ => ⟨S8192x12288, .f32⟩
  | .hbm, ⟨9, _⟩ => ⟨S8192x1024, .f32⟩
  | .hbm, ⟨10, _⟩ => ⟨S1x2x4096x8x128, .f32⟩
  | .hbm, ⟨11, _⟩ => ⟨S8192x1024, .f32⟩
  | .hbm, ⟨12, _⟩ => ⟨S1x2x4096x8x128, .f32⟩
  | .hbm, ⟨13, _⟩ => ⟨S8192x64, .f32⟩
  | .hbm, ⟨14, _⟩ => ⟨S1x2x4096x64, .f32⟩
  | .hbm, ⟨15, _⟩ => ⟨S8192x1024, .f32⟩
  | .hbm, ⟨16, _⟩ => ⟨S1x2x4096x8x128, .f32⟩
  | .hbm, ⟨17, _⟩ => ⟨S8192x1024, .f32⟩
  | .hbm, ⟨18, _⟩ => ⟨S1x2x4096x8x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩

abbrev nD : Nat := 1
abbrev τ : Topo := Topo.v7x

variable {F : FTy → Type} [FloatOps F]
-- ==== Rms.lean ====
abbrev S2x4096x2048 : Shape := ⟨3, ![2, 4096, 2048]⟩
abbrev S1x2048 : Shape := ⟨2, ![1, 2048]⟩
abbrev S8192x2048 : Shape := ⟨2, ![8192, 2048]⟩
abbrev S2048 : Shape := ⟨1, ![2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S8192x2048, .f32⟩
  | .hbm, ⟨3, _⟩ => ⟨S2048, .f32⟩
  | .hbm, ⟨4, _⟩ => ⟨S1x2048, .f32⟩
  | .hbm, ⟨5, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefRmsIdeal.lean ====
abbrev S2x4096x2048 : Shape := ⟨3, ![2, 4096, 2048]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 21
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S2048, .f32⟩
  | .hbm, ⟨3, _⟩ => ⟨S2x4096x2048, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x2048, .f32⟩
  | .hbm, ⟨15, _⟩ => ⟨S2x4096x2048, .f32⟩
  | .hbm, ⟨16, _⟩ => ⟨S1x1x2048, .f32⟩
  | .hbm, ⟨17, _⟩ => ⟨S2x4096x2048, .f32⟩
  | .hbm, ⟨18, _⟩ => ⟨S2x4096x2048, .f32⟩
  | .hbm, ⟨19, _⟩ => ⟨S8192x2048, .f32⟩
  | .hbm, ⟨20, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Merge.lean ====
abbrev S8192x1024 : Shape := ⟨2, ![8192, 1024]⟩
abbrev S1x1024x2048 : Shape := ⟨3, ![1, 1024, 2048]⟩
abbrev S8192x12288 : Shape := ⟨2, ![8192, 12288]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x1024x2048, .f32⟩
  | .hbm, ⟨3, _⟩ => ⟨S1x1024x2048, .f32⟩
  | .hbm, ⟨4, _⟩ => ⟨S8192x12288, .f32⟩
  | .hbm, ⟨5, _⟩ => ⟨S1024x2048, .f32⟩
  | .hbm, ⟨6, _⟩ => ⟨S1024x2048, .bf16⟩
  | .hbm, ⟨7, _⟩ => ⟨S1024x2048, .f32⟩
  | .hbm, ⟨8, _⟩ => ⟨S1024x2048, .bf16⟩
  | .hbm, ⟨9, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeIdeal.lean ====
abbrev S8192x1024 : Shape := ⟨2, ![8192, 1024]⟩
abbrev S1x1024x2048 : Shape := ⟨3, ![1, 1024, 2048]⟩
abbrev S8192x12288 : Shape := ⟨2, ![8192, 12288]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x1024x2048, .f32⟩
  | .hbm, ⟨3, _⟩ => ⟨S1x1024x2048, .f32⟩
  | .hbm, ⟨4, _⟩ => ⟨S8192x12288, .f32⟩
  | .hbm, ⟨5, _⟩ => ⟨S1024x2048, .f32⟩
  | .hbm, ⟨6, _⟩ => ⟨S1024x2048, .bf16⟩
  | .hbm, ⟨7, _⟩ => ⟨S1024x2048, .f32⟩
  | .hbm, ⟨8, _⟩ => ⟨S1024x2048, .bf16⟩
  | .hbm, ⟨9, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefMergeIdeal.lean ====
abbrev S8192x1024 : Shape := ⟨2, ![8192, 1024]⟩
abbrev S1x1024x2048 : Shape := ⟨3, ![1, 1024, 2048]⟩
abbrev S8192x12288 : Shape := ⟨2, ![8192, 12288]⟩
abbrev S8192x2048 : Shape := ⟨2, ![8192, 2048]⟩
abbrev S_ : Shape := ⟨0, ![]⟩
abbrev S1024x2048 : Shape := ⟨2, ![1024, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x1024x2048, .f32⟩
  | .hbm, ⟨3, _⟩ => ⟨S1x1024x2048, .f32⟩
  | .hbm, ⟨4, _⟩ => ⟨S8192x12288, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x1024, .f32⟩
  | .hbm, ⟨16, _⟩ => ⟨S1024x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S8192x1024, .f32⟩
  | .hbm, ⟨28, _⟩ => ⟨S1024x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== ProjNorm.lean ====
abbrev S8192x2048 : Shape := ⟨2, ![8192, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S2048, .f32⟩
  | .hbm, ⟨8, _⟩ => ⟨S2048, .f32⟩
  | .hbm, ⟨9, _⟩ => ⟨S1x2048, .f32⟩
  | .hbm, ⟨10, _⟩ => ⟨S1x2048, .f32⟩
  | .hbm, ⟨11, _⟩ => ⟨S8192x2048, .f32⟩
  | .hbm, ⟨12, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjNormIdeal.lean ====
abbrev S8192x2048 : Shape := ⟨2, ![8192, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S2048, .f32⟩
  | .hbm, ⟨8, _⟩ => ⟨S2048, .f32⟩
  | .hbm, ⟨9, _⟩ => ⟨S1x2048, .f32⟩
  | .hbm, ⟨10, _⟩ => ⟨S1x2048, .f32⟩
  | .hbm, ⟨11, _⟩ => ⟨S8192x2048, .f32⟩
  | .hbm, ⟨12, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefProjNormIdeal.lean ====
abbrev S8192x2048 : Shape := ⟨2, ![8192, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Mlp.lean ====
abbrev S8192x2048 : Shape := ⟨2, ![8192, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S2048x8192 : Shape := ⟨2, ![2048, 8192]⟩
abbrev S2048 : Shape := ⟨1, ![2048]⟩
abbrev S512x2048 : Shape := ⟨2, ![512, 2048]⟩
abbrev S2048x1024 : Shape := ⟨2, ![2048, 1024]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S1x2048x8192, .f32⟩
  | .hbm, ⟨2, _⟩ => ⟨S1x8192x2048, .f32⟩
  | .hbm, ⟨3, _⟩ => ⟨S8192x2048, .f32⟩
  | .hbm, ⟨4, _⟩ => ⟨S1x2048, .f32⟩
  | .hbm, ⟨5, _⟩ => ⟨S2048x8192, .f32⟩
  | .hbm, ⟨6, _⟩ => ⟨S2048x8192, .bf16⟩
  | .hbm, ⟨7, _⟩ => ⟨S8192x2048, .f32⟩
  | .hbm, ⟨8, _⟩ => ⟨S8192x2048, .bf16⟩
  | .hbm, ⟨9, _⟩ => ⟨S2048, .f32⟩
  | .hbm, ⟨10, _⟩ => ⟨S1x2048, .f32⟩
  | .hbm, ⟨11, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RefMlpIdeal.lean ====
abbrev S8192x2048 : Shape := ⟨2, ![8192, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S2048x8192 : Shape := ⟨2, ![2048, 8192]⟩
abbrev S8192x8192 : Shape := ⟨2, ![8192, 8192]⟩
abbrev S_ : Shape := ⟨0, ![]⟩
abbrev S2048 : Shape := ⟨1, ![2048]⟩
abbrev S8192 : Shape := ⟨1, ![8192]⟩
abbrev S8192x1 : Shape := ⟨2, ![8192, 1]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x8192, .f32⟩
  | .hbm, ⟨2, _⟩ => ⟨S1x8192x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S2048x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192x2048, .f32⟩
  | .hbm, ⟨13, _⟩ => ⟨S8192x2048, .f32⟩
  | .hbm, ⟨14, _⟩ => ⟨S2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Sample.lean ====
abbrev S1024x2048 : Shape := ⟨2, ![1024, 2048]⟩
abbrev S1x2048x11344 : Shape := ⟨3, ![1, 2048, 11344]⟩
abbrev S2048x11344 : Shape := ⟨2, ![2048, 11344]⟩
abbrev S11344x2048 : Shape := ⟨2, ![11344, 2048]⟩
abbrev S1024x12288 : Shape := ⟨2, ![1024, 12288]⟩
abbrev S1024x1024 : Shape := ⟨2, ![1024, 1024]⟩
abbrev S128x8x12288 : Shape := ⟨3, ![128, 8, 12288]⟩
abbrev S128x4x1024 : Shape := ⟨3, ![128, 4, 1024]⟩
abbrev S128x4x8x128 : Shape := ⟨4, ![128, 4, 8, 128]⟩
abbrev S128x4x64 : Shape := ⟨3, ![128, 4, 64]⟩
abbrev S1x128x4x8x128 : Shape := ⟨5, ![1, 128, 4, 8, 128]⟩
abbrev S1x128x4x64 : Shape := ⟨4, ![1, 128, 4, 64]⟩

abbrev nBuf : Space → Nat
  | .hbm => 20
  | .vmem => 6
  | .smem => 0
  | _ => 0

abbrev bufTy : (tb : Table) → Fin (tcTables nBuf tb) → BufTy
  | .hbm, ⟨0, _⟩ => ⟨S1024x2048, .bf16⟩
  | .hbm, ⟨1, _⟩ => ⟨S1x2048x11344, .f32⟩
  | .hbm, ⟨2, _⟩ => ⟨S2048x11344, .f32⟩
  | .hbm, ⟨3, _⟩ => ⟨S11344x2048, .f32⟩
  | .hbm, ⟨4, _⟩ => ⟨S1024x12288, .f32⟩
  | .hbm, ⟨5, _⟩ => ⟨S128x8x12288, .f32⟩
  | .hbm, ⟨6, _⟩ => ⟨S128x4x1024, .f32⟩
  | .hbm, ⟨7, _⟩ => ⟨S128x4x8x128, .f32⟩
  | .hbm, ⟨8, _⟩ => ⟨S128x4x1024, .f32⟩
  | .hbm, ⟨9, _⟩ => ⟨S128x4x8x128, .f32⟩
  | .hbm, ⟨10, _⟩ => ⟨S128x4x64, .f32⟩
  | .hbm, ⟨11, _⟩ => ⟨S128x4x1024, .f32⟩
  | .hbm, ⟨12, _⟩ => ⟨S128x4x8x128, .f32⟩
  | .hbm, ⟨13, _⟩ => ⟨S128x4x1024, .f32⟩
  | .hbm, ⟨14, _⟩ => ⟨S128x4x8x128, .f32⟩
  | .hbm, ⟨15, _⟩ => ⟨S1x128x4x8x128, .f32⟩
  | .hbm, ⟨16, _⟩ => ⟨S1x128x4x8x128, .f32⟩
  | .hbm, ⟨17, _⟩ => ⟨S1x128x4x64, .f32⟩
  | .hbm, ⟨18, _⟩ => ⟨S1x128x4x8x128, .f32⟩
  | .hbm, ⟨19, _⟩ => ⟨S1x128x4x8x128, .f32⟩
  | .local _ .vmem, ⟨0, _⟩ => ⟨S1024x2048, .bf16⟩
  | .local _ .vmem, ⟨1, _⟩ => ⟨S1024x2048, .f32⟩
  | .local _ .vmem, ⟨2, _⟩ => ⟨S1024x2048, .f32⟩
  | .local _ .vmem, ⟨3, _⟩ => ⟨S1024x1024, .f32⟩
  | .local _ .vmem, ⟨4, _⟩ => ⟨S1024x1024, .f32⟩
  | .local _ .vmem, ⟨5, _⟩ => ⟨S1024x2048, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![12, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c128_i32 : BitVec 32 := 128#32
  let v1 : BitVec 32 := Scalar.muli arg0 c128_i32
  let c11_i32 : BitVec 32 := 11#32
  let v2 : BitVec 1 := Scalar.cmpi .slt arg0 c11_i32
  let c4_i32_0 : BitVec 32 := 4#32
  let v3 : BitVec 32 := Scalar.subi arg0 c4_i32_0
  let c128_i32_1 : BitVec 32 := 128#32
  let v4 : BitVec 32 := Scalar.muli v3 c128_i32_1
  let c522_i32 : BitVec 32 := 522#32
  let v5 : BitVec 32 := Scalar.addi c522_i32 v4
  let c512_i32 : BitVec 32 := 512#32
  let v6 : BitVec 32 := Scalar.select v2 v5 c512_i32
  let v7 : BitVec 32 := Scalar.select v0 v1 v6
  let c8_i32 : BitVec 32 := 8#32
  let v8 : BitVec 32 := Scalar.muli v7 c8_i32
  let c0_i32 : BitVec 32 := 0#32
  let c0_i32_2 : BitVec 32 := 0#32
  ![v8.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefSampleIdeal.lean ====
abbrev S1024x2048 : Shape := ⟨2, ![1024, 2048]⟩
abbrev S1x2048x11344 : Shape := ⟨3, ![1, 2048, 11344]⟩
abbrev S2048x11344 : Shape := ⟨2, ![2048, 11344]⟩
abbrev S1024x11344 : Shape := ⟨2, ![1024, 11344]⟩
abbrev S128x8x11344 : Shape := ⟨3, ![128, 8, 11344]⟩
abbrev S128x4x11344 : Shape := ⟨3, ![128, 4, 11344]⟩
abbrev S1024x4096 : Shape := ⟨2, ![1024, 4096]⟩
abbrev S1024x7168 : Shape := ⟨2, ![1024, 7168]⟩
abbrev S1024x1024 : Shape := ⟨2, ![1024, 1024]⟩
abbrev S1024x12288 : Shape := ⟨2, ![1024, 12288]⟩
abbrev S128x4x1024 : Shape := ⟨3, ![128, 4, 1024]⟩
abbrev S1x128x4x8x128 : Shape := ⟨5, ![1, 128, 4, 8, 128]⟩
abbrev S128x4x64 : Shape := ⟨3, ![128, 4, 64]⟩
abbrev S1x128x4x64 : Shape := ⟨4, ![1, 128, 4, 64]⟩

abbrev nBuf : Space → Nat
  | .hbm => 21
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S1x2048x11344, .f32⟩
  | .hbm, ⟨2, _⟩ => ⟨S1024x2048, .f32⟩
  | .hbm, ⟨3, _⟩ => ⟨S2048x11344, .f32⟩
  | .hbm, ⟨4, _⟩ => ⟨S1024x11344, .f32⟩
  | .hbm, ⟨5, _⟩ => ⟨S128x8x11344, .f32⟩
  | .hbm, ⟨6, _⟩ => ⟨S128x4x11344, .f32⟩
  | .hbm, ⟨7, _⟩ => ⟨S1024x4096, .f32⟩
  | .hbm, ⟨8, _⟩ => ⟨S1024x7168, .f32⟩
  | .hbm, ⟨9, _⟩ => ⟨S1024x1024, .f32⟩
  | .hbm, ⟨10, _⟩ => ⟨S1024x12288, .f32⟩
  | .hbm, ⟨11, _⟩ => ⟨S128x4x1024, .f32⟩
  | .hbm, ⟨12, _⟩ => ⟨S1x128x4x8x128, .f32⟩
  | .hbm, ⟨13, _⟩ => ⟨S128x4x1024, .f32⟩
  | .hbm, ⟨14, _⟩ => ⟨S1x128x4x8x128, .f32⟩
  | .hbm, ⟨15, _⟩ => ⟨S128x4x64, .f32⟩
  | .hbm, ⟨16, _⟩ => ⟨S1x128x4x64, .f32⟩
  | .hbm, ⟨17, _⟩ => ⟨S128x4x1024, .f32⟩
  | .hbm, ⟨18, _⟩ => ⟨S1x128x4x8x128, .f32⟩
  | .hbm, ⟨19, _⟩ => ⟨S128x4x1024, .f32⟩
  | .hbm, ⟨20, _⟩ => ⟨S1x128x4x8x128, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩

abbrev nD : Nat := 1
abbrev τ : Topo := Topo.v7x

variable {F : FTy → Type} [FloatOps F]
-- ==== SampleRms.lean ====
abbrev S128x4x2048 : Shape := ⟨3, ![128, 4, 2048]⟩
abbrev S1x2048 : Shape := ⟨2, ![1, 2048]⟩
abbrev S_ : Shape := ⟨0, ![]⟩
abbrev S128x8x2048 : Shape := ⟨3, ![128, 8, 2048]⟩
abbrev S1024x2048 : Shape := ⟨2, ![1024, 2048]⟩
abbrev S2048 : Shape := ⟨1, ![2048]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 5
  | .smem => 0
  | _ => 0

abbrev bufTy : (tb : Table) → Fin (tcTables nBuf tb) → BufTy
  | .hbm, ⟨0, _⟩ => ⟨S128x4x2048, .f32⟩
  | .hbm, ⟨1, _⟩ => ⟨S1x2048, .f32⟩
  | .hbm, ⟨2, _⟩ => ⟨S_, .i32⟩
  | .hbm, ⟨3, _⟩ => ⟨S_, .f32⟩
  | .hbm, ⟨4, _⟩ => ⟨S128x8x2048, .f32⟩
  | .hbm, ⟨5, _⟩ => ⟨S1024x2048, .f32⟩
  | .hbm, ⟨6, _⟩ => ⟨S2048, .f32⟩
  | .hbm, ⟨7, _⟩ => ⟨S1x2048, .f32⟩
  | .hbm, ⟨8, _⟩ => ⟨S1024x2048, .bf16⟩
  | .hbm, ⟨9, _⟩ => ⟨S128x8x2048, .bf16⟩
  | .hbm, ⟨10, _⟩ => ⟨S128x4x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S128x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefSampleRmsIdeal.lean ====
abbrev S128x4x2048 : Shape := ⟨3, ![128, 4, 2048]⟩
abbrev S1x2048 : Shape := ⟨2, ![1, 2048]⟩
abbrev S2048 : Shape := ⟨1, ![2048]⟩
abbrev S_ : Shape := ⟨0, ![]⟩
abbrev S128x4 : Shape := ⟨2, ![128, 4]⟩
abbrev S128x4x1 : Shape := ⟨3, ![128, 4, 1]⟩
abbrev S1x1x2048 : Shape := ⟨3, ![1, 1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S128x4x2048, .f32⟩
  | .hbm, ⟨1, _⟩ => ⟨S1x2048, .f32⟩
  | .hbm, ⟨2, _⟩ => ⟨S2048, .f32⟩
  | .hbm, ⟨3, _⟩ => ⟨S128x4x2048, .f32⟩
  | .hbm, ⟨4, _⟩ => ⟨S_, .f32⟩
  | .hbm, ⟨5, _⟩ => ⟨S128x4, .f32⟩
  | .hbm, ⟨6, _⟩ => ⟨S128x4x1, .f32⟩
  | .hbm, ⟨7, _⟩ => ⟨S_, .f32⟩
  | .hbm, ⟨8, _⟩ => ⟨S128x4x1, .f32⟩
  | .hbm, ⟨9, _⟩ => ⟨S128x4x1, .f32⟩
  | .hbm, ⟨10, _⟩ => ⟨S_, .f32⟩
  | .hbm, ⟨11, _⟩ => ⟨S128x4x1, .f32⟩
  | .hbm, ⟨12, _⟩ => ⟨S128x4x1, .f32⟩
  | .hbm, ⟨13, _⟩ => ⟨S128x4x1, .f32⟩
  | .hbm, ⟨14, _⟩ => ⟨S128x4x2048, .f32⟩
  | .hbm, ⟨15, _⟩ => ⟨S128x4x2048, .f32⟩
  | .hbm, ⟨16, _⟩ => ⟨S1x1x2048, .f32⟩
  | .hbm, ⟨17, _⟩ => ⟨S128x4x2048, .f32⟩
  | .hbm, ⟨18, _⟩ => ⟨S128x4x2048, .f32⟩
  | .hbm, ⟨19, _⟩ => ⟨S128x4x2048, .bf16⟩
  | _, _ => ⟨S128x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== SampleMerge.lean ====
abbrev S1024x1024 : Shape := ⟨2, ![1024, 1024]⟩
abbrev S1x1024x2048 : Shape := ⟨3, ![1, 1024, 2048]⟩
abbrev S1024x12288 : Shape := ⟨2, ![1024, 12288]⟩
abbrev S1024x2048 : Shape := ⟨2, ![1024, 2048]⟩

abbrev nBuf : Space → Nat
  | .hbm => 10
  | .vmem => 12
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1x1024x2048, .f32⟩
  | .hbm, ⟨3, _⟩ => ⟨S1x1024x2048, .f32⟩
  | .hbm, ⟨4, _⟩ => ⟨S1024x12288, .f32⟩
  | .hbm, ⟨5, _⟩ => ⟨S1024x2048, .f32⟩
  | .hbm, ⟨6, _⟩ => ⟨S1024x2048, .bf16⟩
  | .hbm, ⟨7, _⟩ => ⟨S1024x2048, .f32⟩
  | .hbm, ⟨8, _⟩ => ⟨S1024x2048, .bf16⟩
  | .hbm, ⟨9, _⟩ => ⟨S1024x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefSampleMergeIdeal.lean ====
abbrev S1024x1024 : Shape := ⟨2, ![1024, 1024]⟩
abbrev S1x1024x2048 : Shape := ⟨3, ![1, 1024, 2048]⟩
abbrev S1024x12288 : Shape := ⟨2, ![1024, 12288]⟩
abbrev S1024x2048 : Shape := ⟨2, ![1024, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1x1024x2048, .f32⟩
  | .hbm, ⟨3, _⟩ => ⟨S1x1024x2048, .f32⟩
  | .hbm, ⟨4, _⟩ => ⟨S1024x12288, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S_, .f32⟩
  | .hbm, ⟨10, _⟩ => ⟨S1024x2048, .f32⟩
  | .hbm, ⟨11, _⟩ => ⟨S1024x2048, .f32⟩
  | .hbm, ⟨12, _⟩ => ⟨S_, .f32⟩
  | .hbm, ⟨13, _⟩ => ⟨S1024x2048, .f32⟩
  | .hbm, ⟨14, _⟩ => ⟨S1024x2048, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S1024x2048, .f32⟩
  | .hbm, ⟨20, _⟩ => ⟨S_, .f32⟩
  | .hbm, ⟨21, _⟩ => ⟨S1024x2048, .f32⟩
  | .hbm, ⟨22, _⟩ => ⟨S1024x2048, .f32⟩
  | .hbm, ⟨23, _⟩ => ⟨S_, .f32⟩
  | .hbm, ⟨24, _⟩ => ⟨S1024x2048, .f32⟩
  | .hbm, ⟨25, _⟩ => ⟨S1024x2048, .f32⟩
  | .hbm, ⟨26, _⟩ => ⟨S1024x2048, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S1024x2048, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== SampleProjNorm.lean ====
abbrev S1024x2048 : Shape := ⟨2, ![1024, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 11
  | .smem => 0
  | _ => 0

abbrev bufTy : (tb : Table) → Fin (tcTables nBuf tb) → BufTy
  | .hbm, ⟨0, _⟩ => ⟨S1024x2048, .bf16⟩
  | .hbm, ⟨1, _⟩ => ⟨S1x2048x2048, .f32⟩
  | .hbm, ⟨2, _⟩ => ⟨S1024x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S2048, .f32⟩
  | .hbm, ⟨8, _⟩ => ⟨S2048, .f32⟩
  | .hbm, ⟨9, _⟩ => ⟨S1x2048, .f32⟩
  | .hbm, ⟨10, _⟩ => ⟨S1x2048, .f32⟩
  | .hbm, ⟨11, _⟩ => ⟨S1024x2048, .f32⟩
  | .hbm, ⟨12, _⟩ => ⟨S1024x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefSampleProjNormIdeal.lean ====
abbrev S1024x2048 : Shape := ⟨2, ![1024, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S1024 : Shape := ⟨1, ![1024]⟩
abbrev S1024x1 : Shape := ⟨2, ![1024, 1]⟩

abbrev nBuf : Space → Nat
  | .hbm => 44
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S1x2048x2048, .f32⟩
  | .hbm, ⟨2, _⟩ => ⟨S1024x2048, .f32⟩
  | .hbm, ⟨3, _⟩ => ⟨S1x2048, .f32⟩
  | .hbm, ⟨4, _⟩ => ⟨S1x2048, .f32⟩
  | .hbm, ⟨5, _⟩ => ⟨S1024x2048, .f32⟩
  | .hbm, ⟨6, _⟩ => ⟨S2048x2048, .f32⟩
  | .hbm, ⟨7, _⟩ => ⟨S1024x2048, .f32⟩
  | .hbm, ⟨8, _⟩ => ⟨S2048, .f32⟩
  | .hbm, ⟨9, _⟩ => ⟨S1024x2048, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S_, .f32⟩
  | .hbm, ⟨17, _⟩ => ⟨S1024x1, .f32⟩
  | .hbm, ⟨18, _⟩ => ⟨S1024x1, .f32⟩
  | .hbm, ⟨19, _⟩ => ⟨S1024x1, .f32⟩
  | .hbm, ⟨20, _⟩ => ⟨S1024x2048, .f32⟩
  | .hbm, ⟨21, _⟩ => ⟨S1024x2048, .f32⟩
  | .hbm, ⟨22, _⟩ => ⟨S1x2048, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S2048, .f32⟩
  | .hbm, ⟨27, _⟩ => ⟨S1024x2048, .f32⟩
  | .hbm, ⟨28, _⟩ => ⟨S_, .f32⟩
  | .hbm, ⟨29, _⟩ => ⟨S1024, .f32⟩
  | .hbm, ⟨30, _⟩ => ⟨S1024x1, .f32⟩
  | .hbm, ⟨31, _⟩ => ⟨S_, .f32⟩
  | .hbm, ⟨32, _⟩ => ⟨S1024x1, .f32⟩
  | .hbm, ⟨33, _⟩ => ⟨S1024x1, .f32⟩
  | .hbm, ⟨34, _⟩ => ⟨S_, .f32⟩
  | .hbm, ⟨35, _⟩ => ⟨S1024x1, .f32⟩
  | .hbm, ⟨36, _⟩ => ⟨S1024x1, .f32⟩
  | .hbm, ⟨37, _⟩ => ⟨S1024x1, .f32⟩
  | .hbm, ⟨38, _⟩ => ⟨S1024x2048, .f32⟩
  | .hbm, ⟨39, _⟩ => ⟨S1024x2048, .f32⟩
  | .hbm, ⟨40, _⟩ => ⟨S1x2048, .f32⟩
  | .hbm, ⟨41, _⟩ => ⟨S1024x2048, .f32⟩
  | .hbm, ⟨42, _⟩ => ⟨S1024x2048, .f32⟩
  | .hbm, ⟨43, _⟩ => ⟨S1024x2048, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== SampleMlp.lean ====
abbrev S1024x2048 : Shape := ⟨2, ![1024, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S2048x8192 : Shape := ⟨2, ![2048, 8192]⟩
abbrev S8192x2048 : Shape := ⟨2, ![8192, 2048]⟩
abbrev S2048 : Shape := ⟨1, ![2048]⟩
abbrev S2048x512 : Shape := ⟨2, ![2048, 512]⟩
abbrev S512x2048 : Shape := ⟨2, ![512, 2048]⟩
abbrev S1024x512 : Shape := ⟨2, ![1024, 512]⟩
abbrev S1024 : Shape := ⟨1, ![1024]⟩
abbrev S1024x1 : Shape := ⟨2, ![1024, 1]⟩
abbrev S128x8x2048 : Shape := ⟨3, ![128, 8, 2048]⟩
abbrev S128x4x2048 : Shape := ⟨3, ![128, 4, 2048]⟩

abbrev nBuf : Space → Nat
  | .hbm => 14
  | .vmem => 9
  | .smem => 0
  | _ => 0

abbrev bufTy : (tb : Table) → Fin (tcTables nBuf tb) → BufTy
  | .hbm, ⟨0, _⟩ => ⟨S1024x2048, .bf16⟩
  | .hbm, ⟨1, _⟩ => ⟨S1x2048x8192, .f32⟩
  | .hbm, ⟨2, _⟩ => ⟨S1x8192x2048, .f32⟩
  | .hbm, ⟨3, _⟩ => ⟨S1024x2048, .f32⟩
  | .hbm, ⟨4, _⟩ => ⟨S1x2048, .f32⟩
  | .hbm, ⟨5, _⟩ => ⟨S2048x8192, .f32⟩
  | .hbm, ⟨6, _⟩ => ⟨S2048x8192, .bf16⟩
  | .hbm, ⟨7, _⟩ => ⟨S8192x2048, .f32⟩
  | .hbm, ⟨8, _⟩ => ⟨S8192x2048, .bf16⟩
  | .hbm, ⟨9, _⟩ => ⟨S2048, .f32⟩
  | .hbm, ⟨10, _⟩ => ⟨S1x2048, .f32⟩
  | .hbm, ⟨11, _⟩ => ⟨S1024x2048, .f32⟩
  | .hbm, ⟨12, _⟩ => ⟨S128x8x2048, .f32⟩
  | .hbm, ⟨13, _⟩ => ⟨S128x4x2048, .f32⟩
  | .local _ .vmem, ⟨0, _⟩ => ⟨S1024x2048, .bf16⟩
  | .local _ .vmem, ⟨1, _⟩ => ⟨S2048x512, .bf16⟩
  | .local _ .vmem, ⟨2, _⟩ => ⟨S2048x512, .bf16⟩
  | .local _ .vmem, ⟨3, _⟩ => ⟨S512x2048, .bf16⟩
  | .local _ .vmem, ⟨4, _⟩ => ⟨S512x2048, .bf16⟩
  | .local _ .vmem, ⟨5, _⟩ => ⟨S1024x2048, .f32⟩
  | .local _ .vmem, ⟨6, _⟩ => ⟨S1x2048, .f32⟩
  | .local _ .vmem, ⟨7, _⟩ => ⟨S1024x2048, .f32⟩
  | .local _ .vmem, ⟨8, _⟩ => ⟨S1024x2048, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== RefSampleMlpIdeal.lean ====
abbrev S1024x2048 : Shape := ⟨2, ![1024, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S128x8x2048 : Shape := ⟨3, ![128, 8, 2048]⟩
abbrev S128x4x2048 : Shape := ⟨3, ![128, 4, 2048]⟩
abbrev S2048x8192 : Shape := ⟨2, ![2048, 8192]⟩
abbrev S128x4x8192 : Shape := ⟨3, ![128, 4, 8192]⟩
abbrev S_ : Shape := ⟨0, ![]⟩
abbrev S8192x2048 : Shape := ⟨2, ![8192, 2048]⟩
abbrev S2048 : Shape := ⟨1, ![2048]⟩
abbrev S128x4 : Shape := ⟨2, ![128, 4]⟩
abbrev S128x4x1 : Shape := ⟨3, ![128, 4, 1]⟩
abbrev S1x1x2048 : Shape := ⟨3, ![1, 1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S1x2048x8192, .f32⟩
  | .hbm, ⟨2, _⟩ => ⟨S1x8192x2048, .f32⟩
  | .hbm, ⟨3, _⟩ => ⟨S1024x2048, .f32⟩
  | .hbm, ⟨4, _⟩ => ⟨S1x2048, .f32⟩
  | .hbm, ⟨5, _⟩ => ⟨S128x8x2048, .bf16⟩
  | .hbm, ⟨6, _⟩ => ⟨S128x4x2048, .bf16⟩
  | .hbm, ⟨7, _⟩ => ⟨S128x4x2048, .f32⟩
  | .hbm, ⟨8, _⟩ => ⟨S2048x8192, .f32⟩
  | .hbm, ⟨9, _⟩ => ⟨S128x4x8192, .f32⟩
  | .hbm, ⟨10, _⟩ => ⟨S_, .f32⟩
  | .hbm, ⟨11, _⟩ => ⟨S128x4x8192, .f32⟩
  | .hbm, ⟨12, _⟩ => ⟨S128x4x8192, .f32⟩
  | .hbm, ⟨13, _⟩ => ⟨S128x8x2048, .f32⟩
  | .hbm, ⟨14, _⟩ => ⟨S128x4x2048, .f32⟩
  | .hbm, ⟨15, _⟩ => ⟨S128x4x8192, .f32⟩
  | .hbm, ⟨16, _⟩ => ⟨S8192x2048, .f32⟩
  | .hbm, ⟨17, _⟩ => ⟨S128x4x2048, .f32⟩
  | .hbm, ⟨18, _⟩ => ⟨S2048, .f32⟩
  | .hbm, ⟨19, _⟩ => ⟨S128x4x2048, .f32⟩
  | .hbm, ⟨20, _⟩ => ⟨S_, .f32⟩
  | .hbm, ⟨21, _⟩ => ⟨S128x4, .f32⟩
  | .hbm, ⟨22, _⟩ => ⟨S128x4x1, .f32⟩
  | .hbm, ⟨23, _⟩ => ⟨S_, .f32⟩
  | .hbm, ⟨24, _⟩ => ⟨S128x4x1, .f32⟩
  | .hbm, ⟨25, _⟩ => ⟨S128x4x1, .f32⟩
  | .hbm, ⟨26, _⟩ => ⟨S_, .f32⟩
  | .hbm, ⟨27, _⟩ => ⟨S128x4x1, .f32⟩
  | .hbm, ⟨28, _⟩ => ⟨S128x4x1, .f32⟩
  | .hbm, ⟨29, _⟩ => ⟨S128x4x1, .f32⟩
  | .hbm, ⟨30, _⟩ => ⟨S128x4x2048, .f32⟩
  | .hbm, ⟨31, _⟩ => ⟨S128x4x2048, .f32⟩
  | .hbm, ⟨32, _⟩ => ⟨S1x1x2048, .f32⟩
  | .hbm, ⟨33, _⟩ => ⟨S128x4x2048, .f32⟩
  | .hbm, ⟨34, _⟩ => ⟨S128x4x2048, .f32⟩
  | .hbm, ⟨35, _⟩ => ⟨S128x4x2048, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== SampleRows.lean ====
abbrev S128x4x2048 : Shape := ⟨3, ![128, 4, 2048]⟩
abbrev S1x2048x11344 : Shape := ⟨3, ![1, 2048, 11344]⟩
abbrev S1x2048 : Shape := ⟨2, ![1, 2048]⟩
abbrev S_ : Shape := ⟨0, ![]⟩
abbrev S128x8x2048 : Shape := ⟨3, ![128, 8, 2048]⟩
abbrev S1024x2048 : Shape := ⟨2, ![1024, 2048]⟩
abbrev S2048 : Shape := ⟨1, ![2048]⟩
abbrev S256x2048 : Shape := ⟨2, ![256, 2048]⟩
abbrev S256 : Shape := ⟨1, ![256]⟩
abbrev S256x1 : Shape := ⟨2, ![256, 1]⟩
abbrev S2048x11344 : Shape := ⟨2, ![2048, 11344]⟩
abbrev S11344x2048 : Shape := ⟨2, ![11344, 2048]⟩
abbrev S1024x12288 : Shape := ⟨2, ![1024, 12288]⟩
abbrev S1024x1024 : Shape := ⟨2, ![1024, 1024]⟩
abbrev S128x8x12288 : Shape := ⟨3, ![128, 8, 12288]⟩
abbrev S128x4x1024 : Shape := ⟨3, ![128, 4, 1024]⟩
abbrev S128x4x8x128 : Shape := ⟨4, ![128, 4, 8, 128]⟩
abbrev S128x4x64 : Shape := ⟨3, ![128, 4, 64]⟩
abbrev S1x128x4x8x128 : Shape := ⟨5, ![1, 128, 4, 8, 128]⟩
abbrev S1x128x4x64 : Shape := ⟨4, ![1, 128, 4, 64]⟩

abbrev nBuf : Space → Nat
  | .hbm => 28
  | .vmem => 11
  | .smem => 0
  | _ => 0

abbrev bufTy : (tb : Table) → Fin (tcTables nBuf tb) → BufTy
  | .hbm, ⟨0, _⟩ => ⟨S128x4x2048, .f32⟩
  | .hbm, ⟨1, _⟩ => ⟨S1x2048x11344, .f32⟩
  | .hbm, ⟨2, _⟩ => ⟨S1x2048, .f32⟩
  | .hbm, ⟨3, _⟩ => ⟨S_, .i32⟩
  | .hbm, ⟨4, _⟩ => ⟨S_, .f32⟩
  | .hbm, ⟨5, _⟩ => ⟨S128x8x2048, .f32⟩
  | .hbm, ⟨6, _⟩ => ⟨S1024x2048, .f32⟩
  | .hbm, ⟨7, _⟩ => ⟨S2048, .f32⟩
  | .hbm, ⟨8, _⟩ => ⟨S1x2048, .f32⟩
  | .hbm, ⟨9, _⟩ => ⟨S1024x2048, .bf16⟩
  | .hbm, ⟨10, _⟩ => ⟨S2048x11344, .f32⟩
  | .hbm, ⟨11, _⟩ => ⟨S11344x2048, .f32⟩
  | .hbm, ⟨12, _⟩ => ⟨S1024x12288, .f32⟩
  | .hbm, ⟨13, _⟩ => ⟨S128x8x12288, .f32⟩
  | .hbm, ⟨14, _⟩ => ⟨S128x4x1024, .f32⟩
  | .hbm, ⟨15, _⟩ => ⟨S128x4x8x128, .f32⟩
  | .hbm, ⟨16, _⟩ => ⟨S128x4x1024, .f32⟩
  | .hbm, ⟨17, _⟩ => ⟨S128x4x8x128, .f32⟩
  | .hbm, ⟨18, _⟩ => ⟨S128x4x64, .f32⟩
  | .hbm, ⟨19, _⟩ => ⟨S128x4x1024, .f32⟩
  | .hbm, ⟨20, _⟩ => ⟨S128x4x8x128, .f32⟩
  | .hbm, ⟨21, _⟩ => ⟨S128x4x1024, .f32⟩
  | .hbm, ⟨22, _⟩ => ⟨S128x4x8x128, .f32⟩
  | .hbm, ⟨23, _⟩ => ⟨S1x128x4x8x128, .f32⟩
  | .hbm, ⟨24, _⟩ => ⟨S1x128x4x8x128, .f32⟩
  | .hbm, ⟨25, _⟩ => ⟨S1x128x4x64, .f32⟩
  | .hbm, ⟨26, _⟩ => ⟨S1x128x4x8x128, .f32⟩
  | .hbm, ⟨27, _⟩ => ⟨S1x128x4x8x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S1024x2048, .bf16⟩
  | .local _ .vmem, ⟨6, _⟩ => ⟨S1024x2048, .f32⟩
  | .local _ .vmem, ⟨7, _⟩ => ⟨S1024x2048, .f32⟩
  | .local _ .vmem, ⟨8, _⟩ => ⟨S1024x1024, .f32⟩
  | .local _ .vmem, ⟨9, _⟩ => ⟨S1024x1024, .f32⟩
  | .local _ .vmem, ⟨10, _⟩ => ⟨S1024x2048, .bf16⟩
  | _, _ => ⟨S128x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![12, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c128_i32 : BitVec 32 := 128#32
  let v1 : BitVec 32 := Scalar.muli arg0 c128_i32
  let c11_i32 : BitVec 32 := 11#32
  let v2 : BitVec 1 := Scalar.cmpi .slt arg0 c11_i32
  let c4_i32_0 : BitVec 32 := 4#32
  let v3 : BitVec 32 := Scalar.subi arg0 c4_i32_0
  let c128_i32_1 : BitVec 32 := 128#32
  let v4 : BitVec 32 := Scalar.muli v3 c128_i32_1
  let c522_i32 : BitVec 32 := 522#32
  let v5 : BitVec 32 := Scalar.addi c522_i32 v4
  let c512_i32 : BitVec 32 := 512#32
  let v6 : BitVec 32 := Scalar.select v2 v5 c512_i32
  let v7 : BitVec 32 := Scalar.select v0 v1 v6
  let c8_i32 : BitVec 32 := 8#32
  let v8 : BitVec 32 := Scalar.muli v7 c8_i32
  let c0_i32 : BitVec 32 := 0#32
  let c0_i32_2 : BitVec 32 := 0#32
  ![v8.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .vmem S1024x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true]

abbrev stage1_1 : Fin 2 → Memref sig .tc .vmem S1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== RefSampleRowsIdeal.lean ====
abbrev S128x4x2048 : Shape := ⟨3, ![128, 4, 2048]⟩
abbrev S1x2048x11344 : Shape := ⟨3, ![1, 2048, 11344]⟩
abbrev S1x2048 : Shape := ⟨2, ![1, 2048]⟩
abbrev S2048 : Shape := ⟨1, ![2048]⟩
abbrev S_ : Shape := ⟨0, ![]⟩
abbrev S128x4 : Shape := ⟨2, ![128, 4]⟩
abbrev S128x4x1 : Shape := ⟨3, ![128, 4, 1]⟩
abbrev S1x1x2048 : Shape := ⟨3, ![1, 1, 2048]⟩
abbrev S2048x11344 : Shape := ⟨2, ![2048, 11344]⟩
abbrev S128x4x11344 : Shape := ⟨3, ![128, 4, 11344]⟩
abbrev S128x4x1024 : Shape := ⟨3, ![128, 4, 1024]⟩
abbrev S1x128x4x8x128 : Shape := ⟨5, ![1, 128, 4, 8, 128]⟩
abbrev S128x4x64 : Shape := ⟨3, ![128, 4, 64]⟩
abbrev S1x128x4x64 : Shape := ⟨4, ![1, 128, 4, 64]⟩

abbrev nBuf : Space → Nat
  | .hbm => 32
  | .vmem => 0
  | .smem => 0
  | _ => 0

abbrev bufTy : (tb : Table) → Fin (tcTables nBuf tb) → BufTy
  | .hbm, ⟨0, _⟩ => ⟨S128x4x2048, .f32⟩
  | .hbm, ⟨1, _⟩ => ⟨S1x2048x11344, .f32⟩
  | .hbm, ⟨2, _⟩ => ⟨S1x2048, .f32⟩
  | .hbm, ⟨3, _⟩ => ⟨S2048, .f32⟩
  | .hbm, ⟨4, _⟩ => ⟨S128x4x2048, .f32⟩
  | .hbm, ⟨5, _⟩ => ⟨S_, .f32⟩
  | .hbm, ⟨6, _⟩ => ⟨S128x4, .f32⟩
  | .hbm, ⟨7, _⟩ => ⟨S128x4x1, .f32⟩
  | .hbm, ⟨8, _⟩ => ⟨S_, .f32⟩
  | .hbm, ⟨9, _⟩ => ⟨S128x4x1, .f32⟩
  | .hbm, ⟨10, _⟩ => ⟨S128x4x1, .f32⟩
  | .hbm, ⟨11, _⟩ => ⟨S_, .f32⟩
  | .hbm, ⟨12, _⟩ => ⟨S128x4x1, .f32⟩
  | .hbm, ⟨13, _⟩ => ⟨S128x4x1, .f32⟩
  | .hbm, ⟨14, _⟩ => ⟨S128x4x1, .f32⟩
  | .hbm, ⟨15, _⟩ => ⟨S128x4x2048, .f32⟩
  | .hbm, ⟨16, _⟩ => ⟨S128x4x2048, .f32⟩
  | .hbm, ⟨17, _⟩ => ⟨S1x1x2048, .f32⟩
  | .hbm, ⟨18, _⟩ => ⟨S128x4x2048, .f32⟩
  | .hbm, ⟨19, _⟩ => ⟨S128x4x2048, .f32⟩
  | .hbm, ⟨20, _⟩ => ⟨S2048x11344, .f32⟩
  | .hbm, ⟨21, _⟩ => ⟨S128x4x11344, .f32⟩
  | .hbm, ⟨22, _⟩ => ⟨S128x4x1024, .f32⟩
  | .hbm, ⟨23, _⟩ => ⟨S1x128x4x8x128, .f32⟩
  | .hbm, ⟨24, _⟩ => ⟨S128x4x1024, .f32⟩
  | .hbm, ⟨25, _⟩ => ⟨S1x128x4x8x128, .f32⟩
  | .hbm, ⟨26, _⟩ => ⟨S128x4x64, .f32⟩
  | .hbm, ⟨27, _⟩ => ⟨S1x128x4x64, .f32⟩
  | .hbm, ⟨28, _⟩ => ⟨S128x4x1024, .f32⟩
  | .hbm, ⟨29, _⟩ => ⟨S1x128x4x8x128, .f32⟩
  | .hbm, ⟨30, _⟩ => ⟨S128x4x1024, .f32⟩
  | .hbm, ⟨31, _⟩ => ⟨S1x128x4x8x128, .f32⟩
  | _, _ => ⟨S128x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== PromptRows.lean ====
abbrev S2x4096x2048 : Shape := ⟨3, ![2, 4096, 2048]⟩
abbrev S1x2048x11344 : Shape := ⟨3, ![1, 2048, 11344]⟩
abbrev S1x2048 : Shape := ⟨2, ![1, 2048]⟩
abbrev S8192x2048 : Shape := ⟨2, ![8192, 2048]⟩
abbrev S2048 : Shape := ⟨1, ![2048]⟩
abbrev S256x2048 : Shape := ⟨2, ![256, 2048]⟩
abbrev S256 : Shape := ⟨1, ![256]⟩
abbrev S256x1 : Shape := ⟨2, ![256, 1]⟩
abbrev S2048x11344 : Shape := ⟨2, ![2048, 11344]⟩
abbrev S11344x2048 : Shape := ⟨2, ![11344, 2048]⟩
abbrev S8192x12288 : Shape := ⟨2, ![8192, 12288]⟩
abbrev S1024x2048 : Shape := ⟨2, ![1024, 2048]⟩
abbrev S1024x1024 : Shape := ⟨2, ![1024, 1024]⟩
abbrev S8192x1024 : Shape := ⟨2, ![8192, 1024]⟩
abbrev S2x4096x8x128 : Shape := ⟨4, ![2, 4096, 8, 128]⟩
abbrev S8192x64 : Shape := ⟨2, ![8192, 64]⟩
abbrev S2x4096x64 : Shape := ⟨3, ![2, 4096, 64]⟩
abbrev S1x2x4096x8x128 : Shape := ⟨5, ![1, 2, 4096, 8, 128]⟩
abbrev S1x2x4096x64 : Shape := ⟨4, ![1, 2, 4096, 64]⟩

abbrev nBuf : Space → Nat
  | .hbm => 25
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S1x2048x11344, .f32⟩
  | .hbm, ⟨2, _⟩ => ⟨S1x2048, .f32⟩
  | .hbm, ⟨3, _⟩ => ⟨S8192x2048, .f32⟩
  | .hbm, ⟨4, _⟩ => ⟨S2048, .f32⟩
  | .hbm, ⟨5, _⟩ => ⟨S1x2048, .f32⟩
  | .hbm, ⟨6, _⟩ => ⟨S8192x2048, .bf16⟩
  | .hbm, ⟨7, _⟩ => ⟨S2048x11344, .f32⟩
  | .hbm, ⟨8, _⟩ => ⟨S11344x2048, .f32⟩
  | .hbm, ⟨9, _⟩ => ⟨S8192x12288, .f32⟩
  | .hbm, ⟨10, _⟩ => ⟨S8192x1024, .f32⟩
  | .hbm, ⟨11, _⟩ => ⟨S2x4096x8x128, .f32⟩
  | .hbm, ⟨12, _⟩ => ⟨S8192x1024, .f32⟩
  | .hbm, ⟨13, _⟩ => ⟨S2x4096x8x128, .f32⟩
  | .hbm, ⟨14, _⟩ => ⟨S8192x64, .f32⟩
  | .hbm, ⟨15, _⟩ => ⟨S2x4096x64, .f32⟩
  | .hbm, ⟨16, _⟩ => ⟨S8192x1024, .f32⟩
  | .hbm, ⟨17, _⟩ => ⟨S2x4096x8x128, .f32⟩
  | .hbm, ⟨18, _⟩ => ⟨S8192x1024, .f32⟩
  | .hbm, ⟨19, _⟩ => ⟨S2x4096x8x128, .f32⟩
  | .hbm, ⟨20, _⟩ => ⟨S1x2x4096x8x128, .f32⟩
  | .hbm, ⟨21, _⟩ => ⟨S1x2x4096x8x128, .f32⟩
  | .hbm, ⟨22, _⟩ => ⟨S1x2x4096x64, .f32⟩
  | .hbm, ⟨23, _⟩ => ⟨S1x2x4096x8x128, .f32⟩
  | .hbm, ⟨24, _⟩ => ⟨S1x2x4096x8x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .f32⟩
  | .local _ .vmem, ⟨8, _⟩ => ⟨S1024x2048, .f32⟩
  | .local _ .vmem, ⟨9, _⟩ => ⟨S1024x1024, .f32⟩
  | .local _ .vmem, ⟨10, _⟩ => ⟨S1024x1024, .f32⟩
  | .local _ .vmem, ⟨11, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![12, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c128_i32 : BitVec 32 := 128#32
  let v1 : BitVec 32 := Scalar.muli arg0 c128_i32
  let c11_i32 : BitVec 32 := 11#32
  let v2 : BitVec 1 := Scalar.cmpi .slt arg0 c11_i32
  let c4_i32_0 : BitVec 32 := 4#32
  let v3 : BitVec 32 := Scalar.subi arg0 c4_i32_0
  let c128_i32_1 : BitVec 32 := 128#32
  let v4 : BitVec 32 := Scalar.muli v3 c128_i32_1
  let c522_i32 : BitVec 32 := 522#32
  let v5 : BitVec 32 := Scalar.addi c522_i32 v4
  let c512_i32 : BitVec 32 := 512#32
  let v6 : BitVec 32 := Scalar.select v2 v5 c512_i32
  let v7 : BitVec 32 := Scalar.select v0 v1 v6
  let c8_i32 : BitVec 32 := 8#32
  let v8 : BitVec 32 := Scalar.muli v7 c8_i32
  let c0_i32 : BitVec 32 := 0#32
  let c0_i32_2 : BitVec 32 := 0#32
  ![v8.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== RefPromptRowsIdeal.lean ====
abbrev S2x4096x2048 : Shape := ⟨3, ![2, 4096, 2048]⟩
abbrev S1x2048x11344 : Shape := ⟨3, ![1, 2048, 11344]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x11344 : Shape := ⟨2, ![2048, 11344]⟩
abbrev S2x4096x11344 : Shape := ⟨3, ![2, 4096, 11344]⟩
abbrev S2x4096x1024 : Shape := ⟨3, ![2, 4096, 1024]⟩
abbrev S1x2x4096x8x128 : Shape := ⟨5, ![1, 2, 4096, 8, 128]⟩
abbrev S2x4096x64 : Shape := ⟨3, ![2, 4096, 64]⟩
abbrev S1x2x4096x64 : Shape := ⟨4, ![1, 2, 4096, 64]⟩

abbrev nBuf : Space → Nat
  | .hbm => 32
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x11344, .f32⟩
  | .hbm, ⟨2, _⟩ => ⟨S1x2048, .f32⟩
  | .hbm, ⟨3, _⟩ => ⟨S2048, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S2048x11344, .f32⟩
  | .hbm, ⟨21, _⟩ => ⟨S2x4096x11344, .f32⟩
  | .hbm, ⟨22, _⟩ => ⟨S2x4096x1024, .f32⟩
  | .hbm, ⟨23, _⟩ => ⟨S1x2x4096x8x128, .f32⟩
  | .hbm, ⟨24, _⟩ => ⟨S2x4096x1024, .f32⟩
  | .hbm, ⟨25, _⟩ => ⟨S1x2x4096x8x128, .f32⟩
  | .hbm, ⟨26, _⟩ => ⟨S2x4096x64, .f32⟩
  | .hbm, ⟨27, _⟩ => ⟨S1x2x4096x64, .f32⟩
  | .hbm, ⟨28, _⟩ => ⟨S2x4096x1024, .f32⟩
  | .hbm, ⟨29, _⟩ => ⟨S1x2x4096x8x128, .f32⟩
  | .hbm, ⟨30, _⟩ => ⟨S2x4096x1024, .f32⟩
  | .hbm, ⟨31, _⟩ => ⟨S1x2x4096x8x128, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== PromptOut.lean ====
abbrev S2x4096x2048 : Shape := ⟨3, ![2, 4096, 2048]⟩
abbrev S1x2048x11344 : Shape := ⟨3, ![1, 2048, 11344]⟩
abbrev S1x2048 : Shape := ⟨2, ![1, 2048]⟩
abbrev S8192x1024 : Shape := ⟨2, ![8192, 1024]⟩
abbrev S1x1024x2048 : Shape := ⟨3, ![1, 1024, 2048]⟩
abbrev S1x2048x2048 : Shape := ⟨3, ![1, 2048, 2048]⟩
abbrev S1x2048x8192 : Shape := ⟨3, ![1, 2048, 8192]⟩
abbrev S1x8192x2048 : Shape := ⟨3, ![1, 8192, 2048]⟩
abbrev S8192x2048 : Shape := ⟨2, ![8192, 2048]⟩
abbrev S2048 : Shape := ⟨1, ![2048]⟩
abbrev S256x2048 : Shape := ⟨2, ![256, 2048]⟩
abbrev S256 : Shape := ⟨1, ![256]⟩
abbrev S256x1 : Shape := ⟨2, ![256, 1]⟩
abbrev S2048x11344 : Shape := ⟨2, ![2048, 11344]⟩
abbrev S11344x2048 : Shape := ⟨2, ![11344, 2048]⟩
abbrev S8192x12288 : Shape := ⟨2, ![8192, 12288]⟩
abbrev S1024x2048 : Shape := ⟨2, ![1024, 2048]⟩
abbrev S1024x1024 : Shape := ⟨2, ![1024, 1024]⟩
abbrev S2048x2048 : Shape := ⟨2, ![2048, 2048]⟩
abbrev S512x2048 : Shape := ⟨2, ![512, 2048]⟩
abbrev S2048x8192 : Shape := ⟨2, ![2048, 8192]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 41
  | .vmem => 49
  | .smem => 0
  | _ => 0

abbrev bufTy : (tb : Table) → Fin (tcTables nBuf tb) → BufTy
  | .hbm, ⟨0, _⟩ => ⟨S2x4096x2048, .f32⟩
  | .hbm, ⟨1, _⟩ => ⟨S1x2048x11344, .f32⟩
  | .hbm, ⟨2, _⟩ => ⟨S1x2048, .f32⟩
  | .hbm, ⟨3, _⟩ => ⟨S8192x1024, .bf16⟩
  | .hbm, ⟨4, _⟩ => ⟨S8192x1024, .bf16⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S1x2048, .f32⟩
  | .hbm, ⟨9, _⟩ => ⟨S1x2048, .f32⟩
  | .hbm, ⟨10, _⟩ => ⟨S1x2048x8192, .f32⟩
  | .hbm, ⟨11, _⟩ => ⟨S1x8192x2048, .f32⟩
  | .hbm, ⟨12, _⟩ => ⟨S1x2048, .f32⟩
  | .hbm, ⟨13, _⟩ => ⟨S8192x2048, .f32⟩
  | .hbm, ⟨14, _⟩ => ⟨S2048, .f32⟩
  | .hbm, ⟨15, _⟩ => ⟨S1x2048, .f32⟩
  | .hbm, ⟨16, _⟩ => ⟨S8192x2048, .bf16⟩
  | .hbm, ⟨17, _⟩ => ⟨S2048x11344, .f32⟩
  | .hbm, ⟨18, _⟩ => ⟨S11344x2048, .f32⟩
  | .hbm, ⟨19, _⟩ => ⟨S8192x12288, .f32⟩
  | .hbm, ⟨20, _⟩ => ⟨S1024x2048, .f32⟩
  | .hbm, ⟨21, _⟩ => ⟨S1024x2048, .bf16⟩
  | .hbm, ⟨22, _⟩ => ⟨S1024x2048, .f32⟩
  | .hbm, ⟨23, _⟩ => ⟨S1024x2048, .bf16⟩
  | .hbm, ⟨24, _⟩ => ⟨S8192x2048, .bf16⟩
  | .hbm, ⟨25, _⟩ => ⟨S2048x2048, .f32⟩
  | .hbm, ⟨26, _⟩ => ⟨S2048x2048, .bf16⟩
  | .hbm, ⟨27, _⟩ => ⟨S2048, .f32⟩
  | .hbm, ⟨28, _⟩ => ⟨S2048, .f32⟩
  | .hbm, ⟨29, _⟩ => ⟨S1x2048, .f32⟩
  | .hbm, ⟨30, _⟩ => ⟨S1x2048, .f32⟩
  | .hbm, ⟨31, _⟩ => ⟨S8192x2048, .f32⟩
  | .hbm, ⟨32, _⟩ => ⟨S8192x2048, .bf16⟩
  | .hbm, ⟨33, _⟩ => ⟨S2048x8192, .f32⟩
  | .hbm, ⟨34, _⟩ => ⟨S2048x8192, .bf16⟩
  | .hbm, ⟨35, _⟩ => ⟨S8192x2048, .f32⟩
  | .hbm, ⟨36, _⟩ => ⟨S8192x2048, .bf16⟩
  | .hbm, ⟨37, _⟩ => ⟨S2048, .f32⟩
  | .hbm, ⟨38, _⟩ => ⟨S1x2048, .f32⟩
  | .hbm, ⟨39, _⟩ => ⟨S8192x2048, .f32⟩
  | .hbm, ⟨40, _⟩ => ⟨S2x4096x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .f32⟩
  | .local _ .vmem, ⟨8, _⟩ => ⟨S1024x2048, .f32⟩
  | .local _ .vmem, ⟨9, _⟩ => ⟨S1024x1024, .f32⟩
  | .local _ .vmem, ⟨10, _⟩ => ⟨S1024x1024, .f32⟩
  | .local _ .vmem, ⟨11, _⟩ => ⟨S1024x2048, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | .local _ .vmem, ⟨23, _⟩ => ⟨S1024x1024, .f32⟩
  | .local _ .vmem, ⟨24, _⟩ => ⟨S1024x1024, .bf16⟩
  | .local _ .vmem, ⟨25, _⟩ => ⟨S1024x1024, .bf16⟩
  | .local _ .vmem, ⟨26, _⟩ => ⟨S512x2048, .bf16⟩
  | .local _ .vmem, ⟨27, _⟩ => ⟨S512x2048, .bf16⟩
  | .local _ .vmem, ⟨28, _⟩ => ⟨S2048x2048, .bf16⟩
  | .local _ .vmem, ⟨29, _⟩ => ⟨S512x2048, .f32⟩
  | .local _ .vmem, ⟨30, _⟩ => ⟨S512x2048, .f32⟩
  | .local _ .vmem, ⟨31, _⟩ => ⟨S1x2048, .f32⟩
  | .local _ .vmem, ⟨32, _⟩ => ⟨S1x2048, .f32⟩
  | .local _ .vmem, ⟨33, _⟩ => ⟨S512x2048, .f32⟩
  | .local _ .vmem, ⟨34, _⟩ => ⟨S512x2048, .f32⟩
  | .local _ .vmem, ⟨35, _⟩ => ⟨S512x2048, .bf16⟩
  | .local _ .vmem, ⟨36, _⟩ => ⟨S512x2048, .bf16⟩
  | .local _ .vmem, ⟨37, _⟩ => ⟨S512x2048, .bf16⟩
  | .local _ .vmem, ⟨38, _⟩ => ⟨S512x2048, .bf16⟩
  | .local _ .vmem, ⟨39, _⟩ => ⟨S2048x1024, .bf16⟩
  | .local _ .vmem, ⟨40, _⟩ => ⟨S2048x1024, .bf16⟩
  | .local _ .vmem, ⟨41, _⟩ => ⟨S1024x2048, .bf16⟩
  | .local _ .vmem, ⟨42, _⟩ => ⟨S1024x2048, .bf16⟩
  | .local _ .vmem, ⟨43, _⟩ => ⟨S512x2048, .f32⟩
  | .local _ .vmem, ⟨44, _⟩ => ⟨S512x2048, .f32⟩
  | .local _ .vmem, ⟨45, _⟩ => ⟨S1x2048, .f32⟩
  | .local _ .vmem, ⟨46, _⟩ => ⟨S512x2048, .f32⟩
  | .local _ .vmem, ⟨47, _⟩ => ⟨S512x2048, .f32⟩
  | .local _ .vmem, ⟨48, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc3_stg6_0 : Ref sig .tc := ⟨.vmem, 35, rfl⟩
abbrev cc3_stg6_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg2_1 : Ref sig .tc := ⟨.vmem, 42, rfl⟩
abbrev cc4_stg3_0 : Ref sig .tc := ⟨.vmem, 43, rfl⟩
abbrev cc4_stg3_1 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc4_scratch0 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem5_1 : DmaSem sig := 22
abbrev cc2_sem6_0 : DmaSem sig := 23
abbrev cc2_sem6_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem2_1 : DmaSem sig := 29
abbrev cc3_sem3_0 : DmaSem sig := 30
abbrev cc3_sem4_0 : DmaSem sig := 31
abbrev cc3_sem5_0 : DmaSem sig := 32
abbrev cc3_sem5_1 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem3_1 : DmaSem sig := 43
abbrev cc4_sem4_0 : DmaSem sig := 44
abbrev cc4_sem5_0 : DmaSem sig := 45
abbrev cc4_sem5_1 : DmaSem sig := 46

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![12, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c128_i32 : BitVec 32 := 128#32
  let v1 : BitVec 32 := Scalar.muli arg0 c128_i32
  let c11_i32 : BitVec 32 := 11#32
  let v2 : BitVec 1 := Scalar.cmpi .slt arg0 c11_i32
  let c4_i32_0 : BitVec 32 := 4#32
  let v3 : BitVec 32 := Scalar.subi arg0 c4_i32_0
  let c128_i32_1 : BitVec 32 := 128#32
  let v4 : BitVec 32 := Scalar.muli v3 c128_i32_1
  let c522_i32 : BitVec 32 := 522#32
  let v5 : BitVec 32 := Scalar.addi c522_i32 v4
  let c512_i32 : BitVec 32 := 512#32
  let v6 : BitVec 32 := Scalar.select v2 v5 c512_i32
  let v7 : BitVec 32 := Scalar.select v0 v1 v6
  let c8_i32 : BitVec 32 := 8#32
  let v8 : BitVec 32 := Scalar.muli v7 c8_i32
  let c0_i32 : BitVec 32 := 0#32
  let c0_i32_2 : BitVec 32 := 0#32
  ![v8.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc2_transform_5 (i : grid2.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1024x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1024x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x2048 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2048 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S512x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S512x2048 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨2, ![16, 8], ![false, false]⟩

def k4_cond2 (i : grid4.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_12 : BitVec 32 := 0#32
  let v22 : BitVec 1 := Scalar.cmpi .ne v21 c0_i32_12
  v22

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x2048 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S512x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 1 → Memref sig .tc .vmem S1x2048 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 2 → Memref sig .tc .vmem S512x2048 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, false]
-- ==== RefPromptOutIdeal.lean ====
abbrev S2x4096x2048 : Shape := ⟨3, ![2, 4096, 2048]⟩
abbrev S1x2048x11344 : Shape := ⟨3, ![1, 2048, 11344]⟩
abbrev S1x2048 : Shape := ⟨2, ![1, 2048]⟩
abbrev S8192x1024 : Shape := ⟨2, ![8192, 1024]⟩
abbrev S1x1024x2048 : Shape := ⟨3, ![1, 1024, 2048]⟩
abbrev S1x2048x2048 : Shape := ⟨3, ![1, 2048, 2048]⟩
abbrev S1x2048x8192 : Shape := ⟨3, ![1, 2048, 8192]⟩
abbrev S1x8192x2048 : Shape := ⟨3, ![1, 8192, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x11344 : Shape := ⟨2, ![2048, 11344]⟩
abbrev S2x4096x11344 : Shape := ⟨3, ![2, 4096, 11344]⟩
abbrev S2x4096x1024 : Shape := ⟨3, ![2, 4096, 1024]⟩
abbrev S1024x2048 : Shape := ⟨2, ![1024, 2048]⟩
abbrev S2048x2048 : Shape := ⟨2, ![2048, 2048]⟩
abbrev S2048x8192 : Shape := ⟨2, ![2048, 8192]⟩
abbrev S2x4096x8192 : Shape := ⟨3, ![2, 4096, 8192]⟩
abbrev S8192x2048 : Shape := ⟨2, ![8192, 2048]⟩

abbrev nBuf : Space → Nat
  | .hbm => 124
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x11344, .f32⟩
  | .hbm, ⟨2, _⟩ => ⟨S1x2048, .f32⟩
  | .hbm, ⟨3, _⟩ => ⟨S8192x1024, .bf16⟩
  | .hbm, ⟨4, _⟩ => ⟨S8192x1024, .bf16⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S1x2048, .f32⟩
  | .hbm, ⟨9, _⟩ => ⟨S1x2048, .f32⟩
  | .hbm, ⟨10, _⟩ => ⟨S1x2048x8192, .f32⟩
  | .hbm, ⟨11, _⟩ => ⟨S1x8192x2048, .f32⟩
  | .hbm, ⟨12, _⟩ => ⟨S1x2048, .f32⟩
  | .hbm, ⟨13, _⟩ => ⟨S2048, .f32⟩
  | .hbm, ⟨14, _⟩ => ⟨S2x4096x2048, .f32⟩
  | .hbm, ⟨15, _⟩ => ⟨S_, .f32⟩
  | .hbm, ⟨16, _⟩ => ⟨S2x4096, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S_, .f32⟩
  | .hbm, ⟨22, _⟩ => ⟨S2x4096x1, .f32⟩
  | .hbm, ⟨23, _⟩ => ⟨S2x4096x1, .f32⟩
  | .hbm, ⟨24, _⟩ => ⟨S2x4096x1, .f32⟩
  | .hbm, ⟨25, _⟩ => ⟨S2x4096x2048, .f32⟩
  | .hbm, ⟨26, _⟩ => ⟨S2x4096x2048, .f32⟩
  | .hbm, ⟨27, _⟩ => ⟨S1x1x2048, .f32⟩
  | .hbm, ⟨28, _⟩ => ⟨S2x4096x2048, .f32⟩
  | .hbm, ⟨29, _⟩ => ⟨S2x4096x2048, .f32⟩
  | .hbm, ⟨30, _⟩ => ⟨S2048x11344, .f32⟩
  | .hbm, ⟨31, _⟩ => ⟨S2x4096x11344, .f32⟩
  | .hbm, ⟨32, _⟩ => ⟨S2x4096x2048, .f32⟩
  | .hbm, ⟨33, _⟩ => ⟨S2x4096x2048, .f32⟩
  | .hbm, ⟨34, _⟩ => ⟨S8192x1024, .f32⟩
  | .hbm, ⟨35, _⟩ => ⟨S2x4096x1024, .f32⟩
  | .hbm, ⟨36, _⟩ => ⟨S8192x1024, .f32⟩
  | .hbm, ⟨37, _⟩ => ⟨S2x4096x1024, .f32⟩
  | .hbm, ⟨38, _⟩ => ⟨S2x4096x2048, .f32⟩
  | .hbm, ⟨39, _⟩ => ⟨S2x4096x2048, .f32⟩
  | .hbm, ⟨40, _⟩ => ⟨S_, .f32⟩
  | .hbm, ⟨41, _⟩ => ⟨S2x4096x2048, .f32⟩
  | .hbm, ⟨42, _⟩ => ⟨S2x4096x2048, .f32⟩
  | .hbm, ⟨43, _⟩ => ⟨S_, .f32⟩
  | .hbm, ⟨44, _⟩ => ⟨S2x4096x2048, .f32⟩
  | .hbm, ⟨45, _⟩ => ⟨S2x4096x2048, .f32⟩
  | .hbm, ⟨46, _⟩ => ⟨S1024x2048, .f32⟩
  | .hbm, ⟨47, _⟩ => ⟨S2x4096x2048, .f32⟩
  | .hbm, ⟨48, _⟩ => ⟨S2x4096x2048, .f32⟩
  | .hbm, ⟨49, _⟩ => ⟨S2x4096x2048, .f32⟩
  | .hbm, ⟨50, _⟩ => ⟨S2x4096x2048, .f32⟩
  | .hbm, ⟨51, _⟩ => ⟨S_, .f32⟩
  | .hbm, ⟨52, _⟩ => ⟨S2x4096x2048, .f32⟩
  | .hbm, ⟨53, _⟩ => ⟨S2x4096x2048, .f32⟩
  | .hbm, ⟨54, _⟩ => ⟨S_, .f32⟩
  | .hbm, ⟨55, _⟩ => ⟨S2x4096x2048, .f32⟩
  | .hbm, ⟨56, _⟩ => ⟨S2x4096x2048, .f32⟩
  | .hbm, ⟨57, _⟩ => ⟨S1024x2048, .f32⟩
  | .hbm, ⟨58, _⟩ => ⟨S2x4096x2048, .f32⟩
  | .hbm, ⟨59, _⟩ => ⟨S2x4096x2048, .f32⟩
  | .hbm, ⟨60, _⟩ => ⟨S2x4096x2048, .f32⟩
  | .hbm, ⟨61, _⟩ => ⟨S2048x2048, .f32⟩
  | .hbm, ⟨62, _⟩ => ⟨S2x4096x2048, .f32⟩
  | .hbm, ⟨63, _⟩ => ⟨S2048, .f32⟩
  | .hbm, ⟨64, _⟩ => ⟨S2x4096x2048, .f32⟩
  | .hbm, ⟨65, _⟩ => ⟨S_, .f32⟩
  | .hbm, ⟨66, _⟩ => ⟨S2x4096, .f32⟩
  | .hbm, ⟨67, _⟩ => ⟨S2x4096x1, .f32⟩
  | .hbm, ⟨68, _⟩ => ⟨S_, .f32⟩
  | .hbm, ⟨69, _⟩ => ⟨S2x4096x1, .f32⟩
  | .hbm, ⟨70, _⟩ => ⟨S2x4096x1, .f32⟩
  | .hbm, ⟨71, _⟩ => ⟨S_, .f32⟩
  | .hbm, ⟨72, _⟩ => ⟨S2x4096x1, .f32⟩
  | .hbm, ⟨73, _⟩ => ⟨S2x4096x1, .f32⟩
  | .hbm, ⟨74, _⟩ => ⟨S2x4096x1, .f32⟩
  | .hbm, ⟨75, _⟩ => ⟨S2x4096x2048, .f32⟩
  | .hbm, ⟨76, _⟩ => ⟨S2x4096x2048, .f32⟩
  | .hbm, ⟨77, _⟩ => ⟨S1x1x2048, .f32⟩
  | .hbm, ⟨78, _⟩ => ⟨S2x4096x2048, .f32⟩
  | .hbm, ⟨79, _⟩ => ⟨S2x4096x2048, .f32⟩
  | .hbm, ⟨80, _⟩ => ⟨S2x4096x2048, .f32⟩
  | .hbm, ⟨81, _⟩ => ⟨S2048, .f32⟩
  | .hbm, ⟨82, _⟩ => ⟨S2x4096x2048, .f32⟩
  | .hbm, ⟨83, _⟩ => ⟨S_, .f32⟩
  | .hbm, ⟨84, _⟩ => ⟨S2x4096, .f32⟩
  | .hbm, ⟨85, _⟩ => ⟨S2x4096x1, .f32⟩
  | .hbm, ⟨86, _⟩ => ⟨S_, .f32⟩
  | .hbm, ⟨87, _⟩ => ⟨S2x4096x1, .f32⟩
  | .hbm, ⟨88, _⟩ => ⟨S2x4096x1, .f32⟩
  | .hbm, ⟨89, _⟩ => ⟨S_, .f32⟩
  | .hbm, ⟨90, _⟩ => ⟨S2x4096x1, .f32⟩
  | .hbm, ⟨91, _⟩ => ⟨S2x4096x1, .f32⟩
  | .hbm, ⟨92, _⟩ => ⟨S2x4096x1, .f32⟩
  | .hbm, ⟨93, _⟩ => ⟨S2x4096x2048, .f32⟩
  | .hbm, ⟨94, _⟩ => ⟨S2x4096x2048, .f32⟩
  | .hbm, ⟨95, _⟩ => ⟨S1x1x2048, .f32⟩
  | .hbm, ⟨96, _⟩ => ⟨S2x4096x2048, .f32⟩
  | .hbm, ⟨97, _⟩ => ⟨S2x4096x2048, .f32⟩
  | .hbm, ⟨98, _⟩ => ⟨S2048x8192, .f32⟩
  | .hbm, ⟨99, _⟩ => ⟨S2x4096x8192, .f32⟩
  | .hbm, ⟨100, _⟩ => ⟨S_, .f32⟩
  | .hbm, ⟨101, _⟩ => ⟨S2x4096x8192, .f32⟩
  | .hbm, ⟨102, _⟩ => ⟨S2x4096x8192, .f32⟩
  | .hbm, ⟨103, _⟩ => ⟨S2x4096x8192, .f32⟩
  | .hbm, ⟨104, _⟩ => ⟨S8192x2048, .f32⟩
  | .hbm, ⟨105, _⟩ => ⟨S2x4096x2048, .f32⟩
  | .hbm, ⟨106, _⟩ => ⟨S2048, .f32⟩
  | .hbm, ⟨107, _⟩ => ⟨S2x4096x2048, .f32⟩
  | .hbm, ⟨108, _⟩ => ⟨S_, .f32⟩
  | .hbm, ⟨109, _⟩ => ⟨S2x4096, .f32⟩
  | .hbm, ⟨110, _⟩ => ⟨S2x4096x1, .f32⟩
  | .hbm, ⟨111, _⟩ => ⟨S_, .f32⟩
  | .hbm, ⟨112, _⟩ => ⟨S2x4096x1, .f32⟩
  | .hbm, ⟨113, _⟩ => ⟨S2x4096x1, .f32⟩
  | .hbm, ⟨114, _⟩ => ⟨S_, .f32⟩
  | .hbm, ⟨115, _⟩ => ⟨S2x4096x1, .f32⟩
  | .hbm, ⟨116, _⟩ => ⟨S2x4096x1, .f32⟩
  | .hbm, ⟨117, _⟩ => ⟨S2x4096x1, .f32⟩
  | .hbm, ⟨118, _⟩ => ⟨S2x4096x2048, .f32⟩
  | .hbm, ⟨119, _⟩ => ⟨S2x4096x2048, .f32⟩
  | .hbm, ⟨120, _⟩ => ⟨S1x1x2048, .f32⟩
  | .hbm, ⟨121, _⟩ => ⟨S2x4096x2048, .f32⟩
  | .hbm, ⟨122, _⟩ => ⟨S2x4096x2048, .f32⟩
  | .hbm, ⟨123, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_6 : Ref sig .tc := ⟨.hbm, 65, rfl⟩
abbrev main_v45 : Ref sig .tc := ⟨.hbm, 66, rfl⟩
abbrev main_v46 : Ref sig .tc := ⟨.hbm, 67, rfl⟩
abbrev main_cst_7 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_9 : Ref sig .tc := ⟨.hbm, 83, rfl⟩
abbrev main_v60 : Ref sig .tc := ⟨.hbm, 84, rfl⟩
abbrev main_v61 : Ref sig .tc := ⟨.hbm, 85, rfl⟩
abbrev main_cst_10 : Ref sig .tc := ⟨.hbm, 86, rfl⟩
abbrev main_v62 : Ref sig .tc := ⟨.hbm, 87, rfl⟩
abbrev main_v63 : Ref sig .tc := ⟨.hbm, 88, rfl⟩
abbrev main_cst_11 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_call0_cst : Ref sig .tc := ⟨.hbm, 100, rfl⟩
abbrev main_call0_v0 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_12 : Ref sig .tc := ⟨.hbm, 108, rfl⟩
abbrev main_v80 : Ref sig .tc := ⟨.hbm, 109, rfl⟩
abbrev main_v81 : Ref sig .tc := ⟨.hbm, 110, rfl⟩
abbrev main_cst_13 : Ref sig .tc := ⟨.hbm, 111, rfl⟩
abbrev main_v82 : Ref sig .tc := ⟨.hbm, 112, rfl⟩
abbrev main_v83 : Ref sig .tc := ⟨.hbm, 113, rfl⟩
abbrev main_cst_14 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩

abbrev nD : Nat := 1
abbrev τ : Topo := Topo.v7x

variable {F : FTy → Type} [FloatOps F]
-- ==== SampleOut.lean ====
abbrev S128x4x2048 : Shape := ⟨3, ![128, 4, 2048]⟩
abbrev S1x2048x11344 : Shape := ⟨3, ![1, 2048, 11344]⟩
abbrev S1x2048 : Shape := ⟨2, ![1, 2048]⟩
abbrev S128x8x1024 : Shape := ⟨3, ![128, 8, 1024]⟩
abbrev S1x1024x2048 : Shape := ⟨3, ![1, 1024, 2048]⟩
abbrev S1x2048x2048 : Shape := ⟨3, ![1, 2048, 2048]⟩
abbrev S1x2048x8192 : Shape := ⟨3, ![1, 2048, 8192]⟩
abbrev S1x8192x2048 : Shape := ⟨3, ![1, 8192, 2048]⟩
abbrev S_ : Shape := ⟨0, ![]⟩
abbrev S128x8x2048 : Shape := ⟨3, ![128, 8, 2048]⟩
abbrev S1024x2048 : Shape := ⟨2, ![1024, 2048]⟩
abbrev S2048 : Shape := ⟨1, ![2048]⟩
abbrev S256x2048 : Shape := ⟨2, ![256, 2048]⟩
abbrev S256 : Shape := ⟨1, ![256]⟩
abbrev S256x1 : Shape := ⟨2, ![256, 1]⟩
abbrev S2048x11344 : Shape := ⟨2, ![2048, 11344]⟩
abbrev S11344x2048 : Shape := ⟨2, ![11344, 2048]⟩
abbrev S1024x12288 : Shape := ⟨2, ![1024, 12288]⟩
abbrev S1024x1024 : Shape := ⟨2, ![1024, 1024]⟩
abbrev S2048x2048 : Shape := ⟨2, ![2048, 2048]⟩
abbrev S512x2048 : Shape := ⟨2, ![512, 2048]⟩
abbrev S2048x8192 : Shape := ⟨2, ![2048, 8192]⟩
abbrev S8192x2048 : Shape := ⟨2, ![8192, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 47
  | .vmem => 43
  | .smem => 0
  | _ => 0

abbrev bufTy : (tb : Table) → Fin (tcTables nBuf tb) → BufTy
  | .hbm, ⟨0, _⟩ => ⟨S128x4x2048, .f32⟩
  | .hbm, ⟨1, _⟩ => ⟨S1x2048x11344, .f32⟩
  | .hbm, ⟨2, _⟩ => ⟨S1x2048, .f32⟩
  | .hbm, ⟨3, _⟩ => ⟨S128x8x1024, .f32⟩
  | .hbm, ⟨4, _⟩ => ⟨S128x8x1024, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S1x2048, .f32⟩
  | .hbm, ⟨9, _⟩ => ⟨S1x2048, .f32⟩
  | .hbm, ⟨10, _⟩ => ⟨S1x2048x8192, .f32⟩
  | .hbm, ⟨11, _⟩ => ⟨S1x8192x2048, .f32⟩
  | .hbm, ⟨12, _⟩ => ⟨S1x2048, .f32⟩
  | .hbm, ⟨13, _⟩ => ⟨S_, .i32⟩
  | .hbm, ⟨14, _⟩ => ⟨S_, .f32⟩
  | .hbm, ⟨15, _⟩ => ⟨S128x8x2048, .f32⟩
  | .hbm, ⟨16, _⟩ => ⟨S1024x2048, .f32⟩
  | .hbm, ⟨17, _⟩ => ⟨S2048, .f32⟩
  | .hbm, ⟨18, _⟩ => ⟨S1x2048, .f32⟩
  | .hbm, ⟨19, _⟩ => ⟨S1024x2048, .bf16⟩
  | .hbm, ⟨20, _⟩ => ⟨S2048x11344, .f32⟩
  | .hbm, ⟨21, _⟩ => ⟨S11344x2048, .f32⟩
  | .hbm, ⟨22, _⟩ => ⟨S1024x12288, .f32⟩
  | .hbm, ⟨23, _⟩ => ⟨S1024x1024, .f32⟩
  | .hbm, ⟨24, _⟩ => ⟨S1024x1024, .f32⟩
  | .hbm, ⟨25, _⟩ => ⟨S1024x2048, .f32⟩
  | .hbm, ⟨26, _⟩ => ⟨S1024x2048, .bf16⟩
  | .hbm, ⟨27, _⟩ => ⟨S1024x2048, .f32⟩
  | .hbm, ⟨28, _⟩ => ⟨S1024x2048, .bf16⟩
  | .hbm, ⟨29, _⟩ => ⟨S1024x2048, .bf16⟩
  | .hbm, ⟨30, _⟩ => ⟨S2048x2048, .f32⟩
  | .hbm, ⟨31, _⟩ => ⟨S2048x2048, .bf16⟩
  | .hbm, ⟨32, _⟩ => ⟨S2048, .f32⟩
  | .hbm, ⟨33, _⟩ => ⟨S2048, .f32⟩
  | .hbm, ⟨34, _⟩ => ⟨S1x2048, .f32⟩
  | .hbm, ⟨35, _⟩ => ⟨S1x2048, .f32⟩
  | .hbm, ⟨36, _⟩ => ⟨S1024x2048, .f32⟩
  | .hbm, ⟨37, _⟩ => ⟨S1024x2048, .bf16⟩
  | .hbm, ⟨38, _⟩ => ⟨S2048x8192, .f32⟩
  | .hbm, ⟨39, _⟩ => ⟨S2048x8192, .bf16⟩
  | .hbm, ⟨40, _⟩ => ⟨S8192x2048, .f32⟩
  | .hbm, ⟨41, _⟩ => ⟨S8192x2048, .bf16⟩
  | .hbm, ⟨42, _⟩ => ⟨S2048, .f32⟩
  | .hbm, ⟨43, _⟩ => ⟨S1x2048, .f32⟩
  | .hbm, ⟨44, _⟩ => ⟨S1024x2048, .f32⟩
  | .hbm, ⟨45, _⟩ => ⟨S128x8x2048, .f32⟩
  | .hbm, ⟨46, _⟩ => ⟨S128x4x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S1024x2048, .bf16⟩
  | .local _ .vmem, ⟨6, _⟩ => ⟨S1024x2048, .f32⟩
  | .local _ .vmem, ⟨7, _⟩ => ⟨S1024x2048, .f32⟩
  | .local _ .vmem, ⟨8, _⟩ => ⟨S1024x1024, .f32⟩
  | .local _ .vmem, ⟨9, _⟩ => ⟨S1024x1024, .f32⟩
  | .local _ .vmem, ⟨10, _⟩ => ⟨S1024x2048, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .bf16⟩
  | .local _ .vmem, ⟨22, _⟩ => ⟨S1024x1024, .bf16⟩
  | .local _ .vmem, ⟨23, _⟩ => ⟨S512x2048, .bf16⟩
  | .local _ .vmem, ⟨24, _⟩ => ⟨S512x2048, .bf16⟩
  | .local _ .vmem, ⟨25, _⟩ => ⟨S2048x2048, .bf16⟩
  | .local _ .vmem, ⟨26, _⟩ => ⟨S512x2048, .f32⟩
  | .local _ .vmem, ⟨27, _⟩ => ⟨S512x2048, .f32⟩
  | .local _ .vmem, ⟨28, _⟩ => ⟨S1x2048, .f32⟩
  | .local _ .vmem, ⟨29, _⟩ => ⟨S1x2048, .f32⟩
  | .local _ .vmem, ⟨30, _⟩ => ⟨S512x2048, .f32⟩
  | .local _ .vmem, ⟨31, _⟩ => ⟨S512x2048, .f32⟩
  | .local _ .vmem, ⟨32, _⟩ => ⟨S512x2048, .bf16⟩
  | .local _ .vmem, ⟨33, _⟩ => ⟨S512x2048, .bf16⟩
  | .local _ .vmem, ⟨34, _⟩ => ⟨S1024x2048, .bf16⟩
  | .local _ .vmem, ⟨35, _⟩ => ⟨S2048x512, .bf16⟩
  | .local _ .vmem, ⟨36, _⟩ => ⟨S2048x512, .bf16⟩
  | .local _ .vmem, ⟨37, _⟩ => ⟨S512x2048, .bf16⟩
  | .local _ .vmem, ⟨38, _⟩ => ⟨S512x2048, .bf16⟩
  | .local _ .vmem, ⟨39, _⟩ => ⟨S1024x2048, .f32⟩
  | .local _ .vmem, ⟨40, _⟩ => ⟨S1x2048, .f32⟩
  | .local _ .vmem, ⟨41, _⟩ => ⟨S1024x2048, .f32⟩
  | .local _ .vmem, ⟨42, _⟩ => ⟨S1024x2048, .f32⟩
  | _, _ => ⟨S128x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg4_1 : Ref sig .tc := ⟨.vmem, 18, rfl⟩
abbrev cc2_stg5_0 : Ref sig .tc := ⟨.vmem, 19, rfl⟩
abbrev cc2_stg5_1 : Ref sig .tc := ⟨.vmem, 20, rfl⟩
abbrev cc2_stg6_0 : Ref sig .tc := ⟨.vmem, 21, rfl⟩
abbrev cc2_stg6_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc3_stg6_0 : Ref sig .tc := ⟨.vmem, 32, rfl⟩
abbrev cc3_stg6_1 : Ref sig .tc := ⟨.vmem, 33, rfl⟩
abbrev cc4_stg0_0 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_scratch0 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem2_1 : DmaSem sig := 13
abbrev cc2_sem3_0 : DmaSem sig := 14
abbrev cc2_sem3_1 : DmaSem sig := 15
abbrev cc2_sem4_0 : DmaSem sig := 16
abbrev cc2_sem4_1 : DmaSem sig := 17
abbrev cc2_sem5_0 : DmaSem sig := 18
abbrev cc2_sem5_1 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem5_0 : DmaSem sig := 29
abbrev cc3_sem5_1 : DmaSem sig := 30
abbrev cc3_sem6_0 : DmaSem sig := 31
abbrev cc3_sem6_1 : DmaSem sig := 32
abbrev cc4_sem0_0 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem4_0 : DmaSem sig := 39
abbrev cc4_sem5_0 : DmaSem sig := 40

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![12, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c128_i32 : BitVec 32 := 128#32
  let v1 : BitVec 32 := Scalar.muli arg0 c128_i32
  let c11_i32 : BitVec 32 := 11#32
  let v2 : BitVec 1 := Scalar.cmpi .slt arg0 c11_i32
  let c4_i32_0 : BitVec 32 := 4#32
  let v3 : BitVec 32 := Scalar.subi arg0 c4_i32_0
  let c128_i32_1 : BitVec 32 := 128#32
  let v4 : BitVec 32 := Scalar.muli v3 c128_i32_1
  let c522_i32 : BitVec 32 := 522#32
  let v5 : BitVec 32 := Scalar.addi c522_i32 v4
  let c512_i32 : BitVec 32 := 512#32
  let v6 : BitVec 32 := Scalar.select v2 v5 c512_i32
  let v7 : BitVec 32 := Scalar.select v0 v1 v6
  let c8_i32 : BitVec 32 := 8#32
  let v8 : BitVec 32 := Scalar.muli v7 c8_i32
  let c0_i32 : BitVec 32 := 0#32
  let c0_i32_2 : BitVec 32 := 0#32
  ![v8.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .vmem S1024x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true]

abbrev stage1_1 : Fin 2 → Memref sig .tc .vmem S1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc2_transform_5 (i : grid2.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 1 → Memref sig .tc .vmem S1024x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1024x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1024x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x2048 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2048 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S512x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S512x2048 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨2, ![1, 16], ![false, false]⟩

def k4_cond2 (i : grid4.Coords) : BitVec 1 :=
  let arg1 : BitVec 32 := BitVec.ofNat 32 (i 1).val
  let c15_i32 : BitVec 32 := 15#32
  let v20 : BitVec 1 := Scalar.cmpi .eq arg1 c15_i32
  let v21 : BitVec 32 := Scalar.extui v20
  let c0_i32_12 : BitVec 32 := 0#32
  let v22 : BitVec 1 := Scalar.cmpi .ne v21 c0_i32_12
  v22

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 1 → Memref sig .tc .vmem S1024x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S2048x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x2048 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 1 → Memref sig .tc .vmem S1024x2048 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true, false]

abbrev stage4_4 : Fin 1 → Memref sig .tc .vmem S1x2048 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S1024x2048 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true, false]
-- ==== RefSampleOutIdeal.lean ====
abbrev S128x4x2048 : Shape := ⟨3, ![128, 4, 2048]⟩
abbrev S1x2048x11344 : Shape := ⟨3, ![1, 2048, 11344]⟩
abbrev S1x2048 : Shape := ⟨2, ![1, 2048]⟩
abbrev S128x8x1024 : Shape := ⟨3, ![128, 8, 1024]⟩
abbrev S1x1024x2048 : Shape := ⟨3, ![1, 1024, 2048]⟩
abbrev S1x2048x2048 : Shape := ⟨3, ![1, 2048, 2048]⟩
abbrev S1x2048x8192 : Shape := ⟨3, ![1, 2048, 8192]⟩
abbrev S1x8192x2048 : Shape := ⟨3, ![1, 8192, 2048]⟩
abbrev S2048 : Shape := ⟨1, ![2048]⟩
abbrev S_ : Shape := ⟨0, ![]⟩
abbrev S128x4 : Shape := ⟨2, ![128, 4]⟩
abbrev S128x4x1 : Shape := ⟨3, ![128, 4, 1]⟩
abbrev S1x1x2048 : Shape := ⟨3, ![1, 1, 2048]⟩
abbrev S2048x11344 : Shape := ⟨2, ![2048, 11344]⟩
abbrev S128x4x11344 : Shape := ⟨3, ![128, 4, 11344]⟩
abbrev S128x4x1024 : Shape := ⟨3, ![128, 4, 1024]⟩
abbrev S1024x2048 : Shape := ⟨2, ![1024, 2048]⟩
abbrev S2048x2048 : Shape := ⟨2, ![2048, 2048]⟩
abbrev S2048x8192 : Shape := ⟨2, ![2048, 8192]⟩
abbrev S128x4x8192 : Shape := ⟨3, ![128, 4, 8192]⟩
abbrev S8192x2048 : Shape := ⟨2, ![8192, 2048]⟩

abbrev nBuf : Space → Nat
  | .hbm => 122
  | .vmem => 0
  | .smem => 0
  | _ => 0

abbrev bufTy : (tb : Table) → Fin (tcTables nBuf tb) → BufTy
  | .hbm, ⟨0, _⟩ => ⟨S128x4x2048, .f32⟩
  | .hbm, ⟨1, _⟩ => ⟨S1x2048x11344, .f32⟩
  | .hbm, ⟨2, _⟩ => ⟨S1x2048, .f32⟩
  | .hbm, ⟨3, _⟩ => ⟨S128x8x1024, .f32⟩
  | .hbm, ⟨4, _⟩ => ⟨S128x8x1024, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S1x2048, .f32⟩
  | .hbm, ⟨9, _⟩ => ⟨S1x2048, .f32⟩
  | .hbm, ⟨10, _⟩ => ⟨S1x2048x8192, .f32⟩
  | .hbm, ⟨11, _⟩ => ⟨S1x8192x2048, .f32⟩
  | .hbm, ⟨12, _⟩ => ⟨S1x2048, .f32⟩
  | .hbm, ⟨13, _⟩ => ⟨S2048, .f32⟩
  | .hbm, ⟨14, _⟩ => ⟨S128x4x2048, .f32⟩
  | .hbm, ⟨15, _⟩ => ⟨S_, .f32⟩
  | .hbm, ⟨16, _⟩ => ⟨S128x4, .f32⟩
  | .hbm, ⟨17, _⟩ => ⟨S128x4x1, .f32⟩
  | .hbm, ⟨18, _⟩ => ⟨S_, .f32⟩
  | .hbm, ⟨19, _⟩ => ⟨S128x4x1, .f32⟩
  | .hbm, ⟨20, _⟩ => ⟨S128x4x1, .f32⟩
  | .hbm, ⟨21, _⟩ => ⟨S_, .f32⟩
  | .hbm, ⟨22, _⟩ => ⟨S128x4x1, .f32⟩
  | .hbm, ⟨23, _⟩ => ⟨S128x4x1, .f32⟩
  | .hbm, ⟨24, _⟩ => ⟨S128x4x1, .f32⟩
  | .hbm, ⟨25, _⟩ => ⟨S128x4x2048, .f32⟩
  | .hbm, ⟨26, _⟩ => ⟨S128x4x2048, .f32⟩
  | .hbm, ⟨27, _⟩ => ⟨S1x1x2048, .f32⟩
  | .hbm, ⟨28, _⟩ => ⟨S128x4x2048, .f32⟩
  | .hbm, ⟨29, _⟩ => ⟨S128x4x2048, .f32⟩
  | .hbm, ⟨30, _⟩ => ⟨S2048x11344, .f32⟩
  | .hbm, ⟨31, _⟩ => ⟨S128x4x11344, .f32⟩
  | .hbm, ⟨32, _⟩ => ⟨S128x4x2048, .f32⟩
  | .hbm, ⟨33, _⟩ => ⟨S128x4x2048, .f32⟩
  | .hbm, ⟨34, _⟩ => ⟨S128x4x1024, .f32⟩
  | .hbm, ⟨35, _⟩ => ⟨S128x4x1024, .f32⟩
  | .hbm, ⟨36, _⟩ => ⟨S128x4x2048, .f32⟩
  | .hbm, ⟨37, _⟩ => ⟨S128x4x2048, .f32⟩
  | .hbm, ⟨38, _⟩ => ⟨S_, .f32⟩
  | .hbm, ⟨39, _⟩ => ⟨S128x4x2048, .f32⟩
  | .hbm, ⟨40, _⟩ => ⟨S128x4x2048, .f32⟩
  | .hbm, ⟨41, _⟩ => ⟨S_, .f32⟩
  | .hbm, ⟨42, _⟩ => ⟨S128x4x2048, .f32⟩
  | .hbm, ⟨43, _⟩ => ⟨S128x4x2048, .f32⟩
  | .hbm, ⟨44, _⟩ => ⟨S1024x2048, .f32⟩
  | .hbm, ⟨45, _⟩ => ⟨S128x4x2048, .f32⟩
  | .hbm, ⟨46, _⟩ => ⟨S128x4x2048, .f32⟩
  | .hbm, ⟨47, _⟩ => ⟨S128x4x2048, .f32⟩
  | .hbm, ⟨48, _⟩ => ⟨S128x4x2048, .f32⟩
  | .hbm, ⟨49, _⟩ => ⟨S_, .f32⟩
  | .hbm, ⟨50, _⟩ => ⟨S128x4x2048, .f32⟩
  | .hbm, ⟨51, _⟩ => ⟨S128x4x2048, .f32⟩
  | .hbm, ⟨52, _⟩ => ⟨S_, .f32⟩
  | .hbm, ⟨53, _⟩ => ⟨S128x4x2048, .f32⟩
  | .hbm, ⟨54, _⟩ => ⟨S128x4x2048, .f32⟩
  | .hbm, ⟨55, _⟩ => ⟨S1024x2048, .f32⟩
  | .hbm, ⟨56, _⟩ => ⟨S128x4x2048, .f32⟩
  | .hbm, ⟨57, _⟩ => ⟨S128x4x2048, .f32⟩
  | .hbm, ⟨58, _⟩ => ⟨S128x4x2048, .f32⟩
  | .hbm, ⟨59, _⟩ => ⟨S2048x2048, .f32⟩
  | .hbm, ⟨60, _⟩ => ⟨S128x4x2048, .f32⟩
  | .hbm, ⟨61, _⟩ => ⟨S2048, .f32⟩
  | .hbm, ⟨62, _⟩ => ⟨S128x4x2048, .f32⟩
  | .hbm, ⟨63, _⟩ => ⟨S_, .f32⟩
  | .hbm, ⟨64, _⟩ => ⟨S128x4, .f32⟩
  | .hbm, ⟨65, _⟩ => ⟨S128x4x1, .f32⟩
  | .hbm, ⟨66, _⟩ => ⟨S_, .f32⟩
  | .hbm, ⟨67, _⟩ => ⟨S128x4x1, .f32⟩
  | .hbm, ⟨68, _⟩ => ⟨S128x4x1, .f32⟩
  | .hbm, ⟨69, _⟩ => ⟨S_, .f32⟩
  | .hbm, ⟨70, _⟩ => ⟨S128x4x1, .f32⟩
  | .hbm, ⟨71, _⟩ => ⟨S128x4x1, .f32⟩
  | .hbm, ⟨72, _⟩ => ⟨S128x4x1, .f32⟩
  | .hbm, ⟨73, _⟩ => ⟨S128x4x2048, .f32⟩
  | .hbm, ⟨74, _⟩ => ⟨S128x4x2048, .f32⟩
  | .hbm, ⟨75, _⟩ => ⟨S1x1x2048, .f32⟩
  | .hbm, ⟨76, _⟩ => ⟨S128x4x2048, .f32⟩
  | .hbm, ⟨77, _⟩ => ⟨S128x4x2048, .f32⟩
  | .hbm, ⟨78, _⟩ => ⟨S128x4x2048, .f32⟩
  | .hbm, ⟨79, _⟩ => ⟨S2048, .f32⟩
  | .hbm, ⟨80, _⟩ => ⟨S128x4x2048, .f32⟩
  | .hbm, ⟨81, _⟩ => ⟨S_, .f32⟩
  | .hbm, ⟨82, _⟩ => ⟨S128x4, .f32⟩
  | .hbm, ⟨83, _⟩ => ⟨S128x4x1, .f32⟩
  | .hbm, ⟨84, _⟩ => ⟨S_, .f32⟩
  | .hbm, ⟨85, _⟩ => ⟨S128x4x1, .f32⟩
  | .hbm, ⟨86, _⟩ => ⟨S128x4x1, .f32⟩
  | .hbm, ⟨87, _⟩ => ⟨S_, .f32⟩
  | .hbm, ⟨88, _⟩ => ⟨S128x4x1, .f32⟩
  | .hbm, ⟨89, _⟩ => ⟨S128x4x1, .f32⟩
  | .hbm, ⟨90, _⟩ => ⟨S128x4x1, .f32⟩
  | .hbm, ⟨91, _⟩ => ⟨S128x4x2048, .f32⟩
  | .hbm, ⟨92, _⟩ => ⟨S128x4x2048, .f32⟩
  | .hbm, ⟨93, _⟩ => ⟨S1x1x2048, .f32⟩
  | .hbm, ⟨94, _⟩ => ⟨S128x4x2048, .f32⟩
  | .hbm, ⟨95, _⟩ => ⟨S128x4x2048, .f32⟩
  | .hbm, ⟨96, _⟩ => ⟨S2048x8192, .f32⟩
  | .hbm, ⟨97, _⟩ => ⟨S128x4x8192, .f32⟩
  | .hbm, ⟨98, _⟩ => ⟨S_, .f32⟩
  | .hbm, ⟨99, _⟩ => ⟨S128x4x8192, .f32⟩
  | .hbm, ⟨100, _⟩ => ⟨S128x4x8192, .f32⟩
  | .hbm, ⟨101, _⟩ => ⟨S128x4x8192, .f32⟩
  | .hbm, ⟨102, _⟩ => ⟨S8192x2048, .f32⟩
  | .hbm, ⟨103, _⟩ => ⟨S128x4x2048, .f32⟩
  | .hbm, ⟨104, _⟩ => ⟨S2048, .f32⟩
  | .hbm, ⟨105, _⟩ => ⟨S128x4x2048, .f32⟩
  | .hbm, ⟨106, _⟩ => ⟨S_, .f32⟩
  | .hbm, ⟨107, _⟩ => ⟨S128x4, .f32⟩
  | .hbm, ⟨108, _⟩ => ⟨S128x4x1, .f32⟩
  | .hbm, ⟨109, _⟩ => ⟨S_, .f32⟩
  | .hbm, ⟨110, _⟩ => ⟨S128x4x1, .f32⟩
  | .hbm, ⟨111, _⟩ => ⟨S128x4x1, .f32⟩
  | .hbm, ⟨112, _⟩ => ⟨S_, .f32⟩
  | .hbm, ⟨113, _⟩ => ⟨S128x4x1, .f32⟩
  | .hbm, ⟨114, _⟩ => ⟨S128x4x1, .f32⟩
  | .hbm, ⟨115, _⟩ => ⟨S128x4x1, .f32⟩
  | .hbm, ⟨116, _⟩ => ⟨S128x4x2048, .f32⟩
  | .hbm, ⟨117, _⟩ => ⟨S128x4x2048, .f32⟩
  | .hbm, ⟨118, _⟩ => ⟨S1x1x2048, .f32⟩
  | .hbm, ⟨119, _⟩ => ⟨S128x4x2048, .f32⟩
  | .hbm, ⟨120, _⟩ => ⟨S128x4x2048, .f32⟩
  | .hbm, ⟨121, _⟩ => ⟨S128x4x2048, .f32⟩
  | _, _ => ⟨S128x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_9 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_cst_11 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_call0_cst : Ref sig .tc := ⟨.hbm, 98, rfl⟩
abbrev main_call0_v0 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_12 : Ref sig .tc := ⟨.hbm, 106, rfl⟩
abbrev main_v78 : Ref sig .tc := ⟨.hbm, 107, rfl⟩
abbrev main_v79 : Ref sig .tc := ⟨.hbm, 108, rfl⟩
abbrev main_cst_13 : Ref sig .tc := ⟨.hbm, 109, rfl⟩
abbrev main_v80 : Ref sig .tc := ⟨.hbm, 110, rfl⟩
abbrev main_v81 : Ref sig .tc := ⟨.hbm, 111, rfl⟩
abbrev main_cst_14 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩

abbrev nD : Nat := 1
abbrev τ : Topo := Topo.v7x

variable {F : FTy → Type} [FloatOps F]
-- ==== Proof.PromptRowsIdealSteps.lean ====
/- The prompt's normalisation and projection calls in one program: the run of both, the second carrying its
   rounded weight block from grid point to grid point. -/
module

public import proofs.«01_k».proof.Defs
public import proofs.«01_k».proof.Proof.Gen.PromptRowsIdeal.Launch
public import proofs.«01_k».proof.Proof.Gen.PromptRowsIdeal.Skeleton
public import proofs.«01_k».proof.Proof.Gen.PromptRowsIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.PromptRowsIdeal.Steps

open Cert.PromptRowsIdeal Cert.PromptRowsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The assertions the runs are followed with. -/
abbrev SP (F : FTy → Type) [FloatOps F] := sProp (MT nD τ sig Unit (Elt F) ℕ (UR sig nD τ) ℕ)

section Regions
variable (V : (c : Dev nD) → (b : Ref sig .tc) → Buf (Elt F) ((c : Thread nD τ).loc b))

/-- What a window of the first call shows at a point, for any contents before the call. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S256x2048 := Rect.unit (s := S256x2048) ![0, 0] S256x2048.size inb_S256x2048_S256x2048_0_0
abbrev r0_1 : Rect S1x2048 := Rect.unit (s := S1x2048) ![0, 0] S1x2048.size inb_S1x2048_S1x2048_0_0

/-- What the first call's body leaves in its result's block. -/
def out0_2 (x0 : Vec F S256x2048 .f32) (x1 : Vec F S1x2048 .f32) : Vec F S256x2048 .bf16 :=
  View.canon [⟨r0_0, k0_pay1 (View.ld x0 r0_0) (View.ld x1 r0_1)⟩]

theorem cover0_2 (p0 : Vec F S256x2048 .bf16) (y : S256x2048.Idx) :
    ∃ pc ∈ ([⟨r0_0, p0⟩] : List (View.Piece (Elt F) S256x2048 .bf16)), y ∈ pc.1.set :=
  View.cover_of_tiled [⟨r0_0, p0⟩] S256x2048.size (by rfl) y

set_option maxHeartbeats 1000000 in
/-- The first call's body runs, leaves its inputs and stores its result's block. -/
theorem sound_kernel0 (c : Dev nD) (E : Set ℕ) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole)
    (x0 : Vec F S256x2048 .f32) (x1 : Vec F S1x2048 .f32) (K : PUnit → SP F) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_rms_cast i arg1 harg1 arg2 harg2 arg3 harg3) K := by
  simp only [cc0_rms_cast_eq_skeleton]; unfold cc0_rms_cast_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The first call's data: its arrays, and each block after each point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : SP F :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : SP F :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The first call's body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What a window of the second call shows at a point, for any contents before the call. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev VO1_2 : View sig .tc .vmem S1024x1024 .f32 := (Memref.whole cc1_stg2_0 : Memref sig .tc .vmem S1024x1024 .f32).view
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev scM1_0 : Memref sig .tc .vmem S1024x2048 .bf16 := Memref.whole cc1_scratch0

theorem PhiA1_eq (c : Dev nD) :
    (Pipeline.ΦA spec1 c : SP F)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl
/-- The buffers of the first call, which the second call leaves alone. -/
def HELDR (c : Dev nD) : SP F := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The second call's invariant, with the first call's buffers put together, -/
theorem held_in (c : Dev nD) :
    (Pipeline.ΦA spec1 c : SP F) ⊢ iprop(iprop(HELDR c ∗ (∃ d, owns (c : Thread nD τ) scM1_0 fullShare d)) ∗ (∃ r, prngReg c r)) := by
  rw [PhiA1_eq]
  unfold HELDR
  iintro ⟨⟨HR0, HR1, HR2, HR3, HR4, HS0⟩, Hg⟩
  isplitl [HR0 HR1 HR2 HR3 HR4 HS0]
  · isplitl [HR0 HR1 HR2 HR3 HR4]
    · isplitl [HR0]; · iexact HR0
      isplitl [HR1]; · iexact HR1
      isplitl [HR2]; · iexact HR2
      isplitl [HR3]; · iexact HR3
      iexact HR4
    iexact HS0
  iexact Hg

/-- and apart. -/
theorem held_out (c : Dev nD) :
    iprop(iprop(HELDR c ∗ (∃ d, owns (c : Thread nD τ) scM1_0 fullShare d)) ∗ (∃ r, prngReg c r)) ⊢ (Pipeline.ΦA spec1 c : SP F) := by
  rw [PhiA1_eq]
  unfold HELDR
  iintro ⟨⟨⟨HR0, HR1, HR2, HR3, HR4⟩, HS0⟩, Hg⟩
  isplitl [HR0 HR1 HR2 HR3 HR4 HS0]
  · isplitl [HR0]; · iexact HR0
    isplitl [HR1]; · iexact HR1
    isplitl [HR2]; · iexact HR2
    isplitl [HR3]; · iexact HR3
    isplitl [HR4]; · iexact HR4
    iexact HS0
  iexact Hg

theorem PhiA1_held (c : Dev nD) :
    (Pipeline.ΦA spec1 c : SP F) = iprop(iprop(HELDR c ∗ (∃ d, owns (c : Thread nD τ) scM1_0 fullShare d)) ∗ (∃ r, prngReg c r)) :=
  BI.Entails.antisymm (held_in c) (held_out c)

/-- The weight block is rounded anew at the points where this holds, -/
abbrev cond1_0 (i : grid1.Coords) : Prop := (Scalar.cmpi .ne (Scalar.extui (Scalar.cmpi .eq (BitVec.ofNat 32 (i 1).val) 0#32)) 0#32) = 1#1
/-- the first points of the runs of eight. -/
theorem hcond1_0 : ∀ t : Fin cfg1.N, cond1_0 (grid1.coords t) ↔ t.val % 8 = 0 :=
  (fun t => by
    have ht : t.val < 96 := Nat.lt_of_lt_of_eq t.isLt N_1
    have e0 : (grid1.coords t 0).val = t.val / 8 % 12 := Pipeline.Grid.coords_val t 0 (by decide) rfl
    have e1 : (grid1.coords t 1).val = t.val / 1 % 8 := Pipeline.Grid.coords_val t 1 (by decide) rfl
    simp only [cond1_0, e0, e1]
    word_cmp
   : ∀ t : Fin grid1.N, cond1_0 (grid1.coords t) ↔ t.val % 8 = 0)

abbrev VS1_0 : View sig .tc .vmem S1024x2048 .bf16 := scM1_0.view

set_option maxHeartbeats 1000000 in
/-- The second call's body where the weight block is rounded anew: the stores it makes, and that it runs. -/
noncomputable def kernelRun1_A (c : Dev nD) (i : grid1.Coords) (arg2 : Memref sig .tc .vmem S1024x2048 .bf16) (harg2 : arg2.IsWhole) (arg3 : Memref sig .tc .vmem S1024x2048 .f32) (harg3 : arg3.IsWhole) (arg4 : Memref sig .tc .vmem S1024x1024 .f32) (harg4 : arg4.IsWhole) (arg5 : Memref sig .tc .vmem S1024x2048 .bf16) (harg5 : arg5.IsWhole) (hc0 : cond1_0 i)
    (x0 : Vec F S1024x2048 .bf16) (x1 : Vec F S1024x2048 .f32) :
    Σ' (L2 : List (View.Piece (Elt F) S1024x1024 .f32)), { LS0 : List (View.Piece (Elt F) S1024x2048 .bf16) //
      ∀ (E : Set ℕ) (K : PUnit → SP F),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1_in_proj i arg2 harg2 arg3 harg3 arg4 harg4 arg5 harg5) K } := by
  refine ⟨?_, ?_, fun E K => ?run⟩
  case run =>
    simp only [cc1_in_proj_eq_skeleton]; unfold cc1_in_proj_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 1000000 in
/-- The second call's body at the other points: the stores it makes, and that it runs. -/
noncomputable def kernelRun1_B (c : Dev nD) (i : grid1.Coords) (arg2 : Memref sig .tc .vmem S1024x2048 .bf16) (harg2 : arg2.IsWhole) (arg3 : Memref sig .tc .vmem S1024x2048 .f32) (harg3 : arg3.IsWhole) (arg4 : Memref sig .tc .vmem S1024x1024 .f32) (harg4 : arg4.IsWhole) (arg5 : Memref sig .tc .vmem S1024x2048 .bf16) (harg5 : arg5.IsWhole) (hc0 : ¬cond1_0 i)
    (x0 : Vec F S1024x2048 .bf16) (x1 : Vec F S1024x2048 .f32) (xs0 : Vec F S1024x2048 .bf16) :
    Σ' (L2 : List (View.Piece (Elt F) S1024x1024 .f32)), { LS0 : List (View.Piece (Elt F) S1024x2048 .bf16) //
      ∀ (E : Set ℕ) (K : PUnit → SP F),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xs0) -∗ K ⟨⟩))
          ⊢ wp frame (wpE (defs₀ (F := F)) Variants.none c none) E (cc1_in_proj i arg2 harg2 arg3 harg3 arg4 harg4 arg5 harg5) K } := by
  refine ⟨?_, [], fun E K => ?run⟩
  case run =>
    simp only [cc1_in_proj_eq_skeleton]; unfold cc1_in_proj_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; isplitr; · ipureintro; exact harg5.read_unread _
    iexact HS0

section
variable (c : Dev nD) (i : grid1.Coords) (arg2 : Memref sig .tc .vmem S1024x2048 .bf16) (harg2 : arg2.IsWhole) (arg3 : Memref sig .tc .vmem S1024x2048 .f32) (harg3 : arg3.IsWhole) (arg4 : Memref sig .tc .vmem S1024x1024 .f32) (harg4 : arg4.IsWhole) (arg5 : Memref sig .tc .vmem S1024x2048 .bf16) (harg5 : arg5.IsWhole)

theorem cover1_A_2 (hc0 : cond1_0 i)
    (x0 : Vec F S1024x2048 .bf16) (x1 : Vec F S1024x2048 .f32) (y : S1024x1024.Idx) :
    ∃ pc ∈ (kernelRun1_A c i arg2 harg2 arg3 harg3 arg4 harg4 arg5 harg5 hc0 x0 x1).1, y ∈ pc.1.set :=
  View.cover_of_tiledL (kernelRun1_A c i arg2 harg2 arg3 harg3 arg4 harg4 arg5 harg5 hc0 x0 x1).1 S1024x1024.size (by sl_kernel_rfl) y

def out1_A_2 (hc0 : cond1_0 i)
    (x0 : Vec F S1024x2048 .bf16) (x1 : Vec F S1024x2048 .f32) : Vec F S1024x1024 .f32 :=
  VO1_2.read (Elt F) (VO1_2.writes (Elt F) VO1_2.junk (kernelRun1_A c i arg2 harg2 arg3 harg3 arg4 harg4 arg5 harg5 hc0 x0 x1).1)

theorem scover1_A_0 (hc0 : cond1_0 i)
    (x0 : Vec F S1024x2048 .bf16) (x1 : Vec F S1024x2048 .f32) (y : S1024x2048.Idx) :
    ∃ pc ∈ (kernelRun1_A c i arg2 harg2 arg3 harg3 arg4 harg4 arg5 harg5 hc0 x0 x1).2.1, y ∈ pc.1.set :=
  View.cover_of_tiledL (kernelRun1_A c i arg2 harg2 arg3 harg3 arg4 harg4 arg5 harg5 hc0 x0 x1).2.1 S1024x2048.size (by sl_kernel_rfl) y

def sout1_A_0 (hc0 : cond1_0 i)
    (x0 : Vec F S1024x2048 .bf16) (x1 : Vec F S1024x2048 .f32) : Vec F S1024x2048 .bf16 :=
  VS1_0.read (Elt F) (VS1_0.writes (Elt F) VS1_0.junk (kernelRun1_A c i arg2 harg2 arg3 harg3 arg4 harg4 arg5 harg5 hc0 x0 x1).2.1)

theorem cover1_B_2 (hc0 : ¬cond1_0 i)
    (x0 : Vec F S1024x2048 .bf16) (x1 : Vec F S1024x2048 .f32) (xs0 : Vec F S1024x2048 .bf16) (y : S1024x1024.Idx) :
    ∃ pc ∈ (kernelRun1_B c i arg2 harg2 arg3 harg3 arg4 harg4 arg5 harg5 hc0 x0 x1 xs0).1, y ∈ pc.1.set :=
  View.cover_of_tiledL (kernelRun1_B c i arg2 harg2 arg3 harg3 arg4 harg4 arg5 harg5 hc0 x0 x1 xs0).1 S1024x1024.size (by sl_kernel_rfl) y

def out1_B_2 (hc0 : ¬cond1_0 i)
    (x0 : Vec F S1024x2048 .bf16) (x1 : Vec F S1024x2048 .f32) (xs0 : Vec F S1024x2048 .bf16) : Vec F S1024x1024 .f32 :=
  VO1_2.read (Elt F) (VO1_2.writes (Elt F) VO1_2.junk (kernelRun1_B c i arg2 harg2 arg3 harg3 arg4 harg4 arg5 harg5 hc0 x0 x1 xs0).1)

def sout1_B_0 (c : Dev nD) (i : grid1.Coords) (arg2 : Memref sig .tc .vmem S1024x2048 .bf16) (harg2 : arg2.IsWhole) (arg3 : Memref sig .tc .vmem S1024x2048 .f32) (harg3 : arg3.IsWhole) (arg4 : Memref sig .tc .vmem S1024x1024 .f32) (harg4 : arg4.IsWhole) (arg5 : Memref sig .tc .vmem S1024x2048 .bf16) (harg5 : arg5.IsWhole) (hc0 : ¬cond1_0 i)
    (x0 : Vec F S1024x2048 .bf16) (x1 : Vec F S1024x2048 .f32) (xs0 : Vec F S1024x2048 .bf16) : Vec F S1024x2048 .bf16 := xs0

end

/-- What the second call's result block and its scratch hold after each point. -/
def outsAt1 (c : Dev nD) : (n : ℕ) → n < cfg1.N → Vec F S1024x1024 .f32 × Vec F S1024x2048 .bf16
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (iblk1 V c 0 ⟨0, hn⟩) (iblk1 V c 1 ⟨0, hn⟩))
  | n + 1, hn =>
    if h0 : (n + 1) % 8 = 0 then
      (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (iblk1 V c 0 ⟨n + 1, hn⟩) (iblk1 V c 1 ⟨n + 1, hn⟩))
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 8 = 0) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- What the second call holds before each point: its scratch as the point before left it. -/
def PhiS (c : Dev nD) : (n : ℕ) → n ≤ cfg1.N → SP F
  | 0, _ => Pipeline.ΦA spec1 c
  | n + 1, hn => iprop(iprop(HELDR c ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(HELDR c ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop(HELDR c ∗ owns (c : Thread nD τ) scM1_0 fullShare ((outsAt1 V c (n - 1) (by omega)).2)) ∗ (∃ r, prngReg c r)) := by
  cases n with
  | zero => exact absurd rfl hz
  | succ n => rfl

/-- The second call's data: its arrays, each block after each point, and the scratch carried along. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : SP F :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : SP F :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 3200000 in
/-- The second call's body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    after1_0, after1_1, after1_2]
  rw [show (dat1 V c).Φ t.succ = PhiS V c (t.val + 1) t.isLt from rfl, PhiS_succ]
  have hN : t.val < 96 := lt_of_lt_of_eq t.isLt (show cfg1.N = 96 from N_1)
  by_cases h0 : t.val % 8 = 0
  · by_cases hz : t.val = 0
    · rw [PhiS_castSucc V c t, PhiS_zero V c _ _ hz, PhiA1_held]
      rw [outsAt1_A V c t h0]
      unfold out1_A_2 sout1_A_0; (try dsimp only)
      iintro ⟨⟨⟨HR, HS0⟩, Hg⟩, Ho, ⟨%d0, H0⟩, ⟨%d1, H1⟩, ⟨%d2, H2⟩⟩
      iapply ((kernelRun1_A c (grid1.coords t) _ _ _ _ _ _ _ _ ((hcond1_0 t).mpr h0) (iblk1 V c 0 t) (iblk1 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_A_0 c _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_A_2 c _ _ _ _ _ _ _ _ _ _ _ _)
    · rw [PhiS_castSucc V c t, PhiS_pos V c _ _ hz]
      rw [outsAt1_A V c t h0]
      unfold out1_A_2 sout1_A_0; (try dsimp only)
      iintro ⟨⟨⟨HR, HS0⟩, Hg⟩, Ho, ⟨%d0, H0⟩, ⟨%d1, H1⟩, ⟨%d2, H2⟩⟩
      iapply ((kernelRun1_A c (grid1.coords t) _ _ _ _ _ _ _ _ ((hcond1_0 t).mpr h0) (iblk1 V c 0 t) (iblk1 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_A_0 c _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_A_2 c _ _ _ _ _ _ _ _ _ _ _ _)
  · by_cases hz : t.val = 0
    · exfalso; have hN : t.val < 96 := lt_of_lt_of_eq t.isLt (show cfg1.N = 96 from N_1); omega
    · rw [PhiS_castSucc V c t, PhiS_pos V c _ _ hz]
      rw [outsAt1_B V c t h0]
      unfold out1_B_2 sout1_B_0; (try dsimp only)
      iintro ⟨⟨⟨HR, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, HS0⟩
      isplitl [HR HS0 Hg]
      · isplitl [HR HS0]
        · isplitl [HR]; · iexact HR
          iexact HS0
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_B_2 c _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- The scratch's contents may be forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_held]
  iintro ⟨⟨HR, HS0⟩, Hg⟩
  isplitl [HR HS0]
  · isplitl [HR]; · iexact HR
    iexists _; iexact HS0
  iexact Hg

theorem hout1 (c : Dev nD) : (dat1 V c).Φ (Fin.last cfg1.N) ⊢ Pipeline.ΦA spec1 c :=
  Phi_out V c _ (by rw [Fin.val_last]; have : cfg1.N = 96 := N_1; omega)
end Regions

abbrev argRefs : List (Ref sig .tc) := [main_arg0, main_arg1, main_arg2]

theorem hostOps0_fresh : (hostOps0 : List (HloOp τ sig (Elt F))).Forall fun op => op.fresh = ∅ := by
  simp only [List.Forall]; repeat' constructor
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v4, main_v5]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v7, main_v8, main_v9, main_v10, main_v11, main_v12, main_v13, main_v14, main_v15, main_v16, main_v17, main_v18, main_v19, main_v20, main_v21]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

/-- The contents at launch, -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- after the host operations before the first call, -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- after the first call, -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- after the host operations between the calls, -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
/-- after the second call, -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- and at the end. -/
abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : SP F := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : SP F := iprop(StableHlo.held (c : Thread nD τ) (Pipeline.ucRefs τ sig) (W5 m ρ c) ∗ ∃ r, prngReg c r)
set_option backward.isDefEq.respectTransparency.types false in
/-- The first call as a step of the run. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
/-- The second call as a step of the run. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from PhiS_zero (V3 m ρ) c 0 (Nat.zero_le _) rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The whole program as its five steps. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
/-- Every run ends with the unscoped arrays at the last contents and every counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : SP F)
            ⊢ BI.own (emb₁ (initOf (Pipeline.cells cfgs cellOf_inj) (Pipeline.launchToks cfgs cellOf_inj))) from .rfl)
        iexact Hu
      iapply (show (BI.emp : SP F) ⊢ bigSep Finset.univ (fun _ : Dev nD => (BI.emp : SP F)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- Every run ends with the arguments unchanged and every counter at zero. -/
theorem arrays_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c)⟩, h.2⟩) (run_all m ρ)

end Cert.PromptRowsIdeal.Steps

end
-- ==== Proof.PromptRowsSame.lean ====
/- The prompt's normalisation and projection calls in one program: the printed program runs as its ideal twin does, so its arguments are unchanged too. -/
module

public import proofs.«01_k».proof.Defs
public import proofs.«01_k».proof.Proof.PromptRowsIdealSteps
public import proofs.«01_k».proof.Proof.Gen.PromptRows.Launch

@[expose] public section

set_option maxHeartbeats 4000000

open Idealize.ShloMosaic Idealize.ShloMosaic.TcCoe Idealize.SL.Sem

namespace Cert.PromptRows.Same

open Cert.PromptRows Cert.PromptRows.Gen

variable {F : FTy → Type} [FloatOps F]
variable (m : (ℓ : Loc nD τ sig) → Buf (Elt F) ℓ) (ρ : Dev nD → PrngReg)

set_option smartUnfolding false in
/-- The two programs' bodies are the same. -/
theorem defs_same : Cert.PromptRowsIdeal.defs (F := F) = Cert.PromptRows.defs (F := F) := by with_unfolding_all exact rfl

/-- Every run ends with the arguments unchanged and every counter at zero. -/
theorem arrays_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  have h := Cert.PromptRowsIdeal.Steps.arrays_kept m ρ
  rw [defs_same] at h
  exact h

end Cert.PromptRows.Same

end
-- ==== Proof.PromptOutCalls.lean ====
/- The prompt's five calls outside its attentions in one program: each call by itself, for any contents before it. -/
module

public import proofs.«01_k».proof.Defs
public import proofs.«01_k».proof.Proof.Gen.PromptOutIdeal.Launch
public import proofs.«01_k».proof.Proof.Gen.PromptOutIdeal.Skeleton
public import proofs.«01_k».proof.Proof.Gen.PromptOutIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.PromptOutIdeal.Steps

open Cert.PromptOutIdeal Cert.PromptOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The assertions the runs are followed with. -/
abbrev SP (F : FTy → Type) [FloatOps F] := sProp (MT nD τ sig Unit (Elt F) ℕ (UR sig nD τ) ℕ)

section Regions
variable (V : (c : Dev nD) → (b : Ref sig .tc) → Buf (Elt F) ((c : Thread nD τ).loc b))

/-- What a window of the first call shows at a point, for any contents before the call. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S256x2048 := Rect.unit (s := S256x2048) ![0, 0] S256x2048.size inb_S256x2048_S256x2048_0_0
abbrev r0_1 : Rect S1x2048 := Rect.unit (s := S1x2048) ![0, 0] S1x2048.size inb_S1x2048_S1x2048_0_0

def out0_2 (x0 : Vec F S256x2048 .f32) (x1 : Vec F S1x2048 .f32) : Vec F S256x2048 .bf16 :=
  View.canon [⟨r0_0, k0_pay1 (View.ld x0 r0_0) (View.ld x1 r0_1)⟩]

theorem cover0_2 (p0 : Vec F S256x2048 .bf16) (y : S256x2048.Idx) :
    ∃ pc ∈ ([⟨r0_0, p0⟩] : List (View.Piece (Elt F) S256x2048 .bf16)), y ∈ pc.1.set :=
  View.cover_of_tiled [⟨r0_0, p0⟩] S256x2048.size (by rfl) y

set_option maxHeartbeats 1000000 in
/-- The first call's body runs, leaves its inputs and stores its result's blocks. -/
theorem sound_kernel0 (c : Dev nD) (E : Set ℕ) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole)
    (x0 : Vec F S256x2048 .f32) (x1 : Vec F S1x2048 .f32) (K : PUnit → SP F) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_rms_cast i arg1 harg1 arg2 harg2 arg3 harg3) K := by
  simp only [cc0_rms_cast_eq_skeleton]; unfold cc0_rms_cast_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The first call's data: its arrays, and each block after each point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : SP F :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : SP F :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The first call's body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What a window of the second call shows at a point, for any contents before the call. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev VO1_2 : View sig .tc .vmem S1024x1024 .f32 := (Memref.whole cc1_stg2_0 : Memref sig .tc .vmem S1024x1024 .f32).view
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev scM1_0 : Memref sig .tc .vmem S1024x2048 .bf16 := Memref.whole cc1_scratch0

theorem scopedRest1_flat (c : Dev nD) :
    (Pipeline.scopedRest spec1 c : SP F)
      = iprop((∃ f : Buf (Elt F) ((c : Thread nD τ).loc cc1_scratch0), ((c : Thread nD τ).loc cc1_scratch0) ↦{fullShare} f) ∗ Pipeline.scopedRestBut spec1 c [cc1_scratch0]) := by
  rw [scopedRest1_split]

theorem PhiA1_eq (c : Dev nD) :
    (Pipeline.ΦA spec1 c : SP F)
      = iprop(iprop((∃ d, owns (c : Thread nD τ) scM1_0 fullShare d) ∗ Pipeline.scopedRestBut spec1 c [cc1_scratch0]) ∗ (∃ r, prngReg c r)) := by
  unfold Pipeline.ΦA; rw [scopedRest1_flat]; simp only [scM1_0, owns_whole]; try rfl
/-- The buffers of the other calls, which the second call leaves alone. -/
abbrev HELD1 (c : Dev nD) : SP F := Pipeline.scopedRestBut spec1 c [cc1_scratch0]

theorem held_in1 (c : Dev nD) :
    (Pipeline.ΦA spec1 c : SP F) ⊢ iprop(iprop(HELD1 c ∗ (∃ d, owns (c : Thread nD τ) scM1_0 fullShare d)) ∗ (∃ r, prngReg c r)) := by
  rw [PhiA1_eq]
  iintro ⟨⟨HS0, HR⟩, Hg⟩
  isplitl [HR HS0]
  · isplitl [HR]; · iexact HR
    iexact HS0
  iexact Hg

theorem held_out1 (c : Dev nD) :
    iprop(iprop(HELD1 c ∗ (∃ d, owns (c : Thread nD τ) scM1_0 fullShare d)) ∗ (∃ r, prngReg c r)) ⊢ (Pipeline.ΦA spec1 c : SP F) := by
  rw [PhiA1_eq]
  iintro ⟨⟨HR, HS0⟩, Hg⟩
  isplitl [HR HS0]
  · isplitl [HS0]; · iexact HS0
    iexact HR
  iexact Hg

theorem PhiA1_held (c : Dev nD) :
    (Pipeline.ΦA spec1 c : SP F) = iprop(iprop(HELD1 c ∗ (∃ d, owns (c : Thread nD τ) scM1_0 fullShare d)) ∗ (∃ r, prngReg c r)) :=
  BI.Entails.antisymm (held_in1 c) (held_out1 c)

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (fun t => by
    have ht : t.val < 96 := Nat.lt_of_lt_of_eq t.isLt N_1
    have e0 : (grid1.coords t 0).val = t.val / 8 % 12 := Pipeline.Grid.coords_val t 0 (by decide) rfl
    have e1 : (grid1.coords t 1).val = t.val / 1 % 8 := Pipeline.Grid.coords_val t 1 (by decide) rfl
    simp only [cond1_0, e0, e1]
    word_cmp
   : ∀ t : Fin grid1.N, cond1_0 (grid1.coords t) ↔ t.val % 8 = 0)

abbrev VS1_0 : View sig .tc .vmem S1024x2048 .bf16 := scM1_0.view

set_option maxHeartbeats 1000000 in
/-- The second call's body in one of its cases: the stores it makes, and that it runs. -/
noncomputable def kernelRun1_A (c : Dev nD) (i : grid1.Coords) (arg2 : Memref sig .tc .vmem S1024x2048 .bf16) (harg2 : arg2.IsWhole) (arg3 : Memref sig .tc .vmem S1024x2048 .f32) (harg3 : arg3.IsWhole) (arg4 : Memref sig .tc .vmem S1024x1024 .f32) (harg4 : arg4.IsWhole) (arg5 : Memref sig .tc .vmem S1024x2048 .bf16) (harg5 : arg5.IsWhole) (hc0 : cond1_0 i)
    (x0 : Vec F S1024x2048 .bf16) (x1 : Vec F S1024x2048 .f32) :
    Σ' (L2 : List (View.Piece (Elt F) S1024x1024 .f32)), { LS0 : List (View.Piece (Elt F) S1024x2048 .bf16) //
      ∀ (E : Set ℕ) (K : PUnit → SP F),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1_in_proj i arg2 harg2 arg3 harg3 arg4 harg4 arg5 harg5) K } := by
  refine ⟨?_, ?_, fun E K => ?run⟩
  case run =>
    simp only [cc1_in_proj_eq_skeleton]; unfold cc1_in_proj_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 1000000 in
/-- The second call's body in one of its cases: the stores it makes, and that it runs. -/
noncomputable def kernelRun1_B (c : Dev nD) (i : grid1.Coords) (arg2 : Memref sig .tc .vmem S1024x2048 .bf16) (harg2 : arg2.IsWhole) (arg3 : Memref sig .tc .vmem S1024x2048 .f32) (harg3 : arg3.IsWhole) (arg4 : Memref sig .tc .vmem S1024x1024 .f32) (harg4 : arg4.IsWhole) (arg5 : Memref sig .tc .vmem S1024x2048 .bf16) (harg5 : arg5.IsWhole) (hc0 : ¬cond1_0 i)
    (x0 : Vec F S1024x2048 .bf16) (x1 : Vec F S1024x2048 .f32) (xs0 : Vec F S1024x2048 .bf16) :
    Σ' (L2 : List (View.Piece (Elt F) S1024x1024 .f32)), { LS0 : List (View.Piece (Elt F) S1024x2048 .bf16) //
      ∀ (E : Set ℕ) (K : PUnit → SP F),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xs0) -∗ K ⟨⟩))
          ⊢ wp frame (wpE (defs₀ (F := F)) Variants.none c none) E (cc1_in_proj i arg2 harg2 arg3 harg3 arg4 harg4 arg5 harg5) K } := by
  refine ⟨?_, [], fun E K => ?run⟩
  case run =>
    simp only [cc1_in_proj_eq_skeleton]; unfold cc1_in_proj_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; isplitr; · ipureintro; exact harg5.read_unread _
    iexact HS0

section
variable (c : Dev nD) (i : grid1.Coords) (arg2 : Memref sig .tc .vmem S1024x2048 .bf16) (harg2 : arg2.IsWhole) (arg3 : Memref sig .tc .vmem S1024x2048 .f32) (harg3 : arg3.IsWhole) (arg4 : Memref sig .tc .vmem S1024x1024 .f32) (harg4 : arg4.IsWhole) (arg5 : Memref sig .tc .vmem S1024x2048 .bf16) (harg5 : arg5.IsWhole)

theorem cover1_A_2 (hc0 : cond1_0 i)
    (x0 : Vec F S1024x2048 .bf16) (x1 : Vec F S1024x2048 .f32) (y : S1024x1024.Idx) :
    ∃ pc ∈ (kernelRun1_A c i arg2 harg2 arg3 harg3 arg4 harg4 arg5 harg5 hc0 x0 x1).1, y ∈ pc.1.set :=
  View.cover_of_tiledL (kernelRun1_A c i arg2 harg2 arg3 harg3 arg4 harg4 arg5 harg5 hc0 x0 x1).1 S1024x1024.size (by sl_kernel_rfl) y

def out1_A_2 (hc0 : cond1_0 i)
    (x0 : Vec F S1024x2048 .bf16) (x1 : Vec F S1024x2048 .f32) : Vec F S1024x1024 .f32 :=
  VO1_2.read (Elt F) (VO1_2.writes (Elt F) VO1_2.junk (kernelRun1_A c i arg2 harg2 arg3 harg3 arg4 harg4 arg5 harg5 hc0 x0 x1).1)

theorem scover1_A_0 (hc0 : cond1_0 i)
    (x0 : Vec F S1024x2048 .bf16) (x1 : Vec F S1024x2048 .f32) (y : S1024x2048.Idx) :
    ∃ pc ∈ (kernelRun1_A c i arg2 harg2 arg3 harg3 arg4 harg4 arg5 harg5 hc0 x0 x1).2.1, y ∈ pc.1.set :=
  View.cover_of_tiledL (kernelRun1_A c i arg2 harg2 arg3 harg3 arg4 harg4 arg5 harg5 hc0 x0 x1).2.1 S1024x2048.size (by sl_kernel_rfl) y

def sout1_A_0 (hc0 : cond1_0 i)
    (x0 : Vec F S1024x2048 .bf16) (x1 : Vec F S1024x2048 .f32) : Vec F S1024x2048 .bf16 :=
  VS1_0.read (Elt F) (VS1_0.writes (Elt F) VS1_0.junk (kernelRun1_A c i arg2 harg2 arg3 harg3 arg4 harg4 arg5 harg5 hc0 x0 x1).2.1)

theorem cover1_B_2 (hc0 : ¬cond1_0 i)
    (x0 : Vec F S1024x2048 .bf16) (x1 : Vec F S1024x2048 .f32) (xs0 : Vec F S1024x2048 .bf16) (y : S1024x1024.Idx) :
    ∃ pc ∈ (kernelRun1_B c i arg2 harg2 arg3 harg3 arg4 harg4 arg5 harg5 hc0 x0 x1 xs0).1, y ∈ pc.1.set :=
  View.cover_of_tiledL (kernelRun1_B c i arg2 harg2 arg3 harg3 arg4 harg4 arg5 harg5 hc0 x0 x1 xs0).1 S1024x1024.size (by sl_kernel_rfl) y

def out1_B_2 (hc0 : ¬cond1_0 i)
    (x0 : Vec F S1024x2048 .bf16) (x1 : Vec F S1024x2048 .f32) (xs0 : Vec F S1024x2048 .bf16) : Vec F S1024x1024 .f32 :=
  VO1_2.read (Elt F) (VO1_2.writes (Elt F) VO1_2.junk (kernelRun1_B c i arg2 harg2 arg3 harg3 arg4 harg4 arg5 harg5 hc0 x0 x1 xs0).1)

def sout1_B_0 (c : Dev nD) (i : grid1.Coords) (arg2 : Memref sig .tc .vmem S1024x2048 .bf16) (harg2 : arg2.IsWhole) (arg3 : Memref sig .tc .vmem S1024x2048 .f32) (harg3 : arg3.IsWhole) (arg4 : Memref sig .tc .vmem S1024x1024 .f32) (harg4 : arg4.IsWhole) (arg5 : Memref sig .tc .vmem S1024x2048 .bf16) (harg5 : arg5.IsWhole) (hc0 : ¬cond1_0 i)
    (x0 : Vec F S1024x2048 .bf16) (x1 : Vec F S1024x2048 .f32) (xs0 : Vec F S1024x2048 .bf16) : Vec F S1024x2048 .bf16 := xs0

end

/-- What the second call's result block and its scratch hold after each point. -/
def outsAt1 (c : Dev nD) : (n : ℕ) → n < cfg1.N → Vec F S1024x1024 .f32 × Vec F S1024x2048 .bf16
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (iblk1 V c 0 ⟨0, hn⟩) (iblk1 V c 1 ⟨0, hn⟩))
  | n + 1, hn =>
    if h0 : (n + 1) % 8 = 0 then
      (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (iblk1 V c 0 ⟨n + 1, hn⟩) (iblk1 V c 1 ⟨n + 1, hn⟩))
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 8 = 0) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- What the second call holds before each point: its scratch as the point before left it. -/
def PhiS1 (c : Dev nD) : (n : ℕ) → n ≤ cfg1.N → SP F
  | 0, _ => Pipeline.ΦA spec1 c
  | n + 1, hn => iprop(iprop(HELD1 c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(HELD1 c ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop(HELD1 c ∗ owns (c : Thread nD τ) scM1_0 fullShare ((outsAt1 V c (n - 1) (by omega)).2)) ∗ (∃ r, prngReg c r)) := by
  cases n with
  | zero => exact absurd rfl hz
  | succ n => rfl

/-- The second call's data: its arrays, and each block after each point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : SP F :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : SP F :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 3200000 in
/-- The second call's body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    after1_0, after1_1, after1_2]
  rw [show (dat1 V c).Φ t.succ = PhiS1 V c (t.val + 1) t.isLt from rfl, PhiS1_succ]
  have hN : t.val < 96 := lt_of_lt_of_eq t.isLt (show cfg1.N = 96 from N_1)
  by_cases h0 : t.val % 8 = 0
  · by_cases hz : t.val = 0
    · rw [PhiS1_castSucc V c t, PhiS1_zero V c _ _ hz, PhiA1_held]
      rw [outsAt1_A V c t h0]
      unfold out1_A_2 sout1_A_0; (try dsimp only)
      iintro ⟨⟨⟨HR, HS0⟩, Hg⟩, Ho, ⟨%d0, H0⟩, ⟨%d1, H1⟩, ⟨%d2, H2⟩⟩
      iapply ((kernelRun1_A c (grid1.coords t) _ _ _ _ _ _ _ _ ((hcond1_0 t).mpr h0) (iblk1 V c 0 t) (iblk1 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_A_0 c _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_A_2 c _ _ _ _ _ _ _ _ _ _ _ _)
    · rw [PhiS1_castSucc V c t, PhiS1_pos V c _ _ hz]
      rw [outsAt1_A V c t h0]
      unfold out1_A_2 sout1_A_0; (try dsimp only)
      iintro ⟨⟨⟨HR, HS0⟩, Hg⟩, Ho, ⟨%d0, H0⟩, ⟨%d1, H1⟩, ⟨%d2, H2⟩⟩
      iapply ((kernelRun1_A c (grid1.coords t) _ _ _ _ _ _ _ _ ((hcond1_0 t).mpr h0) (iblk1 V c 0 t) (iblk1 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_A_0 c _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_A_2 c _ _ _ _ _ _ _ _ _ _ _ _)
  · by_cases hz : t.val = 0
    · exfalso; have hN : t.val < 96 := lt_of_lt_of_eq t.isLt (show cfg1.N = 96 from N_1); omega
    · rw [PhiS1_castSucc V c t, PhiS1_pos V c _ _ hz]
      rw [outsAt1_B V c t h0]
      unfold out1_B_2 sout1_B_0; (try dsimp only)
      iintro ⟨⟨⟨HR, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, HS0⟩
      isplitl [HR HS0 Hg]
      · isplitl [HR HS0]
        · isplitl [HR]; · iexact HR
          iexact HS0
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_B_2 c _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_held]
  iintro ⟨⟨HR, HS0⟩, Hg⟩
  isplitl [HR HS0]
  · isplitl [HR]; · iexact HR
    iexists _; iexact HS0
  iexact Hg

theorem hout1 (c : Dev nD) : (dat1 V c).Φ (Fin.last cfg1.N) ⊢ Pipeline.ΦA spec1 c :=
  Phi_out1 V c _ (by rw [Fin.val_last]; have : cfg1.N = 96 := N_1; omega)
/-- What a window of the third call shows at a point, for any contents before the call. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1024x1024 := Rect.unit (s := S1024x1024) ![0, 0] S1024x1024.size inb_S1024x1024_S1024x1024_0_0

def out2_6 (x0 : Vec F S1024x1024 .bf16) (x1 : Vec F S1024x1024 .bf16) (x2 : Vec F S1024x1024 .bf16) (x3 : Vec F S1024x1024 .bf16) (x4 : Vec F S1024x1024 .f32) (x5 : Vec F S1024x1024 .f32) : Vec F S1024x1024 .bf16 :=
  View.canon [⟨r2_0, k2_pay1 (View.ld x0 r2_0) (View.ld x2 r2_0) (View.ld x1 r2_0) (View.ld x3 r2_0) (View.ld x4 r2_0) (View.ld x5 r2_0)⟩]

theorem cover2_6 (p0 : Vec F S1024x1024 .bf16) (y : S1024x1024.Idx) :
    ∃ pc ∈ ([⟨r2_0, p0⟩] : List (View.Piece (Elt F) S1024x1024 .bf16)), y ∈ pc.1.set :=
  View.cover_of_tiled [⟨r2_0, p0⟩] S1024x1024.size (by rfl) y

set_option maxHeartbeats 1000000 in
/-- The third call's body runs, leaves its inputs and stores its result's blocks. -/
theorem sound_kernel2 (c : Dev nD) (E : Set ℕ) (i : grid2.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .bf16) (harg8 : arg8.IsWhole)
    (x0 : Vec F S1024x1024 .bf16) (x1 : Vec F S1024x1024 .bf16) (x2 : Vec F S1024x1024 .bf16) (x3 : Vec F S1024x1024 .bf16) (x4 : Vec F S1024x1024 .f32) (x5 : Vec F S1024x1024 .f32) (K : PUnit → SP F) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out2_6 x0 x1 x2 x3 x4 x5)) -∗ K ⟨⟩))
      ⊢ wp frame (wpE (defs₀ (F := F)) Variants.none c none) E (cc2_merge i arg2 harg2 arg3 harg3 arg4 harg4 arg5 harg5 arg6 harg6 arg7 harg7 arg8 harg8) K := by
  simp only [cc2_merge_eq_skeleton]; unfold cc2_merge_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The third call's data: its arrays, and each block after each point. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q w := Pipeline.shareOf spec2 w
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

def bodyPre2 (c : Dev nD) (t : Fin cfg2.N) : SP F :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : SP F :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The third call's body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- What a window of the fourth call shows at a point, for any contents before the call. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S512x2048 := Rect.unit (s := S512x2048) ![0, 0] S256x2048.size inb_S512x2048_S256x2048_0_0
abbrev r3_1 : Rect S2048x2048 := Rect.unit (s := S2048x2048) ![0, 0] S2048x2048.size inb_S2048x2048_S2048x2048_0_0
abbrev r3_2 : Rect S1x2048 := Rect.unit (s := S1x2048) ![0, 0] S1x2048.size inb_S1x2048_S1x2048_0_0
abbrev r3_3 : Rect S512x2048 := Rect.unit (s := S512x2048) ![256, 0] S256x2048.size inb_S512x2048_S256x2048_256_0

def out3_5 (x0 : Vec F S512x2048 .bf16) (x1 : Vec F S2048x2048 .bf16) (x2 : Vec F S512x2048 .f32) (x3 : Vec F S1x2048 .f32) (x4 : Vec F S1x2048 .f32) : Vec F S512x2048 .f32 :=
  View.canon [⟨r3_3, k3_pay4 (View.ld x0 r3_3) (View.ld x1 r3_1) (View.ld x3 r3_2) (View.ld x2 r3_3)⟩,
    ⟨r3_0, k3_pay2 (View.ld x0 r3_0) (View.ld x1 r3_1) (View.ld x3 r3_2) (View.ld x2 r3_0)⟩]

theorem cover3_5 (p0 : Vec F S256x2048 .f32) (p1 : Vec F S256x2048 .f32) (y : S512x2048.Idx) :
    ∃ pc ∈ ([⟨r3_3, p0⟩, ⟨r3_0, p1⟩] : List (View.Piece (Elt F) S512x2048 .f32)), y ∈ pc.1.set :=
  View.cover_of_tiled [⟨r3_3, p0⟩, ⟨r3_0, p1⟩] S256x2048.size (by rfl) y

def out3_6 (x0 : Vec F S512x2048 .bf16) (x1 : Vec F S2048x2048 .bf16) (x2 : Vec F S512x2048 .f32) (x3 : Vec F S1x2048 .f32) (x4 : Vec F S1x2048 .f32) : Vec F S512x2048 .bf16 :=
  View.canon [⟨r3_3, k3_pay1 (k3_pay5 (View.ld x0 r3_3) (View.ld x1 r3_1) (View.ld x3 r3_2) (View.ld x2 r3_3) (View.ld x4 r3_2))⟩,
    ⟨r3_0, k3_pay3 (View.ld x0 r3_0) (View.ld x1 r3_1) (View.ld x3 r3_2) (View.ld x2 r3_0) (View.ld x4 r3_2)⟩]

theorem cover3_6 (p0 : Vec F S256x2048 .bf16) (p1 : Vec F S256x2048 .bf16) (y : S512x2048.Idx) :
    ∃ pc ∈ ([⟨r3_3, p0⟩, ⟨r3_0, p1⟩] : List (View.Piece (Elt F) S512x2048 .bf16)), y ∈ pc.1.set :=
  View.cover_of_tiled [⟨r3_3, p0⟩, ⟨r3_0, p1⟩] S256x2048.size (by rfl) y

set_option maxHeartbeats 1000000 in
/-- The fourth call's body runs, leaves its inputs and stores its result's blocks. -/
theorem sound_kernel3 (c : Dev nD) (E : Set ℕ) (i : grid3.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .bf16) (harg7 : arg7.IsWhole)
    (x0 : Vec F S512x2048 .bf16) (x1 : Vec F S2048x2048 .bf16) (x2 : Vec F S512x2048 .f32) (x3 : Vec F S1x2048 .f32) (x4 : Vec F S1x2048 .f32) (K : PUnit → SP F) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4) ∗ owns (c : Thread nD τ) arg7 fullShare (out3_6 x0 x1 x2 x3 x4)) -∗ K ⟨⟩))
      ⊢ wp frame (wpE (defs₀ (F := F)) Variants.none c none) E (cc3_proj_norm i arg1 harg1 arg2 harg2 arg3 harg3 arg4 harg4 arg5 harg5 arg6 harg6 arg7 harg7) K := by
  simp only [cc3_proj_norm_eq_skeleton]; unfold cc3_proj_norm_skel
  simp only [k3_part1_eq_skeleton, k3_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover3_5 _ _)
  iexists _; isplitr
  swap; · iexact H6
  ipureintro
  exact View.read_writes_eq_canon _ _ _ (cover3_6 _ _)

/-- The fourth call's data: its arrays, and each block after each point. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
    | ⟨6, _⟩ => out3_6 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : SP F :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : SP F :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The fourth call's body at any point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row3 (t : Fin cfg3.N) :
    defs₀ (F := F) .tc cfg3.body (cfg3.bodyArgs t (cfg3.slots t)) = bodyAt3 t := by
  unfold defs₀; rw [Defs.onTc_tc]

theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

/-- What a window of the fifth call shows at a point, for any contents before the call. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

abbrev VO4_5 : View sig .tc .vmem S512x2048 .f32 := (Memref.whole cc4_stg5_0 : Memref sig .tc .vmem S512x2048 .f32).view
abbrev ms4_0 (t : Fin cfg4.N) : Memref sig .tc .vmem S512x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x1024 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x2048 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S512x2048 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x2048 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S512x2048 .f32 := win4_5.stage (cfg4.slots t 5)
abbrev hs4_5 (t : Fin cfg4.N) : (ms4_5 t).IsWhole := hstage4_5 ((cfg4.slots t 5).cast nbuf4_5)
abbrev scM4_0 : Memref sig .tc .vmem S512x2048 .f32 := Memref.whole cc4_scratch0

theorem scopedRest4_flat (c : Dev nD) :
    (Pipeline.scopedRest spec4 c : SP F)
      = iprop((∃ f : Buf (Elt F) ((c : Thread nD τ).loc cc4_scratch0), ((c : Thread nD τ).loc cc4_scratch0) ↦{fullShare} f) ∗ Pipeline.scopedRestBut spec4 c [cc4_scratch0]) := by
  rw [scopedRest4_split]

theorem PhiA4_eq (c : Dev nD) :
    (Pipeline.ΦA spec4 c : SP F)
      = iprop(iprop((∃ d, owns (c : Thread nD τ) scM4_0 fullShare d) ∗ Pipeline.scopedRestBut spec4 c [cc4_scratch0]) ∗ (∃ r, prngReg c r)) := by
  unfold Pipeline.ΦA; rw [scopedRest4_flat]; simp only [scM4_0, owns_whole]; try rfl
/-- The buffers of the other calls, which the fifth call leaves alone. -/
abbrev HELD4 (c : Dev nD) : SP F := Pipeline.scopedRestBut spec4 c [cc4_scratch0]

theorem held_in4 (c : Dev nD) :
    (Pipeline.ΦA spec4 c : SP F) ⊢ iprop(iprop(HELD4 c ∗ (∃ d, owns (c : Thread nD τ) scM4_0 fullShare d)) ∗ (∃ r, prngReg c r)) := by
  rw [PhiA4_eq]
  iintro ⟨⟨HS0, HR⟩, Hg⟩
  isplitl [HR HS0]
  · isplitl [HR]; · iexact HR
    iexact HS0
  iexact Hg

theorem held_out4 (c : Dev nD) :
    iprop(iprop(HELD4 c ∗ (∃ d, owns (c : Thread nD τ) scM4_0 fullShare d)) ∗ (∃ r, prngReg c r)) ⊢ (Pipeline.ΦA spec4 c : SP F) := by
  rw [PhiA4_eq]
  iintro ⟨⟨HR, HS0⟩, Hg⟩
  isplitl [HR HS0]
  · isplitl [HS0]; · iexact HS0
    iexact HR
  iexact Hg

theorem PhiA4_held (c : Dev nD) :
    (Pipeline.ΦA spec4 c : SP F) = iprop(iprop(HELD4 c ∗ (∃ d, owns (c : Thread nD τ) scM4_0 fullShare d)) ∗ (∃ r, prngReg c r)) :=
  BI.Entails.antisymm (held_in4 c) (held_out4 c)

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 8 = 0 :=
  (fun t => by
    have ht : t.val < 128 := Nat.lt_of_lt_of_eq t.isLt N_4
    have e0 : (grid4.coords t 0).val = t.val / 8 % 16 := Pipeline.Grid.coords_val t 0 (by decide) rfl
    have e1 : (grid4.coords t 1).val = t.val / 1 % 8 := Pipeline.Grid.coords_val t 1 (by decide) rfl
    simp only [cond4_0, e0, e1]
    word_cmp
   : ∀ t : Fin grid4.N, cond4_0 (grid4.coords t) ↔ t.val % 8 = 0)

abbrev cond4_1 (i : grid4.Coords) : Prop := k4_cond2 i = 1#1
theorem hcond4_1 : ∀ t : Fin cfg4.N, cond4_1 (grid4.coords t) ↔ t.val % 8 = 7 :=
  (fun t => by
    have ht : t.val < 128 := Nat.lt_of_lt_of_eq t.isLt N_4
    have e0 : (grid4.coords t 0).val = t.val / 8 % 16 := Pipeline.Grid.coords_val t 0 (by decide) rfl
    have e1 : (grid4.coords t 1).val = t.val / 1 % 8 := Pipeline.Grid.coords_val t 1 (by decide) rfl
    simp only [cond4_1, k4_cond2, e0, e1]
    word_cmp
   : ∀ t : Fin grid4.N, cond4_1 (grid4.coords t) ↔ t.val % 8 = 7)

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl
theorem liveAt4_4 : ∀ t : Fin cfg4.N, cfg4.idle 4 (grid4.coords t) = false := fun _ => rfl
theorem idleAt4_5_A : ∀ t : Fin cfg4.N, cond4_0 (grid4.coords t) → ¬cond4_1 (grid4.coords t) → cfg4.idle 5 (grid4.coords t) = true := by decide +kernel
theorem noFlush4_5_A : ∀ t : Fin cfg4.N, cond4_0 (grid4.coords t) → ¬cond4_1 (grid4.coords t) → (cfg4.win 5).flush t = false := by decide +kernel
theorem idleAt4_5_B : ∀ t : Fin cfg4.N, ¬cond4_0 (grid4.coords t) → ¬cond4_1 (grid4.coords t) → cfg4.idle 5 (grid4.coords t) = true := by decide +kernel
theorem noFlush4_5_B : ∀ t : Fin cfg4.N, ¬cond4_0 (grid4.coords t) → ¬cond4_1 (grid4.coords t) → (cfg4.win 5).flush t = false := by decide +kernel
theorem liveAt4_5_C : ∀ t : Fin cfg4.N, ¬cond4_0 (grid4.coords t) → cond4_1 (grid4.coords t) → cfg4.idle 5 (grid4.coords t) = false := by decide +kernel

abbrev VS4_0 : View sig .tc .vmem S512x2048 .f32 := scM4_0.view

set_option maxHeartbeats 1000000 in
/-- The fifth call's body in one of its cases: the stores it makes, and that it runs. -/
noncomputable def kernelRun4_A (c : Dev nD) (i : grid4.Coords) (arg2 : Memref sig .tc .vmem S512x2048 .bf16) (harg2 : arg2.IsWhole) (arg3 : Memref sig .tc .vmem S2048x1024 .bf16) (harg3 : arg3.IsWhole) (arg4 : Memref sig .tc .vmem S1024x2048 .bf16) (harg4 : arg4.IsWhole) (arg5 : Memref sig .tc .vmem S512x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (hc0 : cond4_0 i) (hc1 : ¬cond4_1 i)
    (x0 : Vec F S512x2048 .bf16) (x1 : Vec F S2048x1024 .bf16) (x2 : Vec F S1024x2048 .bf16) (x3 : Vec F S512x2048 .f32) (x4 : Vec F S1x2048 .f32) :
    Σ' (L5 : List (View.Piece (Elt F) S512x2048 .f32)), { LS0 : List (View.Piece (Elt F) S512x2048 .f32) //
      ∀ (xi5 : Vec F S512x2048 .f32) (E : Set ℕ) (K : PUnit → SP F),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc4_mlp i arg2 harg2 arg3 harg3 arg4 harg4 arg5 harg5 arg6 harg6 arg7 harg7 arg8 harg8) K } := by
  refine ⟨[], ?_, fun xi5 E K => ?run⟩
  case run =>
    simp only [cc4_mlp_eq_skeleton]; unfold cc4_mlp_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 1000000 in
/-- The fifth call's body in one of its cases: the stores it makes, and that it runs. -/
noncomputable def kernelRun4_B (c : Dev nD) (i : grid4.Coords) (arg2 : Memref sig .tc .vmem S512x2048 .bf16) (harg2 : arg2.IsWhole) (arg3 : Memref sig .tc .vmem S2048x1024 .bf16) (harg3 : arg3.IsWhole) (arg4 : Memref sig .tc .vmem S1024x2048 .bf16) (harg4 : arg4.IsWhole) (arg5 : Memref sig .tc .vmem S512x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (hc0 : ¬cond4_0 i) (hc1 : ¬cond4_1 i)
    (x0 : Vec F S512x2048 .bf16) (x1 : Vec F S2048x1024 .bf16) (x2 : Vec F S1024x2048 .bf16) (x3 : Vec F S512x2048 .f32) (x4 : Vec F S1x2048 .f32) (xs0 : Vec F S512x2048 .f32) :
    Σ' (L5 : List (View.Piece (Elt F) S512x2048 .f32)), { LS0 : List (View.Piece (Elt F) S512x2048 .f32) //
      ∀ (xi5 : Vec F S512x2048 .f32) (E : Set ℕ) (K : PUnit → SP F),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc4_mlp i arg2 harg2 arg3 harg3 arg4 harg4 arg5 harg5 arg6 harg6 arg7 harg7 arg8 harg8) K } := by
  refine ⟨[], ?_, fun xi5 E K => ?run⟩
  case run =>
    simp only [cc4_mlp_eq_skeleton]; unfold cc4_mlp_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 1000000 in
/-- The fifth call's body in one of its cases: the stores it makes, and that it runs. -/
noncomputable def kernelRun4_C (c : Dev nD) (i : grid4.Coords) (arg2 : Memref sig .tc .vmem S512x2048 .bf16) (harg2 : arg2.IsWhole) (arg3 : Memref sig .tc .vmem S2048x1024 .bf16) (harg3 : arg3.IsWhole) (arg4 : Memref sig .tc .vmem S1024x2048 .bf16) (harg4 : arg4.IsWhole) (arg5 : Memref sig .tc .vmem S512x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (hc0 : ¬cond4_0 i) (hc1 : cond4_1 i)
    (x0 : Vec F S512x2048 .bf16) (x1 : Vec F S2048x1024 .bf16) (x2 : Vec F S1024x2048 .bf16) (x3 : Vec F S512x2048 .f32) (x4 : Vec F S1x2048 .f32) (xs0 : Vec F S512x2048 .f32) :
    Σ' (L5 : List (View.Piece (Elt F) S512x2048 .f32)), { LS0 : List (View.Piece (Elt F) S512x2048 .f32) //
      ∀ (E : Set ℕ) (K : PUnit → SP F),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc4_mlp i arg2 harg2 arg3 harg3 arg4 harg4 arg5 harg5 arg6 harg6 arg7 harg7 arg8 harg8) K } := by
  refine ⟨?_, ?_, fun E K => ?run⟩
  case run =>
    simp only [cc4_mlp_eq_skeleton]; unfold cc4_mlp_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

section
variable (c : Dev nD) (i : grid4.Coords) (arg2 : Memref sig .tc .vmem S512x2048 .bf16) (harg2 : arg2.IsWhole) (arg3 : Memref sig .tc .vmem S2048x1024 .bf16) (harg3 : arg3.IsWhole) (arg4 : Memref sig .tc .vmem S1024x2048 .bf16) (harg4 : arg4.IsWhole) (arg5 : Memref sig .tc .vmem S512x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole)

def out4_A_5 (hc0 : cond4_0 i) (hc1 : ¬cond4_1 i)
    (x0 : Vec F S512x2048 .bf16) (x1 : Vec F S2048x1024 .bf16) (x2 : Vec F S1024x2048 .bf16) (x3 : Vec F S512x2048 .f32) (x4 : Vec F S1x2048 .f32) : Vec F S512x2048 .f32 :=
  VO4_5.read (Elt F) (VO4_5.writes (Elt F) VO4_5.junk (kernelRun4_A c i arg2 harg2 arg3 harg3 arg4 harg4 arg5 harg5 arg6 harg6 arg7 harg7 arg8 harg8 hc0 hc1 x0 x1 x2 x3 x4).1)

theorem scover4_A_0 (hc0 : cond4_0 i) (hc1 : ¬cond4_1 i)
    (x0 : Vec F S512x2048 .bf16) (x1 : Vec F S2048x1024 .bf16) (x2 : Vec F S1024x2048 .bf16) (x3 : Vec F S512x2048 .f32) (x4 : Vec F S1x2048 .f32) (y : S512x2048.Idx) :
    ∃ pc ∈ (kernelRun4_A c i arg2 harg2 arg3 harg3 arg4 harg4 arg5 harg5 arg6 harg6 arg7 harg7 arg8 harg8 hc0 hc1 x0 x1 x2 x3 x4).2.1, y ∈ pc.1.set :=
  View.cover_of_tiledL (kernelRun4_A c i arg2 harg2 arg3 harg3 arg4 harg4 arg5 harg5 arg6 harg6 arg7 harg7 arg8 harg8 hc0 hc1 x0 x1 x2 x3 x4).2.1 S512x2048.size (by sl_kernel_rfl) y

def sout4_A_0 (hc0 : cond4_0 i) (hc1 : ¬cond4_1 i)
    (x0 : Vec F S512x2048 .bf16) (x1 : Vec F S2048x1024 .bf16) (x2 : Vec F S1024x2048 .bf16) (x3 : Vec F S512x2048 .f32) (x4 : Vec F S1x2048 .f32) : Vec F S512x2048 .f32 :=
  VS4_0.read (Elt F) (VS4_0.writes (Elt F) VS4_0.junk (kernelRun4_A c i arg2 harg2 arg3 harg3 arg4 harg4 arg5 harg5 arg6 harg6 arg7 harg7 arg8 harg8 hc0 hc1 x0 x1 x2 x3 x4).2.1)

def out4_B_5 (hc0 : ¬cond4_0 i) (hc1 : ¬cond4_1 i)
    (x0 : Vec F S512x2048 .bf16) (x1 : Vec F S2048x1024 .bf16) (x2 : Vec F S1024x2048 .bf16) (x3 : Vec F S512x2048 .f32) (x4 : Vec F S1x2048 .f32) (xs0 : Vec F S512x2048 .f32) : Vec F S512x2048 .f32 :=
  VO4_5.read (Elt F) (VO4_5.writes (Elt F) VO4_5.junk (kernelRun4_B c i arg2 harg2 arg3 harg3 arg4 harg4 arg5 harg5 arg6 harg6 arg7 harg7 arg8 harg8 hc0 hc1 x0 x1 x2 x3 x4 xs0).1)

theorem scover4_B_0 (hc0 : ¬cond4_0 i) (hc1 : ¬cond4_1 i)
    (x0 : Vec F S512x2048 .bf16) (x1 : Vec F S2048x1024 .bf16) (x2 : Vec F S1024x2048 .bf16) (x3 : Vec F S512x2048 .f32) (x4 : Vec F S1x2048 .f32) (xs0 : Vec F S512x2048 .f32) (y : S512x2048.Idx) :
    ∃ pc ∈ (kernelRun4_B c i arg2 harg2 arg3 harg3 arg4 harg4 arg5 harg5 arg6 harg6 arg7 harg7 arg8 harg8 hc0 hc1 x0 x1 x2 x3 x4 xs0).2.1, y ∈ pc.1.set :=
  View.cover_of_tiledL (kernelRun4_B c i arg2 harg2 arg3 harg3 arg4 harg4 arg5 harg5 arg6 harg6 arg7 harg7 arg8 harg8 hc0 hc1 x0 x1 x2 x3 x4 xs0).2.1 S512x2048.size (by sl_kernel_rfl) y

def sout4_B_0 (hc0 : ¬cond4_0 i) (hc1 : ¬cond4_1 i)
    (x0 : Vec F S512x2048 .bf16) (x1 : Vec F S2048x1024 .bf16) (x2 : Vec F S1024x2048 .bf16) (x3 : Vec F S512x2048 .f32) (x4 : Vec F S1x2048 .f32) (xs0 : Vec F S512x2048 .f32) : Vec F S512x2048 .f32 :=
  VS4_0.read (Elt F) (VS4_0.writes (Elt F) VS4_0.junk (kernelRun4_B c i arg2 harg2 arg3 harg3 arg4 harg4 arg5 harg5 arg6 harg6 arg7 harg7 arg8 harg8 hc0 hc1 x0 x1 x2 x3 x4 xs0).2.1)

theorem cover4_C_5 (hc0 : ¬cond4_0 i) (hc1 : cond4_1 i)
    (x0 : Vec F S512x2048 .bf16) (x1 : Vec F S2048x1024 .bf16) (x2 : Vec F S1024x2048 .bf16) (x3 : Vec F S512x2048 .f32) (x4 : Vec F S1x2048 .f32) (xs0 : Vec F S512x2048 .f32) (y : S512x2048.Idx) :
    ∃ pc ∈ (kernelRun4_C c i arg2 harg2 arg3 harg3 arg4 harg4 arg5 harg5 arg6 harg6 arg7 harg7 arg8 harg8 hc0 hc1 x0 x1 x2 x3 x4 xs0).1, y ∈ pc.1.set :=
  View.cover_of_tiledL (kernelRun4_C c i arg2 harg2 arg3 harg3 arg4 harg4 arg5 harg5 arg6 harg6 arg7 harg7 arg8 harg8 hc0 hc1 x0 x1 x2 x3 x4 xs0).1 S512x2048.size (by sl_kernel_rfl) y

def out4_C_5 (hc0 : ¬cond4_0 i) (hc1 : cond4_1 i)
    (x0 : Vec F S512x2048 .bf16) (x1 : Vec F S2048x1024 .bf16) (x2 : Vec F S1024x2048 .bf16) (x3 : Vec F S512x2048 .f32) (x4 : Vec F S1x2048 .f32) (xs0 : Vec F S512x2048 .f32) : Vec F S512x2048 .f32 :=
  VO4_5.read (Elt F) (VO4_5.writes (Elt F) VO4_5.junk (kernelRun4_C c i arg2 harg2 arg3 harg3 arg4 harg4 arg5 harg5 arg6 harg6 arg7 harg7 arg8 harg8 hc0 hc1 x0 x1 x2 x3 x4 xs0).1)

theorem scover4_C_0 (hc0 : ¬cond4_0 i) (hc1 : cond4_1 i)
    (x0 : Vec F S512x2048 .bf16) (x1 : Vec F S2048x1024 .bf16) (x2 : Vec F S1024x2048 .bf16) (x3 : Vec F S512x2048 .f32) (x4 : Vec F S1x2048 .f32) (xs0 : Vec F S512x2048 .f32) (y : S512x2048.Idx) :
    ∃ pc ∈ (kernelRun4_C c i arg2 harg2 arg3 harg3 arg4 harg4 arg5 harg5 arg6 harg6 arg7 harg7 arg8 harg8 hc0 hc1 x0 x1 x2 x3 x4 xs0).2.1, y ∈ pc.1.set :=
  View.cover_of_tiledL (kernelRun4_C c i arg2 harg2 arg3 harg3 arg4 harg4 arg5 harg5 arg6 harg6 arg7 harg7 arg8 harg8 hc0 hc1 x0 x1 x2 x3 x4 xs0).2.1 S512x2048.size (by sl_kernel_rfl) y

def sout4_C_0 (hc0 : ¬cond4_0 i) (hc1 : cond4_1 i)
    (x0 : Vec F S512x2048 .bf16) (x1 : Vec F S2048x1024 .bf16) (x2 : Vec F S1024x2048 .bf16) (x3 : Vec F S512x2048 .f32) (x4 : Vec F S1x2048 .f32) (xs0 : Vec F S512x2048 .f32) : Vec F S512x2048 .f32 :=
  VS4_0.read (Elt F) (VS4_0.writes (Elt F) VS4_0.junk (kernelRun4_C c i arg2 harg2 arg3 harg3 arg4 harg4 arg5 harg5 arg6 harg6 arg7 harg7 arg8 harg8 hc0 hc1 x0 x1 x2 x3 x4 xs0).2.1)

end

/-- What they hold after the first point of a run. -/
def first4 (c : Dev nD) (t : Fin cfg4.N) (h0 : t.val % 8 = 0) (h1 : ¬t.val % 8 = 7) : Vec F S512x2048 .f32 × Vec F S512x2048 .f32 :=
  (out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t))

/-- What the fifth call's result block and its scratch hold after each point. -/
def outsAt4 (c : Dev nD) : (n : ℕ) → n < cfg4.N → Vec F S512x2048 .f32 × Vec F S512x2048 .f32
  | 0, hn => first4 V c ⟨0, hn⟩ (Nat.zero_mod _) (fun h => by (try dsimp only at h); omega)
  | n + 1, hn =>
    if h0 : (n + 1) % 8 = 0 then
      if h1 : (n + 1) % 8 = 7 then
        False.elim (by have hN : n + 1 < 128 := lt_of_lt_of_eq hn (show cfg4.N = 128 from N_4); omega)
      else
        first4 V c ⟨n + 1, hn⟩ h0 h1
    else
      if h1 : (n + 1) % 8 = 7 then
        (out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2)
      else
        (out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2)

theorem outsAt4_A (c : Dev nD) (t : Fin cfg4.N) (h0 : t.val % 8 = 0) (h1 : ¬t.val % 8 = 7) :
    outsAt4 V c t.val t.isLt = (out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t)) := by
  obtain ⟨n, hn⟩ := t
  cases n with
  | zero => exact rfl
  | succ n => exact (dif_pos h0).trans ((dif_neg h1).trans rfl)

theorem outsAt4_B (c : Dev nD) (t : Fin cfg4.N) (h0 : ¬t.val % 8 = 0) (h1 : ¬t.val % 8 = 7) :
    outsAt4 V c t.val t.isLt = (out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 8 = 0) (h1 : t.val % 8 = 7) :
    outsAt4 V c t.val t.isLt = (out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- What the fifth call holds before each point: its scratch as the point before left it. -/
def PhiS4 (c : Dev nD) : (n : ℕ) → n ≤ cfg4.N → SP F
  | 0, _ => Pipeline.ΦA spec4 c
  | n + 1, hn => iprop(iprop(HELD4 c ∗ owns (c : Thread nD τ) scM4_0 fullShare ((outsAt4 V c n hn).2)) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(HELD4 c ∗ owns (c : Thread nD τ) scM4_0 fullShare ((outsAt4 V c n hn).2)) ∗ (∃ r, prngReg c r)) := rfl

theorem PhiS4_pos (c : Dev nD) (n : ℕ) (h : n ≤ cfg4.N) (hz : n ≠ 0) :
    PhiS4 V c n h = iprop(iprop(HELD4 c ∗ owns (c : Thread nD τ) scM4_0 fullShare ((outsAt4 V c (n - 1) (by omega)).2)) ∗ (∃ r, prngReg c r)) := by
  cases n with
  | zero => exact absurd rfl hz
  | succ n => rfl

/-- The fifth call's data: its arrays, and each block after each point. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; exact Pipeline.Dat.Φ_castSucc (PhiS4 V c) t

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

def bodyPre4 (c : Dev nD) (t : Fin cfg4.N) : SP F :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

def bodyPost4 (c : Dev nD) (t : Fin cfg4.N) : SP F :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4800000 in
/-- The fifth call's body at any point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  have hN : t.val < 128 := lt_of_lt_of_eq t.isLt (show cfg4.N = 128 from N_4)
  by_cases h0 : t.val % 8 = 0
  · by_cases h1 : t.val % 8 = 7
    · exfalso; omega
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1 t], after4_1]
      rw [show (dat4 V c).leavesExact 2 t = owns (c : Thread nD τ) (ms4_2 t) fullShare ((dat4 V c).after 2 t) from by
      unfold Dat.leavesExact; rw [liveAt4_2 t], after4_2]
      rw [show (dat4 V c).leavesExact 3 t = owns (c : Thread nD τ) (ms4_3 t) fullShare ((dat4 V c).after 3 t) from by
      unfold Dat.leavesExact; rw [liveAt4_3 t], after4_3]
      rw [show (dat4 V c).leavesExact 4 t = owns (c : Thread nD τ) (ms4_4 t) fullShare ((dat4 V c).after 4 t) from by
      unfold Dat.leavesExact; rw [liveAt4_4 t], after4_4]
      rw [Dat.leavesExact_idle (dat4 V c) 5 t (idleAt4_5_A t ((hcond4_0 t).mpr h0) (fun h => h1 ((hcond4_1 t).mp h))) (noFlush4_5_A t ((hcond4_0 t).mpr h0) (fun h => h1 ((hcond4_1 t).mp h)))]
      by_cases hz : t.val = 0
      · rw [PhiS4_castSucc V c t, PhiS4_zero V c _ _ hz, PhiA4_held]
        rw [outsAt4_A V c t h0 h1]
        unfold sout4_A_0; (try dsimp only)
        iintro ⟨⟨⟨HR, HS0⟩, Hg⟩, Ho, ⟨%d0, H0⟩, ⟨%d1, H1⟩, ⟨%d2, H2⟩, ⟨%d3, H3⟩, ⟨%d4, H4⟩, ⟨%d5, H5⟩⟩
        iapply ((kernelRun4_A c (grid4.coords t) _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover4_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS4_castSucc V c t, PhiS4_pos V c _ _ hz]
        rw [outsAt4_A V c t h0 h1]
        unfold sout4_A_0; (try dsimp only)
        iintro ⟨⟨⟨HR, HS0⟩, Hg⟩, Ho, ⟨%d0, H0⟩, ⟨%d1, H1⟩, ⟨%d2, H2⟩, ⟨%d3, H3⟩, ⟨%d4, H4⟩, ⟨%d5, H5⟩⟩
        iapply ((kernelRun4_A c (grid4.coords t) _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover4_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1 t], after4_1]
      rw [show (dat4 V c).leavesExact 2 t = owns (c : Thread nD τ) (ms4_2 t) fullShare ((dat4 V c).after 2 t) from by
      unfold Dat.leavesExact; rw [liveAt4_2 t], after4_2]
      rw [show (dat4 V c).leavesExact 3 t = owns (c : Thread nD τ) (ms4_3 t) fullShare ((dat4 V c).after 3 t) from by
      unfold Dat.leavesExact; rw [liveAt4_3 t], after4_3]
      rw [show (dat4 V c).leavesExact 4 t = owns (c : Thread nD τ) (ms4_4 t) fullShare ((dat4 V c).after 4 t) from by
      unfold Dat.leavesExact; rw [liveAt4_4 t], after4_4]
      rw [show (dat4 V c).leavesExact 5 t = owns (c : Thread nD τ) (ms4_5 t) fullShare ((dat4 V c).after 5 t) from by
      unfold Dat.leavesExact; rw [liveAt4_5_C t (fun h => h0 ((hcond4_0 t).mp h)) ((hcond4_1 t).mpr h1)], after4_5]
      by_cases hz : t.val = 0
      · exfalso; have hN : t.val < 128 := lt_of_lt_of_eq t.isLt (show cfg4.N = 128 from N_4); omega
      · rw [PhiS4_castSucc V c t, PhiS4_pos V c _ _ hz]
        rw [outsAt4_C V c t h0 h1]
        unfold out4_C_5 sout4_C_0; (try dsimp only)
        iintro ⟨⟨⟨HR, HS0⟩, Hg⟩, Ho, ⟨%d0, H0⟩, ⟨%d1, H1⟩, ⟨%d2, H2⟩, ⟨%d3, H3⟩, ⟨%d4, H4⟩, ⟨%d5, H5⟩⟩
        iapply ((kernelRun4_C c (grid4.coords t) _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover4_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover4_C_5 c _ _ _ _ _ _ _ _ _ _ _ _ _ _ _ _ _ _ _ _ _ _ _)
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1 t], after4_1]
      rw [show (dat4 V c).leavesExact 2 t = owns (c : Thread nD τ) (ms4_2 t) fullShare ((dat4 V c).after 2 t) from by
      unfold Dat.leavesExact; rw [liveAt4_2 t], after4_2]
      rw [show (dat4 V c).leavesExact 3 t = owns (c : Thread nD τ) (ms4_3 t) fullShare ((dat4 V c).after 3 t) from by
      unfold Dat.leavesExact; rw [liveAt4_3 t], after4_3]
      rw [show (dat4 V c).leavesExact 4 t = owns (c : Thread nD τ) (ms4_4 t) fullShare ((dat4 V c).after 4 t) from by
      unfold Dat.leavesExact; rw [liveAt4_4 t], after4_4]
      rw [Dat.leavesExact_idle (dat4 V c) 5 t (idleAt4_5_B t (fun h => h0 ((hcond4_0 t).mp h)) (fun h => h1 ((hcond4_1 t).mp h))) (noFlush4_5_B t (fun h => h0 ((hcond4_0 t).mp h)) (fun h => h1 ((hcond4_1 t).mp h)))]
      by_cases hz : t.val = 0
      · exfalso; have hN : t.val < 128 := lt_of_lt_of_eq t.isLt (show cfg4.N = 128 from N_4); omega
      · rw [PhiS4_castSucc V c t, PhiS4_pos V c _ _ hz]
        rw [outsAt4_B V c t h0 h1]
        unfold sout4_B_0; (try dsimp only)
        iintro ⟨⟨⟨HR, HS0⟩, Hg⟩, Ho, ⟨%d0, H0⟩, ⟨%d1, H1⟩, ⟨%d2, H2⟩, ⟨%d3, H3⟩, ⟨%d4, H4⟩, ⟨%d5, H5⟩⟩
        iapply ((kernelRun4_B c (grid4.coords t) _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover4_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

theorem defs₀_row4 (t : Fin cfg4.N) :
    defs₀ (F := F) .tc cfg4.body (cfg4.bodyArgs t (cfg4.slots t)) = bodyAt4 t := by
  unfold defs₀; rw [Defs.onTc_tc]

theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_held]
  iintro ⟨⟨HR, HS0⟩, Hg⟩
  isplitl [HR HS0]
  · isplitl [HR]; · iexact HR
    iexists _; iexact HS0
  iexact Hg

theorem hout4 (c : Dev nD) : (dat4 V c).Φ (Fin.last cfg4.N) ⊢ Pipeline.ΦA spec4 c :=
  Phi_out4 V c _ (by rw [Fin.val_last]; have : cfg4.N = 128 := N_4; omega)
end Regions

end Cert.PromptOutIdeal.Steps

end
-- ==== Proof.PromptOutSteps.lean ====
/- The prompt's five calls outside its attentions in one program: the run of all of them. -/
module

public import proofs.«01_k».proof.Defs
public import proofs.«01_k».proof.Proof.PromptOutCalls
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.PromptOutIdeal.Steps

open Cert.PromptOutIdeal Cert.PromptOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10, main_arg11, main_arg12]

theorem hostOps0_fresh : (hostOps0 : List (HloOp τ sig (Elt F))).Forall fun op => op.fresh = ∅ := by
  simp only [List.Forall]; repeat' constructor
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v4, main_v5]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v7, main_v8, main_v9, main_v10]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

theorem hostOps3_fresh : (hostOps3 : List (HloOp τ sig (Elt F))).Forall fun op => op.fresh = ∅ := by
  simp only [List.Forall]; repeat' constructor
abbrev hostOps3_W : List (Ref sig .tc) := [main_v12, main_v13, main_v14, main_v15, main_v16, main_v17]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

theorem hostOps4_fresh : (hostOps4 : List (HloOp τ sig (Elt F))).Forall fun op => op.fresh = ∅ := by
  simp only [List.Forall]; repeat' constructor
abbrev hostOps4_W : List (Ref sig .tc) := [main_v19, main_v20, main_v21, main_v22, main_v23, main_v24]
theorem hostOps4_writes : (hostOps4 : List (HloOp τ sig (Elt F))).Forall fun op => op.writes ⊆ (hostOps4_W.map (Proc.devRef (τ := τ) .tc)).toFinset :=
  StableHlo.forall_writes_sub_of_map rfl
theorem hostOps4_args : ∀ a ∈ argRefs, a ∉ hostOps4_W := ListAll.forall_mem_of_all_decide (by decide +kernel)

theorem hostOps5_fresh : (hostOps5 : List (HloOp τ sig (Elt F))).Forall fun op => op.fresh = ∅ := by
  simp only [List.Forall]; repeat' constructor
abbrev hostOps5_W : List (Ref sig .tc) := [main_v26]
theorem hostOps5_writes : (hostOps5 : List (HloOp τ sig (Elt F))).Forall fun op => op.writes ⊆ (hostOps5_W.map (Proc.devRef (τ := τ) .tc)).toFinset :=
  StableHlo.forall_writes_sub_of_map rfl
theorem hostOps5_args : ∀ a ∈ argRefs, a ∉ hostOps5_W := ListAll.forall_mem_of_all_decide (by decide +kernel)

/-- The contents at launch, -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- after the host operations before the first call, -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- after the first call, -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- after the host operations before the second call, -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
/-- after the second call, -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- after the host operations before the third call, -/
abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
abbrev V5 : (c : Dev nD) → (b : Ref sig .tc) → Buf (Elt F) ((c : Thread nD τ).loc b) := fun c b => W5 m ρ c b
/-- after the third call, -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact (dat2 (V5 m ρ) c).withArrays_arrAt launch₀2.sharedIn _ (A_eq2 (V5 m ρ) c) w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- after the host operations before the fourth call, -/
abbrev W7 : Dev nD → Valuation τ sig (Elt F) := fun c => StableHlo.after hostOps3 (W6 m ρ c)
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)
abbrev V7 : (c : Dev nD) → (b : Ref sig .tc) → Buf (Elt F) ((c : Thread nD τ).loc b) := fun c b => W7 m ρ c b
/-- after the fourth call, -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
theorem W8_of (c : Dev nD) (r : Ref sig .tc) (h : ∀ w : Fin cfg3.W, Pipeline.arrRef spec3 w = r → (cfg3.win w).isOut = false) :
    W8 m ρ c (Proc.devRef .tc r) = W7 m ρ c (Proc.devRef .tc r) := by
  by_cases hw : ∃ w : Fin cfg3.W, Pipeline.arrRef spec3 w = r
  · obtain ⟨w, rfl⟩ := hw
    exact (W8_arr m ρ c w).trans (((dat3 (V7 m ρ) c).arrAt_in w (h w rfl) _).trans (A_eq3 (V7 m ρ) c w))
  · exact W8_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn3 a ha)).trans (W7_args m ρ c a ha)
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- after the host operations before the fifth call, -/
abbrev W9 : Dev nD → Valuation τ sig (Elt F) := fun c => StableHlo.after hostOps4 (W8 m ρ c)
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h
theorem W9_args (c : Dev nD) : ∀ a ∈ argRefs, W9 m ρ c (Proc.devRef .tc a) = m ((c : Thread nD τ).loc a) :=
  fun a ha => (W9_of m ρ c a (hostOps4_args a ha)).trans (W8_args m ρ c a ha)
abbrev V9 : (c : Dev nD) → (b : Ref sig .tc) → Buf (Elt F) ((c : Thread nD τ).loc b) := fun c b => W9 m ρ c b
/-- after the fifth call, -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
theorem W10_of (c : Dev nD) (r : Ref sig .tc) (h : ∀ w : Fin cfg4.W, Pipeline.arrRef spec4 w = r → (cfg4.win w).isOut = false) :
    W10 m ρ c (Proc.devRef .tc r) = W9 m ρ c (Proc.devRef .tc r) := by
  by_cases hw : ∃ w : Fin cfg4.W, Pipeline.arrRef spec4 w = r
  · obtain ⟨w, rfl⟩ := hw
    exact (W10_arr m ρ c w).trans (((dat4 (V9 m ρ) c).arrAt_in w (h w rfl) _).trans (A_eq4 (V9 m ρ) c w))
  · exact W10_of_ne m ρ c r fun w e => hw ⟨w, e⟩
theorem argsIn4 : ∀ a ∈ argRefs, ∀ w : Fin cfg4.W, Pipeline.arrRef spec4 w = a → (cfg4.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn4 a ha)).trans (W9_args m ρ c a ha)
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- and at the end. -/
abbrev W11 : Dev nD → Valuation τ sig (Elt F) := fun c => StableHlo.after hostOps5 (W10 m ρ c)
theorem W11_of (c : Dev nD) (r : Ref sig .tc) (h : r ∉ hostOps5_W) : W11 m ρ c (Proc.devRef .tc r) = W10 m ρ c (Proc.devRef .tc r) :=
  StableHlo.after_of_writes_sub hostOps5 _ hostOps5_writes h
theorem W11_args (c : Dev nD) : ∀ a ∈ argRefs, W11 m ρ c (Proc.devRef .tc a) = m ((c : Thread nD τ).loc a) :=
  fun a ha => (W11_of m ρ c a (hostOps5_args a ha)).trans (W10_args m ρ c a ha)

abbrev adm : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
abbrev L : GSem nD τ sig → Finset Unit := fun _ => ∅
abbrev lv : GSem nD τ sig → Unit → ℕ := fun _ _ => 0
abbrev R (c : Dev nD) : SP F := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : SP F := iprop(StableHlo.held (c : Thread nD τ) (Pipeline.ucRefs τ sig) (W11 m ρ c) ∗ ∃ r, prngReg c r)
set_option backward.isDefEq.respectTransparency.types false in
/-- The first call as a step of the run. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
/-- The second call as a step of the run. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from PhiS1_zero (V3 m ρ) c 0 (Nat.zero_le _) rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
/-- The third call as a step of the run. -/
def reg2 : Pipeline.RegionSeg (pcfgs (F := F)) adm (pdats m ρ) () defs₀ 𝒱₀ L lv 2 where
  win := launch₀2.win
  block_pos := launch₀2.block_pos
  stage_whole := launch₀2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs_shared (p := 2) (pcfgs (F := F)) adm (pdats m ρ) launch₀2.win launch₀2.sharedIn launch₀2.arr_whole c
      (fun _ _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays_shared (p := 2) (pcfgs (F := F)) adm (Ix := Unit) (Name := ℕ) (U := UR sig nD τ) (Lvl := ℕ)
      launch₀2.win launch₀2.sharedIn launch₀2.arr_whole c (pdats m ρ) (fun _ _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
/-- The fourth call as a step of the run. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) (A_eq3 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
/-- The fifth call as a step of the run. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) (A_eq4 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from PhiS4_zero (V9 m ρ) c 0 (Nat.zero_le _) rfl]; unfold Pipeline.ΦA
    iintro ⟨Hp, -, Hr⟩
    isplitl [Hr]; · iexact Hr
    iexact Hp
  hout c := by
    rw [Pipeline.ownSems0_none]
    refine (show (pdats m ρ 4 c).Φ (Fin.last _) ⊢ Pipeline.ΦA spec4 c from hout4 (V9 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The whole program as its steps. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
/-- Every run ends with the unscoped arrays at the last contents and every counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W11 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : SP F)
            ⊢ BI.own (emb₁ (initOf (Pipeline.cells cfgs cellOf_inj) (Pipeline.launchToks cfgs cellOf_inj))) from .rfl)
        iexact Hu
      iapply (show (BI.emp : SP F) ⊢ bigSep Finset.univ (fun _ : Dev nD => (BI.emp : SP F)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => ⟨h, funext fun g => hz g (.inr (no_unscoped g.2))⟩)

/-- Every run ends with the arguments unchanged and every counter at zero. -/
theorem arrays_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => ⟨fun c =>
      ⟨(h.1 c _ (mem_uc main_arg0 (by decide))).trans (W11_args m ρ c main_arg0 (by decide)),
       (h.1 c _ (mem_uc main_arg1 (by decide))).trans (W11_args m ρ c main_arg1 (by decide)),
       (h.1 c _ (mem_uc main_arg2 (by decide))).trans (W11_args m ρ c main_arg2 (by decide)),
       (h.1 c _ (mem_uc main_arg3 (by decide))).trans (W11_args m ρ c main_arg3 (by decide)),
       (h.1 c _ (mem_uc main_arg4 (by decide))).trans (W11_args m ρ c main_arg4 (by decide)),
       (h.1 c _ (mem_uc main_arg5 (by decide))).trans (W11_args m ρ c main_arg5 (by decide)),
       (h.1 c _ (mem_uc main_arg6 (by decide))).trans (W11_args m ρ c main_arg6 (by decide)),
       (h.1 c _ (mem_uc main_arg7 (by decide))).trans (W11_args m ρ c main_arg7 (by decide)),
       (h.1 c _ (mem_uc main_arg8 (by decide))).trans (W11_args m ρ c main_arg8 (by decide)),
       (h.1 c _ (mem_uc main_arg9 (by decide))).trans (W11_args m ρ c main_arg9 (by decide)),
       (h.1 c _ (mem_uc main_arg10 (by decide))).trans (W11_args m ρ c main_arg10 (by decide)),
       (h.1 c _ (mem_uc main_arg11 (by decide))).trans (W11_args m ρ c main_arg11 (by decide)),
       (h.1 c _ (mem_uc main_arg12 (by decide))).trans (W11_args m ρ c main_arg12 (by decide))⟩, h.2⟩) (run_all m ρ)

end Cert.PromptOutIdeal.Steps

end
-- ==== Proof.PromptOutSame.lean ====
/- The prompt's five calls outside its attentions in one program: the printed program runs as its ideal twin does, so its arguments are unchanged too. -/
module

public import proofs.«01_k».proof.Defs
public import proofs.«01_k».proof.Proof.PromptOutSteps
public import proofs.«01_k».proof.Proof.Gen.PromptOut.Launch

@[expose] public section

set_option maxHeartbeats 4000000

open Idealize.ShloMosaic Idealize.ShloMosaic.TcCoe Idealize.SL.Sem

namespace Cert.PromptOut.Same

open Cert.PromptOut Cert.PromptOut.Gen

variable {F : FTy → Type} [FloatOps F]
variable (m : (ℓ : Loc nD τ sig) → Buf (Elt F) ℓ) (ρ : Dev nD → PrngReg)

set_option smartUnfolding false in
/-- The two programs' bodies are the same. -/
theorem defs_same : Cert.PromptOutIdeal.defs (F := F) = Cert.PromptOut.defs (F := F) := by with_unfolding_all exact rfl

/-- Every run ends with the arguments unchanged and every counter at zero. -/
theorem arrays_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) := by
  have h := Cert.PromptOutIdeal.Steps.arrays_kept m ρ
  rw [defs_same] at h
  exact h

end Cert.PromptOut.Same

end
-- ==== Proof.SampleOutCalls.lean ====
/- The sample's five calls outside its attentions in one program: each call by itself, for any contents before it. -/
module

public import proofs.«01_k».proof.Defs
public import proofs.«01_k».proof.Proof.Gen.SampleOutIdeal.Launch
public import proofs.«01_k».proof.Proof.Gen.SampleOutIdeal.Skeleton
public import proofs.«01_k».proof.Proof.Gen.SampleOutIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.SampleOutIdeal.Steps

open Cert.SampleOutIdeal Cert.SampleOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The assertions the runs are followed with. -/
abbrev SP (F : FTy → Type) [FloatOps F] := sProp (MT nD τ sig Unit (Elt F) ℕ (UR sig nD τ) ℕ)

section Regions
variable (V : (c : Dev nD) → (b : Ref sig .tc) → Buf (Elt F) ((c : Thread nD τ).loc b))

/-- What a window of the first call shows at a point, for any contents before the call. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S256x2048 := Rect.unit (s := S256x2048) ![0, 0] S256x2048.size inb_S256x2048_S256x2048_0_0
abbrev r0_1 : Rect S1x2048 := Rect.unit (s := S1x2048) ![0, 0] S1x2048.size inb_S1x2048_S1x2048_0_0

def out0_2 (x0 : Vec F S256x2048 .f32) (x1 : Vec F S1x2048 .f32) : Vec F S256x2048 .bf16 :=
  View.canon [⟨r0_0, k0_pay1 (View.ld x0 r0_0) (View.ld x1 r0_1)⟩]

theorem cover0_2 (p0 : Vec F S256x2048 .bf16) (y : S256x2048.Idx) :
    ∃ pc ∈ ([⟨r0_0, p0⟩] : List (View.Piece (Elt F) S256x2048 .bf16)), y ∈ pc.1.set :=
  View.cover_of_tiled [⟨r0_0, p0⟩] S256x2048.size (by rfl) y

set_option maxHeartbeats 1000000 in
/-- The first call's body runs, leaves its inputs and stores its result's blocks. -/
theorem sound_kernel0 (c : Dev nD) (E : Set ℕ) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole)
    (x0 : Vec F S256x2048 .f32) (x1 : Vec F S1x2048 .f32) (K : PUnit → SP F) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_rms_cast i arg1 harg1 arg2 harg2 arg3 harg3) K := by
  simp only [cc0_rms_cast_eq_skeleton]; unfold cc0_rms_cast_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The first call's data: its arrays, and each block after each point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : SP F :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : SP F :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The first call's body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What a window of the second call shows at a point, for any contents before the call. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) :=
  (fun t => by
    have ht : t.val < 12 := Nat.lt_of_lt_of_eq t.isLt N_1
    have e0 : (grid1.coords t 0).val = t.val / 1 % 12 := Pipeline.Grid.coords_val t 0 (by decide) rfl
    have e1 : (grid1.coords t 1).val = t.val / 1 % 1 := Pipeline.Grid.coords_val t 1 (by decide) rfl
    simp only [cond1_0, e0, e1]
    word_cmp
   : ∀ t : Fin grid1.N, cond1_0 (grid1.coords t))

abbrev VO1_2 : View sig .tc .vmem S1024x1024 .f32 := (Memref.whole cc1_stg2_0 : Memref sig .tc .vmem S1024x1024 .f32).view
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev scM1_0 : Memref sig .tc .vmem S1024x2048 .bf16 := Memref.whole cc1_scratch0

theorem scopedRest1_flat (c : Dev nD) :
    (Pipeline.scopedRest spec1 c : SP F)
      = iprop((∃ f : Buf (Elt F) ((c : Thread nD τ).loc cc1_scratch0), ((c : Thread nD τ).loc cc1_scratch0) ↦{fullShare} f) ∗ Pipeline.scopedRestBut spec1 c [cc1_scratch0]) := by
  rw [scopedRest1_split]

theorem PhiA1_eq (c : Dev nD) :
    (Pipeline.ΦA spec1 c : SP F)
      = iprop(iprop((∃ d, owns (c : Thread nD τ) scM1_0 fullShare d) ∗ Pipeline.scopedRestBut spec1 c [cc1_scratch0]) ∗ (∃ r, prngReg c r)) := by
  unfold Pipeline.ΦA; rw [scopedRest1_flat]; simp only [scM1_0, owns_whole]; try rfl
set_option maxHeartbeats 1000000 in
/-- The second call's body: the stores it makes, and that it runs. -/
noncomputable def kernelRun1_A (c : Dev nD) (i : grid1.Coords) (arg2 : Memref sig .tc .vmem S1024x2048 .bf16) (harg2 : arg2.IsWhole) (arg3 : Memref sig .tc .vmem S1024x2048 .f32) (harg3 : arg3.IsWhole) (arg4 : Memref sig .tc .vmem S1024x1024 .f32) (harg4 : arg4.IsWhole) (arg5 : Memref sig .tc .vmem S1024x2048 .bf16) (harg5 : arg5.IsWhole) (hc0 : cond1_0 i)
    (x0 : Vec F S1024x2048 .bf16) (x1 : Vec F S1024x2048 .f32) :
    Σ' (L2 : List (View.Piece (Elt F) S1024x1024 .f32)), { LT0 : List (View.Piece (Elt F) S1024x2048 .bf16) //
      ∀ (E : Set ℕ) (K : PUnit → SP F),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LT0)) -∗ K ⟨⟩))
          ⊢ wp frame (wpE (defs₀ (F := F)) Variants.none c none) E (cc1_in_proj i arg2 harg2 arg3 harg3 arg4 harg4 arg5 harg5) K } := by
  refine ⟨?_, ?_, fun E K => ?run⟩
  case run =>
    simp only [cc1_in_proj_eq_skeleton]; unfold cc1_in_proj_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

section
variable (c : Dev nD) (i : grid1.Coords) (arg2 : Memref sig .tc .vmem S1024x2048 .bf16) (harg2 : arg2.IsWhole) (arg3 : Memref sig .tc .vmem S1024x2048 .f32) (harg3 : arg3.IsWhole) (arg4 : Memref sig .tc .vmem S1024x1024 .f32) (harg4 : arg4.IsWhole) (arg5 : Memref sig .tc .vmem S1024x2048 .bf16) (harg5 : arg5.IsWhole)

theorem cover1_A_2 (hc0 : cond1_0 i)
    (x0 : Vec F S1024x2048 .bf16) (x1 : Vec F S1024x2048 .f32) (y : S1024x1024.Idx) :
    ∃ pc ∈ (kernelRun1_A c i arg2 harg2 arg3 harg3 arg4 harg4 arg5 harg5 hc0 x0 x1).1, y ∈ pc.1.set :=
  View.cover_of_tiledL (kernelRun1_A c i arg2 harg2 arg3 harg3 arg4 harg4 arg5 harg5 hc0 x0 x1).1 S1024x1024.size (by sl_kernel_rfl) y

def out1_A_2 (hc0 : cond1_0 i)
    (x0 : Vec F S1024x2048 .bf16) (x1 : Vec F S1024x2048 .f32) : Vec F S1024x1024 .f32 :=
  VO1_2.read (Elt F) (VO1_2.writes (Elt F) VO1_2.junk (kernelRun1_A c i arg2 harg2 arg3 harg3 arg4 harg4 arg5 harg5 hc0 x0 x1).1)

end

/-- The second call's result block after each point. -/
def outsAt1 (c : Dev nD) (t : Fin cfg1.N) : Vec F S1024x1024 .f32 :=
  out1_A_2 c (grid1.coords t) (ms1_0 t) (hs1_0 t) (ms1_1 t) (hs1_1 t) (ms1_2 t) (hs1_2 t) scM1_0 (Memref.isWhole_whole _) (hcond1_0 t) (iblk1 V c 0 t) (iblk1 V c 1 t)

/-- The second call's data: its arrays, and each block after each point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : SP F :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : SP F :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

/-- The second call's body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  rw [show (dat1 V c).Φ t.castSucc = Pipeline.ΦA spec1 c from rfl, PhiA1_eq]
  unfold outsAt1
  unfold out1_A_2
  iintro ⟨⟨⟨HS0, HR1⟩, Hg⟩, Ho, ⟨%d0, H0⟩, ⟨%d1, H1⟩, ⟨%d2, H2⟩⟩
  iapply ((kernelRun1_A c (grid1.coords t) _ _ _ _ _ _ _ _ (hcond1_0 t) (iblk1 V c 0 t) (iblk1 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%fT0, HS0⟩⟩
  isplitl [HS0 HR1 Hg]
  · isplitl [HS0 HR1]
    · isplitl [HS0]
      · iexists _; unfold owns; iexists _; isplitr
        swap; · iexact HS0
        ipureintro; rfl
      iexact HR1
    iexact Hg
  isplitl [Ho]; · iexact Ho
  isplitl [H0]; · iexact H0
  isplitl [H1]; · iexact H1
  unfold owns; iexists _; isplitr
  swap; · iexact H2
  ipureintro; exact View.read_writes_of_cover _ _ _ _ _ (cover1_A_2 c _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What a window of the third call shows at a point, for any contents before the call. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1024x1024 := Rect.unit (s := S1024x1024) ![0, 0] S1024x1024.size inb_S1024x1024_S1024x1024_0_0

def out2_6 (x0 : Vec F S1024x1024 .f32) (x1 : Vec F S1024x1024 .f32) (x2 : Vec F S1024x1024 .bf16) (x3 : Vec F S1024x1024 .bf16) (x4 : Vec F S1024x1024 .f32) (x5 : Vec F S1024x1024 .f32) : Vec F S1024x1024 .bf16 :=
  View.canon [⟨r2_0, k2_pay1 (View.ld x0 r2_0) (View.ld x2 r2_0) (View.ld x1 r2_0) (View.ld x3 r2_0) (View.ld x4 r2_0) (View.ld x5 r2_0)⟩]

theorem cover2_6 (p0 : Vec F S1024x1024 .bf16) (y : S1024x1024.Idx) :
    ∃ pc ∈ ([⟨r2_0, p0⟩] : List (View.Piece (Elt F) S1024x1024 .bf16)), y ∈ pc.1.set :=
  View.cover_of_tiled [⟨r2_0, p0⟩] S1024x1024.size (by rfl) y

set_option maxHeartbeats 1000000 in
/-- The third call's body runs, leaves its inputs and stores its result's blocks. -/
theorem sound_kernel2 (c : Dev nD) (E : Set ℕ) (i : grid2.Coords) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .bf16) (harg8 : arg8.IsWhole)
    (x0 : Vec F S1024x1024 .f32) (x1 : Vec F S1024x1024 .f32) (x2 : Vec F S1024x1024 .bf16) (x3 : Vec F S1024x1024 .bf16) (x4 : Vec F S1024x1024 .f32) (x5 : Vec F S1024x1024 .f32) (K : PUnit → SP F) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out2_6 x0 x1 x2 x3 x4 x5)) -∗ K ⟨⟩))
      ⊢ wp frame (wpE (defs₀ (F := F)) Variants.none c none) E (cc2_merge i arg2 harg2 arg3 harg3 arg4 harg4 arg5 harg5 arg6 harg6 arg7 harg7 arg8 harg8) K := by
  simp only [cc2_merge_eq_skeleton]; unfold cc2_merge_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The third call's data: its arrays, and each block after each point. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q w := Pipeline.shareOf spec2 w
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

def bodyPre2 (c : Dev nD) (t : Fin cfg2.N) : SP F :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : SP F :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The third call's body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- What a window of the fourth call shows at a point, for any contents before the call. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S512x2048 := Rect.unit (s := S512x2048) ![0, 0] S256x2048.size inb_S512x2048_S256x2048_0_0
abbrev r3_1 : Rect S2048x2048 := Rect.unit (s := S2048x2048) ![0, 0] S2048x2048.size inb_S2048x2048_S2048x2048_0_0
abbrev r3_2 : Rect S1x2048 := Rect.unit (s := S1x2048) ![0, 0] S1x2048.size inb_S1x2048_S1x2048_0_0
abbrev r3_3 : Rect S512x2048 := Rect.unit (s := S512x2048) ![256, 0] S256x2048.size inb_S512x2048_S256x2048_256_0

def out3_5 (x0 : Vec F S512x2048 .bf16) (x1 : Vec F S2048x2048 .bf16) (x2 : Vec F S512x2048 .f32) (x3 : Vec F S1x2048 .f32) (x4 : Vec F S1x2048 .f32) : Vec F S512x2048 .f32 :=
  View.canon [⟨r3_3, k3_pay4 (View.ld x0 r3_3) (View.ld x1 r3_1) (View.ld x3 r3_2) (View.ld x2 r3_3)⟩,
    ⟨r3_0, k3_pay2 (View.ld x0 r3_0) (View.ld x1 r3_1) (View.ld x3 r3_2) (View.ld x2 r3_0)⟩]

theorem cover3_5 (p0 : Vec F S256x2048 .f32) (p1 : Vec F S256x2048 .f32) (y : S512x2048.Idx) :
    ∃ pc ∈ ([⟨r3_3, p0⟩, ⟨r3_0, p1⟩] : List (View.Piece (Elt F) S512x2048 .f32)), y ∈ pc.1.set :=
  View.cover_of_tiled [⟨r3_3, p0⟩, ⟨r3_0, p1⟩] S256x2048.size (by rfl) y

def out3_6 (x0 : Vec F S512x2048 .bf16) (x1 : Vec F S2048x2048 .bf16) (x2 : Vec F S512x2048 .f32) (x3 : Vec F S1x2048 .f32) (x4 : Vec F S1x2048 .f32) : Vec F S512x2048 .bf16 :=
  View.canon [⟨r3_3, k3_pay1 (k3_pay5 (View.ld x0 r3_3) (View.ld x1 r3_1) (View.ld x3 r3_2) (View.ld x2 r3_3) (View.ld x4 r3_2))⟩,
    ⟨r3_0, k3_pay3 (View.ld x0 r3_0) (View.ld x1 r3_1) (View.ld x3 r3_2) (View.ld x2 r3_0) (View.ld x4 r3_2)⟩]

theorem cover3_6 (p0 : Vec F S256x2048 .bf16) (p1 : Vec F S256x2048 .bf16) (y : S512x2048.Idx) :
    ∃ pc ∈ ([⟨r3_3, p0⟩, ⟨r3_0, p1⟩] : List (View.Piece (Elt F) S512x2048 .bf16)), y ∈ pc.1.set :=
  View.cover_of_tiled [⟨r3_3, p0⟩, ⟨r3_0, p1⟩] S256x2048.size (by rfl) y

set_option maxHeartbeats 1000000 in
/-- The fourth call's body runs, leaves its inputs and stores its result's blocks. -/
theorem sound_kernel3 (c : Dev nD) (E : Set ℕ) (i : grid3.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .bf16) (harg7 : arg7.IsWhole)
    (x0 : Vec F S512x2048 .bf16) (x1 : Vec F S2048x2048 .bf16) (x2 : Vec F S512x2048 .f32) (x3 : Vec F S1x2048 .f32) (x4 : Vec F S1x2048 .f32) (K : PUnit → SP F) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4) ∗ owns (c : Thread nD τ) arg7 fullShare (out3_6 x0 x1 x2 x3 x4)) -∗ K ⟨⟩))
      ⊢ wp frame (wpE (defs₀ (F := F)) Variants.none c none) E (cc3_proj_norm i arg1 harg1 arg2 harg2 arg3 harg3 arg4 harg4 arg5 harg5 arg6 harg6 arg7 harg7) K := by
  simp only [cc3_proj_norm_eq_skeleton]; unfold cc3_proj_norm_skel
  simp only [k3_part1_eq_skeleton, k3_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover3_5 _ _)
  iexists _; isplitr
  swap; · iexact H6
  ipureintro
  exact View.read_writes_eq_canon _ _ _ (cover3_6 _ _)

/-- The fourth call's data: its arrays, and each block after each point. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
    | ⟨6, _⟩ => out3_6 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : SP F :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : SP F :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The fourth call's body at any point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row3 (t : Fin cfg3.N) :
    defs₀ (F := F) .tc cfg3.body (cfg3.bodyArgs t (cfg3.slots t)) = bodyAt3 t := by
  unfold defs₀; rw [Defs.onTc_tc]

theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

/-- What a window of the fifth call shows at a point, for any contents before the call. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

abbrev VO4_5 : View sig .tc .vmem S1024x2048 .f32 := (Memref.whole cc4_stg5_0 : Memref sig .tc .vmem S1024x2048 .f32).view
abbrev ms4_0 (t : Fin cfg4.N) : Memref sig .tc .vmem S1024x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x512 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S512x2048 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1024x2048 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x2048 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1024x2048 .f32 := win4_5.stage (cfg4.slots t 5)
abbrev hs4_5 (t : Fin cfg4.N) : (ms4_5 t).IsWhole := hstage4_5 ((cfg4.slots t 5).cast nbuf4_5)
abbrev scM4_0 : Memref sig .tc .vmem S1024x2048 .f32 := Memref.whole cc4_scratch0

theorem scopedRest4_flat (c : Dev nD) :
    (Pipeline.scopedRest spec4 c : SP F)
      = iprop((∃ f : Buf (Elt F) ((c : Thread nD τ).loc cc4_scratch0), ((c : Thread nD τ).loc cc4_scratch0) ↦{fullShare} f) ∗ Pipeline.scopedRestBut spec4 c [cc4_scratch0]) := by
  rw [scopedRest4_split]

theorem PhiA4_eq (c : Dev nD) :
    (Pipeline.ΦA spec4 c : SP F)
      = iprop(iprop((∃ d, owns (c : Thread nD τ) scM4_0 fullShare d) ∗ Pipeline.scopedRestBut spec4 c [cc4_scratch0]) ∗ (∃ r, prngReg c r)) := by
  unfold Pipeline.ΦA; rw [scopedRest4_flat]; simp only [scM4_0, owns_whole]; try rfl
/-- The buffers of the other calls, which the fifth call leaves alone. -/
abbrev HELD4 (c : Dev nD) : SP F := Pipeline.scopedRestBut spec4 c [cc4_scratch0]

theorem held_in4 (c : Dev nD) :
    (Pipeline.ΦA spec4 c : SP F) ⊢ iprop(iprop(HELD4 c ∗ (∃ d, owns (c : Thread nD τ) scM4_0 fullShare d)) ∗ (∃ r, prngReg c r)) := by
  rw [PhiA4_eq]
  iintro ⟨⟨HS0, HR⟩, Hg⟩
  isplitl [HR HS0]
  · isplitl [HR]; · iexact HR
    iexact HS0
  iexact Hg

theorem held_out4 (c : Dev nD) :
    iprop(iprop(HELD4 c ∗ (∃ d, owns (c : Thread nD τ) scM4_0 fullShare d)) ∗ (∃ r, prngReg c r)) ⊢ (Pipeline.ΦA spec4 c : SP F) := by
  rw [PhiA4_eq]
  iintro ⟨⟨HR, HS0⟩, Hg⟩
  isplitl [HR HS0]
  · isplitl [HS0]; · iexact HS0
    iexact HR
  iexact Hg

theorem PhiA4_held (c : Dev nD) :
    (Pipeline.ΦA spec4 c : SP F) = iprop(iprop(HELD4 c ∗ (∃ d, owns (c : Thread nD τ) scM4_0 fullShare d)) ∗ (∃ r, prngReg c r)) :=
  BI.Entails.antisymm (held_in4 c) (held_out4 c)

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 16 = 0 :=
  (fun t => by
    have ht : t.val < 16 := Nat.lt_of_lt_of_eq t.isLt N_4
    have e0 : (grid4.coords t 0).val = t.val / 16 % 1 := Pipeline.Grid.coords_val t 0 (by decide) rfl
    have e1 : (grid4.coords t 1).val = t.val / 1 % 16 := Pipeline.Grid.coords_val t 1 (by decide) rfl
    simp only [cond4_0, e0, e1]
    word_cmp
   : ∀ t : Fin grid4.N, cond4_0 (grid4.coords t) ↔ t.val % 16 = 0)

abbrev cond4_1 (i : grid4.Coords) : Prop := k4_cond2 i = 1#1
theorem hcond4_1 : ∀ t : Fin cfg4.N, cond4_1 (grid4.coords t) ↔ t.val % 16 = 15 :=
  (fun t => by
    have ht : t.val < 16 := Nat.lt_of_lt_of_eq t.isLt N_4
    have e0 : (grid4.coords t 0).val = t.val / 16 % 1 := Pipeline.Grid.coords_val t 0 (by decide) rfl
    have e1 : (grid4.coords t 1).val = t.val / 1 % 16 := Pipeline.Grid.coords_val t 1 (by decide) rfl
    simp only [cond4_1, k4_cond2, e0, e1]
    word_cmp
   : ∀ t : Fin grid4.N, cond4_1 (grid4.coords t) ↔ t.val % 16 = 15)

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl
theorem liveAt4_4 : ∀ t : Fin cfg4.N, cfg4.idle 4 (grid4.coords t) = false := fun _ => rfl
theorem idleAt4_5_A : ∀ t : Fin cfg4.N, cond4_0 (grid4.coords t) → ¬cond4_1 (grid4.coords t) → cfg4.idle 5 (grid4.coords t) = true := by decide +kernel
theorem noFlush4_5_A : ∀ t : Fin cfg4.N, cond4_0 (grid4.coords t) → ¬cond4_1 (grid4.coords t) → (cfg4.win 5).flush t = false := by decide +kernel
theorem idleAt4_5_B : ∀ t : Fin cfg4.N, ¬cond4_0 (grid4.coords t) → ¬cond4_1 (grid4.coords t) → cfg4.idle 5 (grid4.coords t) = true := by decide +kernel
theorem noFlush4_5_B : ∀ t : Fin cfg4.N, ¬cond4_0 (grid4.coords t) → ¬cond4_1 (grid4.coords t) → (cfg4.win 5).flush t = false := by decide +kernel
theorem liveAt4_5_C : ∀ t : Fin cfg4.N, ¬cond4_0 (grid4.coords t) → cond4_1 (grid4.coords t) → cfg4.idle 5 (grid4.coords t) = false := by decide +kernel

abbrev VS4_0 : View sig .tc .vmem S1024x2048 .f32 := scM4_0.view

set_option maxHeartbeats 1000000 in
/-- The fifth call's body in one of its cases: the stores it makes, and that it runs. -/
noncomputable def kernelRun4_A (c : Dev nD) (i : grid4.Coords) (arg2 : Memref sig .tc .vmem S1024x2048 .bf16) (harg2 : arg2.IsWhole) (arg3 : Memref sig .tc .vmem S2048x512 .bf16) (harg3 : arg3.IsWhole) (arg4 : Memref sig .tc .vmem S512x2048 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : cond4_0 i) (hc1 : ¬cond4_1 i)
    (x0 : Vec F S1024x2048 .bf16) (x1 : Vec F S2048x512 .bf16) (x2 : Vec F S512x2048 .bf16) (x3 : Vec F S1024x2048 .f32) (x4 : Vec F S1x2048 .f32) :
    Σ' (L5 : List (View.Piece (Elt F) S1024x2048 .f32)), { LS0 : List (View.Piece (Elt F) S1024x2048 .f32) //
      ∀ (xi5 : Vec F S1024x2048 .f32) (E : Set ℕ) (K : PUnit → SP F),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc4_mlp i arg2 harg2 arg3 harg3 arg4 harg4 arg5 harg5 arg6 harg6 arg7 harg7 arg8 harg8) K } := by
  refine ⟨[], ?_, fun xi5 E K => ?run⟩
  case run =>
    simp only [cc4_mlp_eq_skeleton]; unfold cc4_mlp_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 1000000 in
/-- The fifth call's body in one of its cases: the stores it makes, and that it runs. -/
noncomputable def kernelRun4_B (c : Dev nD) (i : grid4.Coords) (arg2 : Memref sig .tc .vmem S1024x2048 .bf16) (harg2 : arg2.IsWhole) (arg3 : Memref sig .tc .vmem S2048x512 .bf16) (harg3 : arg3.IsWhole) (arg4 : Memref sig .tc .vmem S512x2048 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond4_0 i) (hc1 : ¬cond4_1 i)
    (x0 : Vec F S1024x2048 .bf16) (x1 : Vec F S2048x512 .bf16) (x2 : Vec F S512x2048 .bf16) (x3 : Vec F S1024x2048 .f32) (x4 : Vec F S1x2048 .f32) (xs0 : Vec F S1024x2048 .f32) :
    Σ' (L5 : List (View.Piece (Elt F) S1024x2048 .f32)), { LS0 : List (View.Piece (Elt F) S1024x2048 .f32) //
      ∀ (xi5 : Vec F S1024x2048 .f32) (E : Set ℕ) (K : PUnit → SP F),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc4_mlp i arg2 harg2 arg3 harg3 arg4 harg4 arg5 harg5 arg6 harg6 arg7 harg7 arg8 harg8) K } := by
  refine ⟨[], ?_, fun xi5 E K => ?run⟩
  case run =>
    simp only [cc4_mlp_eq_skeleton]; unfold cc4_mlp_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 1000000 in
/-- The fifth call's body in one of its cases: the stores it makes, and that it runs. -/
noncomputable def kernelRun4_C (c : Dev nD) (i : grid4.Coords) (arg2 : Memref sig .tc .vmem S1024x2048 .bf16) (harg2 : arg2.IsWhole) (arg3 : Memref sig .tc .vmem S2048x512 .bf16) (harg3 : arg3.IsWhole) (arg4 : Memref sig .tc .vmem S512x2048 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond4_0 i) (hc1 : cond4_1 i)
    (x0 : Vec F S1024x2048 .bf16) (x1 : Vec F S2048x512 .bf16) (x2 : Vec F S512x2048 .bf16) (x3 : Vec F S1024x2048 .f32) (x4 : Vec F S1x2048 .f32) (xs0 : Vec F S1024x2048 .f32) :
    Σ' (L5 : List (View.Piece (Elt F) S1024x2048 .f32)), { LS0 : List (View.Piece (Elt F) S1024x2048 .f32) //
      ∀ (E : Set ℕ) (K : PUnit → SP F),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc4_mlp i arg2 harg2 arg3 harg3 arg4 harg4 arg5 harg5 arg6 harg6 arg7 harg7 arg8 harg8) K } := by
  refine ⟨?_, ?_, fun E K => ?run⟩
  case run =>
    simp only [cc4_mlp_eq_skeleton]; unfold cc4_mlp_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

section
variable (c : Dev nD) (i : grid4.Coords) (arg2 : Memref sig .tc .vmem S1024x2048 .bf16) (harg2 : arg2.IsWhole) (arg3 : Memref sig .tc .vmem S2048x512 .bf16) (harg3 : arg3.IsWhole) (arg4 : Memref sig .tc .vmem S512x2048 .bf16) (harg4 : arg4.IsWhole) (arg5 : Memref sig .tc .vmem S1024x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole)

def out4_A_5 (hc0 : cond4_0 i) (hc1 : ¬cond4_1 i)
    (x0 : Vec F S1024x2048 .bf16) (x1 : Vec F S2048x512 .bf16) (x2 : Vec F S512x2048 .bf16) (x3 : Vec F S1024x2048 .f32) (x4 : Vec F S1x2048 .f32) : Vec F S1024x2048 .f32 :=
  VO4_5.read (Elt F) (VO4_5.writes (Elt F) VO4_5.junk (kernelRun4_A c i arg2 harg2 arg3 harg3 arg4 harg4 arg5 harg5 arg6 harg6 arg7 harg7 arg8 harg8 hc0 hc1 x0 x1 x2 x3 x4).1)

theorem scover4_A_0 (hc0 : cond4_0 i) (hc1 : ¬cond4_1 i)
    (x0 : Vec F S1024x2048 .bf16) (x1 : Vec F S2048x512 .bf16) (x2 : Vec F S512x2048 .bf16) (x3 : Vec F S1024x2048 .f32) (x4 : Vec F S1x2048 .f32) (y : S1024x2048.Idx) :
    ∃ pc ∈ (kernelRun4_A c i arg2 harg2 arg3 harg3 arg4 harg4 arg5 harg5 arg6 harg6 arg7 harg7 arg8 harg8 hc0 hc1 x0 x1 x2 x3 x4).2.1, y ∈ pc.1.set :=
  View.cover_of_tiledL (kernelRun4_A c i arg2 harg2 arg3 harg3 arg4 harg4 arg5 harg5 arg6 harg6 arg7 harg7 arg8 harg8 hc0 hc1 x0 x1 x2 x3 x4).2.1 S1024x2048.size (by sl_kernel_rfl) y

def sout4_A_0 (hc0 : cond4_0 i) (hc1 : ¬cond4_1 i)
    (x0 : Vec F S1024x2048 .bf16) (x1 : Vec F S2048x512 .bf16) (x2 : Vec F S512x2048 .bf16) (x3 : Vec F S1024x2048 .f32) (x4 : Vec F S1x2048 .f32) : Vec F S1024x2048 .f32 :=
  VS4_0.read (Elt F) (VS4_0.writes (Elt F) VS4_0.junk (kernelRun4_A c i arg2 harg2 arg3 harg3 arg4 harg4 arg5 harg5 arg6 harg6 arg7 harg7 arg8 harg8 hc0 hc1 x0 x1 x2 x3 x4).2.1)

def out4_B_5 (hc0 : ¬cond4_0 i) (hc1 : ¬cond4_1 i)
    (x0 : Vec F S1024x2048 .bf16) (x1 : Vec F S2048x512 .bf16) (x2 : Vec F S512x2048 .bf16) (x3 : Vec F S1024x2048 .f32) (x4 : Vec F S1x2048 .f32) (xs0 : Vec F S1024x2048 .f32) : Vec F S1024x2048 .f32 :=
  VO4_5.read (Elt F) (VO4_5.writes (Elt F) VO4_5.junk (kernelRun4_B c i arg2 harg2 arg3 harg3 arg4 harg4 arg5 harg5 arg6 harg6 arg7 harg7 arg8 harg8 hc0 hc1 x0 x1 x2 x3 x4 xs0).1)

theorem scover4_B_0 (hc0 : ¬cond4_0 i) (hc1 : ¬cond4_1 i)
    (x0 : Vec F S1024x2048 .bf16) (x1 : Vec F S2048x512 .bf16) (x2 : Vec F S512x2048 .bf16) (x3 : Vec F S1024x2048 .f32) (x4 : Vec F S1x2048 .f32) (xs0 : Vec F S1024x2048 .f32) (y : S1024x2048.Idx) :
    ∃ pc ∈ (kernelRun4_B c i arg2 harg2 arg3 harg3 arg4 harg4 arg5 harg5 arg6 harg6 arg7 harg7 arg8 harg8 hc0 hc1 x0 x1 x2 x3 x4 xs0).2.1, y ∈ pc.1.set :=
  View.cover_of_tiledL (kernelRun4_B c i arg2 harg2 arg3 harg3 arg4 harg4 arg5 harg5 arg6 harg6 arg7 harg7 arg8 harg8 hc0 hc1 x0 x1 x2 x3 x4 xs0).2.1 S1024x2048.size (by sl_kernel_rfl) y

def sout4_B_0 (hc0 : ¬cond4_0 i) (hc1 : ¬cond4_1 i)
    (x0 : Vec F S1024x2048 .bf16) (x1 : Vec F S2048x512 .bf16) (x2 : Vec F S512x2048 .bf16) (x3 : Vec F S1024x2048 .f32) (x4 : Vec F S1x2048 .f32) (xs0 : Vec F S1024x2048 .f32) : Vec F S1024x2048 .f32 :=
  VS4_0.read (Elt F) (VS4_0.writes (Elt F) VS4_0.junk (kernelRun4_B c i arg2 harg2 arg3 harg3 arg4 harg4 arg5 harg5 arg6 harg6 arg7 harg7 arg8 harg8 hc0 hc1 x0 x1 x2 x3 x4 xs0).2.1)

theorem cover4_C_5 (hc0 : ¬cond4_0 i) (hc1 : cond4_1 i)
    (x0 : Vec F S1024x2048 .bf16) (x1 : Vec F S2048x512 .bf16) (x2 : Vec F S512x2048 .bf16) (x3 : Vec F S1024x2048 .f32) (x4 : Vec F S1x2048 .f32) (xs0 : Vec F S1024x2048 .f32) (y : S1024x2048.Idx) :
    ∃ pc ∈ (kernelRun4_C c i arg2 harg2 arg3 harg3 arg4 harg4 arg5 harg5 arg6 harg6 arg7 harg7 arg8 harg8 hc0 hc1 x0 x1 x2 x3 x4 xs0).1, y ∈ pc.1.set :=
  View.cover_of_tiledL (kernelRun4_C c i arg2 harg2 arg3 harg3 arg4 harg4 arg5 harg5 arg6 harg6 arg7 harg7 arg8 harg8 hc0 hc1 x0 x1 x2 x3 x4 xs0).1 S1024x2048.size (by sl_kernel_rfl) y

def out4_C_5 (hc0 : ¬cond4_0 i) (hc1 : cond4_1 i)
    (x0 : Vec F S1024x2048 .bf16) (x1 : Vec F S2048x512 .bf16) (x2 : Vec F S512x2048 .bf16) (x3 : Vec F S1024x2048 .f32) (x4 : Vec F S1x2048 .f32) (xs0 : Vec F S1024x2048 .f32) : Vec F S1024x2048 .f32 :=
  VO4_5.read (Elt F) (VO4_5.writes (Elt F) VO4_5.junk (kernelRun4_C c i arg2 harg2 arg3 harg3 arg4 harg4 arg5 harg5 arg6 harg6 arg7 harg7 arg8 harg8 hc0 hc1 x0 x1 x2 x3 x4 xs0).1)

theorem scover4_C_0 (hc0 : ¬cond4_0 i) (hc1 : cond4_1 i)
    (x0 : Vec F S1024x2048 .bf16) (x1 : Vec F S2048x512 .bf16) (x2 : Vec F S512x2048 .bf16) (x3 : Vec F S1024x2048 .f32) (x4 : Vec F S1x2048 .f32) (xs0 : Vec F S1024x2048 .f32) (y : S1024x2048.Idx) :
    ∃ pc ∈ (kernelRun4_C c i arg2 harg2 arg3 harg3 arg4 harg4 arg5 harg5 arg6 harg6 arg7 harg7 arg8 harg8 hc0 hc1 x0 x1 x2 x3 x4 xs0).2.1, y ∈ pc.1.set :=
  View.cover_of_tiledL (kernelRun4_C c i arg2 harg2 arg3 harg3 arg4 harg4 arg5 harg5 arg6 harg6 arg7 harg7 arg8 harg8 hc0 hc1 x0 x1 x2 x3 x4 xs0).2.1 S1024x2048.size (by sl_kernel_rfl) y

def sout4_C_0 (hc0 : ¬cond4_0 i) (hc1 : cond4_1 i)
    (x0 : Vec F S1024x2048 .bf16) (x1 : Vec F S2048x512 .bf16) (x2 : Vec F S512x2048 .bf16) (x3 : Vec F S1024x2048 .f32) (x4 : Vec F S1x2048 .f32) (xs0 : Vec F S1024x2048 .f32) : Vec F S1024x2048 .f32 :=
  VS4_0.read (Elt F) (VS4_0.writes (Elt F) VS4_0.junk (kernelRun4_C c i arg2 harg2 arg3 harg3 arg4 harg4 arg5 harg5 arg6 harg6 arg7 harg7 arg8 harg8 hc0 hc1 x0 x1 x2 x3 x4 xs0).2.1)

end

/-- What they hold after the first point of a run. -/
def first4 (c : Dev nD) (t : Fin cfg4.N) (h0 : t.val % 16 = 0) (h1 : ¬t.val % 16 = 15) : Vec F S1024x2048 .f32 × Vec F S1024x2048 .f32 :=
  (out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t))

/-- What the fifth call's result block and its scratch hold after each point. -/
def outsAt4 (c : Dev nD) : (n : ℕ) → n < cfg4.N → Vec F S1024x2048 .f32 × Vec F S1024x2048 .f32
  | 0, hn => first4 V c ⟨0, hn⟩ (Nat.zero_mod _) (fun h => by (try dsimp only at h); omega)
  | n + 1, hn =>
    if h0 : (n + 1) % 16 = 0 then
      if h1 : (n + 1) % 16 = 15 then
        False.elim (by have hN : n + 1 < 16 := lt_of_lt_of_eq hn (show cfg4.N = 16 from N_4); omega)
      else
        first4 V c ⟨n + 1, hn⟩ h0 h1
    else
      if h1 : (n + 1) % 16 = 15 then
        (out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2)
      else
        (out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2)

theorem outsAt4_A (c : Dev nD) (t : Fin cfg4.N) (h0 : t.val % 16 = 0) (h1 : ¬t.val % 16 = 15) :
    outsAt4 V c t.val t.isLt = (out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t)) := by
  obtain ⟨n, hn⟩ := t
  cases n with
  | zero => exact rfl
  | succ n => exact (dif_pos h0).trans ((dif_neg h1).trans rfl)

theorem outsAt4_B (c : Dev nD) (t : Fin cfg4.N) (h0 : ¬t.val % 16 = 0) (h1 : ¬t.val % 16 = 15) :
    outsAt4 V c t.val t.isLt = (out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 16 = 0) (h1 : t.val % 16 = 15) :
    outsAt4 V c t.val t.isLt = (out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- What the fifth call holds before each point: its scratch as the point before left it. -/
def PhiS4 (c : Dev nD) : (n : ℕ) → n ≤ cfg4.N → SP F
  | 0, _ => Pipeline.ΦA spec4 c
  | n + 1, hn => iprop(iprop(HELD4 c ∗ owns (c : Thread nD τ) scM4_0 fullShare ((outsAt4 V c n hn).2)) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(HELD4 c ∗ owns (c : Thread nD τ) scM4_0 fullShare ((outsAt4 V c n hn).2)) ∗ (∃ r, prngReg c r)) := rfl

theorem PhiS4_pos (c : Dev nD) (n : ℕ) (h : n ≤ cfg4.N) (hz : n ≠ 0) :
    PhiS4 V c n h = iprop(iprop(HELD4 c ∗ owns (c : Thread nD τ) scM4_0 fullShare ((outsAt4 V c (n - 1) (by omega)).2)) ∗ (∃ r, prngReg c r)) := by
  cases n with
  | zero => exact absurd rfl hz
  | succ n => rfl

/-- The fifth call's data: its arrays, and each block after each point. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; exact Pipeline.Dat.Φ_castSucc (PhiS4 V c) t

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

def bodyPre4 (c : Dev nD) (t : Fin cfg4.N) : SP F :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

def bodyPost4 (c : Dev nD) (t : Fin cfg4.N) : SP F :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4800000 in
/-- The fifth call's body at any point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  have hN : t.val < 16 := lt_of_lt_of_eq t.isLt (show cfg4.N = 16 from N_4)
  by_cases h0 : t.val % 16 = 0
  · by_cases h1 : t.val % 16 = 15
    · exfalso; omega
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1 t], after4_1]
      rw [show (dat4 V c).leavesExact 2 t = owns (c : Thread nD τ) (ms4_2 t) fullShare ((dat4 V c).after 2 t) from by
      unfold Dat.leavesExact; rw [liveAt4_2 t], after4_2]
      rw [show (dat4 V c).leavesExact 3 t = owns (c : Thread nD τ) (ms4_3 t) fullShare ((dat4 V c).after 3 t) from by
      unfold Dat.leavesExact; rw [liveAt4_3 t], after4_3]
      rw [show (dat4 V c).leavesExact 4 t = owns (c : Thread nD τ) (ms4_4 t) fullShare ((dat4 V c).after 4 t) from by
      unfold Dat.leavesExact; rw [liveAt4_4 t], after4_4]
      rw [Dat.leavesExact_idle (dat4 V c) 5 t (idleAt4_5_A t ((hcond4_0 t).mpr h0) (fun h => h1 ((hcond4_1 t).mp h))) (noFlush4_5_A t ((hcond4_0 t).mpr h0) (fun h => h1 ((hcond4_1 t).mp h)))]
      by_cases hz : t.val = 0
      · rw [PhiS4_castSucc V c t, PhiS4_zero V c _ _ hz, PhiA4_held]
        rw [outsAt4_A V c t h0 h1]
        unfold sout4_A_0; (try dsimp only)
        iintro ⟨⟨⟨HR, HS0⟩, Hg⟩, Ho, ⟨%d0, H0⟩, ⟨%d1, H1⟩, ⟨%d2, H2⟩, ⟨%d3, H3⟩, ⟨%d4, H4⟩, ⟨%d5, H5⟩⟩
        iapply ((kernelRun4_A c (grid4.coords t) _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover4_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · exfalso; have hN : t.val < 16 := lt_of_lt_of_eq t.isLt (show cfg4.N = 16 from N_4); omega
  · by_cases h1 : t.val % 16 = 15
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1 t], after4_1]
      rw [show (dat4 V c).leavesExact 2 t = owns (c : Thread nD τ) (ms4_2 t) fullShare ((dat4 V c).after 2 t) from by
      unfold Dat.leavesExact; rw [liveAt4_2 t], after4_2]
      rw [show (dat4 V c).leavesExact 3 t = owns (c : Thread nD τ) (ms4_3 t) fullShare ((dat4 V c).after 3 t) from by
      unfold Dat.leavesExact; rw [liveAt4_3 t], after4_3]
      rw [show (dat4 V c).leavesExact 4 t = owns (c : Thread nD τ) (ms4_4 t) fullShare ((dat4 V c).after 4 t) from by
      unfold Dat.leavesExact; rw [liveAt4_4 t], after4_4]
      rw [show (dat4 V c).leavesExact 5 t = owns (c : Thread nD τ) (ms4_5 t) fullShare ((dat4 V c).after 5 t) from by
      unfold Dat.leavesExact; rw [liveAt4_5_C t (fun h => h0 ((hcond4_0 t).mp h)) ((hcond4_1 t).mpr h1)], after4_5]
      by_cases hz : t.val = 0
      · exfalso; have hN : t.val < 16 := lt_of_lt_of_eq t.isLt (show cfg4.N = 16 from N_4); omega
      · rw [PhiS4_castSucc V c t, PhiS4_pos V c _ _ hz]
        rw [outsAt4_C V c t h0 h1]
        unfold out4_C_5 sout4_C_0; (try dsimp only)
        iintro ⟨⟨⟨HR, HS0⟩, Hg⟩, Ho, ⟨%d0, H0⟩, ⟨%d1, H1⟩, ⟨%d2, H2⟩, ⟨%d3, H3⟩, ⟨%d4, H4⟩, ⟨%d5, H5⟩⟩
        iapply ((kernelRun4_C c (grid4.coords t) _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover4_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover4_C_5 c _ _ _ _ _ _ _ _ _ _ _ _ _ _ _ _ _ _ _ _ _ _ _)
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1 t], after4_1]
      rw [show (dat4 V c).leavesExact 2 t = owns (c : Thread nD τ) (ms4_2 t) fullShare ((dat4 V c).after 2 t) from by
      unfold Dat.leavesExact; rw [liveAt4_2 t], after4_2]
      rw [show (dat4 V c).leavesExact 3 t = owns (c : Thread nD τ) (ms4_3 t) fullShare ((dat4 V c).after 3 t) from by
      unfold Dat.leavesExact; rw [liveAt4_3 t], after4_3]
      rw [show (dat4 V c).leavesExact 4 t = owns (c : Thread nD τ) (ms4_4 t) fullShare ((dat4 V c).after 4 t) from by
      unfold Dat.leavesExact; rw [liveAt4_4 t], after4_4]
      rw [Dat.leavesExact_idle (dat4 V c) 5 t (idleAt4_5_B t (fun h => h0 ((hcond4_0 t).mp h)) (fun h => h1 ((hcond4_1 t).mp h))) (noFlush4_5_B t (fun h => h0 ((hcond4_0 t).mp h)) (fun h => h1 ((hcond4_1 t).mp h)))]
      by_cases hz : t.val = 0
      · exfalso; have hN : t.val < 16 := lt_of_lt_of_eq t.isLt (show cfg4.N = 16 from N_4); omega
      · rw [PhiS4_castSucc V c t, PhiS4_pos V c _ _ hz]
        rw [outsAt4_B V c t h0 h1]
        unfold sout4_B_0; (try dsimp only)
        iintro ⟨⟨⟨HR, HS0⟩, Hg⟩, Ho, ⟨%d0, H0⟩, ⟨%d1, H1⟩, ⟨%d2, H2⟩, ⟨%d3, H3⟩, ⟨%d4, H4⟩, ⟨%d5, H5⟩⟩
        iapply ((kernelRun4_B c (grid4.coords t) _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover4_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

theorem defs₀_row4 (t : Fin cfg4.N) :
    defs₀ (F := F) .tc cfg4.body (cfg4.bodyArgs t (cfg4.slots t)) = bodyAt4 t := by
  unfold defs₀; rw [Defs.onTc_tc]

theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_held]
  iintro ⟨⟨HR, HS0⟩, Hg⟩
  isplitl [HR HS0]
  · isplitl [HR]; · iexact HR
    iexists _; iexact HS0
  iexact Hg

theorem hout4 (c : Dev nD) : (dat4 V c).Φ (Fin.last cfg4.N) ⊢ Pipeline.ΦA spec4 c :=
  Phi_out4 V c _ (by rw [Fin.val_last]; have : cfg4.N = 16 := N_4; omega)
end Regions

end Cert.SampleOutIdeal.Steps

end
-- ==== Proof.SampleOutSteps.lean ====
/- The sample's five calls outside its attentions in one program: the run of all of them. -/
module

public import proofs.«01_k».proof.Defs
public import proofs.«01_k».proof.Proof.SampleOutCalls
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.SampleOutIdeal.Steps

open Cert.SampleOutIdeal Cert.SampleOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10, main_arg11, main_arg12]

theorem hostOps0_fresh : (hostOps0 : List (HloOp τ sig (Elt F))).Forall fun op => op.fresh = ∅ := by
  simp only [List.Forall]; repeat' constructor
abbrev hostOps0_W : List (Ref sig .tc) := [main_c]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps0_1_fresh : (hostOps0_1 : List (HloOp τ sig (Elt F))).Forall fun op => op.fresh = ∅ := by
  simp only [List.Forall]; repeat' constructor
abbrev hostOps0_1_W : List (Ref sig .tc) := [main_call0_v0, main_v0]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_args : ∀ a ∈ argRefs, a ∉ hostOps0_1_W := ListAll.forall_mem_of_all_decide (by decide +kernel)

theorem hostOps0_2_fresh : (hostOps0_2 : List (HloOp τ sig (Elt F))).Forall fun op => op.fresh = ∅ := by
  simp only [List.Forall]; repeat' constructor
abbrev hostOps0_2_W : List (Ref sig .tc) := [main_v1, main_v2, main_v3]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_2_args : ∀ a ∈ argRefs, a ∉ hostOps0_2_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v5, main_v6]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v8, main_v9, main_v10, main_v11, main_v12, main_v13]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

theorem hostOps3_fresh : (hostOps3 : List (HloOp τ sig (Elt F))).Forall fun op => op.fresh = ∅ := by
  simp only [List.Forall]; repeat' constructor
abbrev hostOps3_W : List (Ref sig .tc) := [main_v15, main_v16, main_v17, main_v18, main_v19, main_v20]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

theorem hostOps4_fresh : (hostOps4 : List (HloOp τ sig (Elt F))).Forall fun op => op.fresh = ∅ := by
  simp only [List.Forall]; repeat' constructor
abbrev hostOps4_W : List (Ref sig .tc) := [main_v22, main_v23, main_v24, main_v25, main_v26, main_v27]
theorem hostOps4_writes : (hostOps4 : List (HloOp τ sig (Elt F))).Forall fun op => op.writes ⊆ (hostOps4_W.map (Proc.devRef (τ := τ) .tc)).toFinset :=
  StableHlo.forall_writes_sub_of_map rfl
theorem hostOps4_args : ∀ a ∈ argRefs, a ∉ hostOps4_W := ListAll.forall_mem_of_all_decide (by decide +kernel)

theorem hostOps5_fresh : (hostOps5 : List (HloOp τ sig (Elt F))).Forall fun op => op.fresh = ∅ := by
  simp only [List.Forall]; repeat' constructor
abbrev hostOps5_W : List (Ref sig .tc) := [main_v29, main_v30]
theorem hostOps5_writes : (hostOps5 : List (HloOp τ sig (Elt F))).Forall fun op => op.writes ⊆ (hostOps5_W.map (Proc.devRef (τ := τ) .tc)).toFinset :=
  StableHlo.forall_writes_sub_of_map rfl
theorem hostOps5_args : ∀ a ∈ argRefs, a ∉ hostOps5_W := ListAll.forall_mem_of_all_decide (by decide +kernel)

/-- The contents at launch, -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- after the host operations before the first call, -/
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
abbrev V3 : (c : Dev nD) → (b : Ref sig .tc) → Buf (Elt F) ((c : Thread nD τ).loc b) := fun c b => W3 m ρ c b
/-- after the first call, -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- after the host operations before the second call, -/
abbrev W5 : Dev nD → Valuation τ sig (Elt F) := fun c => StableHlo.after hostOps1 (W4 m ρ c)
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W5_args (c : Dev nD) : ∀ a ∈ argRefs, W5 m ρ c (Proc.devRef .tc a) = m ((c : Thread nD τ).loc a) :=
  fun a ha => (W5_of m ρ c a (hostOps1_args a ha)).trans (W4_args m ρ c a ha)
abbrev V5 : (c : Dev nD) → (b : Ref sig .tc) → Buf (Elt F) ((c : Thread nD τ).loc b) := fun c b => W5 m ρ c b
/-- after the second call, -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
theorem W6_of (c : Dev nD) (r : Ref sig .tc) (h : ∀ w : Fin cfg1.W, Pipeline.arrRef spec1 w = r → (cfg1.win w).isOut = false) :
    W6 m ρ c (Proc.devRef .tc r) = W5 m ρ c (Proc.devRef .tc r) := by
  by_cases hw : ∃ w : Fin cfg1.W, Pipeline.arrRef spec1 w = r
  · obtain ⟨w, rfl⟩ := hw
    exact (W6_arr m ρ c w).trans (((dat1 (V5 m ρ) c).arrAt_in w (h w rfl) _).trans (A_eq1 (V5 m ρ) c w))
  · exact W6_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn1 a ha)).trans (W5_args m ρ c a ha)
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- after the host operations before the third call, -/
abbrev W7 : Dev nD → Valuation τ sig (Elt F) := fun c => StableHlo.after hostOps2 (W6 m ρ c)
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
theorem W7_args (c : Dev nD) : ∀ a ∈ argRefs, W7 m ρ c (Proc.devRef .tc a) = m ((c : Thread nD τ).loc a) :=
  fun a ha => (W7_of m ρ c a (hostOps2_args a ha)).trans (W6_args m ρ c a ha)
abbrev V7 : (c : Dev nD) → (b : Ref sig .tc) → Buf (Elt F) ((c : Thread nD τ).loc b) := fun c b => W7 m ρ c b
/-- after the third call, -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact (dat2 (V7 m ρ) c).withArrays_arrAt launch₀2.sharedIn _ (A_eq2 (V7 m ρ) c) w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
theorem W8_of (c : Dev nD) (r : Ref sig .tc) (h : ∀ w : Fin cfg2.W, Pipeline.arrRef spec2 w = r → (cfg2.win w).isOut = false) :
    W8 m ρ c (Proc.devRef .tc r) = W7 m ρ c (Proc.devRef .tc r) := by
  by_cases hw : ∃ w : Fin cfg2.W, Pipeline.arrRef spec2 w = r
  · obtain ⟨w, rfl⟩ := hw
    exact (W8_arr m ρ c w).trans (((dat2 (V7 m ρ) c).arrAt_in w (h w rfl) _).trans (A_eq2 (V7 m ρ) c w))
  · exact W8_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn2 a ha)).trans (W7_args m ρ c a ha)
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- after the host operations before the fourth call, -/
abbrev W9 : Dev nD → Valuation τ sig (Elt F) := fun c => StableHlo.after hostOps3 (W8 m ρ c)
theorem W9_of (c : Dev nD) (r : Ref sig .tc) (h : r ∉ hostOps3_W) : W9 m ρ c (Proc.devRef .tc r) = W8 m ρ c (Proc.devRef .tc r) :=
  StableHlo.after_of_writes_sub hostOps3 _ hostOps3_writes h
theorem W9_args (c : Dev nD) : ∀ a ∈ argRefs, W9 m ρ c (Proc.devRef .tc a) = m ((c : Thread nD τ).loc a) :=
  fun a ha => (W9_of m ρ c a (hostOps3_args a ha)).trans (W8_args m ρ c a ha)
abbrev V9 : (c : Dev nD) → (b : Ref sig .tc) → Buf (Elt F) ((c : Thread nD τ).loc b) := fun c b => W9 m ρ c b
/-- after the fourth call, -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
theorem W10_of (c : Dev nD) (r : Ref sig .tc) (h : ∀ w : Fin cfg3.W, Pipeline.arrRef spec3 w = r → (cfg3.win w).isOut = false) :
    W10 m ρ c (Proc.devRef .tc r) = W9 m ρ c (Proc.devRef .tc r) := by
  by_cases hw : ∃ w : Fin cfg3.W, Pipeline.arrRef spec3 w = r
  · obtain ⟨w, rfl⟩ := hw
    exact (W10_arr m ρ c w).trans (((dat3 (V9 m ρ) c).arrAt_in w (h w rfl) _).trans (A_eq3 (V9 m ρ) c w))
  · exact W10_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn3 a ha)).trans (W9_args m ρ c a ha)
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)

/-- after the host operations before the fifth call, -/
abbrev W11 : Dev nD → Valuation τ sig (Elt F) := fun c => StableHlo.after hostOps4 (W10 m ρ c)
theorem W11_of (c : Dev nD) (r : Ref sig .tc) (h : r ∉ hostOps4_W) : W11 m ρ c (Proc.devRef .tc r) = W10 m ρ c (Proc.devRef .tc r) :=
  StableHlo.after_of_writes_sub hostOps4 _ hostOps4_writes h
theorem W11_args (c : Dev nD) : ∀ a ∈ argRefs, W11 m ρ c (Proc.devRef .tc a) = m ((c : Thread nD τ).loc a) :=
  fun a ha => (W11_of m ρ c a (hostOps4_args a ha)).trans (W10_args m ρ c a ha)
abbrev V11 : (c : Dev nD) → (b : Ref sig .tc) → Buf (Elt F) ((c : Thread nD τ).loc b) := fun c b => W11 m ρ c b
/-- after the fifth call, -/
def W12 (c : Dev nD) : Valuation τ sig (Elt F) :=
  Pipeline.withArrays spec4 c (W11 m ρ c) fun w => (dat4 (V11 m ρ) c).arrAt w cfg4.N
theorem W12_arr (c : Dev nD) (w : Fin cfg4.W) :
    W12 m ρ c (Proc.devRef .tc (Pipeline.arrRef spec4 w)) = (dat4 (V11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
theorem W12_of (c : Dev nD) (r : Ref sig .tc) (h : ∀ w : Fin cfg4.W, Pipeline.arrRef spec4 w = r → (cfg4.win w).isOut = false) :
    W12 m ρ c (Proc.devRef .tc r) = W11 m ρ c (Proc.devRef .tc r) := by
  by_cases hw : ∃ w : Fin cfg4.W, Pipeline.arrRef spec4 w = r
  · obtain ⟨w, rfl⟩ := hw
    exact (W12_arr m ρ c w).trans (((dat4 (V11 m ρ) c).arrAt_in w (h w rfl) _).trans (A_eq4 (V11 m ρ) c w))
  · exact W12_of_ne m ρ c r fun w e => hw ⟨w, e⟩
theorem argsIn4 : ∀ a ∈ argRefs, ∀ w : Fin cfg4.W, Pipeline.arrRef spec4 w = a → (cfg4.win w).isOut = false :=
  ListAll.forall_mem_of_all_decide (by decide +kernel)
theorem W12_args (c : Dev nD) : ∀ a ∈ argRefs, W12 m ρ c (Proc.devRef .tc a) = m ((c : Thread nD τ).loc a) :=
  fun a ha => (W12_of m ρ c a (argsIn4 a ha)).trans (W11_args m ρ c a ha)
abbrev V12 : (c : Dev nD) → (b : Ref sig .tc) → Buf (Elt F) ((c : Thread nD τ).loc b) := fun c b => W12 m ρ c b
theorem hF4 (c : Dev nD) (w : Fin cfg4.W) : (dat4 (V11 m ρ) c).arrAt w cfg4.N = V12 m ρ c (Pipeline.arrRef spec4 w) :=
  (W12_arr m ρ c w).symm
theorem hrest4 (c : Dev nD) : ∀ b, b ∉ Finset.univ.image (Pipeline.arrRef spec4) → V12 m ρ c b = V11 m ρ c b :=
  fun b hb => W12_of_ne m ρ c b fun w e => hb (Finset.mem_image.mpr ⟨w, Finset.mem_univ _, e⟩)

/-- and at the end. -/
abbrev W13 : Dev nD → Valuation τ sig (Elt F) := fun c => StableHlo.after hostOps5 (W12 m ρ c)
theorem W13_of (c : Dev nD) (r : Ref sig .tc) (h : r ∉ hostOps5_W) : W13 m ρ c (Proc.devRef .tc r) = W12 m ρ c (Proc.devRef .tc r) :=
  StableHlo.after_of_writes_sub hostOps5 _ hostOps5_writes h
theorem W13_args (c : Dev nD) : ∀ a ∈ argRefs, W13 m ρ c (Proc.devRef .tc a) = m ((c : Thread nD τ).loc a) :=
  fun a ha => (W13_of m ρ c a (hostOps5_args a ha)).trans (W12_args m ρ c a ha)

abbrev adm : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
  | ⟨4, _⟩ => fun c => dat4 (V11 m ρ) c
abbrev 𝒱₀ : Variants := Variants.none
abbrev L : GSem nD τ sig → Finset Unit := fun _ => ∅
abbrev lv : GSem nD τ sig → Unit → ℕ := fun _ _ => 0
abbrev R (c : Dev nD) : SP F := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : SP F := iprop(StableHlo.held (c : Thread nD τ) (Pipeline.ucRefs τ sig) (W13 m ρ c) ∗ ∃ r, prngReg c r)
set_option backward.isDefEq.respectTransparency.types false in
/-- The first call as a step of the run. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
/-- The second call as a step of the run. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) (A_eq1 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
/-- The third call as a step of the run. -/
def reg2 : Pipeline.RegionSeg (pcfgs (F := F)) adm (pdats m ρ) () defs₀ 𝒱₀ L lv 2 where
  win := launch₀2.win
  block_pos := launch₀2.block_pos
  stage_whole := launch₀2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs_shared (p := 2) (pcfgs (F := F)) adm (pdats m ρ) launch₀2.win launch₀2.sharedIn launch₀2.arr_whole c
      (fun _ _ => rfl) (V7 m ρ c) (A_eq2 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays_shared (p := 2) (pcfgs (F := F)) adm (Ix := Unit) (Name := ℕ) (U := UR sig nD τ) (Lvl := ℕ)
      launch₀2.win launch₀2.sharedIn launch₀2.arr_whole c (pdats m ρ) (fun _ _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
/-- The fourth call as a step of the run. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) (A_eq3 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
/-- The fifth call as a step of the run. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V11 m ρ) c).loose
  hwaits := Pipeline.hwaits_of_owed_zero _ _ _ _ L lv 4 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec4 c (V11 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V11 m ρ c) (A_eq4 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from PhiS4_zero (V11 m ρ) c 0 (Nat.zero_le _) rfl]; unfold Pipeline.ΦA
    iintro ⟨Hp, -, Hr⟩
    isplitl [Hr]; · iexact Hr
    iexact Hp
  hout c := by
    rw [Pipeline.ownSems0_none]
    refine (show (pdats m ρ 4 c).Φ (Fin.last _) ⊢ Pipeline.ΦA spec4 c from hout4 (V11 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V11 m ρ c) (V12 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The whole program as its steps. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ),
    .host (hseg hostOps5 hostOps5_sub hostOps5_fresh (W12 m ρ)) ]
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
/-- Every run ends with the unscoped arrays at the last contents and every counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W13 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : SP F)
            ⊢ BI.own (emb₁ (initOf (Pipeline.cells cfgs cellOf_inj) (Pipeline.launchToks cfgs cellOf_inj))) from .rfl)
        iexact Hu
      iapply (show (BI.emp : SP F) ⊢ bigSep Finset.univ (fun _ : Dev nD => (BI.emp : SP F)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => ⟨h, funext fun g => hz g (.inr (no_unscoped g.2))⟩)

/-- Every run ends with the arguments unchanged and every counter at zero. -/
theorem arrays_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => ⟨fun c =>
      ⟨(h.1 c _ (mem_uc main_arg0 (by decide))).trans (W13_args m ρ c main_arg0 (by decide)),
       (h.1 c _ (mem_uc main_arg1 (by decide))).trans (W13_args m ρ c main_arg1 (by decide)),
       (h.1 c _ (mem_uc main_arg2 (by decide))).trans (W13_args m ρ c main_arg2 (by decide)),
       (h.1 c _ (mem_uc main_arg3 (by decide))).trans (W13_args m ρ c main_arg3 (by decide)),
       (h.1 c _ (mem_uc main_arg4 (by decide))).trans (W13_args m ρ c main_arg4 (by decide)),
       (h.1 c _ (mem_uc main_arg5 (by decide))).trans (W13_args m ρ c main_arg5 (by decide)),
       (h.1 c _ (mem_uc main_arg6 (by decide))).trans (W13_args m ρ c main_arg6 (by decide)),
       (h.1 c _ (mem_uc main_arg7 (by decide))).trans (W13_args m ρ c main_arg7 (by decide)),
       (h.1 c _ (mem_uc main_arg8 (by decide))).trans (W13_args m ρ c main_arg8 (by decide)),
       (h.1 c _ (mem_uc main_arg9 (by decide))).trans (W13_args m ρ c main_arg9 (by decide)),
       (h.1 c _ (mem_uc main_arg10 (by decide))).trans (W13_args m ρ c main_arg10 (by decide)),
       (h.1 c _ (mem_uc main_arg11 (by decide))).trans (W13_args m ρ c main_arg11 (by decide)),
       (h.1 c _ (mem_uc main_arg12 (by decide))).trans (W13_args m ρ c main_arg12 (by decide))⟩, h.2⟩) (run_all m ρ)

end Cert.SampleOutIdeal.Steps

end
-- ==== Proof.SampleOutSame.lean ====
/- The sample's five calls outside its attentions in one program: the printed program runs as its ideal twin does, so its arguments are unchanged too. -/
module

public import proofs.«01_k».proof.Defs
public import proofs.«01_k».proof.Proof.SampleOutSteps
public import proofs.«01_k».proof.Proof.Gen.SampleOut.Launch

@[expose] public section

set_option maxHeartbeats 4000000

open Idealize.ShloMosaic Idealize.ShloMosaic.TcCoe Idealize.SL.Sem

namespace Cert.SampleOut.Same

open Cert.SampleOut Cert.SampleOut.Gen

variable {F : FTy → Type} [FloatOps F]
variable (m : (ℓ : Loc nD τ sig) → Buf (Elt F) ℓ) (ρ : Dev nD → PrngReg)

set_option smartUnfolding false in
/-- The two programs' bodies are the same. -/
theorem defs_same : Cert.SampleOutIdeal.defs (F := F) = Cert.SampleOut.defs (F := F) := by with_unfolding_all exact rfl

/-- Every run ends with the arguments unchanged and every counter at zero. -/
theorem arrays_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) := by
  have h := Cert.SampleOutIdeal.Steps.arrays_kept m ρ
  rw [defs_same] at h
  exact h

end Cert.SampleOut.Same

end
-- ==== Proof.InProj.lean ====
/- The projection call's result array is the reference's projection, column by column: the value
   claim of the pair `KernelIdeal` / `ReferenceIdeal`. -/
module

public import proofs.«01_k».proof.Defs
public import proofs.«01_k».proof.Proof.Gen.KernelIdeal.Frame
public import proofs.«01_k».proof.Proof.Gen.ReferenceIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Proj

open Cert.KernelIdeal Cert.KernelIdeal.Gen

variable (m : (ℓ : Loc nD τ sig) → Buf (Elt Ideal) ℓ)

/-- The element at which the weight window begins on the rows of the transposed weight: row block `q`
    of the result takes rows 1024·q, then 4176 + 1024·(q - 4), then 4096. -/
abbrev wrow (q : ℕ) : ℕ := if q < 4 then 1024 * q else if q < 11 then 4176 + 1024 * (q - 4) else 4096

/-- The three windows' offsets at every grid point. -/
theorem idx : ∀ t : Fin cfg0.N, win0_0.index t = ![t.val % 8, 0] ∧ win0_1.index t = ![wrow (t.val / 8), 0]
    ∧ win0_2.index t = ![t.val % 8, t.val / 8] :=
  (by decide +kernel : ∀ t : Fin grid0.N, _)

/-- The carried scratch after point `n` is the rounded weight block of the first point of `n`'s run. -/
theorem scratch (c : Dev nD) : ∀ (n : ℕ) (h : n < cfg0.N) (h' : 8 * (n / 8) < cfg0.N),
    (outsAt0 m c n h).2 = k0_pay1 (iblk m c 1 ⟨8 * (n / 8), h'⟩) := by
  intro n
  induction n with
  | zero =>
    intro h h'
    rw [outsAt0_A m c ⟨0, h⟩ rfl]
    frame_out
  | succ n ih =>
    intro h h'
    by_cases h0 : (n + 1) % 8 = 0
    · rw [outsAt0_A m c ⟨n + 1, h⟩ h0]
      frame_out
      have e : (⟨8 * ((n + 1) / 8), h'⟩ : Fin cfg0.N) = ⟨n + 1, h⟩ := Fin.ext (by show 8 * ((n + 1) / 8) = n + 1; omega)
      rw [e]
    · rw [outsAt0_B m c ⟨n + 1, h⟩ h0]
      have hd : (n + 1) / 8 = n / 8 := by omega
      unfold sout0_B_0
      simp only [Nat.add_sub_cancel]
      rw [ih (Nat.lt_of_succ_lt h) (by rw [← hd]; exact h')]
      exact congrArg (fun u => k0_pay1 (iblk m c 1 u)) (Fin.ext (congrArg (8 * ·) hd.symm))

/-- What the output's staging buffer holds after point `t`: the product of the row block of `h` and the
    rounded weight block of the run. -/
theorem out (c : Dev nD) (t : Fin cfg0.N) (h' : 8 * (t.val / 8) < cfg0.N) :
    (outsAt0 m c t.val t.isLt).1 = k0_pay2 (iblk m c 0 t) (k0_pay1 (iblk m c 1 ⟨8 * (t.val / 8), h'⟩)) := by
  by_cases h0 : t.val % 8 = 0
  · rw [outsAt0_A m c t h0]
    have e : (⟨8 * (t.val / 8), h'⟩ : Fin cfg0.N) = t := Fin.ext (by show 8 * (t.val / 8) = t.val; omega)
    rw [e]
    frame_out
  · rw [outsAt0_B m c t h0]
    frame_out
    simp only [read_unread_whole]
    rw [scratch m c (t.val - 1) (by omega) (by omega)]
    have e : (t.val - 1) / 8 = t.val / 8 := by omega
    exact congrArg (fun u => k0_pay2 (iblk m c 0 t) (k0_pay1 (iblk m c 1 u))) (Fin.ext (congrArg (8 * ·) e))

/-- The reference's composed term over the two arguments. -/
def REF (H : FVec Ideal S8192x2048 .bf16) (W : FVec Ideal S1x2048x11344 .f32) : FVec Ideal S8192x12288 .f32 :=
  (concatenate Cert.ReferenceIdeal.S8192x12288 1 [⟨Cert.ReferenceIdeal.S8192x4096, ((extractStridedSlice Cert.ReferenceIdeal.S8192x4096 ![0, 0] (Host.dotGeneral Cert.ReferenceIdeal.dot_S8192x2048_S2048x11344_S8192x11344_1_0_0_1_n_n none (extf .f32 H Cert.ReferenceIdeal.Gen.bitsLt_bf16_f32) (shapeCast _ W Cert.ReferenceIdeal.Gen.shapeCasts_S1x2048x11344_S2048x11344)) Cert.ReferenceIdeal.Gen.slices_S8192x11344_S8192x4096_0_0))⟩,
    ⟨Cert.ReferenceIdeal.S8192x7168, ((extractStridedSlice Cert.ReferenceIdeal.S8192x7168 ![0, 4176] (Host.dotGeneral Cert.ReferenceIdeal.dot_S8192x2048_S2048x11344_S8192x11344_1_0_0_1_n_n none (extf .f32 H Cert.ReferenceIdeal.Gen.bitsLt_bf16_f32) (shapeCast _ W Cert.ReferenceIdeal.Gen.shapeCasts_S1x2048x11344_S2048x11344)) Cert.ReferenceIdeal.Gen.slices_S8192x11344_S8192x7168_0_4176))⟩,
    ⟨Cert.ReferenceIdeal.S8192x1024, ((extractStridedSlice Cert.ReferenceIdeal.S8192x1024 ![0, 4096] (Host.dotGeneral Cert.ReferenceIdeal.dot_S8192x2048_S2048x11344_S8192x11344_1_0_0_1_n_n none (extf .f32 H Cert.ReferenceIdeal.Gen.bitsLt_bf16_f32) (shapeCast _ W Cert.ReferenceIdeal.Gen.shapeCasts_S1x2048x11344_S2048x11344)) Cert.ReferenceIdeal.Gen.slices_S8192x11344_S8192x1024_0_4096))⟩] Cert.ReferenceIdeal.Gen.concatenates_S8192x4096_S8192x7168_S8192x1024_S8192x12288_d1)

/-- A place of the weight window lies, on the rows, that far past the row at which the window begins, -/
theorem wemb0 (t : Fin cfg0.N) (o : ℕ) (y : S1024x2048.Idx) (h : win0_1.index t = ![o, 0]) (z : S1024x2048.Idx) (hz : z = y) :
    (((View.whole main_v1).slice (win0_1.rect t)).emb z 0).val = o + (y 0).val := by
  subst hz
  have e := win0_1.rect_emb_val_off t z 0
  rw [h] at e
  exact e

/-- and on the columns where it is. -/
theorem wemb1 (t : Fin cfg0.N) (o : ℕ) (y : S1024x2048.Idx) (h : win0_1.index t = ![o, 0]) (z : S1024x2048.Idx) (hz : z = y) :
    (((View.whole main_v1).slice (win0_1.rect t)).emb z 1).val = (y 1).val := by
  subst hz
  have e := win0_1.rect_emb_val_off t z 1
  rw [h] at e
  exact e.trans (Nat.zero_add _)

/-- What the call finds in its prepared operand `main_v1`: the argument's entries, placed anew. -/
theorem read_main_v1 (c : Dev nD) : V m c main_v1 = fun i => m ((c : Thread nD τ).loc main_arg1) (ix3 0 (i 1) (i 0)) := by
  funext i
  show StableHlo.after hostOps0 (fun b => m (c, b)) (Proc.devRef .tc main_v1) i = _
  after_results
  pointwise

/-- At a point and a place of its block, the product is the reference's entry where the block lies. -/
theorem point (c : Dev nD) (t : Fin cfg0.N) (h' : 8 * (t.val / 8) < cfg0.N) (y) :
    k0_pay2 (iblk m c 0 t) (k0_pay1 (iblk m c 1 ⟨8 * (t.val / 8), h'⟩)) y
      = REF (m ((c : Thread nD τ).loc main_arg0)) (m ((c : Thread nD τ).loc main_arg1)) (((cfg0.win 2).blk t).view.emb y) := by
  pointwise [k0_pay2, k0_pay1, REF]
  have hN : t.val < 96 := lt_of_lt_of_eq t.isLt N_0
  have i1 := idx ⟨8 * (t.val / 8), h'⟩
  have e1 : 8 * (t.val / 8) / 8 = t.val / 8 := by omega
  have hw : ((((cfg0.win 2).blk t).view.emb y 1 : Fin _) : ℕ) = t.val / 8 * 1024 + (y 1).val := by
    blk_simp [idx t]
  have hy : (y 1).val < 1024 := (y 1).isLt
  split <;> rename_i h4
  · have h5 : win0_1.index ⟨8 * (t.val / 8), h'⟩ = ![1024 * (t.val / 8), 0] := by
      rw [i1.2.1]; dsimp only [wrow]; rw [e1, if_pos]; rw [hw] at h4; omega
    blk_point [iblk, V_main_arg0, idx t]
    exact (congrFun (read_main_v1 m c) _).trans (congrArg₂ (fun a b => m ((c : Thread nD τ).loc main_arg1) (ix3 0 a b))
      (Fin.ext ((wemb1 _ _ _ h5 _ rfl).trans rfl))
      (Fin.ext ((wemb0 _ _ _ h5 _ rfl).trans (by show 1024 * (t.val / 8) + (y 1).val = _; dsimp only; omega))))
  split <;> rename_i h11
  · have h5 : win0_1.index ⟨8 * (t.val / 8), h'⟩ = ![4176 + 1024 * (t.val / 8 - 4), 0] := by
      rw [hw] at h4 h11
      rw [i1.2.1]; dsimp only [wrow]; rw [e1, if_neg (by omega), if_pos (by omega)]
    blk_point [iblk, V_main_arg0, idx t]
    exact (congrFun (read_main_v1 m c) _).trans (congrArg₂ (fun a b => m ((c : Thread nD τ).loc main_arg1) (ix3 0 a b))
      (Fin.ext ((wemb1 _ _ _ h5 _ rfl).trans rfl))
      (Fin.ext ((wemb0 _ _ _ h5 _ rfl).trans (by rw [hw] at h4 h11; show 4176 + 1024 * (t.val / 8 - 4) + (y 1).val = _; dsimp only; omega))))
  · have h5 : win0_1.index ⟨8 * (t.val / 8), h'⟩ = ![4096, 0] := by
      rw [hw] at h4 h11
      rw [i1.2.1]; dsimp only [wrow]; rw [e1, if_neg (by omega), if_neg (by omega)]
    blk_point [iblk, V_main_arg0, idx t]
    exact (congrFun (read_main_v1 m c) _).trans (congrArg₂ (fun a b => m ((c : Thread nD τ).loc main_arg1) (ix3 0 a b))
      (Fin.ext ((wemb1 _ _ _ h5 _ rfl).trans rfl))
      (Fin.ext ((wemb0 _ _ _ h5 _ rfl).trans (by rw [hw] at h4 h11; show 4096 + (y 1).val = _; dsimp only; omega))))

/-- The result array after the run is the reference's term over the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  have hN : t.val < 96 := lt_of_lt_of_eq t.isLt N_0
  have h' : 8 * (t.val / 8) < cfg0.N := lt_of_lt_of_eq (by omega) N_0.symm
  rw [after0_2, out m c t h']
  exact point m c t h' y

/-- The reference's entry in its first columns, as a sum, -/
theorem ref_low (A0 : FVec Ideal S8192x2048 .bf16) (A1 : FVec Ideal S1x2048x11344 .f32) (r : Fin 8192) (k : Fin 12288) (j : Fin 11344)
    (h : k.val < 4096) (hj : j.val = k.val) : REF A0 A1 (ix2 r k) = ∑ x : Fin 2048, A0 (ix2 r x) * A1 (ix3 0 x j) := by
  pointwise [REF]
  rw [dif_pos h]
  blk_point []

/-- in the columns between, -/
theorem ref_mid (A0 : FVec Ideal S8192x2048 .bf16) (A1 : FVec Ideal S1x2048x11344 .f32) (r : Fin 8192) (k : Fin 12288) (j : Fin 11344)
    (h : 4096 ≤ k.val) (h1 : k.val < 11264) (hj : j.val = k.val + 80) : REF A0 A1 (ix2 r k) = ∑ x : Fin 2048, A0 (ix2 r x) * A1 (ix3 0 x j) := by
  pointwise [REF]
  rw [dif_neg (by omega), dif_pos (by omega)]
  blk_point []

/-- and in the last columns. -/
theorem ref_high (A0 : FVec Ideal S8192x2048 .bf16) (A1 : FVec Ideal S1x2048x11344 .f32) (r : Fin 8192) (k : Fin 12288) (j : Fin 11344)
    (h : 11264 ≤ k.val) (hj : j.val + 7168 = k.val) : REF A0 A1 (ix2 r k) = ∑ x : Fin 2048, A0 (ix2 r x) * A1 (ix3 0 x j) := by
  pointwise [REF]
  rw [dif_neg (by omega), dif_neg (by omega)]
  blk_point []

/-- Where the keys of the sparse branch lie in the projection. -/
theorem place1 (X : FVec Ideal S8192x12288 .f32) (i) (r : Fin 8192) (k : Fin 12288) (hr : r.val = (i 1).val * 4096 + (i 2).val) (hk : k.val = 1024 + ((i 3).val * 128 + (i 4).val)) :
    (broadcastInDim S1x2x4096x8x128 ![1, 2, 3, 4] bcast_S2x4096x8x128_S1x2x4096x8x128_1_2_3_4
      (shapeCast S2x4096x8x128 (extractStridedSlice S8192x1024 ![0, 1024] X slices_S8192x12288_S8192x1024_0_1024) shapeCasts_S8192x1024_S2x4096x8x128)) i = X (ix2 r k) := by
  pointwise
  blk_ext []

/-- The reference's keys of the sparse branch. -/
def OUT1 (A0 : FVec Ideal S8192x2048 .bf16) (A1 : FVec Ideal S1x2048x11344 .f32) : FVec Ideal S1x2x4096x8x128 .f32 :=
  shapeCast _ (extractStridedSlice Cert.ReferenceIdeal.S8192x1024 ![0, 1024] (Host.dotGeneral Cert.ReferenceIdeal.dot_S8192x2048_S2048x11344_S8192x11344_1_0_0_1_n_n none (extf .f32 A0 Cert.ReferenceIdeal.Gen.bitsLt_bf16_f32) (shapeCast _ A1 Cert.ReferenceIdeal.Gen.shapeCasts_S1x2048x11344_S2048x11344)) Cert.ReferenceIdeal.Gen.slices_S8192x11344_S8192x1024_0_1024) Cert.ReferenceIdeal.Gen.shapeCasts_S8192x1024_S1x2x4096x8x128

/-- The columns of the projection that are the keys of the sparse branch are the reference's. -/
theorem rows1 (A0 : FVec Ideal S8192x2048 .bf16) (A1 : FVec Ideal S1x2048x11344 .f32) :
    broadcastInDim S1x2x4096x8x128 ![1, 2, 3, 4] bcast_S2x4096x8x128_S1x2x4096x8x128_1_2_3_4
      (shapeCast S2x4096x8x128 (extractStridedSlice S8192x1024 ![0, 1024] (REF A0 A1) slices_S8192x12288_S8192x1024_0_1024) shapeCasts_S8192x1024_S2x4096x8x128)
    = OUT1 A0 A1 := by
  funext i
  have h1 : (i 1).val < 2 := (i 1).isLt
  have h2 : (i 2).val < 4096 := (i 2).isLt
  have h3 : (i 3).val < 8 := (i 3).isLt
  have h4 : (i 4).val < 128 := (i 4).isLt
  rw [place1 _ i ⟨(i 1).val * 4096 + (i 2).val, by omega⟩ ⟨1024 + ((i 3).val * 128 + (i 4).val), by omega⟩ rfl rfl,
    ref_low _ _ _ _ ⟨1024 + ((i 3).val * 128 + (i 4).val), by omega⟩ (by show _ < _; dsimp only; omega) rfl]
  pointwise [OUT1]

/-- Where the values of the sparse branch lie in the projection. -/
theorem place2 (X : FVec Ideal S8192x12288 .f32) (i) (r : Fin 8192) (k : Fin 12288) (hr : r.val = (i 1).val * 4096 + (i 2).val) (hk : k.val = 2048 + ((i 3).val * 128 + (i 4).val)) :
    (broadcastInDim S1x2x4096x8x128 ![1, 2, 3, 4] bcast_S2x4096x8x128_S1x2x4096x8x128_1_2_3_4
      (shapeCast S2x4096x8x128 (extractStridedSlice S8192x1024 ![0, 2048] X slices_S8192x12288_S8192x1024_0_2048) shapeCasts_S8192x1024_S2x4096x8x128)) i = X (ix2 r k) := by
  pointwise
  blk_ext []

/-- The reference's values of the sparse branch. -/
def OUT2 (A0 : FVec Ideal S8192x2048 .bf16) (A1 : FVec Ideal S1x2048x11344 .f32) : FVec Ideal S1x2x4096x8x128 .f32 :=
  shapeCast _ (extractStridedSlice Cert.ReferenceIdeal.S8192x1024 ![0, 2048] (Host.dotGeneral Cert.ReferenceIdeal.dot_S8192x2048_S2048x11344_S8192x11344_1_0_0_1_n_n none (extf .f32 A0 Cert.ReferenceIdeal.Gen.bitsLt_bf16_f32) (shapeCast _ A1 Cert.ReferenceIdeal.Gen.shapeCasts_S1x2048x11344_S2048x11344)) Cert.ReferenceIdeal.Gen.slices_S8192x11344_S8192x1024_0_2048) Cert.ReferenceIdeal.Gen.shapeCasts_S8192x1024_S1x2x4096x8x128

/-- The columns of the projection that are the values of the sparse branch are the reference's. -/
theorem rows2 (A0 : FVec Ideal S8192x2048 .bf16) (A1 : FVec Ideal S1x2048x11344 .f32) :
    broadcastInDim S1x2x4096x8x128 ![1, 2, 3, 4] bcast_S2x4096x8x128_S1x2x4096x8x128_1_2_3_4
      (shapeCast S2x4096x8x128 (extractStridedSlice S8192x1024 ![0, 2048] (REF A0 A1) slices_S8192x12288_S8192x1024_0_2048) shapeCasts_S8192x1024_S2x4096x8x128)
    = OUT2 A0 A1 := by
  funext i
  have h1 : (i 1).val < 2 := (i 1).isLt
  have h2 : (i 2).val < 4096 := (i 2).isLt
  have h3 : (i 3).val < 8 := (i 3).isLt
  have h4 : (i 4).val < 128 := (i 4).isLt
  rw [place2 _ i ⟨(i 1).val * 4096 + (i 2).val, by omega⟩ ⟨2048 + ((i 3).val * 128 + (i 4).val), by omega⟩ rfl rfl,
    ref_low _ _ _ _ ⟨2048 + ((i 3).val * 128 + (i 4).val), by omega⟩ (by show _ < _; dsimp only; omega) rfl]
  pointwise [OUT2]

/-- Where the indexer keys lie in the projection. -/
theorem place3 (X : FVec Ideal S8192x12288 .f32) (i) (r : Fin 8192) (k : Fin 12288) (hr : r.val = (i 1).val * 4096 + (i 2).val) (hk : k.val = 11264 + (i 3).val) :
    (broadcastInDim S1x2x4096x64 ![1, 2, 3] bcast_S2x4096x64_S1x2x4096x64_1_2_3
      (shapeCast S2x4096x64 (extractStridedSlice S8192x64 ![0, 11264] X slices_S8192x12288_S8192x64_0_11264) shapeCasts_S8192x64_S2x4096x64)) i = X (ix2 r k) := by
  pointwise
  blk_ext []

/-- The reference's indexer keys. -/
def OUT3 (A0 : FVec Ideal S8192x2048 .bf16) (A1 : FVec Ideal S1x2048x11344 .f32) : FVec Ideal S1x2x4096x64 .f32 :=
  shapeCast _ (extractStridedSlice Cert.ReferenceIdeal.S8192x64 ![0, 4096] (Host.dotGeneral Cert.ReferenceIdeal.dot_S8192x2048_S2048x11344_S8192x11344_1_0_0_1_n_n none (extf .f32 A0 Cert.ReferenceIdeal.Gen.bitsLt_bf16_f32) (shapeCast _ A1 Cert.ReferenceIdeal.Gen.shapeCasts_S1x2048x11344_S2048x11344)) Cert.ReferenceIdeal.Gen.slices_S8192x11344_S8192x64_0_4096) Cert.ReferenceIdeal.Gen.shapeCasts_S8192x64_S1x2x4096x64

/-- The columns of the projection that are the indexer keys are the reference's. -/
theorem rows3 (A0 : FVec Ideal S8192x2048 .bf16) (A1 : FVec Ideal S1x2048x11344 .f32) :
    broadcastInDim S1x2x4096x64 ![1, 2, 3] bcast_S2x4096x64_S1x2x4096x64_1_2_3
      (shapeCast S2x4096x64 (extractStridedSlice S8192x64 ![0, 11264] (REF A0 A1) slices_S8192x12288_S8192x64_0_11264) shapeCasts_S8192x64_S2x4096x64)
    = OUT3 A0 A1 := by
  funext i
  have h1 : (i 1).val < 2 := (i 1).isLt
  have h2 : (i 2).val < 4096 := (i 2).isLt
  have h3 : (i 3).val < 64 := (i 3).isLt
  rw [place3 _ i ⟨(i 1).val * 4096 + (i 2).val, by omega⟩ ⟨11264 + (i 3).val, by omega⟩ rfl rfl,
    ref_high _ _ _ _ ⟨4096 + (i 3).val, by omega⟩ (by dsimp only; omega) (by dsimp only; omega)]
  pointwise [OUT3]

/-- Where the keys of the stick-breaking branch lie in the projection. -/
theorem place4 (X : FVec Ideal S8192x12288 .f32) (i) (r : Fin 8192) (k : Fin 12288) (hr : r.val = (i 1).val * 4096 + (i 2).val) (hk : k.val = 5120 + ((i 3).val * 128 + (i 4).val)) :
    (broadcastInDim S1x2x4096x8x128 ![1, 2, 3, 4] bcast_S2x4096x8x128_S1x2x4096x8x128_1_2_3_4
      (shapeCast S2x4096x8x128 (extractStridedSlice S8192x1024 ![0, 5120] X slices_S8192x12288_S8192x1024_0_5120) shapeCasts_S8192x1024_S2x4096x8x128)) i = X (ix2 r k) := by
  pointwise
  blk_ext []

/-- The reference's keys of the stick-breaking branch. -/
def OUT4 (A0 : FVec Ideal S8192x2048 .bf16) (A1 : FVec Ideal S1x2048x11344 .f32) : FVec Ideal S1x2x4096x8x128 .f32 :=
  shapeCast _ (extractStridedSlice Cert.ReferenceIdeal.S8192x1024 ![0, 5200] (Host.dotGeneral Cert.ReferenceIdeal.dot_S8192x2048_S2048x11344_S8192x11344_1_0_0_1_n_n none (extf .f32 A0 Cert.ReferenceIdeal.Gen.bitsLt_bf16_f32) (shapeCast _ A1 Cert.ReferenceIdeal.Gen.shapeCasts_S1x2048x11344_S2048x11344)) Cert.ReferenceIdeal.Gen.slices_S8192x11344_S8192x1024_0_5200) Cert.ReferenceIdeal.Gen.shapeCasts_S8192x1024_S1x2x4096x8x128

/-- The columns of the projection that are the keys of the stick-breaking branch are the reference's. -/
theorem rows4 (A0 : FVec Ideal S8192x2048 .bf16) (A1 : FVec Ideal S1x2048x11344 .f32) :
    broadcastInDim S1x2x4096x8x128 ![1, 2, 3, 4] bcast_S2x4096x8x128_S1x2x4096x8x128_1_2_3_4
      (shapeCast S2x4096x8x128 (extractStridedSlice S8192x1024 ![0, 5120] (REF A0 A1) slices_S8192x12288_S8192x1024_0_5120) shapeCasts_S8192x1024_S2x4096x8x128)
    = OUT4 A0 A1 := by
  funext i
  have h1 : (i 1).val < 2 := (i 1).isLt
  have h2 : (i 2).val < 4096 := (i 2).isLt
  have h3 : (i 3).val < 8 := (i 3).isLt
  have h4 : (i 4).val < 128 := (i 4).isLt
  rw [place4 _ i ⟨(i 1).val * 4096 + (i 2).val, by omega⟩ ⟨5120 + ((i 3).val * 128 + (i 4).val), by omega⟩ rfl rfl,
    ref_mid _ _ _ _ ⟨5200 + ((i 3).val * 128 + (i 4).val), by omega⟩ (by dsimp only; omega) (by dsimp only; omega) (by dsimp only; omega)]
  pointwise [OUT4]

/-- Where the values of the stick-breaking branch lie in the projection. -/
theorem place5 (X : FVec Ideal S8192x12288 .f32) (i) (r : Fin 8192) (k : Fin 12288) (hr : r.val = (i 1).val * 4096 + (i 2).val) (hk : k.val = 6144 + ((i 3).val * 128 + (i 4).val)) :
    (broadcastInDim S1x2x4096x8x128 ![1, 2, 3, 4] bcast_S2x4096x8x128_S1x2x4096x8x128_1_2_3_4
      (shapeCast S2x4096x8x128 (extractStridedSlice S8192x1024 ![0, 6144] X slices_S8192x12288_S8192x1024_0_6144) shapeCasts_S8192x1024_S2x4096x8x128)) i = X (ix2 r k) := by
  pointwise
  blk_ext []

/-- The reference's values of the stick-breaking branch. -/
def OUT5 (A0 : FVec Ideal S8192x2048 .bf16) (A1 : FVec Ideal S1x2048x11344 .f32) : FVec Ideal S1x2x4096x8x128 .f32 :=
  shapeCast _ (extractStridedSlice Cert.ReferenceIdeal.S8192x1024 ![0, 6224] (Host.dotGeneral Cert.ReferenceIdeal.dot_S8192x2048_S2048x11344_S8192x11344_1_0_0_1_n_n none (extf .f32 A0 Cert.ReferenceIdeal.Gen.bitsLt_bf16_f32) (shapeCast _ A1 Cert.ReferenceIdeal.Gen.shapeCasts_S1x2048x11344_S2048x11344)) Cert.ReferenceIdeal.Gen.slices_S8192x11344_S8192x1024_0_6224) Cert.ReferenceIdeal.Gen.shapeCasts_S8192x1024_S1x2x4096x8x128

/-- The columns of the projection that are the values of the stick-breaking branch are the reference's. -/
theorem rows5 (A0 : FVec Ideal S8192x2048 .bf16) (A1 : FVec Ideal S1x2048x11344 .f32) :
    broadcastInDim S1x2x4096x8x128 ![1, 2, 3, 4] bcast_S2x4096x8x128_S1x2x4096x8x128_1_2_3_4
      (shapeCast S2x4096x8x128 (extractStridedSlice S8192x1024 ![0, 6144] (REF A0 A1) slices_S8192x12288_S8192x1024_0_6144) shapeCasts_S8192x1024_S2x4096x8x128)
    = OUT5 A0 A1 := by
  funext i
  have h1 : (i 1).val < 2 := (i 1).isLt
  have h2 : (i 2).val < 4096 := (i 2).isLt
  have h3 : (i 3).val < 8 := (i 3).isLt
  have h4 : (i 4).val < 128 := (i 4).isLt
  rw [place5 _ i ⟨(i 1).val * 4096 + (i 2).val, by omega⟩ ⟨6144 + ((i 3).val * 128 + (i 4).val), by omega⟩ rfl rfl,
    ref_mid _ _ _ _ ⟨6224 + ((i 3).val * 128 + (i 4).val), by omega⟩ (by dsimp only; omega) (by dsimp only; omega) (by dsimp only; omega)]
  pointwise [OUT5]

/-- After the run and the slices behind it, the keys of the sparse branch are the reference's. -/
theorem value1 (c : Dev nD) : Pipeline.afterTail₀ cfgs (dats m) 0 (V0 m) [hostOps1] c main_v13
    = OUT1 (m ((c : Thread nD τ).loc main_arg0)) (m ((c : Thread nD τ).loc main_arg1)) := by
  unfold Pipeline.afterTail₀
  simp only [hostOps1, List.flatten_cons, List.flatten_nil, List.append_nil, List.cons_append, List.nil_append]
  after_results_simp
  have e : Pipeline.withArrays (cfgs 0).spec c (V0 m c) (fun w => (dats m 0 c).arrAt w (cfgs 0).N) (Proc.devRef .tc (Pipeline.arrRef spec0 2)) = _ :=
    Pipeline.withArrays_arr _ launch0.win.arr_inj c (V0 m c) (fun w => (dats m 0 c).arrAt w (cfgs 0).N) 2
  rw [final m c] at e
  erw [e]
  exact rows1 _ _

/-- After the run and the slices behind it, the values of the sparse branch are the reference's. -/
theorem value2 (c : Dev nD) : Pipeline.afterTail₀ cfgs (dats m) 0 (V0 m) [hostOps1] c main_v14
    = OUT2 (m ((c : Thread nD τ).loc main_arg0)) (m ((c : Thread nD τ).loc main_arg1)) := by
  unfold Pipeline.afterTail₀
  simp only [hostOps1, List.flatten_cons, List.flatten_nil, List.append_nil, List.cons_append, List.nil_append]
  after_results_simp
  have e : Pipeline.withArrays (cfgs 0).spec c (V0 m c) (fun w => (dats m 0 c).arrAt w (cfgs 0).N) (Proc.devRef .tc (Pipeline.arrRef spec0 2)) = _ :=
    Pipeline.withArrays_arr _ launch0.win.arr_inj c (V0 m c) (fun w => (dats m 0 c).arrAt w (cfgs 0).N) 2
  rw [final m c] at e
  erw [e]
  exact rows2 _ _

/-- After the run and the slices behind it, the indexer keys are the reference's. -/
theorem value3 (c : Dev nD) : Pipeline.afterTail₀ cfgs (dats m) 0 (V0 m) [hostOps1] c main_v15
    = OUT3 (m ((c : Thread nD τ).loc main_arg0)) (m ((c : Thread nD τ).loc main_arg1)) := by
  unfold Pipeline.afterTail₀
  simp only [hostOps1, List.flatten_cons, List.flatten_nil, List.append_nil, List.cons_append, List.nil_append]
  after_results_simp
  have e : Pipeline.withArrays (cfgs 0).spec c (V0 m c) (fun w => (dats m 0 c).arrAt w (cfgs 0).N) (Proc.devRef .tc (Pipeline.arrRef spec0 2)) = _ :=
    Pipeline.withArrays_arr _ launch0.win.arr_inj c (V0 m c) (fun w => (dats m 0 c).arrAt w (cfgs 0).N) 2
  rw [final m c] at e
  erw [e]
  exact rows3 _ _

/-- After the run and the slices behind it, the keys of the stick-breaking branch are the reference's. -/
theorem value4 (c : Dev nD) : Pipeline.afterTail₀ cfgs (dats m) 0 (V0 m) [hostOps1] c main_v16
    = OUT4 (m ((c : Thread nD τ).loc main_arg0)) (m ((c : Thread nD τ).loc main_arg1)) := by
  unfold Pipeline.afterTail₀
  simp only [hostOps1, List.flatten_cons, List.flatten_nil, List.append_nil, List.cons_append, List.nil_append]
  after_results_simp
  have e : Pipeline.withArrays (cfgs 0).spec c (V0 m c) (fun w => (dats m 0 c).arrAt w (cfgs 0).N) (Proc.devRef .tc (Pipeline.arrRef spec0 2)) = _ :=
    Pipeline.withArrays_arr _ launch0.win.arr_inj c (V0 m c) (fun w => (dats m 0 c).arrAt w (cfgs 0).N) 2
  rw [final m c] at e
  erw [e]
  exact rows4 _ _

/-- After the run and the slices behind it, the values of the stick-breaking branch are the reference's. -/
theorem value5 (c : Dev nD) : Pipeline.afterTail₀ cfgs (dats m) 0 (V0 m) [hostOps1] c main_v17
    = OUT5 (m ((c : Thread nD τ).loc main_arg0)) (m ((c : Thread nD τ).loc main_arg1)) := by
  unfold Pipeline.afterTail₀
  simp only [hostOps1, List.flatten_cons, List.flatten_nil, List.append_nil, List.cons_append, List.nil_append]
  after_results_simp
  have e : Pipeline.withArrays (cfgs 0).spec c (V0 m c) (fun w => (dats m 0 c).arrAt w (cfgs 0).N) (Proc.devRef .tc (Pipeline.arrRef spec0 2)) = _ :=
    Pipeline.withArrays_arr _ launch0.win.arr_inj c (V0 m c) (fun w => (dats m 0 c).arrAt w (cfgs 0).N) 2
  rw [final m c] at e
  erw [e]
  exact rows5 _ _

end Cert.KernelIdeal.Proj

end
-- ==== Proof.Rms.lean ====
/- The first normalisation call's result array is the reference's: the value claim of the pair
   `RmsIdeal` / `RefRmsIdeal`. -/
module

public import proofs.«01_k».proof.Defs
public import proofs.«01_k».proof.Proof.Gen.RmsIdeal.Value
public import proofs.«01_k».proof.Proof.Gen.RefRmsIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.RmsIdeal.Norm

open Cert.RmsIdeal Cert.RmsIdeal.Gen

variable (m : (ℓ : Loc nD τ sig) → Buf (Elt Ideal) ℓ)

/-- The reference's composed term over the two arguments. -/
abbrev REF (A0 : FVec Ideal S2x4096x2048 .f32) (A1 : FVec Ideal S1x2048 .f32) : FVec Ideal S8192x2048 .bf16 :=
  truncf .bf16 (shapeCast _ (mulf (mulf A0 (broadcastInDim Cert.RefRmsIdeal.S2x4096x2048 ![0, 1, 2] Cert.RefRmsIdeal.Gen.bcast_S2x4096x1_S2x4096x2048_0_1_2 (Host.rsqrt (addf (Host.divf (broadcastInDim Cert.RefRmsIdeal.S2x4096x1 ![0, 1] Cert.RefRmsIdeal.Gen.bcast_S2x4096_S2x4096x1_0_1 (Host.reduceAdd (mulf A0 A0) (constant Cert.RefRmsIdeal.S_ .f32 0x00000000#32) Cert.RefRmsIdeal.Gen.reducesTo_S2x4096x2048_S2x4096_d2 Cert.RefRmsIdeal.Gen.h_S_)) (broadcastInDim Cert.RefRmsIdeal.S2x4096x1 ![] Cert.RefRmsIdeal.Gen.bcast_S_S2x4096x1 (constant Cert.RefRmsIdeal.S_ .f32 0x45000000#32))) (broadcastInDim Cert.RefRmsIdeal.S2x4096x1 ![] Cert.RefRmsIdeal.Gen.bcast_S_S2x4096x1 (constant Cert.RefRmsIdeal.S_ .f32 0x358637BD#32)))))) (broadcastInDim Cert.RefRmsIdeal.S2x4096x2048 ![0, 1, 2] Cert.RefRmsIdeal.Gen.bcast_S1x1x2048_S2x4096x2048_0_1_2 (broadcastInDim Cert.RefRmsIdeal.S1x1x2048 ![2] Cert.RefRmsIdeal.Gen.bcast_S2048_S1x1x2048_2 (shapeCast _ A1 Cert.RefRmsIdeal.Gen.shapeCasts_S1x2048_S2048)))) Cert.RefRmsIdeal.Gen.shapeCasts_S2x4096x2048_S8192x2048) Cert.RefRmsIdeal.Gen.bitsLt_bf16_f32

/-- The reference's term read at an index. -/
theorem href (A0 A1) (a : Fin 8192) (b : Fin 2048) : REF A0 A1 (ix2 a b)
    = A0 (ix3 ⟨a.val / 4096, by omega⟩ ⟨a.val % 4096, by omega⟩ b)
      * Ideal.rsqrt (Ideal.div (∑ x : Fin 2048, A0 (ix3 ⟨a.val / 4096, by omega⟩ ⟨a.val % 4096, by omega⟩ x) * A0 (ix3 ⟨a.val / 4096, by omega⟩ ⟨a.val % 4096, by omega⟩ x))
          (Ideal.ofBits .f32 0x45000000#32) + Ideal.ofBits .f32 0x358637BD#32)
      * A1 (ix2 0 b) := by
  pointwise [REF]

/-- The three windows' offsets at every grid point. -/
theorem idx : ∀ t : Fin cfg0.N, win0_0.index t = ![t.val, 0] ∧ win0_1.index t = ![0, 0] ∧ win0_2.index t = ![t.val, 0] :=
  (by decide +kernel : ∀ t : Fin grid0.N, _)

/-- At a point and a place of its block, the stored value is the reference's entry where the block lies. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  have ha : ((((cfg0.win 2).blk t).view.emb y 0 : Fin _) : ℕ) = t.val * 256 + (y 0).val := by blk_simp [idx t]
  have hb : ((((cfg0.win 2).blk t).view.emb y 1 : Fin _) : ℕ) = (y 1).val := by blk_simp [idx t]
  obtain ⟨a, b, e⟩ : ∃ (a : Fin 8192) (b : Fin 2048), ((cfg0.win 2).blk t).view.emb y = ix2 a b :=
    ⟨_, _, eq_ix2 _⟩
  rw [e] at ha hb ⊢
  change a.val = _ at ha
  change b.val = _ at hb
  rw [href]
  pointwise [k0_pay1]
  blk_point [iblk, V, idx t]

/-- The result array after the run is the reference's term over the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.RmsIdeal.Norm

end
-- ==== Proof.Merge.lean ====
/- The merge call's result array is the reference's: the value claim of the pair
   `MergeIdeal` / `RefMergeIdeal`. -/
module

public import proofs.«01_k».proof.Defs
public import proofs.«01_k».proof.Proof.Gen.MergeIdeal.Value
public import proofs.«01_k».proof.Proof.Gen.RefMergeIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MergeIdeal.Merge

open Cert.MergeIdeal Cert.MergeIdeal.Gen

variable (m : (ℓ : Loc nD τ sig) → Buf (Elt Ideal) ℓ)

/-- The reference's composed term over the five arguments. -/
abbrev REF (A0 A1 : FVec Ideal S8192x1024 .bf16) (A2 A3 : FVec Ideal S1x1024x2048 .f32) (A4 : FVec Ideal S8192x12288 .f32) : FVec Ideal S8192x2048 .bf16 :=
  truncf .bf16 (addf (mulf (Host.divf (broadcastInDim Cert.RefMergeIdeal.S8192x2048 ![] Cert.RefMergeIdeal.Gen.bcast_S_S8192x2048 (constant Cert.RefMergeIdeal.S_ .f32 0x3F800000#32)) (addf (broadcastInDim Cert.RefMergeIdeal.S8192x2048 ![] Cert.RefMergeIdeal.Gen.bcast_S_S8192x2048 (constant Cert.RefMergeIdeal.S_ .f32 0x3F800000#32)) (Host.exp (Host.negf (extractStridedSlice Cert.RefMergeIdeal.S8192x2048 ![0, 7168] A4 Cert.RefMergeIdeal.Gen.slices_S8192x12288_S8192x2048_0_7168))))) (Host.dotGeneral Cert.RefMergeIdeal.dot_S8192x1024_S1024x2048_S8192x2048_1_0_0_1_n_n none (extf .f32 A0 Cert.RefMergeIdeal.Gen.bitsLt_bf16_f32) (shapeCast _ A2 Cert.RefMergeIdeal.Gen.shapeCasts_S1x1024x2048_S1024x2048))) (mulf (Host.divf (broadcastInDim Cert.RefMergeIdeal.S8192x2048 ![] Cert.RefMergeIdeal.Gen.bcast_S_S8192x2048 (constant Cert.RefMergeIdeal.S_ .f32 0x3F800000#32)) (addf (broadcastInDim Cert.RefMergeIdeal.S8192x2048 ![] Cert.RefMergeIdeal.Gen.bcast_S_S8192x2048 (constant Cert.RefMergeIdeal.S_ .f32 0x3F800000#32)) (Host.exp (Host.negf (extractStridedSlice Cert.RefMergeIdeal.S8192x2048 ![0, 9216] A4 Cert.RefMergeIdeal.Gen.slices_S8192x12288_S8192x2048_0_9216))))) (Host.dotGeneral Cert.RefMergeIdeal.dot_S8192x1024_S1024x2048_S8192x2048_1_0_0_1_n_n none (extf .f32 A1 Cert.RefMergeIdeal.Gen.bitsLt_bf16_f32) (shapeCast _ A3 Cert.RefMergeIdeal.Gen.shapeCasts_S1x1024x2048_S1024x2048)))) Cert.RefMergeIdeal.Gen.bitsLt_bf16_f32

/-- The seven windows' offsets at every grid point. -/
theorem idx : ∀ t : Fin cfg0.N, win0_0.index t = ![t.val % 8, 0] ∧ win0_1.index t = ![t.val % 8, 0] ∧ win0_2.index t = ![0, t.val / 8]
    ∧ win0_3.index t = ![0, t.val / 8] ∧ win0_4.index t = ![t.val % 8, 7 + t.val / 8] ∧ win0_5.index t = ![t.val % 8, 9 + t.val / 8]
    ∧ win0_6.index t = ![t.val % 8, t.val / 8] :=
  (by decide +kernel : ∀ t : Fin grid0.N, _)

/-- At a point and a place of its block, the stored value is the reference's entry where the block lies. -/
theorem point (c : Dev nD) (t : Fin cfg0.N) (y) : k0_pay1 (iblk m c 0 t) (iblk m c 2 t) (iblk m c 1 t) (iblk m c 3 t) (iblk m c 4 t) (iblk m c 5 t) y
    = REF (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 6).blk t).view.emb y) := by
  pointwise [k0_pay1, REF]
  simp only [zero_sub]
  blk_point [iblk, V, idx t]

/-- The result array after the run is the reference's term over the arguments. -/
theorem final (c : Dev nD) : (dats m 0 c).arrAt 6 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]; frame_out
  exact point m c t y

end Cert.MergeIdeal.Merge

end
-- ==== Proof.ProjNorm.lean ====
/- The output projection call's two result arrays are the reference's: the value claim of the pair
   `ProjNormIdeal` / `RefProjNormIdeal`. -/
module

public import proofs.«01_k».proof.Defs
public import proofs.«01_k».proof.Proof.Gen.ProjNormIdeal.Value
public import proofs.«01_k».proof.Proof.Gen.RefProjNormIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ProjNormIdeal.Proj

open Cert.ProjNormIdeal Cert.ProjNormIdeal.Gen

variable (m : (ℓ : Loc nD τ sig) → Buf (Elt Ideal) ℓ)

/-- The reference's first result over its four arguments. -/
abbrev REF (A0 : FVec Ideal S8192x2048 .bf16) (A1 : FVec Ideal S1x2048x2048 .f32) (A2 : FVec Ideal S8192x2048 .f32) (A3 : FVec Ideal S1x2048 .f32) : FVec Ideal S8192x2048 .f32 :=
  addf A2 (mulf (mulf (Host.dotGeneral Cert.RefProjNormIdeal.dot_S8192x2048_S2048x2048_S8192x2048_1_0_0_1_n_n none (extf .f32 A0 Cert.RefProjNormIdeal.Gen.bitsLt_bf16_f32) (shapeCast _ A1 Cert.RefProjNormIdeal.Gen.shapeCasts_S1x2048x2048_S2048x2048)) (broadcastInDim Cert.RefProjNormIdeal.S8192x2048 ![0, 1] Cert.RefProjNormIdeal.Gen.bcast_S8192x1_S8192x2048_0_1 (Host.rsqrt (addf (Host.divf (broadcastInDim Cert.RefProjNormIdeal.S8192x1 ![0] Cert.RefProjNormIdeal.Gen.bcast_S8192_S8192x1_0 (Host.reduceAdd (mulf (Host.dotGeneral Cert.RefProjNormIdeal.dot_S8192x2048_S2048x2048_S8192x2048_1_0_0_1_n_n none (extf .f32 A0 Cert.RefProjNormIdeal.Gen.bitsLt_bf16_f32) (shapeCast _ A1 Cert.RefProjNormIdeal.Gen.shapeCasts_S1x2048x2048_S2048x2048)) (Host.dotGeneral Cert.RefProjNormIdeal.dot_S8192x2048_S2048x2048_S8192x2048_1_0_0_1_n_n none (extf .f32 A0 Cert.RefProjNormIdeal.Gen.bitsLt_bf16_f32) (shapeCast _ A1 Cert.RefProjNormIdeal.Gen.shapeCasts_S1x2048x2048_S2048x2048))) (constant Cert.RefProjNormIdeal.S_ .f32 0x00000000#32) Cert.RefProjNormIdeal.Gen.reducesTo_S8192x2048_S8192_d1 Cert.RefProjNormIdeal.Gen.h_S_)) (broadcastInDim Cert.RefProjNormIdeal.S8192x1 ![] Cert.RefProjNormIdeal.Gen.bcast_S_S8192x1 (constant Cert.RefProjNormIdeal.S_ .f32 0x45000000#32))) (broadcastInDim Cert.RefProjNormIdeal.S8192x1 ![] Cert.RefProjNormIdeal.Gen.bcast_S_S8192x1 (constant Cert.RefProjNormIdeal.S_ .f32 0x358637BD#32)))))) (broadcastInDim Cert.RefProjNormIdeal.S8192x2048 ![0, 1] Cert.RefProjNormIdeal.Gen.bcast_S1x2048_S8192x2048_0_1 (broadcastInDim Cert.RefProjNormIdeal.S1x2048 ![1] Cert.RefProjNormIdeal.Gen.bcast_S2048_S1x2048_1 (shapeCast _ A3 Cert.RefProjNormIdeal.Gen.shapeCasts_S1x2048_S2048))))

/-- The reference's second result over the first one and the last argument. -/
abbrev REF2 (X : FVec Ideal S8192x2048 .f32) (A4 : FVec Ideal S1x2048 .f32) : FVec Ideal S8192x2048 .bf16 :=
  truncf .bf16 (mulf (mulf X (broadcastInDim Cert.RefProjNormIdeal.S8192x2048 ![0, 1] Cert.RefProjNormIdeal.Gen.bcast_S8192x1_S8192x2048_0_1 (Host.rsqrt (addf (Host.divf (broadcastInDim Cert.RefProjNormIdeal.S8192x1 ![0] Cert.RefProjNormIdeal.Gen.bcast_S8192_S8192x1_0 (Host.reduceAdd (mulf X X) (constant Cert.RefProjNormIdeal.S_ .f32 0x00000000#32) Cert.RefProjNormIdeal.Gen.reducesTo_S8192x2048_S8192_d1 Cert.RefProjNormIdeal.Gen.h_S_)) (broadcastInDim Cert.RefProjNormIdeal.S8192x1 ![] Cert.RefProjNormIdeal.Gen.bcast_S_S8192x1 (constant Cert.RefProjNormIdeal.S_ .f32 0x45000000#32))) (broadcastInDim Cert.RefProjNormIdeal.S8192x1 ![] Cert.RefProjNormIdeal.Gen.bcast_S_S8192x1 (constant Cert.RefProjNormIdeal.S_ .f32 0x358637BD#32)))))) (broadcastInDim Cert.RefProjNormIdeal.S8192x2048 ![0, 1] Cert.RefProjNormIdeal.Gen.bcast_S1x2048_S8192x2048_0_1 (broadcastInDim Cert.RefProjNormIdeal.S1x2048 ![1] Cert.RefProjNormIdeal.Gen.bcast_S2048_S1x2048_1 (shapeCast _ A4 Cert.RefProjNormIdeal.Gen.shapeCasts_S1x2048_S2048)))) Cert.RefProjNormIdeal.Gen.bitsLt_bf16_f32

/-- The seven windows' offsets at every grid point. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

/-- The lower half of a point's row block: its product's normalisation is the reference's first result there. -/
theorem low (c : Dev nD) (t : Fin cfg0.N) (x : S256x2048.Idx) (i : S8192x2048.Idx)
    (hi0 : (i 0).val = t.val * 512 + (256 + (x 0).val)) (hi1 : (i 1).val = (x 1).val) :
    k0_pay3 (View.ld (iblk m c 0 t) r0_3) (View.ld (iblk m c 1 t) r0_1) (View.ld (iblk m c 3 t) r0_2) (View.ld (iblk m c 2 t) r0_3) x
    = REF (m ((c : Thread nD τ).loc main_arg0)) (m ((c : Thread nD τ).loc main_arg1)) (m ((c : Thread nD τ).loc main_arg2))
        (m ((c : Thread nD τ).loc main_arg3)) i := by
  pointwise [k0_pay3, REF]
  blk_point [iblk, V, idx t]

/-- The upper half of a point's row block, the same. -/
theorem high (c : Dev nD) (t : Fin cfg0.N) (x : S256x2048.Idx) (i : S8192x2048.Idx)
    (hi0 : (i 0).val = t.val * 512 + (x 0).val) (hi1 : (i 1).val = (x 1).val) :
    k0_pay1 (View.ld (iblk m c 0 t) r0_0) (View.ld (iblk m c 1 t) r0_1) (View.ld (iblk m c 3 t) r0_2) (View.ld (iblk m c 2 t) r0_0) x
    = REF (m ((c : Thread nD τ).loc main_arg0)) (m ((c : Thread nD τ).loc main_arg1)) (m ((c : Thread nD τ).loc main_arg2))
        (m ((c : Thread nD τ).loc main_arg3)) i := by
  pointwise [k0_pay1, REF]
  blk_point [iblk, V, idx t]

/-- At a point and a place of its block, the first stored value is the reference's first result where the block lies. -/
theorem point1 (c : Dev nD) (t : Fin cfg0.N) (y : S512x2048.Idx) (i : S8192x2048.Idx)
    (hi0 : (i 0).val = t.val * 512 + (y 0).val) (hi1 : (i 1).val = (y 1).val) :
    out0_5 (iblk m c 0 t) (iblk m c 1 t) (iblk m c 2 t) (iblk m c 3 t) (iblk m c 4 t) y
    = REF (m ((c : Thread nD τ).loc main_arg0)) (m ((c : Thread nD τ).loc main_arg1)) (m ((c : Thread nD τ).loc main_arg2))
        (m ((c : Thread nD τ).loc main_arg3)) i := by
  unfold out0_5
  canon_tiles x h
  · exact low m c t x i (by omega) (by omega)
  · exact high m c t x i (by omega) (by omega)

/-- A row block normalised once more is the reference's second result, given that it is the first one. -/
theorem norm2 (X : FVec Ideal S256x2048 .f32) (Y : FVec Ideal S8192x2048 .f32) (g : Vec Ideal S1x2048 .f32) (A4 : FVec Ideal S1x2048 .f32)
    (x : S256x2048.Idx) (i : S8192x2048.Idx) (hX : ∀ k : Fin 2048, X (ix2 (x 0) k) = Y (ix2 (i 0) k)) (h1 : x 1 = i 1) (hg : ∀ z, g z = A4 z) :
    X x * Ideal.rsqrt (Ideal.div (∑ k : Fin 2048, X (ix2 (x 0) k) * X (ix2 (x 0) k)) (Ideal.ofBits .f32 0x45000000#32) + Ideal.ofBits .f32 0x358637BD#32) * g (ix2 0 (x 1))
      = REF2 Y A4 i := by
  have h0 : X x = Y i := by
    have e := hX (x 1)
    rw [ix2_eta] at e
    rw [e, h1, ix2_eta]
  pointwise [REF2]
  simp only [hX, h0, hg, h1]

/-- At a point and a place of its block, the second stored value is the reference's second result where the block lies. -/
theorem point2 (c : Dev nD) (t : Fin cfg0.N) (y : S512x2048.Idx) (i : S8192x2048.Idx)
    (hi0 : (i 0).val = t.val * 512 + (y 0).val) (hi1 : (i 1).val = (y 1).val) :
    out0_6 (iblk m c 0 t) (iblk m c 1 t) (iblk m c 2 t) (iblk m c 3 t) (iblk m c 4 t) y
    = REF2 (REF (m ((c : Thread nD τ).loc main_arg0)) (m ((c : Thread nD τ).loc main_arg1)) (m ((c : Thread nD τ).loc main_arg2))
        (m ((c : Thread nD τ).loc main_arg3))) (m ((c : Thread nD τ).loc main_arg4)) i := by
  unfold out0_6
  canon_tiles x h
  · rw [← norm2 (k0_pay3 (View.ld (iblk m c 0 t) r0_3) (View.ld (iblk m c 1 t) r0_1) (View.ld (iblk m c 3 t) r0_2) (View.ld (iblk m c 2 t) r0_3))
      _ (View.ld (iblk m c 4 t) r0_2) _ x i (fun k => low m c t _ _ (by show (i 0).val = _; rw [hi0, h0]; rfl) rfl) (Fin.ext (by omega)) (fun z => by
        pointwise; blk_point [iblk, V, idx t])]
    pointwise [k0_pay4]
    rfl
  · rw [← norm2 (k0_pay1 (View.ld (iblk m c 0 t) r0_0) (View.ld (iblk m c 1 t) r0_1) (View.ld (iblk m c 3 t) r0_2) (View.ld (iblk m c 2 t) r0_0))
      _ (View.ld (iblk m c 4 t) r0_2) _ x i (fun k => high m c t _ _ (by show (i 0).val = _; rw [hi0, h0]; rfl) rfl) (Fin.ext (by omega)) (fun z => by
        pointwise; blk_point [iblk, V, idx t])]
    pointwise [k0_pay2]
    rfl

/-- The first result array after the run. -/
theorem final1 (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]
  exact point1 m c t y _ (by blk_simp [idx t]) (by blk_simp [idx t])

/-- The second result array after the run. -/
theorem final2 (c : Dev nD) : (dats m 0 c).arrAt 6 (cfgs 0).N
    = REF2 (REF (m ((c : Thread nD τ).loc main_arg0)) (m ((c : Thread nD τ).loc main_arg1)) (m ((c : Thread nD τ).loc main_arg2))
        (m ((c : Thread nD τ).loc main_arg3))) (m ((c : Thread nD τ).loc main_arg4)) := by
  refine (dats m 0 c).arrAt_eq_of_covers 6 _ (by decide +kernel) fun t _ y => ?_
  blk_simp
  rw [after0_6]
  exact point2 m c t y _ (by blk_simp [idx t]) (by blk_simp [idx t])

end Cert.ProjNormIdeal.Proj

end
-- ==== Proof.Mlp.lean ====
/- The multi-layer perceptron call's result array is the reference's: the value claim of the pair
   `MlpIdeal` / `RefMlpIdeal`. -/
module

public import proofs.«01_k».proof.Defs
public import proofs.«01_k».proof.Proof.Gen.MlpIdeal.Value
public import proofs.«01_k».proof.Proof.Gen.RefMlpIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MlpIdeal.Mlp

open Cert.MlpIdeal Cert.MlpIdeal.Gen

variable (m : (ℓ : Loc nD τ sig) → Buf (Elt Ideal) ℓ)

/-- The reference's hidden product, over the hidden units. -/
abbrev UP (A0 : FVec Ideal S8192x2048 .bf16) (A1 : FVec Ideal S1x2048x8192 .f32) : FVec Ideal Cert.RefMlpIdeal.S8192x8192 .f32 :=
  maximumf (Host.dotGeneral Cert.RefMlpIdeal.dot_S8192x2048_S2048x8192_S8192x8192_1_0_0_1_n_n none (extf .f32 A0 Cert.RefMlpIdeal.Gen.bitsLt_bf16_f32) (shapeCast _ A1 Cert.RefMlpIdeal.Gen.shapeCasts_S1x2048x8192_S2048x8192)) (broadcastInDim Cert.RefMlpIdeal.S8192x8192 ![] Cert.RefMlpIdeal.Gen.bcast_S_S8192x8192 (constant Cert.RefMlpIdeal.S_ .f32 0x00000000#32))

/-- The reference's second product over the squared hidden product `U`. -/
abbrev DOWN (U : FVec Ideal Cert.RefMlpIdeal.S8192x8192 .f32) (A2 : FVec Ideal S1x8192x2048 .f32) : FVec Ideal S8192x2048 .f32 :=
  Host.dotGeneral Cert.RefMlpIdeal.dot_S8192x8192_S8192x2048_S8192x2048_1_0_0_1_n_n none (mulf U U) (shapeCast _ A2 Cert.RefMlpIdeal.Gen.shapeCasts_S1x8192x2048_S8192x2048)

/-- The reference's normalisation of the product `D`, added to the input. -/
abbrev TAIL (D A3 : FVec Ideal S8192x2048 .f32) (A4 : FVec Ideal S1x2048 .f32) : FVec Ideal S8192x2048 .f32 :=
  addf A3 (mulf (mulf D (broadcastInDim Cert.RefMlpIdeal.S8192x2048 ![0, 1] Cert.RefMlpIdeal.Gen.bcast_S8192x1_S8192x2048_0_1 (Host.rsqrt (addf (Host.divf (broadcastInDim Cert.RefMlpIdeal.S8192x1 ![0] Cert.RefMlpIdeal.Gen.bcast_S8192_S8192x1_0 (Host.reduceAdd (mulf D D) (constant Cert.RefMlpIdeal.S_ .f32 0x00000000#32) Cert.RefMlpIdeal.Gen.reducesTo_S8192x2048_S8192_d1 Cert.RefMlpIdeal.Gen.h_S_)) (broadcastInDim Cert.RefMlpIdeal.S8192x1 ![] Cert.RefMlpIdeal.Gen.bcast_S_S8192x1 (constant Cert.RefMlpIdeal.S_ .f32 0x45000000#32))) (broadcastInDim Cert.RefMlpIdeal.S8192x1 ![] Cert.RefMlpIdeal.Gen.bcast_S_S8192x1 (constant Cert.RefMlpIdeal.S_ .f32 0x358637BD#32)))))) (broadcastInDim Cert.RefMlpIdeal.S8192x2048 ![0, 1] Cert.RefMlpIdeal.Gen.bcast_S1x2048_S8192x2048_0_1 (broadcastInDim Cert.RefMlpIdeal.S1x2048 ![1] Cert.RefMlpIdeal.Gen.bcast_S2048_S1x2048_1 (shapeCast _ A4 Cert.RefMlpIdeal.Gen.shapeCasts_S1x2048_S2048))))

/-- The five input windows' and the output window's offsets at every grid point. -/
theorem idx : ∀ t : Fin cfg0.N, win0_0.index t = ![t.val / 8, 0] ∧ win0_1.index t = ![0, t.val % 8] ∧ win0_2.index t = ![t.val % 8, 0]
    ∧ win0_3.index t = ![t.val / 8, 0] ∧ win0_4.index t = ![0, 0] ∧ win0_5.index t = ![t.val / 8, 0] :=
  (by decide +kernel : ∀ t : Fin grid0.N, _)

/-- The accumulator is filled with zeros. -/
theorem hzero (j) : k0_pay1 (F := Ideal) j = 0 := by pointwise [k0_pay1]

/-- What a point adds to the accumulator: the product over its 1024 hidden units. -/
theorem hpay (v3 v4 v9 v12 j) : k0_pay2 (F := Ideal) v3 v4 v9 v12 j = v9 j
    + ∑ k : Fin 1024, (max (∑ x : Fin 2048, v3 (ix2 (j 0) x) * v4 (ix2 x k)) 0 * max (∑ x : Fin 2048, v3 (ix2 (j 0) x) * v4 (ix2 x k)) 0) * v12 (ix2 k (j 1)) := by
  pointwise [k0_pay2]

/-- The reference's product at an index, as a sum over the 8192 hidden units. -/
theorem href (A0 A1 A2 j) : DOWN (UP A0 A1) A2 j
    = ∑ l : Fin 8192, (max (∑ x : Fin 2048, A0 (ix2 (j 0) x) * A1 (ix3 0 x l)) 0 * max (∑ x : Fin 2048, A0 (ix2 (j 0) x) * A1 (ix3 0 x l)) 0) * A2 (ix3 0 l (j 1)) := by
  pointwise [UP, DOWN]

/-- After the last point of a row block's run, the accumulator holds the reference's product at the block's rows. -/
theorem acc (c : Dev nD) (t : Fin cfg0.N) (h7 : t.val % 8 = 7) (y : S512x2048.Idx) :
    (outsAt0 m c t.val t.isLt).2 y = DOWN (UP (m ((c : Thread nD τ).loc main_arg0)) (m ((c : Thread nD τ).loc main_arg1)))
      (m ((c : Thread nD τ).loc main_arg2)) (((cfg0.win 5).blk t).view.emb y) := by
  rw [Pipeline.eq_sum_fin_of_reset_step_apply_of_flush (fun n h => (outsAt0 m c n h).2) 8 (fun _ => 0) _
    (fun t h j => by rw [outsAt0_A m c t h (by omega)]; frame_out; rw [hpay, hzero])
    (fun t h j => by
      by_cases h1 : t.val % 8 = 7
      · rw [outsAt0_C m c t h h1]; frame_out; simp only [read_unread_whole]; rw [hpay]
      · rw [outsAt0_B m c t h h1]; frame_out; simp only [read_unread_whole]; rw [hpay])
    t h7 _, zero_add, href]
  refine Fin.sum_mul_add_congr fun s k hl => ?_
  blk_point [iblk, V, idx t, idx ⟨_, Pipeline.run_point_lt_of_flush t h7 s⟩]

/-- What the last point of a run stores: the normalised accumulator added to the input block. -/
theorem out_last (c : Dev nD) (t : Fin cfg0.N) (h7 : t.val % 8 = 7) :
    (outsAt0 m c t.val t.isLt).1 = k0_pay3 (outsAt0 m c t.val t.isLt).2 (iblk m c 3 t) (iblk m c 4 t) := by
  rw [outsAt0_C m c t (by omega) h7]
  frame_out

/-- The normalisation of a row block is the reference's normalisation at the block's rows. -/
theorem tail (c : Dev nD) (t : Fin cfg0.N) (X : Vec Ideal S512x2048 .f32) (D : FVec Ideal S8192x2048 .f32)
    (hX : ∀ y, X y = D (((cfg0.win 5).blk t).view.emb y)) (y : S512x2048.Idx) :
    k0_pay3 X (iblk m c 3 t) (iblk m c 4 t) y = TAIL D (m ((c : Thread nD τ).loc main_arg3)) (m ((c : Thread nD τ).loc main_arg4))
      (((cfg0.win 5).blk t).view.emb y) := by
  have hX' : ∀ k : Fin 2048, X (ix2 (y 0) k) = D (ix2 (((cfg0.win 5).blk t).view.emb y 0) k) := fun k => by
    rw [hX]; blk_ext [idx t]
  have hX0 : X y = D (((cfg0.win 5).blk t).view.emb y) := hX y
  pointwise [k0_pay3, TAIL]
  simp only [hX', hX0]
  blk_point [iblk, V, idx t]

/-- The result array after the run is the reference's term over the arguments. -/
theorem final (c : Dev nD) : (dats m 0 c).arrAt 5 (cfgs 0).N
    = TAIL (DOWN (UP (m ((c : Thread nD τ).loc main_arg0)) (m ((c : Thread nD τ).loc main_arg1))) (m ((c : Thread nD τ).loc main_arg2)))
        (m ((c : Thread nD τ).loc main_arg3)) (m ((c : Thread nD τ).loc main_arg4)) := by
  refine (dats m 0 c).arrAt_eq_of_covers 5 _ (by decide +kernel) fun t hf y => ?_
  blk_simp
  have h7 := (flush0_5 t).mp hf
  rw [after0_5, out_last m c t h7]
  exact tail m c t _ _ (acc m c t h7) y

end Cert.MlpIdeal.Mlp

end
-- ==== Proof.SampleInProj.lean ====
/- The sample's projection call's result array is the reference's projection, column by column: the value
   claim of the pair `SampleIdeal` / `RefSampleIdeal`. -/
module

public import proofs.«01_k».proof.Defs
public import proofs.«01_k».proof.Proof.Gen.SampleIdeal.Frame
public import proofs.«01_k».proof.Proof.Gen.RefSampleIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SampleIdeal.Proj

open Cert.SampleIdeal Cert.SampleIdeal.Gen

variable (m : (ℓ : Loc nD τ sig) → Buf (Elt Ideal) ℓ)

/-- The element at which the weight window begins on the rows of the transposed weight: row block `q`
    of the result takes rows 1024·q, then 4176 + 1024·(q - 4), then 4096. -/
abbrev wrow (q : ℕ) : ℕ := if q < 4 then 1024 * q else if q < 11 then 4176 + 1024 * (q - 4) else 4096

/-- The three windows' offsets at every grid point. -/
theorem idx : ∀ t : Fin cfg0.N, win0_0.index t = ![0, 0] ∧ win0_1.index t = ![wrow t.val, 0]
    ∧ win0_2.index t = ![0, t.val] :=
  (by decide +kernel : ∀ t : Fin grid0.N, _)

/-- The reference's composed term over the two arguments. -/
def REF (H : FVec Ideal S1024x2048 .bf16) (W : FVec Ideal S1x2048x11344 .f32) : FVec Ideal S1024x12288 .f32 :=
  (concatenate Cert.RefSampleIdeal.S1024x12288 1 [⟨Cert.RefSampleIdeal.S1024x4096, ((extractStridedSlice Cert.RefSampleIdeal.S1024x4096 ![0, 0] (Host.dotGeneral Cert.RefSampleIdeal.dot_S1024x2048_S2048x11344_S1024x11344_1_0_0_1_n_n none (extf .f32 H Cert.RefSampleIdeal.Gen.bitsLt_bf16_f32) (shapeCast _ W Cert.RefSampleIdeal.Gen.shapeCasts_S1x2048x11344_S2048x11344)) Cert.RefSampleIdeal.Gen.slices_S1024x11344_S1024x4096_0_0))⟩,
    ⟨Cert.RefSampleIdeal.S1024x7168, ((extractStridedSlice Cert.RefSampleIdeal.S1024x7168 ![0, 4176] (Host.dotGeneral Cert.RefSampleIdeal.dot_S1024x2048_S2048x11344_S1024x11344_1_0_0_1_n_n none (extf .f32 H Cert.RefSampleIdeal.Gen.bitsLt_bf16_f32) (shapeCast _ W Cert.RefSampleIdeal.Gen.shapeCasts_S1x2048x11344_S2048x11344)) Cert.RefSampleIdeal.Gen.slices_S1024x11344_S1024x7168_0_4176))⟩,
    ⟨Cert.RefSampleIdeal.S1024x1024, ((extractStridedSlice Cert.RefSampleIdeal.S1024x1024 ![0, 4096] (Host.dotGeneral Cert.RefSampleIdeal.dot_S1024x2048_S2048x11344_S1024x11344_1_0_0_1_n_n none (extf .f32 H Cert.RefSampleIdeal.Gen.bitsLt_bf16_f32) (shapeCast _ W Cert.RefSampleIdeal.Gen.shapeCasts_S1x2048x11344_S2048x11344)) Cert.RefSampleIdeal.Gen.slices_S1024x11344_S1024x1024_0_4096))⟩] Cert.RefSampleIdeal.Gen.concatenates_S1024x4096_S1024x7168_S1024x1024_S1024x12288_d1)

/-- A place of the weight window lies, on the rows, that far past the row at which the window begins, -/
theorem wemb0 (t : Fin cfg0.N) (o : ℕ) (y : S1024x2048.Idx) (h : win0_1.index t = ![o, 0]) (z : S1024x2048.Idx) (hz : z = y) :
    (((View.whole main_v1).slice (win0_1.rect t)).emb z 0).val = o + (y 0).val := by
  subst hz
  have e := win0_1.rect_emb_val_off t z 0
  rw [h] at e
  exact e

/-- and on the columns where it is. -/
theorem wemb1 (t : Fin cfg0.N) (o : ℕ) (y : S1024x2048.Idx) (h : win0_1.index t = ![o, 0]) (z : S1024x2048.Idx) (hz : z = y) :
    (((View.whole main_v1).slice (win0_1.rect t)).emb z 1).val = (y 1).val := by
  subst hz
  have e := win0_1.rect_emb_val_off t z 1
  rw [h] at e
  exact e.trans (Nat.zero_add _)

/-- What the call finds in its prepared operand `main_v1`: the argument's entries, placed anew. -/
theorem read_main_v1 (c : Dev nD) : V m c main_v1 = fun i => m ((c : Thread nD τ).loc main_arg1) (ix3 0 (i 1) (i 0)) := by
  funext i
  show StableHlo.after hostOps0 (fun b => m (c, b)) (Proc.devRef .tc main_v1) i = _
  after_results
  pointwise

/-- At a point and a place of its block, the product is the reference's entry where the block lies. -/
theorem point (c : Dev nD) (t : Fin cfg0.N) (y) :
    k0_pay2 (iblk m c 0 t) (k0_pay1 (iblk m c 1 t)) y
      = REF (m ((c : Thread nD τ).loc main_arg0)) (m ((c : Thread nD τ).loc main_arg1)) (((cfg0.win 2).blk t).view.emb y) := by
  pointwise [k0_pay2, k0_pay1, REF]
  have hN : t.val < 12 := lt_of_lt_of_eq t.isLt N_0
  have i1 := (idx t).2.1
  have hw : ((((cfg0.win 2).blk t).view.emb y 1 : Fin _) : ℕ) = t.val * 1024 + (y 1).val := by
    blk_simp [idx t]
  have hy : (y 1).val < 1024 := (y 1).isLt
  split <;> rename_i h4
  · have h5 : win0_1.index t = ![1024 * t.val, 0] := by
      rw [i1]; dsimp only [wrow]; rw [if_pos]; rw [hw] at h4; omega
    blk_point [iblk, V_main_arg0, idx t]
    exact (congrFun (read_main_v1 m c) _).trans (congrArg₂ (fun a b => m ((c : Thread nD τ).loc main_arg1) (ix3 0 a b))
      (Fin.ext ((wemb1 _ _ _ h5 _ rfl).trans rfl))
      (Fin.ext ((wemb0 _ _ _ h5 _ rfl).trans (by show 1024 * t.val + (y 1).val = _; dsimp only; omega))))
  split <;> rename_i h11
  · have h5 : win0_1.index t = ![4176 + 1024 * (t.val - 4), 0] := by
      rw [hw] at h4 h11
      rw [i1]; dsimp only [wrow]; rw [if_neg (by omega), if_pos (by omega)]
    blk_point [iblk, V_main_arg0, idx t]
    exact (congrFun (read_main_v1 m c) _).trans (congrArg₂ (fun a b => m ((c : Thread nD τ).loc main_arg1) (ix3 0 a b))
      (Fin.ext ((wemb1 _ _ _ h5 _ rfl).trans rfl))
      (Fin.ext ((wemb0 _ _ _ h5 _ rfl).trans (by rw [hw] at h4 h11; show 4176 + 1024 * (t.val - 4) + (y 1).val = _; dsimp only; omega))))
  · have h5 : win0_1.index t = ![4096, 0] := by
      rw [hw] at h4 h11
      rw [i1]; dsimp only [wrow]; rw [if_neg (by omega), if_neg (by omega)]
    blk_point [iblk, V_main_arg0, idx t]
    exact (congrFun (read_main_v1 m c) _).trans (congrArg₂ (fun a b => m ((c : Thread nD τ).loc main_arg1) (ix3 0 a b))
      (Fin.ext ((wemb1 _ _ _ h5 _ rfl).trans rfl))
      (Fin.ext ((wemb0 _ _ _ h5 _ rfl).trans (by rw [hw] at h4 h11; show 4096 + (y 1).val = _; dsimp only; omega))))

/-- The result array after the run is the reference's term over the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

/-- The reference's entry in its first columns, as a sum, -/
theorem ref_low (A0 : FVec Ideal S1024x2048 .bf16) (A1 : FVec Ideal S1x2048x11344 .f32) (r : Fin 1024) (k : Fin 12288) (j : Fin 11344)
    (h : k.val < 4096) (hj : j.val = k.val) : REF A0 A1 (ix2 r k) = ∑ x : Fin 2048, A0 (ix2 r x) * A1 (ix3 0 x j) := by
  pointwise [REF]
  rw [dif_pos h]
  blk_point []

/-- in the columns between, -/
theorem ref_mid (A0 : FVec Ideal S1024x2048 .bf16) (A1 : FVec Ideal S1x2048x11344 .f32) (r : Fin 1024) (k : Fin 12288) (j : Fin 11344)
    (h : 4096 ≤ k.val) (h1 : k.val < 11264) (hj : j.val = k.val + 80) : REF A0 A1 (ix2 r k) = ∑ x : Fin 2048, A0 (ix2 r x) * A1 (ix3 0 x j) := by
  pointwise [REF]
  rw [dif_neg (by omega), dif_pos (by omega)]
  blk_point []

/-- and in the last columns. -/
theorem ref_high (A0 : FVec Ideal S1024x2048 .bf16) (A1 : FVec Ideal S1x2048x11344 .f32) (r : Fin 1024) (k : Fin 12288) (j : Fin 11344)
    (h : 11264 ≤ k.val) (hj : j.val + 7168 = k.val) : REF A0 A1 (ix2 r k) = ∑ x : Fin 2048, A0 (ix2 r x) * A1 (ix3 0 x j) := by
  pointwise [REF]
  rw [dif_neg (by omega), dif_neg (by omega)]
  blk_point []

/-- Where the keys of the sparse branch lie in the projection. -/
theorem place1 (X : FVec Ideal S1024x12288 .f32) (i) (r : Fin 1024) (k : Fin 12288) (hr : r.val = (i 1).val * 8 + (i 2).val) (hk : k.val = 1024 + ((i 3).val * 128 + (i 4).val)) :
    (broadcastInDim S1x128x4x8x128 ![1, 2, 3, 4] bcast_S128x4x8x128_S1x128x4x8x128_1_2_3_4
      (shapeCast S128x4x8x128 (extractStridedSlice S128x4x1024 ![0, 0, 1024] (shapeCast S128x8x12288 X shapeCasts_S1024x12288_S128x8x12288) slices_S128x8x12288_S128x4x1024_0_0_1024) shapeCasts_S128x4x1024_S128x4x8x128)) i = X (ix2 r k) := by
  pointwise
  blk_ext []

/-- The reference's keys of the sparse branch. -/
def OUT1 (A0 : FVec Ideal S1024x2048 .bf16) (A1 : FVec Ideal S1x2048x11344 .f32) : FVec Ideal S1x128x4x8x128 .f32 :=
  shapeCast _ (extractStridedSlice Cert.RefSampleIdeal.S128x4x1024 ![0, 0, 1024] (extractStridedSlice Cert.RefSampleIdeal.S128x4x11344 ![0, 0, 0] (shapeCast _ (Host.dotGeneral Cert.RefSampleIdeal.dot_S1024x2048_S2048x11344_S1024x11344_1_0_0_1_n_n none (extf .f32 A0 Cert.RefSampleIdeal.Gen.bitsLt_bf16_f32) (shapeCast _ A1 Cert.RefSampleIdeal.Gen.shapeCasts_S1x2048x11344_S2048x11344)) Cert.RefSampleIdeal.Gen.shapeCasts_S1024x11344_S128x8x11344) Cert.RefSampleIdeal.Gen.slices_S128x8x11344_S128x4x11344_0_0_0) Cert.RefSampleIdeal.Gen.slices_S128x4x11344_S128x4x1024_0_0_1024) Cert.RefSampleIdeal.Gen.shapeCasts_S128x4x1024_S1x128x4x8x128

/-- The columns of the projection's real rows that are the keys of the sparse branch are the reference's. -/
theorem rows1 (A0 : FVec Ideal S1024x2048 .bf16) (A1 : FVec Ideal S1x2048x11344 .f32) :
    broadcastInDim S1x128x4x8x128 ![1, 2, 3, 4] bcast_S128x4x8x128_S1x128x4x8x128_1_2_3_4
      (shapeCast S128x4x8x128 (extractStridedSlice S128x4x1024 ![0, 0, 1024] (shapeCast S128x8x12288 (REF A0 A1) shapeCasts_S1024x12288_S128x8x12288) slices_S128x8x12288_S128x4x1024_0_0_1024) shapeCasts_S128x4x1024_S128x4x8x128)
    = OUT1 A0 A1 := by
  funext i
  have h1 : (i 1).val < 128 := (i 1).isLt
  have h2 : (i 2).val < 4 := (i 2).isLt
  have h3 : (i 3).val < 8 := (i 3).isLt
  have h4 : (i 4).val < 128 := (i 4).isLt
  rw [place1 _ i ⟨(i 1).val * 8 + (i 2).val, by omega⟩ ⟨1024 + ((i 3).val * 128 + (i 4).val), by omega⟩ rfl rfl,
    ref_low _ _ _ _ ⟨1024 + ((i 3).val * 128 + (i 4).val), by omega⟩ (by show _ < _; dsimp only; omega) rfl]
  pointwise [OUT1]

/-- Where the values of the sparse branch lie in the projection. -/
theorem place2 (X : FVec Ideal S1024x12288 .f32) (i) (r : Fin 1024) (k : Fin 12288) (hr : r.val = (i 1).val * 8 + (i 2).val) (hk : k.val = 2048 + ((i 3).val * 128 + (i 4).val)) :
    (broadcastInDim S1x128x4x8x128 ![1, 2, 3, 4] bcast_S128x4x8x128_S1x128x4x8x128_1_2_3_4
      (shapeCast S128x4x8x128 (extractStridedSlice S128x4x1024 ![0, 0, 2048] (shapeCast S128x8x12288 X shapeCasts_S1024x12288_S128x8x12288) slices_S128x8x12288_S128x4x1024_0_0_2048) shapeCasts_S128x4x1024_S128x4x8x128)) i = X (ix2 r k) := by
  pointwise
  blk_ext []

/-- The reference's values of the sparse branch. -/
def OUT2 (A0 : FVec Ideal S1024x2048 .bf16) (A1 : FVec Ideal S1x2048x11344 .f32) : FVec Ideal S1x128x4x8x128 .f32 :=
  shapeCast _ (extractStridedSlice Cert.RefSampleIdeal.S128x4x1024 ![0, 0, 2048] (extractStridedSlice Cert.RefSampleIdeal.S128x4x11344 ![0, 0, 0] (shapeCast _ (Host.dotGeneral Cert.RefSampleIdeal.dot_S1024x2048_S2048x11344_S1024x11344_1_0_0_1_n_n none (extf .f32 A0 Cert.RefSampleIdeal.Gen.bitsLt_bf16_f32) (shapeCast _ A1 Cert.RefSampleIdeal.Gen.shapeCasts_S1x2048x11344_S2048x11344)) Cert.RefSampleIdeal.Gen.shapeCasts_S1024x11344_S128x8x11344) Cert.RefSampleIdeal.Gen.slices_S128x8x11344_S128x4x11344_0_0_0) Cert.RefSampleIdeal.Gen.slices_S128x4x11344_S128x4x1024_0_0_2048) Cert.RefSampleIdeal.Gen.shapeCasts_S128x4x1024_S1x128x4x8x128

/-- The columns of the projection's real rows that are the values of the sparse branch are the reference's. -/
theorem rows2 (A0 : FVec Ideal S1024x2048 .bf16) (A1 : FVec Ideal S1x2048x11344 .f32) :
    broadcastInDim S1x128x4x8x128 ![1, 2, 3, 4] bcast_S128x4x8x128_S1x128x4x8x128_1_2_3_4
      (shapeCast S128x4x8x128 (extractStridedSlice S128x4x1024 ![0, 0, 2048] (shapeCast S128x8x12288 (REF A0 A1) shapeCasts_S1024x12288_S128x8x12288) slices_S128x8x12288_S128x4x1024_0_0_2048) shapeCasts_S128x4x1024_S128x4x8x128)
    = OUT2 A0 A1 := by
  funext i
  have h1 : (i 1).val < 128 := (i 1).isLt
  have h2 : (i 2).val < 4 := (i 2).isLt
  have h3 : (i 3).val < 8 := (i 3).isLt
  have h4 : (i 4).val < 128 := (i 4).isLt
  rw [place2 _ i ⟨(i 1).val * 8 + (i 2).val, by omega⟩ ⟨2048 + ((i 3).val * 128 + (i 4).val), by omega⟩ rfl rfl,
    ref_low _ _ _ _ ⟨2048 + ((i 3).val * 128 + (i 4).val), by omega⟩ (by show _ < _; dsimp only; omega) rfl]
  pointwise [OUT2]

/-- Where the indexer keys lie in the projection. -/
theorem place3 (X : FVec Ideal S1024x12288 .f32) (i) (r : Fin 1024) (k : Fin 12288) (hr : r.val = (i 1).val * 8 + (i 2).val) (hk : k.val = 11264 + (i 3).val) :
    (broadcastInDim S1x128x4x64 ![1, 2, 3] bcast_S128x4x64_S1x128x4x64_1_2_3
      (extractStridedSlice S128x4x64 ![0, 0, 11264] (shapeCast S128x8x12288 X shapeCasts_S1024x12288_S128x8x12288) slices_S128x8x12288_S128x4x64_0_0_11264)) i = X (ix2 r k) := by
  pointwise
  blk_ext []

/-- The reference's indexer keys. -/
def OUT3 (A0 : FVec Ideal S1024x2048 .bf16) (A1 : FVec Ideal S1x2048x11344 .f32) : FVec Ideal S1x128x4x64 .f32 :=
  shapeCast _ (extractStridedSlice Cert.RefSampleIdeal.S128x4x64 ![0, 0, 4096] (extractStridedSlice Cert.RefSampleIdeal.S128x4x11344 ![0, 0, 0] (shapeCast _ (Host.dotGeneral Cert.RefSampleIdeal.dot_S1024x2048_S2048x11344_S1024x11344_1_0_0_1_n_n none (extf .f32 A0 Cert.RefSampleIdeal.Gen.bitsLt_bf16_f32) (shapeCast _ A1 Cert.RefSampleIdeal.Gen.shapeCasts_S1x2048x11344_S2048x11344)) Cert.RefSampleIdeal.Gen.shapeCasts_S1024x11344_S128x8x11344) Cert.RefSampleIdeal.Gen.slices_S128x8x11344_S128x4x11344_0_0_0) Cert.RefSampleIdeal.Gen.slices_S128x4x11344_S128x4x64_0_0_4096) Cert.RefSampleIdeal.Gen.shapeCasts_S128x4x64_S1x128x4x64

/-- The columns of the projection's real rows that are the indexer keys are the reference's. -/
theorem rows3 (A0 : FVec Ideal S1024x2048 .bf16) (A1 : FVec Ideal S1x2048x11344 .f32) :
    broadcastInDim S1x128x4x64 ![1, 2, 3] bcast_S128x4x64_S1x128x4x64_1_2_3
      (extractStridedSlice S128x4x64 ![0, 0, 11264] (shapeCast S128x8x12288 (REF A0 A1) shapeCasts_S1024x12288_S128x8x12288) slices_S128x8x12288_S128x4x64_0_0_11264)
    = OUT3 A0 A1 := by
  funext i
  have h1 : (i 1).val < 128 := (i 1).isLt
  have h2 : (i 2).val < 4 := (i 2).isLt
  have h3 : (i 3).val < 64 := (i 3).isLt
  rw [place3 _ i ⟨(i 1).val * 8 + (i 2).val, by omega⟩ ⟨11264 + (i 3).val, by omega⟩ rfl rfl,
    ref_high _ _ _ _ ⟨4096 + (i 3).val, by omega⟩ (by dsimp only; omega) (by dsimp only; omega)]
  pointwise [OUT3]

/-- Where the keys of the stick-breaking branch lie in the projection. -/
theorem place4 (X : FVec Ideal S1024x12288 .f32) (i) (r : Fin 1024) (k : Fin 12288) (hr : r.val = (i 1).val * 8 + (i 2).val) (hk : k.val = 5120 + ((i 3).val * 128 + (i 4).val)) :
    (broadcastInDim S1x128x4x8x128 ![1, 2, 3, 4] bcast_S128x4x8x128_S1x128x4x8x128_1_2_3_4
      (shapeCast S128x4x8x128 (extractStridedSlice S128x4x1024 ![0, 0, 5120] (shapeCast S128x8x12288 X shapeCasts_S1024x12288_S128x8x12288) slices_S128x8x12288_S128x4x1024_0_0_5120) shapeCasts_S128x4x1024_S128x4x8x128)) i = X (ix2 r k) := by
  pointwise
  blk_ext []

/-- The reference's keys of the stick-breaking branch. -/
def OUT4 (A0 : FVec Ideal S1024x2048 .bf16) (A1 : FVec Ideal S1x2048x11344 .f32) : FVec Ideal S1x128x4x8x128 .f32 :=
  shapeCast _ (extractStridedSlice Cert.RefSampleIdeal.S128x4x1024 ![0, 0, 5200] (extractStridedSlice Cert.RefSampleIdeal.S128x4x11344 ![0, 0, 0] (shapeCast _ (Host.dotGeneral Cert.RefSampleIdeal.dot_S1024x2048_S2048x11344_S1024x11344_1_0_0_1_n_n none (extf .f32 A0 Cert.RefSampleIdeal.Gen.bitsLt_bf16_f32) (shapeCast _ A1 Cert.RefSampleIdeal.Gen.shapeCasts_S1x2048x11344_S2048x11344)) Cert.RefSampleIdeal.Gen.shapeCasts_S1024x11344_S128x8x11344) Cert.RefSampleIdeal.Gen.slices_S128x8x11344_S128x4x11344_0_0_0) Cert.RefSampleIdeal.Gen.slices_S128x4x11344_S128x4x1024_0_0_5200) Cert.RefSampleIdeal.Gen.shapeCasts_S128x4x1024_S1x128x4x8x128

/-- The columns of the projection's real rows that are the keys of the stick-breaking branch are the reference's. -/
theorem rows4 (A0 : FVec Ideal S1024x2048 .bf16) (A1 : FVec Ideal S1x2048x11344 .f32) :
    broadcastInDim S1x128x4x8x128 ![1, 2, 3, 4] bcast_S128x4x8x128_S1x128x4x8x128_1_2_3_4
      (shapeCast S128x4x8x128 (extractStridedSlice S128x4x1024 ![0, 0, 5120] (shapeCast S128x8x12288 (REF A0 A1) shapeCasts_S1024x12288_S128x8x12288) slices_S128x8x12288_S128x4x1024_0_0_5120) shapeCasts_S128x4x1024_S128x4x8x128)
    = OUT4 A0 A1 := by
  funext i
  have h1 : (i 1).val < 128 := (i 1).isLt
  have h2 : (i 2).val < 4 := (i 2).isLt
  have h3 : (i 3).val < 8 := (i 3).isLt
  have h4 : (i 4).val < 128 := (i 4).isLt
  rw [place4 _ i ⟨(i 1).val * 8 + (i 2).val, by omega⟩ ⟨5120 + ((i 3).val * 128 + (i 4).val), by omega⟩ rfl rfl,
    ref_mid _ _ _ _ ⟨5200 + ((i 3).val * 128 + (i 4).val), by omega⟩ (by dsimp only; omega) (by dsimp only; omega) (by dsimp only; omega)]
  pointwise [OUT4]

/-- Where the values of the stick-breaking branch lie in the projection. -/
theorem place5 (X : FVec Ideal S1024x12288 .f32) (i) (r : Fin 1024) (k : Fin 12288) (hr : r.val = (i 1).val * 8 + (i 2).val) (hk : k.val = 6144 + ((i 3).val * 128 + (i 4).val)) :
    (broadcastInDim S1x128x4x8x128 ![1, 2, 3, 4] bcast_S128x4x8x128_S1x128x4x8x128_1_2_3_4
      (shapeCast S128x4x8x128 (extractStridedSlice S128x4x1024 ![0, 0, 6144] (shapeCast S128x8x12288 X shapeCasts_S1024x12288_S128x8x12288) slices_S128x8x12288_S128x4x1024_0_0_6144) shapeCasts_S128x4x1024_S128x4x8x128)) i = X (ix2 r k) := by
  pointwise
  blk_ext []

/-- The reference's values of the stick-breaking branch. -/
def OUT5 (A0 : FVec Ideal S1024x2048 .bf16) (A1 : FVec Ideal S1x2048x11344 .f32) : FVec Ideal S1x128x4x8x128 .f32 :=
  shapeCast _ (extractStridedSlice Cert.RefSampleIdeal.S128x4x1024 ![0, 0, 6224] (extractStridedSlice Cert.RefSampleIdeal.S128x4x11344 ![0, 0, 0] (shapeCast _ (Host.dotGeneral Cert.RefSampleIdeal.dot_S1024x2048_S2048x11344_S1024x11344_1_0_0_1_n_n none (extf .f32 A0 Cert.RefSampleIdeal.Gen.bitsLt_bf16_f32) (shapeCast _ A1 Cert.RefSampleIdeal.Gen.shapeCasts_S1x2048x11344_S2048x11344)) Cert.RefSampleIdeal.Gen.shapeCasts_S1024x11344_S128x8x11344) Cert.RefSampleIdeal.Gen.slices_S128x8x11344_S128x4x11344_0_0_0) Cert.RefSampleIdeal.Gen.slices_S128x4x11344_S128x4x1024_0_0_6224) Cert.RefSampleIdeal.Gen.shapeCasts_S128x4x1024_S1x128x4x8x128

/-- The columns of the projection's real rows that are the values of the stick-breaking branch are the reference's. -/
theorem rows5 (A0 : FVec Ideal S1024x2048 .bf16) (A1 : FVec Ideal S1x2048x11344 .f32) :
    broadcastInDim S1x128x4x8x128 ![1, 2, 3, 4] bcast_S128x4x8x128_S1x128x4x8x128_1_2_3_4
      (shapeCast S128x4x8x128 (extractStridedSlice S128x4x1024 ![0, 0, 6144] (shapeCast S128x8x12288 (REF A0 A1) shapeCasts_S1024x12288_S128x8x12288) slices_S128x8x12288_S128x4x1024_0_0_6144) shapeCasts_S128x4x1024_S128x4x8x128)
    = OUT5 A0 A1 := by
  funext i
  have h1 : (i 1).val < 128 := (i 1).isLt
  have h2 : (i 2).val < 4 := (i 2).isLt
  have h3 : (i 3).val < 8 := (i 3).isLt
  have h4 : (i 4).val < 128 := (i 4).isLt
  rw [place5 _ i ⟨(i 1).val * 8 + (i 2).val, by omega⟩ ⟨6144 + ((i 3).val * 128 + (i 4).val), by omega⟩ rfl rfl,
    ref_mid _ _ _ _ ⟨6224 + ((i 3).val * 128 + (i 4).val), by omega⟩ (by dsimp only; omega) (by dsimp only; omega) (by dsimp only; omega)]
  pointwise [OUT5]

/-- After the run and the slices behind it, the keys of the sparse branch are the reference's. -/
theorem value1 (c : Dev nD) : Pipeline.afterTail₀ cfgs (dats m) 0 (V0 m) [hostOps1] c main_v13
    = OUT1 (m ((c : Thread nD τ).loc main_arg0)) (m ((c : Thread nD τ).loc main_arg1)) := by
  unfold Pipeline.afterTail₀
  simp only [hostOps1, List.flatten_cons, List.flatten_nil, List.append_nil, List.cons_append, List.nil_append]
  after_results_simp
  have e : Pipeline.withArrays (cfgs 0).spec c (V0 m c) (fun w => (dats m 0 c).arrAt w (cfgs 0).N) (Proc.devRef .tc (Pipeline.arrRef spec0 2)) = _ :=
    Pipeline.withArrays_arr _ launch0.win.arr_inj c (V0 m c) (fun w => (dats m 0 c).arrAt w (cfgs 0).N) 2
  rw [final m c] at e
  erw [e]
  exact rows1 _ _

/-- After the run and the slices behind it, the values of the sparse branch are the reference's. -/
theorem value2 (c : Dev nD) : Pipeline.afterTail₀ cfgs (dats m) 0 (V0 m) [hostOps1] c main_v14
    = OUT2 (m ((c : Thread nD τ).loc main_arg0)) (m ((c : Thread nD τ).loc main_arg1)) := by
  unfold Pipeline.afterTail₀
  simp only [hostOps1, List.flatten_cons, List.flatten_nil, List.append_nil, List.cons_append, List.nil_append]
  after_results_simp
  have e : Pipeline.withArrays (cfgs 0).spec c (V0 m c) (fun w => (dats m 0 c).arrAt w (cfgs 0).N) (Proc.devRef .tc (Pipeline.arrRef spec0 2)) = _ :=
    Pipeline.withArrays_arr _ launch0.win.arr_inj c (V0 m c) (fun w => (dats m 0 c).arrAt w (cfgs 0).N) 2
  rw [final m c] at e
  erw [e]
  exact rows2 _ _

/-- After the run and the slices behind it, the indexer keys are the reference's. -/
theorem value3 (c : Dev nD) : Pipeline.afterTail₀ cfgs (dats m) 0 (V0 m) [hostOps1] c main_v15
    = OUT3 (m ((c : Thread nD τ).loc main_arg0)) (m ((c : Thread nD τ).loc main_arg1)) := by
  unfold Pipeline.afterTail₀
  simp only [hostOps1, List.flatten_cons, List.flatten_nil, List.append_nil, List.cons_append, List.nil_append]
  after_results_simp
  have e : Pipeline.withArrays (cfgs 0).spec c (V0 m c) (fun w => (dats m 0 c).arrAt w (cfgs 0).N) (Proc.devRef .tc (Pipeline.arrRef spec0 2)) = _ :=
    Pipeline.withArrays_arr _ launch0.win.arr_inj c (V0 m c) (fun w => (dats m 0 c).arrAt w (cfgs 0).N) 2
  rw [final m c] at e
  erw [e]
  exact rows3 _ _

/-- After the run and the slices behind it, the keys of the stick-breaking branch are the reference's. -/
theorem value4 (c : Dev nD) : Pipeline.afterTail₀ cfgs (dats m) 0 (V0 m) [hostOps1] c main_v16
    = OUT4 (m ((c : Thread nD τ).loc main_arg0)) (m ((c : Thread nD τ).loc main_arg1)) := by
  unfold Pipeline.afterTail₀
  simp only [hostOps1, List.flatten_cons, List.flatten_nil, List.append_nil, List.cons_append, List.nil_append]
  after_results_simp
  have e : Pipeline.withArrays (cfgs 0).spec c (V0 m c) (fun w => (dats m 0 c).arrAt w (cfgs 0).N) (Proc.devRef .tc (Pipeline.arrRef spec0 2)) = _ :=
    Pipeline.withArrays_arr _ launch0.win.arr_inj c (V0 m c) (fun w => (dats m 0 c).arrAt w (cfgs 0).N) 2
  rw [final m c] at e
  erw [e]
  exact rows4 _ _

/-- After the run and the slices behind it, the values of the stick-breaking branch are the reference's. -/
theorem value5 (c : Dev nD) : Pipeline.afterTail₀ cfgs (dats m) 0 (V0 m) [hostOps1] c main_v17
    = OUT5 (m ((c : Thread nD τ).loc main_arg0)) (m ((c : Thread nD τ).loc main_arg1)) := by
  unfold Pipeline.afterTail₀
  simp only [hostOps1, List.flatten_cons, List.flatten_nil, List.append_nil, List.cons_append, List.nil_append]
  after_results_simp
  have e : Pipeline.withArrays (cfgs 0).spec c (V0 m c) (fun w => (dats m 0 c).arrAt w (cfgs 0).N) (Proc.devRef .tc (Pipeline.arrRef spec0 2)) = _ :=
    Pipeline.withArrays_arr _ launch0.win.arr_inj c (V0 m c) (fun w => (dats m 0 c).arrAt w (cfgs 0).N) 2
  rw [final m c] at e
  erw [e]
  exact rows5 _ _

end Cert.SampleIdeal.Proj

end
-- ==== Proof.SampleRms.lean ====
/- The first normalisation call's result array is the reference's: the value claim of the pair
   `SampleRmsIdeal` / `RefSampleRmsIdeal`. -/
module

public import proofs.«01_k».proof.Defs
public import proofs.«01_k».proof.Proof.Gen.SampleRmsIdeal.Frame
public import proofs.«01_k».proof.Proof.Gen.RefSampleRmsIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SampleRmsIdeal.Norm

open Cert.SampleRmsIdeal Cert.SampleRmsIdeal.Gen

variable (m : (ℓ : Loc nD τ sig) → Buf (Elt Ideal) ℓ)

/-- The reference's composed term over the two arguments. -/
abbrev REF (A0 : FVec Ideal S128x4x2048 .f32) (A1 : FVec Ideal S1x2048 .f32) : FVec Ideal S128x4x2048 .bf16 :=
  truncf .bf16 (mulf (mulf A0 (broadcastInDim Cert.RefSampleRmsIdeal.S128x4x2048 ![0, 1, 2] Cert.RefSampleRmsIdeal.Gen.bcast_S128x4x1_S128x4x2048_0_1_2 (Host.rsqrt (addf (Host.divf (broadcastInDim Cert.RefSampleRmsIdeal.S128x4x1 ![0, 1] Cert.RefSampleRmsIdeal.Gen.bcast_S128x4_S128x4x1_0_1 (Host.reduceAdd (mulf A0 A0) (constant Cert.RefSampleRmsIdeal.S_ .f32 0x00000000#32) Cert.RefSampleRmsIdeal.Gen.reducesTo_S128x4x2048_S128x4_d2 Cert.RefSampleRmsIdeal.Gen.h_S_)) (broadcastInDim Cert.RefSampleRmsIdeal.S128x4x1 ![] Cert.RefSampleRmsIdeal.Gen.bcast_S_S128x4x1 (constant Cert.RefSampleRmsIdeal.S_ .f32 0x45000000#32))) (broadcastInDim Cert.RefSampleRmsIdeal.S128x4x1 ![] Cert.RefSampleRmsIdeal.Gen.bcast_S_S128x4x1 (constant Cert.RefSampleRmsIdeal.S_ .f32 0x358637BD#32)))))) (broadcastInDim Cert.RefSampleRmsIdeal.S128x4x2048 ![0, 1, 2] Cert.RefSampleRmsIdeal.Gen.bcast_S1x1x2048_S128x4x2048_0_1_2 (broadcastInDim Cert.RefSampleRmsIdeal.S1x1x2048 ![2] Cert.RefSampleRmsIdeal.Gen.bcast_S2048_S1x1x2048_2 (shapeCast _ A1 Cert.RefSampleRmsIdeal.Gen.shapeCasts_S1x2048_S2048)))) Cert.RefSampleRmsIdeal.Gen.bitsLt_bf16_f32

/-- The normalised rows of an array `X` of padded rows. -/
def ROWS (X : FVec Ideal S1024x2048 .f32) (A1 : FVec Ideal S1x2048 .f32) : FVec Ideal S1024x2048 .bf16 := fun i =>
  X i * Ideal.rsqrt (Ideal.div (∑ x : Fin 2048, X (ix2 (i 0) x) * X (ix2 (i 0) x)) (Ideal.ofBits .f32 0x45000000#32) + Ideal.ofBits .f32 0x358637BD#32) * A1 (ix2 0 (i 1))

/-- What the call finds in its prepared operand `main_v3`: the argument's entries, placed anew. -/
theorem read_main_v3 (c : Dev nD) : V m c main_v3 = fun i => m ((c : Thread nD τ).loc main_arg1) (i) := by
  funext i
  show StableHlo.after (List.flatten [hostOps0, hostOps0_1, hostOps0_2]) (fun b => m (c, b)) (Proc.devRef .tc main_v3) i = _
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp
  pointwise

/-- The padded rows that the call is given: four rows of each group of eight are the argument's. -/
theorem read_main_v1 (c : Dev nD) (r : Fin 1024) (d : Fin 2048) (b : Fin 128) (q : Fin 4) (h : r.val = b.val * 8 + q.val) :
    V m c main_v1 (ix2 r d) = m ((c : Thread nD τ).loc main_arg0) (ix3 b q d) := by
  show StableHlo.after (List.flatten [hostOps0, hostOps0_1, hostOps0_2]) (fun b => m (c, b)) (Proc.devRef .tc main_v1) (ix2 r d) = _
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp
  pointwise
  rw [dif_pos ⟨by omega, by omega⟩]
  exact congrArg₂ (fun x y => m ((c : Thread nD τ).loc main_arg0) (ix3 x y d)) (Fin.ext (by dsimp only; omega)) (Fin.ext (by dsimp only; omega))

/-- The three windows' offsets at every grid point. -/
theorem idx : ∀ t : Fin cfg0.N, win0_0.index t = ![t.val, 0] ∧ win0_1.index t = ![0, 0] ∧ win0_2.index t = ![t.val, 0] :=
  (by decide +kernel : ∀ t : Fin grid0.N, _)

/-- At a point and a place of its block, the stored value is the normalised row's entry where the block lies. -/
theorem point (c : Dev nD) (t : Fin cfg0.N) (y) : k0_pay1 (iblk m c 0 t) (iblk m c 1 t) y
    = ROWS (V m c main_v1) (m ((c : Thread nD τ).loc main_arg1)) (((cfg0.win 2).blk t).view.emb y) := by
  pointwise [k0_pay1]
  unfold ROWS
  blk_point [iblk, idx t]
  refine (congrFun (read_main_v3 m c) _).trans ?_
  blk_ext [idx t]

/-- The result array after the run is the normalised rows of the padded input. -/
theorem final (c : Dev nD) : (dats m 0 c).arrAt 2 (cfgs 0).N
    = ROWS (V m c main_v1) (m ((c : Thread nD τ).loc main_arg1)) := by
  refine (dats m 0 c).arrAt_eq_of_covers 2 _ (by decide +kernel) fun t _ y => ?_
  blk_simp
  rw [after0_2]; frame_out
  exact point m c t y

/-- A real row, normalised, is the reference's row. -/
theorem rows_at (A0 : FVec Ideal S128x4x2048 .f32) (A1 : FVec Ideal S1x2048 .f32) (X : FVec Ideal S1024x2048 .f32)
    (b : Fin 128) (q : Fin 4) (d : Fin 2048) (r : Fin 1024) (h : ∀ d, X (ix2 r d) = A0 (ix3 b q d)) :
    ROWS X A1 (ix2 r d) = REF A0 A1 (ix3 b q d) := by
  pointwise [REF]
  unfold ROWS
  show X (ix2 r d) * Ideal.rsqrt (Ideal.div (∑ x : Fin 2048, X (ix2 r x) * X (ix2 r x)) _ + _) * A1 (ix2 0 d) = _
  simp only [h]

/-- Where the real rows lie among the padded rows. -/
theorem place (X : FVec Ideal S1024x2048 .bf16) (i) (r : Fin 1024) (hr : r.val = (i 0).val * 8 + (i 1).val) :
    extractStridedSlice S128x4x2048 ![0, 0, 0] (shapeCast S128x8x2048 X shapeCasts_S1024x2048_S128x8x2048) slices_S128x8x2048_S128x4x2048_0_0_0 i
      = X (ix2 r (i 2)) := by
  pointwise
  blk_ext []

/-- The real rows of the normalised padded rows are the reference's result. -/
theorem rows (A0 : FVec Ideal S128x4x2048 .f32) (A1 : FVec Ideal S1x2048 .f32) (X : FVec Ideal S1024x2048 .f32)
    (h : ∀ (r : Fin 1024) (d : Fin 2048) (b : Fin 128) (q : Fin 4), r.val = b.val * 8 + q.val → X (ix2 r d) = A0 (ix3 b q d)) :
    extractStridedSlice S128x4x2048 ![0, 0, 0] (shapeCast S128x8x2048 (ROWS X A1) shapeCasts_S1024x2048_S128x8x2048) slices_S128x8x2048_S128x4x2048_0_0_0
      = REF A0 A1 := by
  funext i
  have h0 : (i 0).val < 128 := (i 0).isLt
  have h1 : (i 1).val < 4 := (i 1).isLt
  rw [place _ i ⟨(i 0).val * 8 + (i 1).val, by omega⟩ rfl, rows_at A0 A1 X (i 0) (i 1) (i 2) _ (fun d => h _ d (i 0) (i 1) rfl)]
  exact congrArg (REF A0 A1) (eq_ix3 i).symm

/-- After the run and the slice behind it, the result is the reference's. -/
theorem value (c : Dev nD) : Pipeline.afterTail₀ cfgs (dats m) 0 (V0 m) [hostOps1] c main_v6
    = REF (m ((c : Thread nD τ).loc main_arg0)) (m ((c : Thread nD τ).loc main_arg1)) := by
  unfold Pipeline.afterTail₀
  simp only [hostOps1, List.flatten_cons, List.flatten_nil, List.append_nil, List.cons_append, List.nil_append]
  after_results_simp
  have e : Pipeline.withArrays (cfgs 0).spec c (V0 m c) (fun w => (dats m 0 c).arrAt w (cfgs 0).N) (Proc.devRef .tc (Pipeline.arrRef spec0 2)) = _ :=
    Pipeline.withArrays_arr _ launch0.win.arr_inj c (V0 m c) (fun w => (dats m 0 c).arrAt w (cfgs 0).N) 2
  rw [final m c] at e
  erw [e]
  exact rows _ _ _ (fun r d b q h => read_main_v1 m c r d b q h)

end Cert.SampleRmsIdeal.Norm

end
-- ==== Proof.SampleMerge.lean ====
/- The sample's merge call's result array is the reference's: the value claim of the pair
   `SampleMergeIdeal` / `RefSampleMergeIdeal`. -/
module

public import proofs.«01_k».proof.Defs
public import proofs.«01_k».proof.Proof.Gen.SampleMergeIdeal.Value
public import proofs.«01_k».proof.Proof.Gen.RefSampleMergeIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SampleMergeIdeal.Merge

open Cert.SampleMergeIdeal Cert.SampleMergeIdeal.Gen

variable (m : (ℓ : Loc nD τ sig) → Buf (Elt Ideal) ℓ)

/-- The reference's composed term over the five arguments. -/
abbrev REF (A0 A1 : FVec Ideal S1024x1024 .f32) (A2 A3 : FVec Ideal S1x1024x2048 .f32) (A4 : FVec Ideal S1024x12288 .f32) : FVec Ideal S1024x2048 .bf16 :=
  truncf .bf16 (addf (mulf (Host.divf (broadcastInDim Cert.RefSampleMergeIdeal.S1024x2048 ![] Cert.RefSampleMergeIdeal.Gen.bcast_S_S1024x2048 (constant Cert.RefSampleMergeIdeal.S_ .f32 0x3F800000#32)) (addf (broadcastInDim Cert.RefSampleMergeIdeal.S1024x2048 ![] Cert.RefSampleMergeIdeal.Gen.bcast_S_S1024x2048 (constant Cert.RefSampleMergeIdeal.S_ .f32 0x3F800000#32)) (Host.exp (Host.negf (extractStridedSlice Cert.RefSampleMergeIdeal.S1024x2048 ![0, 7168] A4 Cert.RefSampleMergeIdeal.Gen.slices_S1024x12288_S1024x2048_0_7168))))) (Host.dotGeneral Cert.RefSampleMergeIdeal.dot_S1024x1024_S1024x2048_S1024x2048_1_0_0_1_n_n none A0 (shapeCast _ A2 Cert.RefSampleMergeIdeal.Gen.shapeCasts_S1x1024x2048_S1024x2048))) (mulf (Host.divf (broadcastInDim Cert.RefSampleMergeIdeal.S1024x2048 ![] Cert.RefSampleMergeIdeal.Gen.bcast_S_S1024x2048 (constant Cert.RefSampleMergeIdeal.S_ .f32 0x3F800000#32)) (addf (broadcastInDim Cert.RefSampleMergeIdeal.S1024x2048 ![] Cert.RefSampleMergeIdeal.Gen.bcast_S_S1024x2048 (constant Cert.RefSampleMergeIdeal.S_ .f32 0x3F800000#32)) (Host.exp (Host.negf (extractStridedSlice Cert.RefSampleMergeIdeal.S1024x2048 ![0, 9216] A4 Cert.RefSampleMergeIdeal.Gen.slices_S1024x12288_S1024x2048_0_9216))))) (Host.dotGeneral Cert.RefSampleMergeIdeal.dot_S1024x1024_S1024x2048_S1024x2048_1_0_0_1_n_n none A1 (shapeCast _ A3 Cert.RefSampleMergeIdeal.Gen.shapeCasts_S1x1024x2048_S1024x2048)))) Cert.RefSampleMergeIdeal.Gen.bitsLt_bf16_f32

/-- The seven windows' offsets at every grid point. -/
theorem idx : ∀ t : Fin cfg0.N, win0_0.index t = ![0, 0] ∧ win0_1.index t = ![0, 0] ∧ win0_2.index t = ![0, t.val]
    ∧ win0_3.index t = ![0, t.val] ∧ win0_4.index t = ![0, 7 + t.val] ∧ win0_5.index t = ![0, 9 + t.val]
    ∧ win0_6.index t = ![0, t.val] :=
  (by decide +kernel : ∀ t : Fin grid0.N, _)

/-- At a point and a place of its block, the stored value is the reference's entry where the block lies. -/
theorem point (c : Dev nD) (t : Fin cfg0.N) (y) : k0_pay1 (iblk m c 0 t) (iblk m c 2 t) (iblk m c 1 t) (iblk m c 3 t) (iblk m c 4 t) (iblk m c 5 t) y
    = REF (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 6).blk t).view.emb y) := by
  pointwise [k0_pay1, REF]
  simp only [zero_sub]
  blk_point [iblk, V, idx t]

/-- The result array after the run is the reference's term over the arguments. -/
theorem final (c : Dev nD) : (dats m 0 c).arrAt 6 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]; frame_out
  exact point m c t y

end Cert.SampleMergeIdeal.Merge

end
-- ==== Proof.SampleProjNorm.lean ====
/- The output projection call's two result arrays are the reference's: the value claim of the pair
   `SampleProjNormIdeal` / `RefSampleProjNormIdeal`. -/
module

public import proofs.«01_k».proof.Defs
public import proofs.«01_k».proof.Proof.Gen.SampleProjNormIdeal.Value
public import proofs.«01_k».proof.Proof.Gen.RefSampleProjNormIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SampleProjNormIdeal.Proj

open Cert.SampleProjNormIdeal Cert.SampleProjNormIdeal.Gen

variable (m : (ℓ : Loc nD τ sig) → Buf (Elt Ideal) ℓ)

/-- The reference's first result over its four arguments. -/
abbrev REF (A0 : FVec Ideal S1024x2048 .bf16) (A1 : FVec Ideal S1x2048x2048 .f32) (A2 : FVec Ideal S1024x2048 .f32) (A3 : FVec Ideal S1x2048 .f32) : FVec Ideal S1024x2048 .f32 :=
  addf A2 (mulf (mulf (Host.dotGeneral Cert.RefSampleProjNormIdeal.dot_S1024x2048_S2048x2048_S1024x2048_1_0_0_1_n_n none (extf .f32 A0 Cert.RefSampleProjNormIdeal.Gen.bitsLt_bf16_f32) (shapeCast _ A1 Cert.RefSampleProjNormIdeal.Gen.shapeCasts_S1x2048x2048_S2048x2048)) (broadcastInDim Cert.RefSampleProjNormIdeal.S1024x2048 ![0, 1] Cert.RefSampleProjNormIdeal.Gen.bcast_S1024x1_S1024x2048_0_1 (Host.rsqrt (addf (Host.divf (broadcastInDim Cert.RefSampleProjNormIdeal.S1024x1 ![0] Cert.RefSampleProjNormIdeal.Gen.bcast_S1024_S1024x1_0 (Host.reduceAdd (mulf (Host.dotGeneral Cert.RefSampleProjNormIdeal.dot_S1024x2048_S2048x2048_S1024x2048_1_0_0_1_n_n none (extf .f32 A0 Cert.RefSampleProjNormIdeal.Gen.bitsLt_bf16_f32) (shapeCast _ A1 Cert.RefSampleProjNormIdeal.Gen.shapeCasts_S1x2048x2048_S2048x2048)) (Host.dotGeneral Cert.RefSampleProjNormIdeal.dot_S1024x2048_S2048x2048_S1024x2048_1_0_0_1_n_n none (extf .f32 A0 Cert.RefSampleProjNormIdeal.Gen.bitsLt_bf16_f32) (shapeCast _ A1 Cert.RefSampleProjNormIdeal.Gen.shapeCasts_S1x2048x2048_S2048x2048))) (constant Cert.RefSampleProjNormIdeal.S_ .f32 0x00000000#32) Cert.RefSampleProjNormIdeal.Gen.reducesTo_S1024x2048_S1024_d1 Cert.RefSampleProjNormIdeal.Gen.h_S_)) (broadcastInDim Cert.RefSampleProjNormIdeal.S1024x1 ![] Cert.RefSampleProjNormIdeal.Gen.bcast_S_S1024x1 (constant Cert.RefSampleProjNormIdeal.S_ .f32 0x45000000#32))) (broadcastInDim Cert.RefSampleProjNormIdeal.S1024x1 ![] Cert.RefSampleProjNormIdeal.Gen.bcast_S_S1024x1 (constant Cert.RefSampleProjNormIdeal.S_ .f32 0x358637BD#32)))))) (broadcastInDim Cert.RefSampleProjNormIdeal.S1024x2048 ![0, 1] Cert.RefSampleProjNormIdeal.Gen.bcast_S1x2048_S1024x2048_0_1 (broadcastInDim Cert.RefSampleProjNormIdeal.S1x2048 ![1] Cert.RefSampleProjNormIdeal.Gen.bcast_S2048_S1x2048_1 (shapeCast _ A3 Cert.RefSampleProjNormIdeal.Gen.shapeCasts_S1x2048_S2048))))

/-- The reference's second result over the first one and the last argument. -/
abbrev REF2 (X : FVec Ideal S1024x2048 .f32) (A4 : FVec Ideal S1x2048 .f32) : FVec Ideal S1024x2048 .bf16 :=
  truncf .bf16 (mulf (mulf X (broadcastInDim Cert.RefSampleProjNormIdeal.S1024x2048 ![0, 1] Cert.RefSampleProjNormIdeal.Gen.bcast_S1024x1_S1024x2048_0_1 (Host.rsqrt (addf (Host.divf (broadcastInDim Cert.RefSampleProjNormIdeal.S1024x1 ![0] Cert.RefSampleProjNormIdeal.Gen.bcast_S1024_S1024x1_0 (Host.reduceAdd (mulf X X) (constant Cert.RefSampleProjNormIdeal.S_ .f32 0x00000000#32) Cert.RefSampleProjNormIdeal.Gen.reducesTo_S1024x2048_S1024_d1 Cert.RefSampleProjNormIdeal.Gen.h_S_)) (broadcastInDim Cert.RefSampleProjNormIdeal.S1024x1 ![] Cert.RefSampleProjNormIdeal.Gen.bcast_S_S1024x1 (constant Cert.RefSampleProjNormIdeal.S_ .f32 0x45000000#32))) (broadcastInDim Cert.RefSampleProjNormIdeal.S1024x1 ![] Cert.RefSampleProjNormIdeal.Gen.bcast_S_S1024x1 (constant Cert.RefSampleProjNormIdeal.S_ .f32 0x358637BD#32)))))) (broadcastInDim Cert.RefSampleProjNormIdeal.S1024x2048 ![0, 1] Cert.RefSampleProjNormIdeal.Gen.bcast_S1x2048_S1024x2048_0_1 (broadcastInDim Cert.RefSampleProjNormIdeal.S1x2048 ![1] Cert.RefSampleProjNormIdeal.Gen.bcast_S2048_S1x2048_1 (shapeCast _ A4 Cert.RefSampleProjNormIdeal.Gen.shapeCasts_S1x2048_S2048)))) Cert.RefSampleProjNormIdeal.Gen.bitsLt_bf16_f32

/-- The seven windows' offsets at every grid point. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

/-- The lower half of a point's row block: its product's normalisation is the reference's first result there. -/
theorem low (c : Dev nD) (t : Fin cfg0.N) (x : S256x2048.Idx) (i : S1024x2048.Idx)
    (hi0 : (i 0).val = t.val * 512 + (256 + (x 0).val)) (hi1 : (i 1).val = (x 1).val) :
    k0_pay3 (View.ld (iblk m c 0 t) r0_3) (View.ld (iblk m c 1 t) r0_1) (View.ld (iblk m c 3 t) r0_2) (View.ld (iblk m c 2 t) r0_3) x
    = REF (m ((c : Thread nD τ).loc main_arg0)) (m ((c : Thread nD τ).loc main_arg1)) (m ((c : Thread nD τ).loc main_arg2))
        (m ((c : Thread nD τ).loc main_arg3)) i := by
  pointwise [k0_pay3, REF]
  blk_point [iblk, V, idx t]

/-- The upper half of a point's row block, the same. -/
theorem high (c : Dev nD) (t : Fin cfg0.N) (x : S256x2048.Idx) (i : S1024x2048.Idx)
    (hi0 : (i 0).val = t.val * 512 + (x 0).val) (hi1 : (i 1).val = (x 1).val) :
    k0_pay1 (View.ld (iblk m c 0 t) r0_0) (View.ld (iblk m c 1 t) r0_1) (View.ld (iblk m c 3 t) r0_2) (View.ld (iblk m c 2 t) r0_0) x
    = REF (m ((c : Thread nD τ).loc main_arg0)) (m ((c : Thread nD τ).loc main_arg1)) (m ((c : Thread nD τ).loc main_arg2))
        (m ((c : Thread nD τ).loc main_arg3)) i := by
  pointwise [k0_pay1, REF]
  blk_point [iblk, V, idx t]

/-- At a point and a place of its block, the first stored value is the reference's first result where the block lies. -/
theorem point1 (c : Dev nD) (t : Fin cfg0.N) (y : S512x2048.Idx) (i : S1024x2048.Idx)
    (hi0 : (i 0).val = t.val * 512 + (y 0).val) (hi1 : (i 1).val = (y 1).val) :
    out0_5 (iblk m c 0 t) (iblk m c 1 t) (iblk m c 2 t) (iblk m c 3 t) (iblk m c 4 t) y
    = REF (m ((c : Thread nD τ).loc main_arg0)) (m ((c : Thread nD τ).loc main_arg1)) (m ((c : Thread nD τ).loc main_arg2))
        (m ((c : Thread nD τ).loc main_arg3)) i := by
  unfold out0_5
  canon_tiles x h
  · exact low m c t x i (by omega) (by omega)
  · exact high m c t x i (by omega) (by omega)

/-- A row block normalised once more is the reference's second result, given that it is the first one. -/
theorem norm2 (X : FVec Ideal S256x2048 .f32) (Y : FVec Ideal S1024x2048 .f32) (g : Vec Ideal S1x2048 .f32) (A4 : FVec Ideal S1x2048 .f32)
    (x : S256x2048.Idx) (i : S1024x2048.Idx) (hX : ∀ k : Fin 2048, X (ix2 (x 0) k) = Y (ix2 (i 0) k)) (h1 : x 1 = i 1) (hg : ∀ z, g z = A4 z) :
    X x * Ideal.rsqrt (Ideal.div (∑ k : Fin 2048, X (ix2 (x 0) k) * X (ix2 (x 0) k)) (Ideal.ofBits .f32 0x45000000#32) + Ideal.ofBits .f32 0x358637BD#32) * g (ix2 0 (x 1))
      = REF2 Y A4 i := by
  have h0 : X x = Y i := by
    have e := hX (x 1)
    rw [ix2_eta] at e
    rw [e, h1, ix2_eta]
  pointwise [REF2]
  simp only [hX, h0, hg, h1]

/-- At a point and a place of its block, the second stored value is the reference's second result where the block lies. -/
theorem point2 (c : Dev nD) (t : Fin cfg0.N) (y : S512x2048.Idx) (i : S1024x2048.Idx)
    (hi0 : (i 0).val = t.val * 512 + (y 0).val) (hi1 : (i 1).val = (y 1).val) :
    out0_6 (iblk m c 0 t) (iblk m c 1 t) (iblk m c 2 t) (iblk m c 3 t) (iblk m c 4 t) y
    = REF2 (REF (m ((c : Thread nD τ).loc main_arg0)) (m ((c : Thread nD τ).loc main_arg1)) (m ((c : Thread nD τ).loc main_arg2))
        (m ((c : Thread nD τ).loc main_arg3))) (m ((c : Thread nD τ).loc main_arg4)) i := by
  unfold out0_6
  canon_tiles x h
  · rw [← norm2 (k0_pay3 (View.ld (iblk m c 0 t) r0_3) (View.ld (iblk m c 1 t) r0_1) (View.ld (iblk m c 3 t) r0_2) (View.ld (iblk m c 2 t) r0_3))
      _ (View.ld (iblk m c 4 t) r0_2) _ x i (fun k => low m c t _ _ (by show (i 0).val = _; rw [hi0, h0]; rfl) rfl) (Fin.ext (by omega)) (fun z => by
        pointwise; blk_point [iblk, V, idx t])]
    pointwise [k0_pay4]
    rfl
  · rw [← norm2 (k0_pay1 (View.ld (iblk m c 0 t) r0_0) (View.ld (iblk m c 1 t) r0_1) (View.ld (iblk m c 3 t) r0_2) (View.ld (iblk m c 2 t) r0_0))
      _ (View.ld (iblk m c 4 t) r0_2) _ x i (fun k => high m c t _ _ (by show (i 0).val = _; rw [hi0, h0]; rfl) rfl) (Fin.ext (by omega)) (fun z => by
        pointwise; blk_point [iblk, V, idx t])]
    pointwise [k0_pay2]
    rfl

/-- The first result array after the run. -/
theorem final1 (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]
  exact point1 m c t y _ (by blk_simp [idx t]) (by blk_simp [idx t])

/-- The second result array after the run. -/
theorem final2 (c : Dev nD) : (dats m 0 c).arrAt 6 (cfgs 0).N
    = REF2 (REF (m ((c : Thread nD τ).loc main_arg0)) (m ((c : Thread nD τ).loc main_arg1)) (m ((c : Thread nD τ).loc main_arg2))
        (m ((c : Thread nD τ).loc main_arg3))) (m ((c : Thread nD τ).loc main_arg4)) := by
  refine (dats m 0 c).arrAt_eq_of_covers 6 _ (by decide +kernel) fun t _ y => ?_
  blk_simp
  rw [after0_6]
  exact point2 m c t y _ (by blk_simp [idx t]) (by blk_simp [idx t])

end Cert.SampleProjNormIdeal.Proj

end
-- ==== Proof.SampleMlp.lean ====
/- The sample's perceptron call's real rows are the reference's: the value claim of the pair
   `SampleMlpIdeal` / `RefSampleMlpIdeal`. -/
module

public import proofs.«01_k».proof.Defs
public import proofs.«01_k».proof.Proof.Gen.SampleMlpIdeal.Frame
public import proofs.«01_k».proof.Proof.Gen.RefSampleMlpIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SampleMlpIdeal.Mlp

open Cert.SampleMlpIdeal Cert.SampleMlpIdeal.Gen

variable (m : (ℓ : Loc nD τ sig) → Buf (Elt Ideal) ℓ)

/-- The second product over the squared, rectified hidden product, at row `r` and column `d`. -/
def DOWN (A0 : FVec Ideal S1024x2048 .bf16) (A1 : FVec Ideal S1x2048x8192 .f32) (A2 : FVec Ideal S1x8192x2048 .f32) : FVec Ideal S1024x2048 .f32 := fun j =>
  ∑ l : Fin 8192, (max (∑ x : Fin 2048, A0 (ix2 (j 0) x) * A1 (ix3 0 x l)) 0 * max (∑ x : Fin 2048, A0 (ix2 (j 0) x) * A1 (ix3 0 x l)) 0) * A2 (ix3 0 l (j 1))

/-- The normalisation of the product `D`, added to the input. -/
def TAIL (D A3 : FVec Ideal S1024x2048 .f32) (A4 : FVec Ideal S1x2048 .f32) : FVec Ideal S1024x2048 .f32 := fun i =>
  A3 i + D i * Ideal.rsqrt (Ideal.div (∑ x : Fin 2048, D (ix2 (i 0) x) * D (ix2 (i 0) x)) (Ideal.ofBits .f32 0x45000000#32) + Ideal.ofBits .f32 0x358637BD#32) * A4 (ix2 0 (i 1))

/-- The five input windows' and the output window's offsets at every grid point. -/
theorem idx : ∀ t : Fin cfg0.N, win0_0.index t = ![0, 0] ∧ win0_1.index t = ![0, t.val % 16] ∧ win0_2.index t = ![t.val % 16, 0]
    ∧ win0_3.index t = ![0, 0] ∧ win0_4.index t = ![0, 0] ∧ win0_5.index t = ![0, 0] :=
  (by decide +kernel : ∀ t : Fin grid0.N, _)

/-- The accumulator is filled with zeros. -/
theorem hzero (j) : k0_pay1 (F := Ideal) j = 0 := by pointwise [k0_pay1]

/-- What a point adds to the accumulator: the product over its 512 hidden units. -/
theorem hpay (v3 v4 v9 v12 j) : k0_pay2 (F := Ideal) v3 v4 v9 v12 j = v9 j
    + ∑ k : Fin 512, (max (∑ x : Fin 2048, v3 (ix2 (j 0) x) * v4 (ix2 x k)) 0 * max (∑ x : Fin 2048, v3 (ix2 (j 0) x) * v4 (ix2 x k)) 0) * v12 (ix2 k (j 1)) := by
  pointwise [k0_pay2]

/-- What the call finds in its prepared operand `main_v1`: the argument's entries, placed anew. -/
theorem read_main_v1 (c : Dev nD) : V m c main_v1 = fun i => m ((c : Thread nD τ).loc main_arg1) (ix3 0 (i 0) (i 1)) := by
  funext i
  show StableHlo.after hostOps0 (fun b => m (c, b)) (Proc.devRef .tc main_v1) i = _
  after_results
  pointwise

/-- What the call finds in its prepared operand `main_v3`: the argument's entries, placed anew. -/
theorem read_main_v3 (c : Dev nD) : V m c main_v3 = fun i => m ((c : Thread nD τ).loc main_arg2) (ix3 0 (i 0) (i 1)) := by
  funext i
  show StableHlo.after hostOps0 (fun b => m (c, b)) (Proc.devRef .tc main_v3) i = _
  after_results
  pointwise

/-- What the call finds in its prepared operand `main_v5`: the argument's entries, placed anew. -/
theorem read_main_v5 (c : Dev nD) : V m c main_v5 = fun i => m ((c : Thread nD τ).loc main_arg4) (ix2 0 (i 1)) := by
  funext i
  show StableHlo.after hostOps0 (fun b => m (c, b)) (Proc.devRef .tc main_v5) i = _
  after_results
  pointwise

/-- After the last point of the run, the accumulator holds the whole product. -/
theorem acc (c : Dev nD) (t : Fin cfg0.N) (h15 : t.val % 16 = 15) (y : S1024x2048.Idx) :
    (outsAt0 m c t.val t.isLt).2 y = DOWN (m ((c : Thread nD τ).loc main_arg0)) (m ((c : Thread nD τ).loc main_arg1))
      (m ((c : Thread nD τ).loc main_arg2)) (((cfg0.win 5).blk t).view.emb y) := by
  rw [Pipeline.eq_sum_fin_of_reset_step_apply_of_flush (fun n h => (outsAt0 m c n h).2) 16 (fun _ => 0) _
    (fun t h j => by rw [outsAt0_A m c t h (by omega)]; frame_out; rw [hpay, hzero])
    (fun t h j => by
      by_cases h1 : t.val % 16 = 15
      · rw [outsAt0_C m c t h h1]; frame_out; simp only [read_unread_whole]; rw [hpay]
      · rw [outsAt0_B m c t h h1]; frame_out; simp only [read_unread_whole]; rw [hpay])
    t h15 _, zero_add]
  unfold DOWN
  refine Fin.sum_mul_add_congr fun s k hl => ?_
  blk_point [iblk, V_main_arg0, idx t, idx ⟨_, Pipeline.run_point_lt_of_flush t h15 s⟩]
  · refine (congrFun (read_main_v1 m c) _).trans ?_
    blk_ext [idx t, idx ⟨_, Pipeline.run_point_lt_of_flush t h15 s⟩]
  · refine (congrFun (read_main_v3 m c) _).trans ?_
    blk_ext [idx t, idx ⟨_, Pipeline.run_point_lt_of_flush t h15 s⟩]

/-- What the last point of the run stores: the normalised accumulator added to the input block. -/
theorem out_last (c : Dev nD) (t : Fin cfg0.N) (h15 : t.val % 16 = 15) :
    (outsAt0 m c t.val t.isLt).1 = k0_pay3 (outsAt0 m c t.val t.isLt).2 (iblk m c 3 t) (iblk m c 4 t) := by
  rw [outsAt0_C m c t (by omega) h15]
  frame_out

/-- The normalisation of the block of a product. -/
theorem tail (c : Dev nD) (t : Fin cfg0.N) (X : Vec Ideal S1024x2048 .f32) (D : FVec Ideal S1024x2048 .f32)
    (hX : ∀ y, X y = D (((cfg0.win 5).blk t).view.emb y)) (y : S1024x2048.Idx) :
    k0_pay3 X (iblk m c 3 t) (iblk m c 4 t) y = TAIL D (m ((c : Thread nD τ).loc main_arg3)) (m ((c : Thread nD τ).loc main_arg4))
      (((cfg0.win 5).blk t).view.emb y) := by
  have hX' : ∀ k : Fin 2048, X (ix2 (y 0) k) = D (ix2 (((cfg0.win 5).blk t).view.emb y 0) k) := fun k => by
    rw [hX]; blk_ext [idx t]
  have hX0 : X y = D (((cfg0.win 5).blk t).view.emb y) := hX y
  pointwise [k0_pay3]
  unfold TAIL
  simp only [hX', hX0]
  blk_point [iblk, V_main_arg3, idx t]
  refine (congrFun (read_main_v5 m c) _).trans ?_
  blk_ext [idx t]

/-- The result array after the run. -/
theorem final (c : Dev nD) : (dats m 0 c).arrAt 5 (cfgs 0).N
    = TAIL (DOWN (m ((c : Thread nD τ).loc main_arg0)) (m ((c : Thread nD τ).loc main_arg1)) (m ((c : Thread nD τ).loc main_arg2)))
        (m ((c : Thread nD τ).loc main_arg3)) (m ((c : Thread nD τ).loc main_arg4)) := by
  refine (dats m 0 c).arrAt_eq_of_covers 5 _ (by decide +kernel) fun t hf y => ?_
  blk_simp
  have h15 := (flush0_5 t).mp hf
  rw [after0_5, out_last m c t h15]
  exact tail m c t _ _ (acc m c t h15) y

/-- The reference's rectified hidden product. -/
def RUP (A0 : FVec Ideal S1024x2048 .bf16) (A1 : FVec Ideal S1x2048x8192 .f32) : FVec Ideal Cert.RefSampleMlpIdeal.S128x4x8192 .f32 :=
  (maximumf (Host.dotGeneral Cert.RefSampleMlpIdeal.dot_S128x4x2048_S2048x8192_S128x4x8192_2_0_01_1_n_n none (extf .f32 (extractStridedSlice Cert.RefSampleMlpIdeal.S128x4x2048 ![0, 0, 0] (shapeCast _ A0 Cert.RefSampleMlpIdeal.Gen.shapeCasts_S1024x2048_S128x8x2048) Cert.RefSampleMlpIdeal.Gen.slices_S128x8x2048_S128x4x2048_0_0_0) Cert.RefSampleMlpIdeal.Gen.bitsLt_bf16_f32) (shapeCast _ A1 Cert.RefSampleMlpIdeal.Gen.shapeCasts_S1x2048x8192_S2048x8192)) (broadcastInDim Cert.RefSampleMlpIdeal.S128x4x8192 ![] Cert.RefSampleMlpIdeal.Gen.bcast_S_S128x4x8192 (constant Cert.RefSampleMlpIdeal.S_ .f32 0x00000000#32)))

/-- The reference's second product over the rectified hidden product `U`. -/
def RDOWN (U : FVec Ideal Cert.RefSampleMlpIdeal.S128x4x8192 .f32) (A2 : FVec Ideal S1x8192x2048 .f32) : FVec Ideal Cert.RefSampleMlpIdeal.S128x4x2048 .f32 :=
  (Host.dotGeneral Cert.RefSampleMlpIdeal.dot_S128x4x8192_S8192x2048_S128x4x2048_2_0_01_1_n_n none (mulf U U) (shapeCast _ A2 Cert.RefSampleMlpIdeal.Gen.shapeCasts_S1x8192x2048_S8192x2048))

/-- The reference's normalisation of the product `D`, added to the input. -/
def RTAIL (D : FVec Ideal Cert.RefSampleMlpIdeal.S128x4x2048 .f32) (A3 : FVec Ideal S1024x2048 .f32) (A4 : FVec Ideal S1x2048 .f32) : FVec Ideal Cert.RefSampleMlpIdeal.S128x4x2048 .f32 :=
  addf (extractStridedSlice Cert.RefSampleMlpIdeal.S128x4x2048 ![0, 0, 0] (shapeCast _ A3 Cert.RefSampleMlpIdeal.Gen.shapeCasts_S1024x2048_S128x8x2048) Cert.RefSampleMlpIdeal.Gen.slices_S128x8x2048_S128x4x2048_0_0_0) (mulf (mulf D (broadcastInDim Cert.RefSampleMlpIdeal.S128x4x2048 ![0, 1, 2] Cert.RefSampleMlpIdeal.Gen.bcast_S128x4x1_S128x4x2048_0_1_2 (Host.rsqrt (addf (Host.divf (broadcastInDim Cert.RefSampleMlpIdeal.S128x4x1 ![0, 1] Cert.RefSampleMlpIdeal.Gen.bcast_S128x4_S128x4x1_0_1 (Host.reduceAdd (mulf D D) (constant Cert.RefSampleMlpIdeal.S_ .f32 0x00000000#32) Cert.RefSampleMlpIdeal.Gen.reducesTo_S128x4x2048_S128x4_d2 Cert.RefSampleMlpIdeal.Gen.h_S_)) (broadcastInDim Cert.RefSampleMlpIdeal.S128x4x1 ![] Cert.RefSampleMlpIdeal.Gen.bcast_S_S128x4x1 (constant Cert.RefSampleMlpIdeal.S_ .f32 0x45000000#32))) (broadcastInDim Cert.RefSampleMlpIdeal.S128x4x1 ![] Cert.RefSampleMlpIdeal.Gen.bcast_S_S128x4x1 (constant Cert.RefSampleMlpIdeal.S_ .f32 0x358637BD#32)))))) (broadcastInDim Cert.RefSampleMlpIdeal.S128x4x2048 ![0, 1, 2] Cert.RefSampleMlpIdeal.Gen.bcast_S1x1x2048_S128x4x2048_0_1_2 (broadcastInDim Cert.RefSampleMlpIdeal.S1x1x2048 ![2] Cert.RefSampleMlpIdeal.Gen.bcast_S2048_S1x1x2048_2 (shapeCast _ A4 Cert.RefSampleMlpIdeal.Gen.shapeCasts_S1x2048_S2048))))

/-- A real row of the second product is the reference's. -/
theorem down_at (A0 : FVec Ideal S1024x2048 .bf16) (A1 : FVec Ideal S1x2048x8192 .f32) (A2 : FVec Ideal S1x8192x2048 .f32)
    (b : Fin 128) (q : Fin 4) (r : Fin 1024) (h : r.val = b.val * 8 + q.val) (d : Fin 2048) :
    DOWN A0 A1 A2 (ix2 r d) = RDOWN (RUP A0 A1) A2 (ix3 b q d) := by
  have hu : ∀ l : Fin 8192, RUP A0 A1 (ix3 b q l) = max (∑ x : Fin 2048, A0 (ix2 r x) * A1 (ix3 0 x l)) 0 := fun l => by
    pointwise [RUP]
    blk_point []
  pointwise [RDOWN]
  unfold DOWN
  simp only [hu]
  blk_point []

/-- A real row of the result is the reference's. -/
theorem tail_at (D : FVec Ideal S1024x2048 .f32) (E : FVec Ideal Cert.RefSampleMlpIdeal.S128x4x2048 .f32) (A3 : FVec Ideal S1024x2048 .f32) (A4 : FVec Ideal S1x2048 .f32)
    (b : Fin 128) (q : Fin 4) (r : Fin 1024) (h : r.val = b.val * 8 + q.val) (hD : ∀ d, D (ix2 r d) = E (ix3 b q d)) (d : Fin 2048) :
    TAIL D A3 A4 (ix2 r d) = RTAIL E A3 A4 (ix3 b q d) := by
  pointwise [RTAIL]
  unfold TAIL
  show A3 (ix2 r d) + D (ix2 r d) * Ideal.rsqrt (Ideal.div (∑ x : Fin 2048, D (ix2 r x) * D (ix2 r x)) _ + _) * A4 (ix2 0 d) = _
  simp only [hD]
  blk_point []

/-- Where the real rows lie among the padded rows. -/
theorem place (X : FVec Ideal S1024x2048 .f32) (i) (r : Fin 1024) (hr : r.val = (i 0).val * 8 + (i 1).val) :
    extractStridedSlice S128x4x2048 ![0, 0, 0] (shapeCast S128x8x2048 X shapeCasts_S1024x2048_S128x8x2048) slices_S128x8x2048_S128x4x2048_0_0_0 i
      = X (ix2 r (i 2)) := by
  pointwise
  blk_ext []

/-- The real rows of the result are the reference's result. -/
theorem rows (A0 : FVec Ideal S1024x2048 .bf16) (A1 : FVec Ideal S1x2048x8192 .f32) (A2 : FVec Ideal S1x8192x2048 .f32)
    (A3 : FVec Ideal S1024x2048 .f32) (A4 : FVec Ideal S1x2048 .f32) :
    extractStridedSlice S128x4x2048 ![0, 0, 0] (shapeCast S128x8x2048 (TAIL (DOWN A0 A1 A2) A3 A4) shapeCasts_S1024x2048_S128x8x2048) slices_S128x8x2048_S128x4x2048_0_0_0
      = RTAIL (RDOWN (RUP A0 A1) A2) A3 A4 := by
  funext i
  have h0 : (i 0).val < 128 := (i 0).isLt
  have h1 : (i 1).val < 4 := (i 1).isLt
  rw [place _ i ⟨(i 0).val * 8 + (i 1).val, by omega⟩ rfl,
    tail_at _ (RDOWN (RUP A0 A1) A2) A3 A4 (i 0) (i 1) _ rfl (down_at A0 A1 A2 (i 0) (i 1) _ rfl) (i 2)]
  exact congrArg _ (eq_ix3 i).symm

/-- After the run and the slice behind it, the result is the reference's. -/
theorem value (c : Dev nD) : Pipeline.afterTail₀ cfgs (dats m) 0 (V0 m) [hostOps1] c main_v8
    = RTAIL (RDOWN (RUP (m ((c : Thread nD τ).loc main_arg0)) (m ((c : Thread nD τ).loc main_arg1))) (m ((c : Thread nD τ).loc main_arg2))) (m ((c : Thread nD τ).loc main_arg3)) (m ((c : Thread nD τ).loc main_arg4)) := by
  unfold Pipeline.afterTail₀
  simp only [hostOps1, List.flatten_cons, List.flatten_nil, List.append_nil, List.cons_append, List.nil_append]
  after_results_simp
  have e : Pipeline.withArrays (cfgs 0).spec c (V0 m c) (fun w => (dats m 0 c).arrAt w (cfgs 0).N) (Proc.devRef .tc (Pipeline.arrRef spec0 5)) = _ :=
    Pipeline.withArrays_arr _ launch0.win.arr_inj c (V0 m c) (fun w => (dats m 0 c).arrAt w (cfgs 0).N) 5
  rw [final m c] at e
  erw [e]
  exact rows _ _ _ _ _

end Cert.SampleMlpIdeal.Mlp

end
-- ==== Proof.SampleRows.lean ====
/- The sample's cache rows from the model's own arguments: the value claim of the pair
   `SampleRowsIdeal` / `RefSampleRowsIdeal`. -/
module

public import proofs.«01_k».proof.Defs
public import proofs.«01_k».proof.Proof.Gen.SampleRowsIdeal.Frame
public import proofs.«01_k».proof.Proof.Gen.RefSampleRowsIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SampleRowsIdeal.Rows

open Cert.SampleRowsIdeal Cert.SampleRowsIdeal.Gen

section Calls

variable (V : (c : Dev nD) → (b : Ref sig .tc) → Buf (Elt Ideal) ((c : Thread nD τ).loc b))

/-- The normalised rows of an array of padded rows. -/
def NORM (X : FVec Ideal S1024x2048 .f32) (G : FVec Ideal S1x2048 .f32) : FVec Ideal S1024x2048 .bf16 := fun i =>
  X i * Ideal.rsqrt (Ideal.div (∑ x : Fin 2048, X (ix2 (i 0) x) * X (ix2 (i 0) x)) (Ideal.ofBits .f32 0x45000000#32) + Ideal.ofBits .f32 0x358637BD#32) * G (ix2 0 (i 1))

/-- The normalisation call's windows at every grid point. -/
theorem idx0 : ∀ t : Fin cfg0.N, win0_0.index t = ![t.val, 0] ∧ win0_1.index t = ![0, 0] ∧ win0_2.index t = ![t.val, 0] :=
  (by decide +kernel : ∀ t : Fin grid0.N, _)

/-- At a point and a place of its block, the value stored is the normalised row's entry where the block lies. -/
theorem point0 (c : Dev nD) (t : Fin cfg0.N) (y) : k0_pay1 (iblk0 V c 0 t) (iblk0 V c 1 t) y
    = NORM (V c main_v1) (V c main_v3) (((cfg0.win 2).blk t).view.emb y) := by
  pointwise [k0_pay1]
  unfold NORM
  blk_point [iblk0, idx0 t]

/-- The normalisation call's array after its run. -/
theorem final0 (c : Dev nD) : (dat0 V c).arrAt 2 cfg0.N = NORM (V c main_v1) (V c main_v3) := by
  refine (dat0 V c).arrAt_eq_of_covers 2 _ (by decide +kernel) fun t _ y => ?_
  blk_simp
  rw [after0_2]; frame_out
  exact point0 V c t y

/-- The element at which the weight window begins on the rows of the transposed weight. -/
abbrev wrow (q : ℕ) : ℕ := if q < 4 then 1024 * q else if q < 11 then 4176 + 1024 * (q - 4) else 4096

/-- The projection call's windows at every grid point. -/
theorem idx1 : ∀ t : Fin cfg1.N, win1_0.index t = ![0, 0] ∧ win1_1.index t = ![wrow t.val, 0]
    ∧ win1_2.index t = ![0, t.val] :=
  (by decide +kernel : ∀ t : Fin grid1.N, _)

/-- The row of the transposed weight behind a column of the projection. -/
def col (k : Fin 12288) : Fin 11344 :=
  ⟨if k.val < 4096 then k.val else if k.val < 11264 then k.val + 80 else k.val - 7168, by have := k.isLt; split <;> [skip; split] <;> omega⟩

/-- The row behind a column of row block `t` is that far past the row at which the window begins. -/
theorem col_at (t y : ℕ) (ht : t < 12) (hy : y < 1024) (k : Fin 12288) (h : k.val = t * 1024 + y) : (col k).val = wrow t + y := by
  show (if k.val < 4096 then k.val else if k.val < 11264 then k.val + 80 else k.val - 7168) = _
  rw [h]; dsimp only [wrow]
  split <;> split <;> (try split) <;> (try split) <;> omega

/-- The projection: each column is the product with its row of the transposed weight. -/
def PROJ (H : FVec Ideal S1024x2048 .bf16) (W : FVec Ideal S11344x2048 .f32) : FVec Ideal S1024x12288 .f32 := fun i =>
  ∑ x : Fin 2048, H (ix2 (i 0) x) * W (ix2 (col (i 1)) x)

/-- A place of the weight window lies, on the rows, that far past the row at which the window begins, -/
theorem wemb0 (t : Fin cfg1.N) (o : ℕ) (y : S1024x2048.Idx) (h : win1_1.index t = ![o, 0]) (z : S1024x2048.Idx) (hz : z = y) :
    (((View.whole main_v6).slice (win1_1.rect t)).emb z 0).val = o + (y 0).val := by
  subst hz
  have e := win1_1.rect_emb_val_off t z 0
  rw [h] at e
  exact e

/-- and on the columns where it is. -/
theorem wemb1 (t : Fin cfg1.N) (o : ℕ) (y : S1024x2048.Idx) (h : win1_1.index t = ![o, 0]) (z : S1024x2048.Idx) (hz : z = y) :
    (((View.whole main_v6).slice (win1_1.rect t)).emb z 1).val = (y 1).val := by
  subst hz
  have e := win1_1.rect_emb_val_off t z 1
  rw [h] at e
  exact e.trans (Nat.zero_add _)

/-- At a point and a place of its block, the product is the projection's entry where the block lies. -/
theorem point1 (c : Dev nD) (t : Fin cfg1.N) (y) :
    k1_pay2 (iblk1 V c 0 t) (k1_pay1 (iblk1 V c 1 t)) y
      = PROJ (V c main_v4) (V c main_v6) (((cfg1.win 2).blk t).view.emb y) := by
  pointwise [k1_pay2, k1_pay1]
  unfold PROJ
  have hN : t.val < 12 := lt_of_lt_of_eq t.isLt N_1
  have i1 := (idx1 t).2.1
  have hw : ((((cfg1.win 2).blk t).view.emb y 1 : Fin _) : ℕ) = t.val * 1024 + (y 1).val := by
    blk_simp [idx1 t]
  have hy : (y 1).val < 1024 := (y 1).isLt
  have hc := col_at t.val (y 1).val hN hy _ hw
  refine Finset.sum_congr rfl fun x _ => ?_
  refine congrArg₂ (· * ·) ?_ ?_
  · blk_point [iblk1, idx1 t]
  · show V c main_v6 _ = V c main_v6 _
    refine congrArg (V c main_v6) ((eq_ix2 _).trans (congrArg₂ ix2 (Fin.ext ?_) (Fin.ext ?_)))
    · exact (wemb0 t _ _ i1 _ rfl).trans hc.symm
    · exact wemb1 t _ _ i1 _ rfl

/-- The projection call's array after its run. -/
theorem final1 (c : Dev nD) : (dat1 V c).arrAt 2 cfg1.N = PROJ (V c main_v4) (V c main_v6) := by
  refine (dat1 V c).arrAt_eq_of_covers 2 _ (by decide +kernel) fun t _ y => ?_
  blk_simp
  rw [after1_2]
  unfold outsAt1
  frame_out
  exact point1 V c t y

end Calls

section Run

variable (m : (ℓ : Loc nD τ sig) → Buf (Elt Ideal) ℓ) (ρ : Dev nD → PrngReg)

/-- The gain that the normalisation call is given. -/
theorem read_main_v3 (c : Dev nD) : V3 m ρ c main_v3 = m ((c : Thread nD τ).loc main_arg2) := by
  funext i
  show StableHlo.after hostOps0_2 (W2 m ρ c) (Proc.devRef .tc main_v3) i = _
  simp only [hostOps0_2]
  after_results_simp
  pointwise

/-- The padded rows that the normalisation call is given: four rows of each group of eight are the argument's. -/
theorem read_main_v1 (c : Dev nD) (r : Fin 1024) (d : Fin 2048) (b : Fin 128) (q : Fin 4) (h : r.val = b.val * 8 + q.val) :
    V3 m ρ c main_v1 (ix2 r d) = m ((c : Thread nD τ).loc main_arg0) (ix3 b q d) := by
  show StableHlo.after hostOps0_2 (StableHlo.after hostOps0_1 (StableHlo.after hostOps0 (W0 m ρ c))) (Proc.devRef .tc main_v1) (ix2 r d) = _
  simp only [hostOps0, hostOps0_1, hostOps0_2, StableHlo.TRef.binary, StableHlo.TRef.unary, StableHlo.TRef.toBuf, StableHlo.TRef.ofBuf, cast_eq]
  after_results_simp
  pointwise
  rw [dif_pos ⟨by omega, by omega⟩]
  exact congrArg₂ (fun x y => m ((c : Thread nD τ).loc main_arg0) (ix3 x y d)) (Fin.ext (by dsimp only; omega)) (Fin.ext (by dsimp only; omega))

/-- The normalised rows that the projection call is given. -/
theorem read_main_v4 (c : Dev nD) : V5 m ρ c main_v4 = NORM (V3 m ρ c main_v1) (m ((c : Thread nD τ).loc main_arg2)) := by
  show W5 m ρ c (Proc.devRef .tc main_v4) = _
  rw [W5_of m ρ c main_v4 (by decide)]
  refine (W4_arr m ρ c 2).trans ?_
  rw [final0, read_main_v3]

/-- The transposed weight that the projection call is given. -/
theorem read_main_v6 (c : Dev nD) (j : Fin 11344) (x : Fin 2048) :
    V5 m ρ c main_v6 (ix2 j x) = m ((c : Thread nD τ).loc main_arg1) (ix3 0 x j) := by
  show StableHlo.after hostOps1 (W4 m ρ c) (Proc.devRef .tc main_v6) (ix2 j x) = _
  simp only [hostOps1]
  after_results_simp
  rw [W4_args m ρ c main_arg1 (by decide)]
  pointwise

/-- The projection's array after both calls. -/
theorem read_main_v7 (c : Dev nD) : W6 m ρ c (Proc.devRef .tc main_v7)
    = PROJ (NORM (V3 m ρ c main_v1) (m ((c : Thread nD τ).loc main_arg2))) (V5 m ρ c main_v6) := by
  refine (W6_arr m ρ c 2).trans ?_
  rw [final1, read_main_v4]

end Run

section Reference

variable (A0 : FVec Ideal S128x4x2048 .f32) (A1 : FVec Ideal S1x2048x11344 .f32) (A2 : FVec Ideal S1x2048 .f32)

/-- The reference's normalised rows, and its product with the weight. -/
def YN : FVec Ideal S128x4x2048 .f32 := (mulf (mulf A0 (broadcastInDim Cert.RefSampleRowsIdeal.S128x4x2048 ![0, 1, 2] Cert.RefSampleRowsIdeal.Gen.bcast_S128x4x1_S128x4x2048_0_1_2 (Host.rsqrt (addf (Host.divf (broadcastInDim Cert.RefSampleRowsIdeal.S128x4x1 ![0, 1] Cert.RefSampleRowsIdeal.Gen.bcast_S128x4_S128x4x1_0_1 (Host.reduceAdd (mulf A0 A0) (constant Cert.RefSampleRowsIdeal.S_ .f32 0x00000000#32) Cert.RefSampleRowsIdeal.Gen.reducesTo_S128x4x2048_S128x4_d2 Cert.RefSampleRowsIdeal.Gen.h_S_)) (broadcastInDim Cert.RefSampleRowsIdeal.S128x4x1 ![] Cert.RefSampleRowsIdeal.Gen.bcast_S_S128x4x1 (constant Cert.RefSampleRowsIdeal.S_ .f32 0x45000000#32))) (broadcastInDim Cert.RefSampleRowsIdeal.S128x4x1 ![] Cert.RefSampleRowsIdeal.Gen.bcast_S_S128x4x1 (constant Cert.RefSampleRowsIdeal.S_ .f32 0x358637BD#32)))))) (broadcastInDim Cert.RefSampleRowsIdeal.S128x4x2048 ![0, 1, 2] Cert.RefSampleRowsIdeal.Gen.bcast_S1x1x2048_S128x4x2048_0_1_2 (broadcastInDim Cert.RefSampleRowsIdeal.S1x1x2048 ![2] Cert.RefSampleRowsIdeal.Gen.bcast_S2048_S1x1x2048_2 (shapeCast _ A2 Cert.RefSampleRowsIdeal.Gen.shapeCasts_S1x2048_S2048))))
def DOT : FVec Ideal Cert.RefSampleRowsIdeal.S128x4x11344 .f32 :=
  Host.dotGeneral Cert.RefSampleRowsIdeal.dot_S128x4x2048_S2048x11344_S128x4x11344_2_0_01_1_n_n none (YN A0 A2) (shapeCast _ A1 Cert.RefSampleRowsIdeal.Gen.shapeCasts_S1x2048x11344_S2048x11344)

/-- A real row, normalised, is the reference's row. -/
theorem norm_at (X : FVec Ideal S1024x2048 .f32) (b : Fin 128) (q : Fin 4) (d : Fin 2048) (r : Fin 1024)
    (h : ∀ d, X (ix2 r d) = A0 (ix3 b q d)) : NORM X A2 (ix2 r d) = YN A0 A2 (ix3 b q d) := by
  pointwise [YN]
  unfold NORM
  show X (ix2 r d) * Ideal.rsqrt (Ideal.div (∑ x : Fin 2048, X (ix2 r x) * X (ix2 r x)) _ + _) * A2 (ix2 0 d) = _
  simp only [h]

/-- The projection of a real row is the reference's product. -/
theorem proj_at (X : FVec Ideal S1024x2048 .f32) (W : FVec Ideal S11344x2048 .f32)
    (b : Fin 128) (q : Fin 4) (r : Fin 1024) (k : Fin 12288) (j : Fin 11344) (hj : (col k).val = j.val)
    (h : ∀ d, X (ix2 r d) = A0 (ix3 b q d)) (hW : ∀ x, W (ix2 j x) = A1 (ix3 0 x j)) :
    PROJ (NORM X A2) W (ix2 r k) = DOT A0 A1 A2 (ix3 b q j) := by
  pointwise [DOT]
  show ∑ x : Fin 2048, NORM X A2 (ix2 r x) * W (ix2 (col k) x) = _
  rw [show col k = j from Fin.ext hj]
  refine Finset.sum_congr rfl fun x _ => ?_
  rw [norm_at A0 A2 X b q x r h, hW]

end Reference

/-- Where the keys of the sparse branch lie in the projection, -/
theorem place1 (X : FVec Ideal S1024x12288 .f32) (i) (r : Fin 1024) (k : Fin 12288) (hr : r.val = (i 1).val * 8 + (i 2).val) (hk : k.val = 1024 + ((i 3).val * 128 + (i 4).val)) :
    (broadcastInDim S1x128x4x8x128 ![1, 2, 3, 4] bcast_S128x4x8x128_S1x128x4x8x128_1_2_3_4
      (shapeCast S128x4x8x128 (extractStridedSlice S128x4x1024 ![0, 0, 1024] (shapeCast S128x8x12288 X shapeCasts_S1024x12288_S128x8x12288) slices_S128x8x12288_S128x4x1024_0_0_1024) shapeCasts_S128x4x1024_S128x4x8x128)) i = X (ix2 r k) := by
  pointwise
  blk_ext []

/-- and in the reference's product. -/
theorem ref_place1 (D : FVec Ideal Cert.RefSampleRowsIdeal.S128x4x11344 .f32) (i) (j : Fin 11344) (hj : j.val = 1024 + ((i 3).val * 128 + (i 4).val)) :
    (shapeCast Cert.RefSampleRowsIdeal.S1x128x4x8x128 (extractStridedSlice Cert.RefSampleRowsIdeal.S128x4x1024 ![0, 0, 1024] D Cert.RefSampleRowsIdeal.Gen.slices_S128x4x11344_S128x4x1024_0_0_1024) Cert.RefSampleRowsIdeal.Gen.shapeCasts_S128x4x1024_S1x128x4x8x128) i = D (ix3 (i 1) (i 2) j) := by
  pointwise
  blk_ext []

/-- The reference's keys of the sparse branch. -/
def OUT1 (A0 : FVec Ideal S128x4x2048 .f32) (A1 : FVec Ideal S1x2048x11344 .f32) (A2 : FVec Ideal S1x2048 .f32) : FVec Ideal S1x128x4x8x128 .f32 :=
  shapeCast Cert.RefSampleRowsIdeal.S1x128x4x8x128 (extractStridedSlice Cert.RefSampleRowsIdeal.S128x4x1024 ![0, 0, 1024] (DOT A0 A1 A2) Cert.RefSampleRowsIdeal.Gen.slices_S128x4x11344_S128x4x1024_0_0_1024) Cert.RefSampleRowsIdeal.Gen.shapeCasts_S128x4x1024_S1x128x4x8x128

/-- After both calls and the slices behind them, the keys of the sparse branch are the reference's. -/
theorem value1 (m : (ℓ : Loc nD τ sig) → Buf (Elt Ideal) ℓ) (ρ : Dev nD → PrngReg) (c : Dev nD) : W7 m ρ c (Proc.devRef .tc main_v18)
    = OUT1 (m ((c : Thread nD τ).loc main_arg0)) (m ((c : Thread nD τ).loc main_arg1)) (m ((c : Thread nD τ).loc main_arg2)) := by
  funext i
  show StableHlo.after hostOps2 (W6 m ρ c) (Proc.devRef .tc main_v18) i = _
  simp only [hostOps2]
  after_results_simp
  have h1 : (i 1).val < 128 := (i 1).isLt
  have h2 : (i 2).val < 4 := (i 2).isLt
  have h3 : (i 3).val < 8 := (i 3).isLt
  have h4 : (i 4).val < 128 := (i 4).isLt
  rw [read_main_v7]
  refine (place1 _ i ⟨(i 1).val * 8 + (i 2).val, by omega⟩ ⟨1024 + ((i 3).val * 128 + (i 4).val), by omega⟩ rfl rfl).trans ?_
  refine (proj_at _ _ _ _ _ (i 1) (i 2) _ _ ⟨1024 + ((i 3).val * 128 + (i 4).val), by omega⟩ ?_ (fun d => read_main_v1 m ρ c _ d (i 1) (i 2) rfl)
    (fun x => read_main_v6 m ρ c _ x)).trans (ref_place1 _ i _ rfl).symm
  dsimp only [col]
  split <;> (try split) <;> omega

/-- Where the values of the sparse branch lie in the projection, -/
theorem place2 (X : FVec Ideal S1024x12288 .f32) (i) (r : Fin 1024) (k : Fin 12288) (hr : r.val = (i 1).val * 8 + (i 2).val) (hk : k.val = 2048 + ((i 3).val * 128 + (i 4).val)) :
    (broadcastInDim S1x128x4x8x128 ![1, 2, 3, 4] bcast_S128x4x8x128_S1x128x4x8x128_1_2_3_4
      (shapeCast S128x4x8x128 (extractStridedSlice S128x4x1024 ![0, 0, 2048] (shapeCast S128x8x12288 X shapeCasts_S1024x12288_S128x8x12288) slices_S128x8x12288_S128x4x1024_0_0_2048) shapeCasts_S128x4x1024_S128x4x8x128)) i = X (ix2 r k) := by
  pointwise
  blk_ext []

/-- and in the reference's product. -/
theorem ref_place2 (D : FVec Ideal Cert.RefSampleRowsIdeal.S128x4x11344 .f32) (i) (j : Fin 11344) (hj : j.val = 2048 + ((i 3).val * 128 + (i 4).val)) :
    (shapeCast Cert.RefSampleRowsIdeal.S1x128x4x8x128 (extractStridedSlice Cert.RefSampleRowsIdeal.S128x4x1024 ![0, 0, 2048] D Cert.RefSampleRowsIdeal.Gen.slices_S128x4x11344_S128x4x1024_0_0_2048) Cert.RefSampleRowsIdeal.Gen.shapeCasts_S128x4x1024_S1x128x4x8x128) i = D (ix3 (i 1) (i 2) j) := by
  pointwise
  blk_ext []

/-- The reference's values of the sparse branch. -/
def OUT2 (A0 : FVec Ideal S128x4x2048 .f32) (A1 : FVec Ideal S1x2048x11344 .f32) (A2 : FVec Ideal S1x2048 .f32) : FVec Ideal S1x128x4x8x128 .f32 :=
  shapeCast Cert.RefSampleRowsIdeal.S1x128x4x8x128 (extractStridedSlice Cert.RefSampleRowsIdeal.S128x4x1024 ![0, 0, 2048] (DOT A0 A1 A2) Cert.RefSampleRowsIdeal.Gen.slices_S128x4x11344_S128x4x1024_0_0_2048) Cert.RefSampleRowsIdeal.Gen.shapeCasts_S128x4x1024_S1x128x4x8x128

/-- After both calls and the slices behind them, the values of the sparse branch are the reference's. -/
theorem value2 (m : (ℓ : Loc nD τ sig) → Buf (Elt Ideal) ℓ) (ρ : Dev nD → PrngReg) (c : Dev nD) : W7 m ρ c (Proc.devRef .tc main_v19)
    = OUT2 (m ((c : Thread nD τ).loc main_arg0)) (m ((c : Thread nD τ).loc main_arg1)) (m ((c : Thread nD τ).loc main_arg2)) := by
  funext i
  show StableHlo.after hostOps2 (W6 m ρ c) (Proc.devRef .tc main_v19) i = _
  simp only [hostOps2]
  after_results_simp
  have h1 : (i 1).val < 128 := (i 1).isLt
  have h2 : (i 2).val < 4 := (i 2).isLt
  have h3 : (i 3).val < 8 := (i 3).isLt
  have h4 : (i 4).val < 128 := (i 4).isLt
  rw [read_main_v7]
  refine (place2 _ i ⟨(i 1).val * 8 + (i 2).val, by omega⟩ ⟨2048 + ((i 3).val * 128 + (i 4).val), by omega⟩ rfl rfl).trans ?_
  refine (proj_at _ _ _ _ _ (i 1) (i 2) _ _ ⟨2048 + ((i 3).val * 128 + (i 4).val), by omega⟩ ?_ (fun d => read_main_v1 m ρ c _ d (i 1) (i 2) rfl)
    (fun x => read_main_v6 m ρ c _ x)).trans (ref_place2 _ i _ rfl).symm
  dsimp only [col]
  split <;> (try split) <;> omega

/-- Where the indexer keys lie in the projection, -/
theorem place3 (X : FVec Ideal S1024x12288 .f32) (i) (r : Fin 1024) (k : Fin 12288) (hr : r.val = (i 1).val * 8 + (i 2).val) (hk : k.val = 11264 + (i 3).val) :
    (broadcastInDim S1x128x4x64 ![1, 2, 3] bcast_S128x4x64_S1x128x4x64_1_2_3
      (extractStridedSlice S128x4x64 ![0, 0, 11264] (shapeCast S128x8x12288 X shapeCasts_S1024x12288_S128x8x12288) slices_S128x8x12288_S128x4x64_0_0_11264)) i = X (ix2 r k) := by
  pointwise
  blk_ext []

/-- and in the reference's product. -/
theorem ref_place3 (D : FVec Ideal Cert.RefSampleRowsIdeal.S128x4x11344 .f32) (i) (j : Fin 11344) (hj : j.val = 4096 + (i 3).val) :
    (shapeCast Cert.RefSampleRowsIdeal.S1x128x4x64 (extractStridedSlice Cert.RefSampleRowsIdeal.S128x4x64 ![0, 0, 4096] D Cert.RefSampleRowsIdeal.Gen.slices_S128x4x11344_S128x4x64_0_0_4096) Cert.RefSampleRowsIdeal.Gen.shapeCasts_S128x4x64_S1x128x4x64) i = D (ix3 (i 1) (i 2) j) := by
  pointwise
  blk_ext []

/-- The reference's indexer keys. -/
def OUT3 (A0 : FVec Ideal S128x4x2048 .f32) (A1 : FVec Ideal S1x2048x11344 .f32) (A2 : FVec Ideal S1x2048 .f32) : FVec Ideal S1x128x4x64 .f32 :=
  shapeCast Cert.RefSampleRowsIdeal.S1x128x4x64 (extractStridedSlice Cert.RefSampleRowsIdeal.S128x4x64 ![0, 0, 4096] (DOT A0 A1 A2) Cert.RefSampleRowsIdeal.Gen.slices_S128x4x11344_S128x4x64_0_0_4096) Cert.RefSampleRowsIdeal.Gen.shapeCasts_S128x4x64_S1x128x4x64

/-- After both calls and the slices behind them, the indexer keys are the reference's. -/
theorem value3 (m : (ℓ : Loc nD τ sig) → Buf (Elt Ideal) ℓ) (ρ : Dev nD → PrngReg) (c : Dev nD) : W7 m ρ c (Proc.devRef .tc main_v20)
    = OUT3 (m ((c : Thread nD τ).loc main_arg0)) (m ((c : Thread nD τ).loc main_arg1)) (m ((c : Thread nD τ).loc main_arg2)) := by
  funext i
  show StableHlo.after hostOps2 (W6 m ρ c) (Proc.devRef .tc main_v20) i = _
  simp only [hostOps2]
  after_results_simp
  have h1 : (i 1).val < 128 := (i 1).isLt
  have h2 : (i 2).val < 4 := (i 2).isLt
  have h3 : (i 3).val < 64 := (i 3).isLt
  rw [read_main_v7]
  refine (place3 _ i ⟨(i 1).val * 8 + (i 2).val, by omega⟩ ⟨11264 + (i 3).val, by omega⟩ rfl rfl).trans ?_
  refine (proj_at _ _ _ _ _ (i 1) (i 2) _ _ ⟨4096 + (i 3).val, by omega⟩ ?_ (fun d => read_main_v1 m ρ c _ d (i 1) (i 2) rfl)
    (fun x => read_main_v6 m ρ c _ x)).trans (ref_place3 _ i _ rfl).symm
  dsimp only [col]
  split <;> (try split) <;> omega

/-- Where the keys of the stick-breaking branch lie in the projection, -/
theorem place4 (X : FVec Ideal S1024x12288 .f32) (i) (r : Fin 1024) (k : Fin 12288) (hr : r.val = (i 1).val * 8 + (i 2).val) (hk : k.val = 5120 + ((i 3).val * 128 + (i 4).val)) :
    (broadcastInDim S1x128x4x8x128 ![1, 2, 3, 4] bcast_S128x4x8x128_S1x128x4x8x128_1_2_3_4
      (shapeCast S128x4x8x128 (extractStridedSlice S128x4x1024 ![0, 0, 5120] (shapeCast S128x8x12288 X shapeCasts_S1024x12288_S128x8x12288) slices_S128x8x12288_S128x4x1024_0_0_5120) shapeCasts_S128x4x1024_S128x4x8x128)) i = X (ix2 r k) := by
  pointwise
  blk_ext []

/-- and in the reference's product. -/
theorem ref_place4 (D : FVec Ideal Cert.RefSampleRowsIdeal.S128x4x11344 .f32) (i) (j : Fin 11344) (hj : j.val = 5200 + ((i 3).val * 128 + (i 4).val)) :
    (shapeCast Cert.RefSampleRowsIdeal.S1x128x4x8x128 (extractStridedSlice Cert.RefSampleRowsIdeal.S128x4x1024 ![0, 0, 5200] D Cert.RefSampleRowsIdeal.Gen.slices_S128x4x11344_S128x4x1024_0_0_5200) Cert.RefSampleRowsIdeal.Gen.shapeCasts_S128x4x1024_S1x128x4x8x128) i = D (ix3 (i 1) (i 2) j) := by
  pointwise
  blk_ext []

/-- The reference's keys of the stick-breaking branch. -/
def OUT4 (A0 : FVec Ideal S128x4x2048 .f32) (A1 : FVec Ideal S1x2048x11344 .f32) (A2 : FVec Ideal S1x2048 .f32) : FVec Ideal S1x128x4x8x128 .f32 :=
  shapeCast Cert.RefSampleRowsIdeal.S1x128x4x8x128 (extractStridedSlice Cert.RefSampleRowsIdeal.S128x4x1024 ![0, 0, 5200] (DOT A0 A1 A2) Cert.RefSampleRowsIdeal.Gen.slices_S128x4x11344_S128x4x1024_0_0_5200) Cert.RefSampleRowsIdeal.Gen.shapeCasts_S128x4x1024_S1x128x4x8x128

/-- After both calls and the slices behind them, the keys of the stick-breaking branch are the reference's. -/
theorem value4 (m : (ℓ : Loc nD τ sig) → Buf (Elt Ideal) ℓ) (ρ : Dev nD → PrngReg) (c : Dev nD) : W7 m ρ c (Proc.devRef .tc main_v21)
    = OUT4 (m ((c : Thread nD τ).loc main_arg0)) (m ((c : Thread nD τ).loc main_arg1)) (m ((c : Thread nD τ).loc main_arg2)) := by
  funext i
  show StableHlo.after hostOps2 (W6 m ρ c) (Proc.devRef .tc main_v21) i = _
  simp only [hostOps2]
  after_results_simp
  have h1 : (i 1).val < 128 := (i 1).isLt
  have h2 : (i 2).val < 4 := (i 2).isLt
  have h3 : (i 3).val < 8 := (i 3).isLt
  have h4 : (i 4).val < 128 := (i 4).isLt
  rw [read_main_v7]
  refine (place4 _ i ⟨(i 1).val * 8 + (i 2).val, by omega⟩ ⟨5120 + ((i 3).val * 128 + (i 4).val), by omega⟩ rfl rfl).trans ?_
  refine (proj_at _ _ _ _ _ (i 1) (i 2) _ _ ⟨5200 + ((i 3).val * 128 + (i 4).val), by omega⟩ ?_ (fun d => read_main_v1 m ρ c _ d (i 1) (i 2) rfl)
    (fun x => read_main_v6 m ρ c _ x)).trans (ref_place4 _ i _ rfl).symm
  dsimp only [col]
  split <;> (try split) <;> omega

/-- Where the values of the stick-breaking branch lie in the projection, -/
theorem place5 (X : FVec Ideal S1024x12288 .f32) (i) (r : Fin 1024) (k : Fin 12288) (hr : r.val = (i 1).val * 8 + (i 2).val) (hk : k.val = 6144 + ((i 3).val * 128 + (i 4).val)) :
    (broadcastInDim S1x128x4x8x128 ![1, 2, 3, 4] bcast_S128x4x8x128_S1x128x4x8x128_1_2_3_4
      (shapeCast S128x4x8x128 (extractStridedSlice S128x4x1024 ![0, 0, 6144] (shapeCast S128x8x12288 X shapeCasts_S1024x12288_S128x8x12288) slices_S128x8x12288_S128x4x1024_0_0_6144) shapeCasts_S128x4x1024_S128x4x8x128)) i = X (ix2 r k) := by
  pointwise
  blk_ext []

/-- and in the reference's product. -/
theorem ref_place5 (D : FVec Ideal Cert.RefSampleRowsIdeal.S128x4x11344 .f32) (i) (j : Fin 11344) (hj : j.val = 6224 + ((i 3).val * 128 + (i 4).val)) :
    (shapeCast Cert.RefSampleRowsIdeal.S1x128x4x8x128 (extractStridedSlice Cert.RefSampleRowsIdeal.S128x4x1024 ![0, 0, 6224] D Cert.RefSampleRowsIdeal.Gen.slices_S128x4x11344_S128x4x1024_0_0_6224) Cert.RefSampleRowsIdeal.Gen.shapeCasts_S128x4x1024_S1x128x4x8x128) i = D (ix3 (i 1) (i 2) j) := by
  pointwise
  blk_ext []

/-- The reference's values of the stick-breaking branch. -/
def OUT5 (A0 : FVec Ideal S128x4x2048 .f32) (A1 : FVec Ideal S1x2048x11344 .f32) (A2 : FVec Ideal S1x2048 .f32) : FVec Ideal S1x128x4x8x128 .f32 :=
  shapeCast Cert.RefSampleRowsIdeal.S1x128x4x8x128 (extractStridedSlice Cert.RefSampleRowsIdeal.S128x4x1024 ![0, 0, 6224] (DOT A0 A1 A2) Cert.RefSampleRowsIdeal.Gen.slices_S128x4x11344_S128x4x1024_0_0_6224) Cert.RefSampleRowsIdeal.Gen.shapeCasts_S128x4x1024_S1x128x4x8x128

/-- After both calls and the slices behind them, the values of the stick-breaking branch are the reference's. -/
theorem value5 (m : (ℓ : Loc nD τ sig) → Buf (Elt Ideal) ℓ) (ρ : Dev nD → PrngReg) (c : Dev nD) : W7 m ρ c (Proc.devRef .tc main_v22)
    = OUT5 (m ((c : Thread nD τ).loc main_arg0)) (m ((c : Thread nD τ).loc main_arg1)) (m ((c : Thread nD τ).loc main_arg2)) := by
  funext i
  show StableHlo.after hostOps2 (W6 m ρ c) (Proc.devRef .tc main_v22) i = _
  simp only [hostOps2]
  after_results_simp
  have h1 : (i 1).val < 128 := (i 1).isLt
  have h2 : (i 2).val < 4 := (i 2).isLt
  have h3 : (i 3).val < 8 := (i 3).isLt
  have h4 : (i 4).val < 128 := (i 4).isLt
  rw [read_main_v7]
  refine (place5 _ i ⟨(i 1).val * 8 + (i 2).val, by omega⟩ ⟨6144 + ((i 3).val * 128 + (i 4).val), by omega⟩ rfl rfl).trans ?_
  refine (proj_at _ _ _ _ _ (i 1) (i 2) _ _ ⟨6224 + ((i 3).val * 128 + (i 4).val), by omega⟩ ?_ (fun d => read_main_v1 m ρ c _ d (i 1) (i 2) rfl)
    (fun x => read_main_v6 m ρ c _ x)).trans (ref_place5 _ i _ rfl).symm
  dsimp only [col]
  split <;> (try split) <;> omega

section Whole

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- Every run ends with the unscoped arrays at the contents after the last stretch of host operations. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => h)

/-- Every run ends with the reference's cache rows in its results and its arguments unchanged. -/
theorem run : θ_run defs (onTc (τ := τ) (main (F := Ideal))) ⟨m, fun _ => 0, ρ⟩ (fun r => ∀ c : Dev nD,
      r.2.mem ((c.tc : Thread nD τ).loc main_v18) = OUT1 (m ((c.tc : Thread nD τ).loc main_arg0)) (m ((c.tc : Thread nD τ).loc main_arg1)) (m ((c.tc : Thread nD τ).loc main_arg2))
      ∧ r.2.mem ((c.tc : Thread nD τ).loc main_v19) = OUT2 (m ((c.tc : Thread nD τ).loc main_arg0)) (m ((c.tc : Thread nD τ).loc main_arg1)) (m ((c.tc : Thread nD τ).loc main_arg2))
      ∧ r.2.mem ((c.tc : Thread nD τ).loc main_v20) = OUT3 (m ((c.tc : Thread nD τ).loc main_arg0)) (m ((c.tc : Thread nD τ).loc main_arg1)) (m ((c.tc : Thread nD τ).loc main_arg2))
      ∧ r.2.mem ((c.tc : Thread nD τ).loc main_v21) = OUT4 (m ((c.tc : Thread nD τ).loc main_arg0)) (m ((c.tc : Thread nD τ).loc main_arg1)) (m ((c.tc : Thread nD τ).loc main_arg2))
      ∧ r.2.mem ((c.tc : Thread nD τ).loc main_v22) = OUT5 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v18 (by decide))).trans (value1 m ρ c),
    (h c _ (mem_uc main_v19 (by decide))).trans (value2 m ρ c),
    (h c _ (mem_uc main_v20 (by decide))).trans (value3 m ρ c),
    (h c _ (mem_uc main_v21 (by decide))).trans (value4 m ρ c),
    (h c _ (mem_uc main_v22 (by decide))).trans (value5 m ρ c),
    (h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c)⟩)
    (run_all m ρ)

end Whole

end Cert.SampleRowsIdeal.Rows

end
-- ==== Proof.PromptRows.lean ====
/- The prompt's cache rows from the model's own arguments: the value claim of the pair
   `PromptRowsIdeal` / `RefPromptRowsIdeal`. -/
module

public import proofs.«01_k».proof.Defs
public import proofs.«01_k».proof.Proof.PromptRowsIdealSteps
public import proofs.«01_k».proof.Proof.Gen.RefPromptRowsIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.PromptRowsIdeal.Rows

open Cert.PromptRowsIdeal Cert.PromptRowsIdeal.Gen Cert.PromptRowsIdeal.Steps

section Calls

variable (V : (c : Dev nD) → (b : Ref sig .tc) → Buf (Elt Ideal) ((c : Thread nD τ).loc b))

/-- The normalised rows of an array of rows. -/
def NORM (X : FVec Ideal S8192x2048 .f32) (G : FVec Ideal S1x2048 .f32) : FVec Ideal S8192x2048 .bf16 := fun i =>
  X i * Ideal.rsqrt (Ideal.div (∑ x : Fin 2048, X (ix2 (i 0) x) * X (ix2 (i 0) x)) (Ideal.ofBits .f32 0x45000000#32) + Ideal.ofBits .f32 0x358637BD#32) * G (ix2 0 (i 1))

/-- The normalisation call's windows at every grid point. -/
theorem idx0 : ∀ t : Fin cfg0.N, win0_0.index t = ![t.val, 0] ∧ win0_1.index t = ![0, 0] ∧ win0_2.index t = ![t.val, 0] :=
  (by decide +kernel : ∀ t : Fin grid0.N, _)

/-- At a point and a place of its block, the value stored is the normalised row's entry where the block lies. -/
theorem point0 (c : Dev nD) (t : Fin cfg0.N) (y) : k0_pay1 (iblk0 V c 0 t) (iblk0 V c 1 t) y
    = NORM (V c main_v0) (V c main_v2) (((cfg0.win 2).blk t).view.emb y) := by
  pointwise [k0_pay1]
  unfold NORM
  blk_point [iblk0, idx0 t]

/-- The normalisation call's array after its run. -/
theorem final0 (c : Dev nD) : (dat0 V c).arrAt 2 cfg0.N = NORM (V c main_v0) (V c main_v2) := by
  refine (dat0 V c).arrAt_eq_of_covers 2 _ (by decide +kernel) fun t _ y => ?_
  blk_simp
  rw [after0_2]; frame_out
  exact point0 V c t y

/-- The element at which the weight window begins on the rows of the transposed weight. -/
abbrev wrow (q : ℕ) : ℕ := if q < 4 then 1024 * q else if q < 11 then 4176 + 1024 * (q - 4) else 4096

/-- The projection call's windows at every grid point. -/
theorem idx1 : ∀ t : Fin cfg1.N, win1_0.index t = ![t.val % 8, 0] ∧ win1_1.index t = ![wrow (t.val / 8), 0]
    ∧ win1_2.index t = ![t.val % 8, t.val / 8] :=
  (by decide +kernel : ∀ t : Fin grid1.N, _)

/-- The row of the transposed weight behind a column of the projection. -/
def col (k : Fin 12288) : Fin 11344 :=
  ⟨if k.val < 4096 then k.val else if k.val < 11264 then k.val + 80 else k.val - 7168, by have := k.isLt; split <;> [skip; split] <;> omega⟩

/-- The row behind a column of row block `t` is that far past the row at which the window begins. -/
theorem col_at (t y : ℕ) (ht : t < 12) (hy : y < 1024) (k : Fin 12288) (h : k.val = t * 1024 + y) : (col k).val = wrow t + y := by
  show (if k.val < 4096 then k.val else if k.val < 11264 then k.val + 80 else k.val - 7168) = _
  rw [h]; dsimp only [wrow]
  split <;> split <;> (try split) <;> (try split) <;> omega

/-- The projection: each column is the product with its row of the transposed weight. -/
def PROJ (H : FVec Ideal S8192x2048 .bf16) (W : FVec Ideal S11344x2048 .f32) : FVec Ideal S8192x12288 .f32 := fun i =>
  ∑ x : Fin 2048, H (ix2 (i 0) x) * W (ix2 (col (i 1)) x)

/-- A place of the weight window lies, on the rows, that far past the row at which the window begins, -/
theorem wemb0 (t : Fin cfg1.N) (o : ℕ) (y : S1024x2048.Idx) (h : win1_1.index t = ![o, 0]) (z : S1024x2048.Idx) (hz : z = y) :
    (((View.whole main_v5).slice (win1_1.rect t)).emb z 0).val = o + (y 0).val := by
  subst hz
  have e := win1_1.rect_emb_val_off t z 0
  rw [h] at e
  exact e

/-- and on the columns where it is. -/
theorem wemb1 (t : Fin cfg1.N) (o : ℕ) (y : S1024x2048.Idx) (h : win1_1.index t = ![o, 0]) (z : S1024x2048.Idx) (hz : z = y) :
    (((View.whole main_v5).slice (win1_1.rect t)).emb z 1).val = (y 1).val := by
  subst hz
  have e := win1_1.rect_emb_val_off t z 1
  rw [h] at e
  exact e.trans (Nat.zero_add _)

/-- The carried scratch after point `n` is the rounded weight block of the first point of `n`'s run. -/
theorem scratch (c : Dev nD) : ∀ (n : ℕ) (h : n < cfg1.N) (h' : 8 * (n / 8) < cfg1.N),
    (outsAt1 V c n h).2 = k1_pay1 (iblk1 V c 1 ⟨8 * (n / 8), h'⟩) := by
  intro n
  induction n with
  | zero =>
    intro h h'
    rw [outsAt1_A V c ⟨0, h⟩ rfl]
    frame_out
  | succ n ih =>
    intro h h'
    by_cases h0 : (n + 1) % 8 = 0
    · rw [outsAt1_A V c ⟨n + 1, h⟩ h0]
      frame_out
      have e : (⟨8 * ((n + 1) / 8), h'⟩ : Fin cfg1.N) = ⟨n + 1, h⟩ := Fin.ext (by show 8 * ((n + 1) / 8) = n + 1; omega)
      rw [e]
    · rw [outsAt1_B V c ⟨n + 1, h⟩ h0]
      have hd : (n + 1) / 8 = n / 8 := by omega
      unfold sout1_B_0
      simp only [Nat.add_sub_cancel]
      rw [ih (Nat.lt_of_succ_lt h) (by rw [← hd]; exact h')]
      exact congrArg (fun u => k1_pay1 (iblk1 V c 1 u)) (Fin.ext (congrArg (8 * ·) hd.symm))

/-- What the output's staging buffer holds after point `t`: the product of the row block of `h` and the
    rounded weight block of the run. -/
theorem out (c : Dev nD) (t : Fin cfg1.N) (h' : 8 * (t.val / 8) < cfg1.N) :
    (outsAt1 V c t.val t.isLt).1 = k1_pay2 (iblk1 V c 0 t) (k1_pay1 (iblk1 V c 1 ⟨8 * (t.val / 8), h'⟩)) := by
  by_cases h0 : t.val % 8 = 0
  · rw [outsAt1_A V c t h0]
    have e : (⟨8 * (t.val / 8), h'⟩ : Fin cfg1.N) = t := Fin.ext (by show 8 * (t.val / 8) = t.val; omega)
    rw [e]
    frame_out
  · rw [outsAt1_B V c t h0]
    frame_out
    simp only [read_unread_whole]
    rw [scratch V c (t.val - 1) (by omega) (by omega)]
    have e : (t.val - 1) / 8 = t.val / 8 := by omega
    exact congrArg (fun u => k1_pay2 (iblk1 V c 0 t) (k1_pay1 (iblk1 V c 1 u))) (Fin.ext (congrArg (8 * ·) e))

/-- At a point and a place of its block, the product is the projection's entry where the block lies. -/
theorem point1 (c : Dev nD) (t : Fin cfg1.N) (h' : 8 * (t.val / 8) < cfg1.N) (y) :
    k1_pay2 (iblk1 V c 0 t) (k1_pay1 (iblk1 V c 1 ⟨8 * (t.val / 8), h'⟩)) y
      = PROJ (V c main_v3) (V c main_v5) (((cfg1.win 2).blk t).view.emb y) := by
  pointwise [k1_pay2, k1_pay1]
  unfold PROJ
  have hN : t.val < 96 := lt_of_lt_of_eq t.isLt N_1
  have e1 : 8 * (t.val / 8) / 8 = t.val / 8 := by omega
  have i1 : win1_1.index ⟨8 * (t.val / 8), h'⟩ = ![wrow (t.val / 8), 0] := by
    rw [(idx1 ⟨8 * (t.val / 8), h'⟩).2.1]; dsimp only; rw [e1]
  have hw : ((((cfg1.win 2).blk t).view.emb y 1 : Fin _) : ℕ) = t.val / 8 * 1024 + (y 1).val := by
    blk_simp [idx1 t]
  have hy : (y 1).val < 1024 := (y 1).isLt
  have hc := col_at (t.val / 8) (y 1).val (by omega) hy _ hw
  refine Finset.sum_congr rfl fun x _ => ?_
  refine congrArg₂ (· * ·) ?_ ?_
  · blk_point [iblk1, idx1 t]
  · show V c main_v5 _ = V c main_v5 _
    refine congrArg (V c main_v5) ((eq_ix2 _).trans (congrArg₂ ix2 (Fin.ext ?_) (Fin.ext ?_)))
    · exact (wemb0 _ _ _ i1 _ rfl).trans hc.symm
    · exact wemb1 _ _ _ i1 _ rfl

/-- The projection call's array after its run. -/
theorem final1 (c : Dev nD) : (dat1 V c).arrAt 2 cfg1.N = PROJ (V c main_v3) (V c main_v5) := by
  refine (dat1 V c).arrAt_eq_of_covers 2 _ (by decide +kernel) fun t _ y => ?_
  blk_simp
  have hN : t.val < 96 := lt_of_lt_of_eq t.isLt N_1
  have h' : 8 * (t.val / 8) < cfg1.N := lt_of_lt_of_eq (by omega) N_1.symm
  rw [after1_2, out V c t h']
  exact point1 V c t h' y

end Calls

section Run

variable (m : (ℓ : Loc nD τ sig) → Buf (Elt Ideal) ℓ) (ρ : Dev nD → PrngReg)

/-- The gain that the normalisation call is given. -/
theorem read_main_v2 (c : Dev nD) : V1 m ρ c main_v2 = m ((c : Thread nD τ).loc main_arg2) := by
  funext i
  show StableHlo.after hostOps0 (W0 m ρ c) (Proc.devRef .tc main_v2) i = _
  simp only [hostOps0]
  after_results_simp
  pointwise

/-- The rows that the normalisation call is given are the argument's. -/
theorem read_main_v0 (c : Dev nD) (r : Fin 8192) (d : Fin 2048) (b : Fin 2) (q : Fin 4096) (h : r.val = b.val * 4096 + q.val) :
    V1 m ρ c main_v0 (ix2 r d) = m ((c : Thread nD τ).loc main_arg0) (ix3 b q d) := by
  show StableHlo.after hostOps0 (W0 m ρ c) (Proc.devRef .tc main_v0) (ix2 r d) = _
  simp only [hostOps0]
  after_results_simp
  pointwise
  exact congrArg₂ (fun x y => m ((c : Thread nD τ).loc main_arg0) (ix3 x y d)) (Fin.ext (by dsimp only; omega)) (Fin.ext (by dsimp only; omega))

/-- The normalised rows that the projection call is given. -/
theorem read_main_v3 (c : Dev nD) : V3 m ρ c main_v3 = NORM (V1 m ρ c main_v0) (m ((c : Thread nD τ).loc main_arg2)) := by
  show W3 m ρ c (Proc.devRef .tc main_v3) = _
  rw [W3_of m ρ c main_v3 (by decide)]
  refine (W2_arr m ρ c 2).trans ?_
  rw [final0, read_main_v2]

/-- The transposed weight that the projection call is given. -/
theorem read_main_v5 (c : Dev nD) (j : Fin 11344) (x : Fin 2048) :
    V3 m ρ c main_v5 (ix2 j x) = m ((c : Thread nD τ).loc main_arg1) (ix3 0 x j) := by
  show StableHlo.after hostOps1 (W2 m ρ c) (Proc.devRef .tc main_v5) (ix2 j x) = _
  simp only [hostOps1]
  after_results_simp
  rw [W2_args m ρ c main_arg1 (by decide)]
  pointwise

/-- The projection's array after both calls. -/
theorem read_main_v6 (c : Dev nD) : W4 m ρ c (Proc.devRef .tc main_v6)
    = PROJ (NORM (V1 m ρ c main_v0) (m ((c : Thread nD τ).loc main_arg2))) (V3 m ρ c main_v5) := by
  refine (W4_arr m ρ c 2).trans ?_
  rw [final1, read_main_v3]

end Run

section Reference

variable (A0 : FVec Ideal S2x4096x2048 .f32) (A1 : FVec Ideal S1x2048x11344 .f32) (A2 : FVec Ideal S1x2048 .f32)

/-- The reference's normalised rows, and its product with the weight. -/
def YN : FVec Ideal S2x4096x2048 .f32 := (mulf (mulf A0 (broadcastInDim Cert.RefPromptRowsIdeal.S2x4096x2048 ![0, 1, 2] Cert.RefPromptRowsIdeal.Gen.bcast_S2x4096x1_S2x4096x2048_0_1_2 (Host.rsqrt (addf (Host.divf (broadcastInDim Cert.RefPromptRowsIdeal.S2x4096x1 ![0, 1] Cert.RefPromptRowsIdeal.Gen.bcast_S2x4096_S2x4096x1_0_1 (Host.reduceAdd (mulf A0 A0) (constant Cert.RefPromptRowsIdeal.S_ .f32 0x00000000#32) Cert.RefPromptRowsIdeal.Gen.reducesTo_S2x4096x2048_S2x4096_d2 Cert.RefPromptRowsIdeal.Gen.h_S_)) (broadcastInDim Cert.RefPromptRowsIdeal.S2x4096x1 ![] Cert.RefPromptRowsIdeal.Gen.bcast_S_S2x4096x1 (constant Cert.RefPromptRowsIdeal.S_ .f32 0x45000000#32))) (broadcastInDim Cert.RefPromptRowsIdeal.S2x4096x1 ![] Cert.RefPromptRowsIdeal.Gen.bcast_S_S2x4096x1 (constant Cert.RefPromptRowsIdeal.S_ .f32 0x358637BD#32)))))) (broadcastInDim Cert.RefPromptRowsIdeal.S2x4096x2048 ![0, 1, 2] Cert.RefPromptRowsIdeal.Gen.bcast_S1x1x2048_S2x4096x2048_0_1_2 (broadcastInDim Cert.RefPromptRowsIdeal.S1x1x2048 ![2] Cert.RefPromptRowsIdeal.Gen.bcast_S2048_S1x1x2048_2 (shapeCast _ A2 Cert.RefPromptRowsIdeal.Gen.shapeCasts_S1x2048_S2048))))
def DOT : FVec Ideal Cert.RefPromptRowsIdeal.S2x4096x11344 .f32 :=
  Host.dotGeneral Cert.RefPromptRowsIdeal.dot_S2x4096x2048_S2048x11344_S2x4096x11344_2_0_01_1_n_n none (YN A0 A2) (shapeCast _ A1 Cert.RefPromptRowsIdeal.Gen.shapeCasts_S1x2048x11344_S2048x11344)

/-- A row, normalised, is the reference's row. -/
theorem norm_at (X : FVec Ideal S8192x2048 .f32) (b : Fin 2) (q : Fin 4096) (d : Fin 2048) (r : Fin 8192)
    (h : ∀ d, X (ix2 r d) = A0 (ix3 b q d)) : NORM X A2 (ix2 r d) = YN A0 A2 (ix3 b q d) := by
  pointwise [YN]
  unfold NORM
  show X (ix2 r d) * Ideal.rsqrt (Ideal.div (∑ x : Fin 2048, X (ix2 r x) * X (ix2 r x)) _ + _) * A2 (ix2 0 d) = _
  simp only [h]

/-- The projection of a row is the reference's product. -/
theorem proj_at (X : FVec Ideal S8192x2048 .f32) (W : FVec Ideal S11344x2048 .f32)
    (b : Fin 2) (q : Fin 4096) (r : Fin 8192) (k : Fin 12288) (j : Fin 11344) (hj : (col k).val = j.val)
    (h : ∀ d, X (ix2 r d) = A0 (ix3 b q d)) (hW : ∀ x, W (ix2 j x) = A1 (ix3 0 x j)) :
    PROJ (NORM X A2) W (ix2 r k) = DOT A0 A1 A2 (ix3 b q j) := by
  pointwise [DOT]
  show ∑ x : Fin 2048, NORM X A2 (ix2 r x) * W (ix2 (col k) x) = _
  rw [show col k = j from Fin.ext hj]
  refine Finset.sum_congr rfl fun x _ => ?_
  rw [norm_at A0 A2 X b q x r h, hW]

end Reference

/-- Where the keys of the sparse branch lie in the projection, -/
theorem place1 (X : FVec Ideal S8192x12288 .f32) (i) (r : Fin 8192) (k : Fin 12288) (hr : r.val = (i 1).val * 4096 + (i 2).val) (hk : k.val = 1024 + ((i 3).val * 128 + (i 4).val)) :
    (broadcastInDim S1x2x4096x8x128 ![1, 2, 3, 4] bcast_S2x4096x8x128_S1x2x4096x8x128_1_2_3_4
      (shapeCast S2x4096x8x128 (extractStridedSlice S8192x1024 ![0, 1024] X slices_S8192x12288_S8192x1024_0_1024) shapeCasts_S8192x1024_S2x4096x8x128)) i = X (ix2 r k) := by
  pointwise
  blk_ext []

/-- and in the reference's product. -/
theorem ref_place1 (D : FVec Ideal Cert.RefPromptRowsIdeal.S2x4096x11344 .f32) (i) (j : Fin 11344) (hj : j.val = 1024 + ((i 3).val * 128 + (i 4).val)) :
    (shapeCast Cert.RefPromptRowsIdeal.S1x2x4096x8x128 (extractStridedSlice Cert.RefPromptRowsIdeal.S2x4096x1024 ![0, 0, 1024] D Cert.RefPromptRowsIdeal.Gen.slices_S2x4096x11344_S2x4096x1024_0_0_1024) Cert.RefPromptRowsIdeal.Gen.shapeCasts_S2x4096x1024_S1x2x4096x8x128) i = D (ix3 (i 1) (i 2) j) := by
  pointwise
  blk_ext []

/-- The reference's keys of the sparse branch. -/
def OUT1 (A0 : FVec Ideal S2x4096x2048 .f32) (A1 : FVec Ideal S1x2048x11344 .f32) (A2 : FVec Ideal S1x2048 .f32) : FVec Ideal S1x2x4096x8x128 .f32 :=
  shapeCast Cert.RefPromptRowsIdeal.S1x2x4096x8x128 (extractStridedSlice Cert.RefPromptRowsIdeal.S2x4096x1024 ![0, 0, 1024] (DOT A0 A1 A2) Cert.RefPromptRowsIdeal.Gen.slices_S2x4096x11344_S2x4096x1024_0_0_1024) Cert.RefPromptRowsIdeal.Gen.shapeCasts_S2x4096x1024_S1x2x4096x8x128

/-- After both calls and the slices behind them, the keys of the sparse branch are the reference's. -/
theorem value1 (m : (ℓ : Loc nD τ sig) → Buf (Elt Ideal) ℓ) (ρ : Dev nD → PrngReg) (c : Dev nD) : W5 m ρ c (Proc.devRef .tc main_v17)
    = OUT1 (m ((c : Thread nD τ).loc main_arg0)) (m ((c : Thread nD τ).loc main_arg1)) (m ((c : Thread nD τ).loc main_arg2)) := by
  funext i
  show StableHlo.after hostOps2 (W4 m ρ c) (Proc.devRef .tc main_v17) i = _
  simp only [hostOps2]
  after_results_simp
  have h1 : (i 1).val < 2 := (i 1).isLt
  have h2 : (i 2).val < 4096 := (i 2).isLt
  have h3 : (i 3).val < 8 := (i 3).isLt
  have h4 : (i 4).val < 128 := (i 4).isLt
  rw [read_main_v6]
  refine (place1 _ i ⟨(i 1).val * 4096 + (i 2).val, by omega⟩ ⟨1024 + ((i 3).val * 128 + (i 4).val), by omega⟩ rfl rfl).trans ?_
  refine (proj_at _ _ _ _ _ (i 1) (i 2) _ _ ⟨1024 + ((i 3).val * 128 + (i 4).val), by omega⟩ ?_ (fun d => read_main_v0 m ρ c _ d (i 1) (i 2) rfl)
    (fun x => read_main_v5 m ρ c _ x)).trans (ref_place1 _ i _ rfl).symm
  dsimp only [col]
  split <;> (try split) <;> omega

/-- Where the values of the sparse branch lie in the projection, -/
theorem place2 (X : FVec Ideal S8192x12288 .f32) (i) (r : Fin 8192) (k : Fin 12288) (hr : r.val = (i 1).val * 4096 + (i 2).val) (hk : k.val = 2048 + ((i 3).val * 128 + (i 4).val)) :
    (broadcastInDim S1x2x4096x8x128 ![1, 2, 3, 4] bcast_S2x4096x8x128_S1x2x4096x8x128_1_2_3_4
      (shapeCast S2x4096x8x128 (extractStridedSlice S8192x1024 ![0, 2048] X slices_S8192x12288_S8192x1024_0_2048) shapeCasts_S8192x1024_S2x4096x8x128)) i = X (ix2 r k) := by
  pointwise
  blk_ext []

/-- and in the reference's product. -/
theorem ref_place2 (D : FVec Ideal Cert.RefPromptRowsIdeal.S2x4096x11344 .f32) (i) (j : Fin 11344) (hj : j.val = 2048 + ((i 3).val * 128 + (i 4).val)) :
    (shapeCast Cert.RefPromptRowsIdeal.S1x2x4096x8x128 (extractStridedSlice Cert.RefPromptRowsIdeal.S2x4096x1024 ![0, 0, 2048] D Cert.RefPromptRowsIdeal.Gen.slices_S2x4096x11344_S2x4096x1024_0_0_2048) Cert.RefPromptRowsIdeal.Gen.shapeCasts_S2x4096x1024_S1x2x4096x8x128) i = D (ix3 (i 1) (i 2) j) := by
  pointwise
  blk_ext []

/-- The reference's values of the sparse branch. -/
def OUT2 (A0 : FVec Ideal S2x4096x2048 .f32) (A1 : FVec Ideal S1x2048x11344 .f32) (A2 : FVec Ideal S1x2048 .f32) : FVec Ideal S1x2x4096x8x128 .f32 :=
  shapeCast Cert.RefPromptRowsIdeal.S1x2x4096x8x128 (extractStridedSlice Cert.RefPromptRowsIdeal.S2x4096x1024 ![0, 0, 2048] (DOT A0 A1 A2) Cert.RefPromptRowsIdeal.Gen.slices_S2x4096x11344_S2x4096x1024_0_0_2048) Cert.RefPromptRowsIdeal.Gen.shapeCasts_S2x4096x1024_S1x2x4096x8x128

/-- After both calls and the slices behind them, the values of the sparse branch are the reference's. -/
theorem value2 (m : (ℓ : Loc nD τ sig) → Buf (Elt Ideal) ℓ) (ρ : Dev nD → PrngReg) (c : Dev nD) : W5 m ρ c (Proc.devRef .tc main_v18)
    = OUT2 (m ((c : Thread nD τ).loc main_arg0)) (m ((c : Thread nD τ).loc main_arg1)) (m ((c : Thread nD τ).loc main_arg2)) := by
  funext i
  show StableHlo.after hostOps2 (W4 m ρ c) (Proc.devRef .tc main_v18) i = _
  simp only [hostOps2]
  after_results_simp
  have h1 : (i 1).val < 2 := (i 1).isLt
  have h2 : (i 2).val < 4096 := (i 2).isLt
  have h3 : (i 3).val < 8 := (i 3).isLt
  have h4 : (i 4).val < 128 := (i 4).isLt
  rw [read_main_v6]
  refine (place2 _ i ⟨(i 1).val * 4096 + (i 2).val, by omega⟩ ⟨2048 + ((i 3).val * 128 + (i 4).val), by omega⟩ rfl rfl).trans ?_
  refine (proj_at _ _ _ _ _ (i 1) (i 2) _ _ ⟨2048 + ((i 3).val * 128 + (i 4).val), by omega⟩ ?_ (fun d => read_main_v0 m ρ c _ d (i 1) (i 2) rfl)
    (fun x => read_main_v5 m ρ c _ x)).trans (ref_place2 _ i _ rfl).symm
  dsimp only [col]
  split <;> (try split) <;> omega

/-- Where the indexer keys lie in the projection, -/
theorem place3 (X : FVec Ideal S8192x12288 .f32) (i) (r : Fin 8192) (k : Fin 12288) (hr : r.val = (i 1).val * 4096 + (i 2).val) (hk : k.val = 11264 + (i 3).val) :
    (broadcastInDim S1x2x4096x64 ![1, 2, 3] bcast_S2x4096x64_S1x2x4096x64_1_2_3
      (shapeCast S2x4096x64 (extractStridedSlice S8192x64 ![0, 11264] X slices_S8192x12288_S8192x64_0_11264) shapeCasts_S8192x64_S2x4096x64)) i = X (ix2 r k) := by
  pointwise
  blk_ext []

/-- and in the reference's product. -/
theorem ref_place3 (D : FVec Ideal Cert.RefPromptRowsIdeal.S2x4096x11344 .f32) (i) (j : Fin 11344) (hj : j.val = 4096 + (i 3).val) :
    (shapeCast Cert.RefPromptRowsIdeal.S1x2x4096x64 (extractStridedSlice Cert.RefPromptRowsIdeal.S2x4096x64 ![0, 0, 4096] D Cert.RefPromptRowsIdeal.Gen.slices_S2x4096x11344_S2x4096x64_0_0_4096) Cert.RefPromptRowsIdeal.Gen.shapeCasts_S2x4096x64_S1x2x4096x64) i = D (ix3 (i 1) (i 2) j) := by
  pointwise
  blk_ext []

/-- The reference's indexer keys. -/
def OUT3 (A0 : FVec Ideal S2x4096x2048 .f32) (A1 : FVec Ideal S1x2048x11344 .f32) (A2 : FVec Ideal S1x2048 .f32) : FVec Ideal S1x2x4096x64 .f32 :=
  shapeCast Cert.RefPromptRowsIdeal.S1x2x4096x64 (extractStridedSlice Cert.RefPromptRowsIdeal.S2x4096x64 ![0, 0, 4096] (DOT A0 A1 A2) Cert.RefPromptRowsIdeal.Gen.slices_S2x4096x11344_S2x4096x64_0_0_4096) Cert.RefPromptRowsIdeal.Gen.shapeCasts_S2x4096x64_S1x2x4096x64

/-- After both calls and the slices behind them, the indexer keys are the reference's. -/
theorem value3 (m : (ℓ : Loc nD τ sig) → Buf (Elt Ideal) ℓ) (ρ : Dev nD → PrngReg) (c : Dev nD) : W5 m ρ c (Proc.devRef .tc main_v19)
    = OUT3 (m ((c : Thread nD τ).loc main_arg0)) (m ((c : Thread nD τ).loc main_arg1)) (m ((c : Thread nD τ).loc main_arg2)) := by
  funext i
  show StableHlo.after hostOps2 (W4 m ρ c) (Proc.devRef .tc main_v19) i = _
  simp only [hostOps2]
  after_results_simp
  have h1 : (i 1).val < 2 := (i 1).isLt
  have h2 : (i 2).val < 4096 := (i 2).isLt
  have h3 : (i 3).val < 64 := (i 3).isLt
  rw [read_main_v6]
  refine (place3 _ i ⟨(i 1).val * 4096 + (i 2).val, by omega⟩ ⟨11264 + (i 3).val, by omega⟩ rfl rfl).trans ?_
  refine (proj_at _ _ _ _ _ (i 1) (i 2) _ _ ⟨4096 + (i 3).val, by omega⟩ ?_ (fun d => read_main_v0 m ρ c _ d (i 1) (i 2) rfl)
    (fun x => read_main_v5 m ρ c _ x)).trans (ref_place3 _ i _ rfl).symm
  dsimp only [col]
  split <;> (try split) <;> omega

/-- Where the keys of the stick-breaking branch lie in the projection, -/
theorem place4 (X : FVec Ideal S8192x12288 .f32) (i) (r : Fin 8192) (k : Fin 12288) (hr : r.val = (i 1).val * 4096 + (i 2).val) (hk : k.val = 5120 + ((i 3).val * 128 + (i 4).val)) :
    (broadcastInDim S1x2x4096x8x128 ![1, 2, 3, 4] bcast_S2x4096x8x128_S1x2x4096x8x128_1_2_3_4
      (shapeCast S2x4096x8x128 (extractStridedSlice S8192x1024 ![0, 5120] X slices_S8192x12288_S8192x1024_0_5120) shapeCasts_S8192x1024_S2x4096x8x128)) i = X (ix2 r k) := by
  pointwise
  blk_ext []

/-- and in the reference's product. -/
theorem ref_place4 (D : FVec Ideal Cert.RefPromptRowsIdeal.S2x4096x11344 .f32) (i) (j : Fin 11344) (hj : j.val = 5200 + ((i 3).val * 128 + (i 4).val)) :
    (shapeCast Cert.RefPromptRowsIdeal.S1x2x4096x8x128 (extractStridedSlice Cert.RefPromptRowsIdeal.S2x4096x1024 ![0, 0, 5200] D Cert.RefPromptRowsIdeal.Gen.slices_S2x4096x11344_S2x4096x1024_0_0_5200) Cert.RefPromptRowsIdeal.Gen.shapeCasts_S2x4096x1024_S1x2x4096x8x128) i = D (ix3 (i 1) (i 2) j) := by
  pointwise
  blk_ext []

/-- The reference's keys of the stick-breaking branch. -/
def OUT4 (A0 : FVec Ideal S2x4096x2048 .f32) (A1 : FVec Ideal S1x2048x11344 .f32) (A2 : FVec Ideal S1x2048 .f32) : FVec Ideal S1x2x4096x8x128 .f32 :=
  shapeCast Cert.RefPromptRowsIdeal.S1x2x4096x8x128 (extractStridedSlice Cert.RefPromptRowsIdeal.S2x4096x1024 ![0, 0, 5200] (DOT A0 A1 A2) Cert.RefPromptRowsIdeal.Gen.slices_S2x4096x11344_S2x4096x1024_0_0_5200) Cert.RefPromptRowsIdeal.Gen.shapeCasts_S2x4096x1024_S1x2x4096x8x128

/-- After both calls and the slices behind them, the keys of the stick-breaking branch are the reference's. -/
theorem value4 (m : (ℓ : Loc nD τ sig) → Buf (Elt Ideal) ℓ) (ρ : Dev nD → PrngReg) (c : Dev nD) : W5 m ρ c (Proc.devRef .tc main_v20)
    = OUT4 (m ((c : Thread nD τ).loc main_arg0)) (m ((c : Thread nD τ).loc main_arg1)) (m ((c : Thread nD τ).loc main_arg2)) := by
  funext i
  show StableHlo.after hostOps2 (W4 m ρ c) (Proc.devRef .tc main_v20) i = _
  simp only [hostOps2]
  after_results_simp
  have h1 : (i 1).val < 2 := (i 1).isLt
  have h2 : (i 2).val < 4096 := (i 2).isLt
  have h3 : (i 3).val < 8 := (i 3).isLt
  have h4 : (i 4).val < 128 := (i 4).isLt
  rw [read_main_v6]
  refine (place4 _ i ⟨(i 1).val * 4096 + (i 2).val, by omega⟩ ⟨5120 + ((i 3).val * 128 + (i 4).val), by omega⟩ rfl rfl).trans ?_
  refine (proj_at _ _ _ _ _ (i 1) (i 2) _ _ ⟨5200 + ((i 3).val * 128 + (i 4).val), by omega⟩ ?_ (fun d => read_main_v0 m ρ c _ d (i 1) (i 2) rfl)
    (fun x => read_main_v5 m ρ c _ x)).trans (ref_place4 _ i _ rfl).symm
  dsimp only [col]
  split <;> (try split) <;> omega

/-- Where the values of the stick-breaking branch lie in the projection, -/
theorem place5 (X : FVec Ideal S8192x12288 .f32) (i) (r : Fin 8192) (k : Fin 12288) (hr : r.val = (i 1).val * 4096 + (i 2).val) (hk : k.val = 6144 + ((i 3).val * 128 + (i 4).val)) :
    (broadcastInDim S1x2x4096x8x128 ![1, 2, 3, 4] bcast_S2x4096x8x128_S1x2x4096x8x128_1_2_3_4
      (shapeCast S2x4096x8x128 (extractStridedSlice S8192x1024 ![0, 6144] X slices_S8192x12288_S8192x1024_0_6144) shapeCasts_S8192x1024_S2x4096x8x128)) i = X (ix2 r k) := by
  pointwise
  blk_ext []

/-- and in the reference's product. -/
theorem ref_place5 (D : FVec Ideal Cert.RefPromptRowsIdeal.S2x4096x11344 .f32) (i) (j : Fin 11344) (hj : j.val = 6224 + ((i 3).val * 128 + (i 4).val)) :
    (shapeCast Cert.RefPromptRowsIdeal.S1x2x4096x8x128 (extractStridedSlice Cert.RefPromptRowsIdeal.S2x4096x1024 ![0, 0, 6224] D Cert.RefPromptRowsIdeal.Gen.slices_S2x4096x11344_S2x4096x1024_0_0_6224) Cert.RefPromptRowsIdeal.Gen.shapeCasts_S2x4096x1024_S1x2x4096x8x128) i = D (ix3 (i 1) (i 2) j) := by
  pointwise
  blk_ext []

/-- The reference's values of the stick-breaking branch. -/
def OUT5 (A0 : FVec Ideal S2x4096x2048 .f32) (A1 : FVec Ideal S1x2048x11344 .f32) (A2 : FVec Ideal S1x2048 .f32) : FVec Ideal S1x2x4096x8x128 .f32 :=
  shapeCast Cert.RefPromptRowsIdeal.S1x2x4096x8x128 (extractStridedSlice Cert.RefPromptRowsIdeal.S2x4096x1024 ![0, 0, 6224] (DOT A0 A1 A2) Cert.RefPromptRowsIdeal.Gen.slices_S2x4096x11344_S2x4096x1024_0_0_6224) Cert.RefPromptRowsIdeal.Gen.shapeCasts_S2x4096x1024_S1x2x4096x8x128

/-- After both calls and the slices behind them, the values of the stick-breaking branch are the reference's. -/
theorem value5 (m : (ℓ : Loc nD τ sig) → Buf (Elt Ideal) ℓ) (ρ : Dev nD → PrngReg) (c : Dev nD) : W5 m ρ c (Proc.devRef .tc main_v21)
    = OUT5 (m ((c : Thread nD τ).loc main_arg0)) (m ((c : Thread nD τ).loc main_arg1)) (m ((c : Thread nD τ).loc main_arg2)) := by
  funext i
  show StableHlo.after hostOps2 (W4 m ρ c) (Proc.devRef .tc main_v21) i = _
  simp only [hostOps2]
  after_results_simp
  have h1 : (i 1).val < 2 := (i 1).isLt
  have h2 : (i 2).val < 4096 := (i 2).isLt
  have h3 : (i 3).val < 8 := (i 3).isLt
  have h4 : (i 4).val < 128 := (i 4).isLt
  rw [read_main_v6]
  refine (place5 _ i ⟨(i 1).val * 4096 + (i 2).val, by omega⟩ ⟨6144 + ((i 3).val * 128 + (i 4).val), by omega⟩ rfl rfl).trans ?_
  refine (proj_at _ _ _ _ _ (i 1) (i 2) _ _ ⟨6224 + ((i 3).val * 128 + (i 4).val), by omega⟩ ?_ (fun d => read_main_v0 m ρ c _ d (i 1) (i 2) rfl)
    (fun x => read_main_v5 m ρ c _ x)).trans (ref_place5 _ i _ rfl).symm
  dsimp only [col]
  split <;> (try split) <;> omega

section Whole

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- Every run ends with the reference's cache rows in its results and its arguments unchanged. -/
theorem run : θ_run defs (onTc (τ := τ) (main (F := Ideal))) ⟨m, fun _ => 0, ρ⟩ (fun r => ∀ c : Dev nD,
      r.2.mem ((c.tc : Thread nD τ).loc main_v17) = OUT1 (m ((c.tc : Thread nD τ).loc main_arg0)) (m ((c.tc : Thread nD τ).loc main_arg1)) (m ((c.tc : Thread nD τ).loc main_arg2))
      ∧ r.2.mem ((c.tc : Thread nD τ).loc main_v18) = OUT2 (m ((c.tc : Thread nD τ).loc main_arg0)) (m ((c.tc : Thread nD τ).loc main_arg1)) (m ((c.tc : Thread nD τ).loc main_arg2))
      ∧ r.2.mem ((c.tc : Thread nD τ).loc main_v19) = OUT3 (m ((c.tc : Thread nD τ).loc main_arg0)) (m ((c.tc : Thread nD τ).loc main_arg1)) (m ((c.tc : Thread nD τ).loc main_arg2))
      ∧ r.2.mem ((c.tc : Thread nD τ).loc main_v20) = OUT4 (m ((c.tc : Thread nD τ).loc main_arg0)) (m ((c.tc : Thread nD τ).loc main_arg1)) (m ((c.tc : Thread nD τ).loc main_arg2))
      ∧ r.2.mem ((c.tc : Thread nD τ).loc main_v21) = OUT5 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h.1 c _ (mem_uc main_v17 (by decide))).trans (value1 m ρ c),
    (h.1 c _ (mem_uc main_v18 (by decide))).trans (value2 m ρ c),
    (h.1 c _ (mem_uc main_v19 (by decide))).trans (value3 m ρ c),
    (h.1 c _ (mem_uc main_v20 (by decide))).trans (value4 m ρ c),
    (h.1 c _ (mem_uc main_v21 (by decide))).trans (value5 m ρ c),
    (h.1 c _ (mem_uc main_arg0 (by decide))).trans (W5_main_arg0 m ρ c),
    (h.1 c _ (mem_uc main_arg1 (by decide))).trans (W5_main_arg1 m ρ c),
    (h.1 c _ (mem_uc main_arg2 (by decide))).trans (W5_main_arg2 m ρ c)⟩)
    (run_all m ρ)

end Whole

end Cert.PromptRowsIdeal.Rows

end
-- ==== Proof.PromptOut.lean ====
/- The prompt's output from the model's own arguments and the two branches' outputs: the value claim of
   the pair `PromptOutIdeal` / `RefPromptOutIdeal`. -/
module

public import proofs.«01_k».proof.Defs
public import proofs.«01_k».proof.Proof.PromptOutSteps
public import proofs.«01_k».proof.Proof.Gen.RefPromptOutIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.PromptOutIdeal.Out

open Cert.PromptOutIdeal Cert.PromptOutIdeal.Gen Cert.PromptOutIdeal.Steps
open Cert.RefPromptOutIdeal.Gen (bcast_S1x1x2048_S2x4096x2048_0_1_2 bcast_S2048_S1x1x2048_2 bcast_S2x4096_S2x4096x1_0_1 bcast_S2x4096x1_S2x4096x2048_0_1_2 bcast_S_S2x4096x1 bcast_S_S2x4096x2048 bcast_S_S2x4096x8192 h_S_ reducesTo_S2x4096x2048_S2x4096_d2 shapeCasts_S8192x1024_S2x4096x1024 slices_S2x4096x11344_S2x4096x2048_0_0_7248 slices_S2x4096x11344_S2x4096x2048_0_0_9296)
open Cert.RefPromptOutIdeal (S1x1x2048 S2x4096x1 S2x4096x11344 S2x4096x8192 S_ dot_S2x4096x1024_S1024x2048_S2x4096x2048_2_0_01_1_n_n dot_S2x4096x2048_S2048x11344_S2x4096x11344_2_0_01_1_n_n dot_S2x4096x2048_S2048x2048_S2x4096x2048_2_0_01_1_n_n dot_S2x4096x2048_S2048x8192_S2x4096x8192_2_0_01_1_n_n dot_S2x4096x8192_S8192x2048_S2x4096x2048_2_0_01_1_n_n)

section Calls

variable (V : (c : Dev nD) → (b : Ref sig .tc) → Buf (Elt Ideal) ((c : Thread nD τ).loc b))

/-- The normalised rows of an array of rows. -/
def NORM (X : FVec Ideal S8192x2048 .f32) (G : FVec Ideal S1x2048 .f32) : FVec Ideal S8192x2048 .bf16 := fun i =>
  X i * Ideal.rsqrt (Ideal.div (∑ x : Fin 2048, X (ix2 (i 0) x) * X (ix2 (i 0) x)) (Ideal.ofBits .f32 0x45000000#32) + Ideal.ofBits .f32 0x358637BD#32) * G (ix2 0 (i 1))

/-- The normalisation call's windows at every grid point. -/
theorem idx0 : ∀ t : Fin cfg0.N, win0_0.index t = ![t.val, 0] ∧ win0_1.index t = ![0, 0] ∧ win0_2.index t = ![t.val, 0] :=
  (by decide +kernel : ∀ t : Fin grid0.N, _)

/-- At a point and a place of its block, the value stored is the normalised row's entry where the block lies. -/
theorem point0 (c : Dev nD) (t : Fin cfg0.N) (y) : k0_pay1 (iblk0 V c 0 t) (iblk0 V c 1 t) y
    = NORM (V c main_v0) (V c main_v2) (((cfg0.win 2).blk t).view.emb y) := by
  pointwise [k0_pay1]
  unfold NORM
  blk_point [iblk0, idx0 t]

/-- The normalisation call's array after its run. -/
theorem final0 (c : Dev nD) : (dat0 V c).arrAt 2 cfg0.N = NORM (V c main_v0) (V c main_v2) := by
  refine (dat0 V c).arrAt_eq_of_covers 2 _ (by decide +kernel) fun t _ y => ?_
  blk_simp
  rw [after0_2]; frame_out
  exact point0 V c t y

/-- The element at which the weight window begins on the rows of the transposed weight. -/
abbrev wrow (q : ℕ) : ℕ := if q < 4 then 1024 * q else if q < 11 then 4176 + 1024 * (q - 4) else 4096

/-- The projection call's windows at every grid point. -/
theorem idx1 : ∀ t : Fin cfg1.N, win1_0.index t = ![t.val % 8, 0] ∧ win1_1.index t = ![wrow (t.val / 8), 0]
    ∧ win1_2.index t = ![t.val % 8, t.val / 8] :=
  (by decide +kernel : ∀ t : Fin grid1.N, _)

/-- The row of the transposed weight behind a column of the projection. -/
def col (k : Fin 12288) : Fin 11344 :=
  ⟨if k.val < 4096 then k.val else if k.val < 11264 then k.val + 80 else k.val - 7168, by have := k.isLt; split <;> [skip; split] <;> omega⟩

/-- The row behind a column of row block `t` is that far past the row at which the window begins. -/
theorem col_at (t y : ℕ) (ht : t < 12) (hy : y < 1024) (k : Fin 12288) (h : k.val = t * 1024 + y) : (col k).val = wrow t + y := by
  show (if k.val < 4096 then k.val else if k.val < 11264 then k.val + 80 else k.val - 7168) = _
  rw [h]; dsimp only [wrow]
  split <;> split <;> (try split) <;> (try split) <;> omega

/-- The projection: each column is the product with its row of the transposed weight. -/
def PROJ (H : FVec Ideal S8192x2048 .bf16) (W : FVec Ideal S11344x2048 .f32) : FVec Ideal S8192x12288 .f32 := fun i =>
  ∑ x : Fin 2048, H (ix2 (i 0) x) * W (ix2 (col (i 1)) x)

/-- A place of the weight window lies, on the rows, that far past the row at which the window begins, -/
theorem wemb0 (t : Fin cfg1.N) (o : ℕ) (y : S1024x2048.Idx) (h : win1_1.index t = ![o, 0]) (z : S1024x2048.Idx) (hz : z = y) :
    (((View.whole main_v5).slice (win1_1.rect t)).emb z 0).val = o + (y 0).val := by
  subst hz
  have e := win1_1.rect_emb_val_off t z 0
  rw [h] at e
  exact e

/-- and on the columns where it is. -/
theorem wemb1 (t : Fin cfg1.N) (o : ℕ) (y : S1024x2048.Idx) (h : win1_1.index t = ![o, 0]) (z : S1024x2048.Idx) (hz : z = y) :
    (((View.whole main_v5).slice (win1_1.rect t)).emb z 1).val = (y 1).val := by
  subst hz
  have e := win1_1.rect_emb_val_off t z 1
  rw [h] at e
  exact e.trans (Nat.zero_add _)

/-- The carried scratch after point `n` is the rounded weight block of the first point of `n`'s run. -/
theorem scratch (c : Dev nD) : ∀ (n : ℕ) (h : n < cfg1.N) (h' : 8 * (n / 8) < cfg1.N),
    (outsAt1 V c n h).2 = k1_pay1 (iblk1 V c 1 ⟨8 * (n / 8), h'⟩) := by
  intro n
  induction n with
  | zero =>
    intro h h'
    rw [outsAt1_A V c ⟨0, h⟩ rfl]
    frame_out
  | succ n ih =>
    intro h h'
    by_cases h0 : (n + 1) % 8 = 0
    · rw [outsAt1_A V c ⟨n + 1, h⟩ h0]
      frame_out
      have e : (⟨8 * ((n + 1) / 8), h'⟩ : Fin cfg1.N) = ⟨n + 1, h⟩ := Fin.ext (by show 8 * ((n + 1) / 8) = n + 1; omega)
      rw [e]
    · rw [outsAt1_B V c ⟨n + 1, h⟩ h0]
      have hd : (n + 1) / 8 = n / 8 := by omega
      unfold sout1_B_0
      simp only [Nat.add_sub_cancel]
      rw [ih (Nat.lt_of_succ_lt h) (by rw [← hd]; exact h')]
      exact congrArg (fun u => k1_pay1 (iblk1 V c 1 u)) (Fin.ext (congrArg (8 * ·) hd.symm))

/-- What the output's staging buffer holds after point `t`: the product of the row block of `h` and the
    rounded weight block of the run. -/
theorem out (c : Dev nD) (t : Fin cfg1.N) (h' : 8 * (t.val / 8) < cfg1.N) :
    (outsAt1 V c t.val t.isLt).1 = k1_pay2 (iblk1 V c 0 t) (k1_pay1 (iblk1 V c 1 ⟨8 * (t.val / 8), h'⟩)) := by
  by_cases h0 : t.val % 8 = 0
  · rw [outsAt1_A V c t h0]
    have e : (⟨8 * (t.val / 8), h'⟩ : Fin cfg1.N) = t := Fin.ext (by show 8 * (t.val / 8) = t.val; omega)
    rw [e]
    frame_out
  · rw [outsAt1_B V c t h0]
    frame_out
    simp only [read_unread_whole]
    rw [scratch V c (t.val - 1) (by omega) (by omega)]
    have e : (t.val - 1) / 8 = t.val / 8 := by omega
    exact congrArg (fun u => k1_pay2 (iblk1 V c 0 t) (k1_pay1 (iblk1 V c 1 u))) (Fin.ext (congrArg (8 * ·) e))

/-- At a point and a place of its block, the product is the projection's entry where the block lies. -/
theorem point1 (c : Dev nD) (t : Fin cfg1.N) (h' : 8 * (t.val / 8) < cfg1.N) (y) :
    k1_pay2 (iblk1 V c 0 t) (k1_pay1 (iblk1 V c 1 ⟨8 * (t.val / 8), h'⟩)) y
      = PROJ (V c main_v3) (V c main_v5) (((cfg1.win 2).blk t).view.emb y) := by
  pointwise [k1_pay2, k1_pay1]
  unfold PROJ
  have hN : t.val < 96 := lt_of_lt_of_eq t.isLt N_1
  have e1 : 8 * (t.val / 8) / 8 = t.val / 8 := by omega
  have i1 : win1_1.index ⟨8 * (t.val / 8), h'⟩ = ![wrow (t.val / 8), 0] := by
    rw [(idx1 ⟨8 * (t.val / 8), h'⟩).2.1]; dsimp only; rw [e1]
  have hw : ((((cfg1.win 2).blk t).view.emb y 1 : Fin _) : ℕ) = t.val / 8 * 1024 + (y 1).val := by
    blk_simp [idx1 t]
  have hy : (y 1).val < 1024 := (y 1).isLt
  have hc := col_at (t.val / 8) (y 1).val (by omega) hy _ hw
  refine Finset.sum_congr rfl fun x _ => ?_
  refine congrArg₂ (· * ·) ?_ ?_
  · blk_point [iblk1, idx1 t]
  · show V c main_v5 _ = V c main_v5 _
    refine congrArg (V c main_v5) ((eq_ix2 _).trans (congrArg₂ ix2 (Fin.ext ?_) (Fin.ext ?_)))
    · exact (wemb0 _ _ _ i1 _ rfl).trans hc.symm
    · exact wemb1 _ _ _ i1 _ rfl

/-- The projection call's array after its run. -/
theorem final1 (c : Dev nD) : (dat1 V c).arrAt 2 cfg1.N = PROJ (V c main_v3) (V c main_v5) := by
  refine (dat1 V c).arrAt_eq_of_covers 2 _ (by decide +kernel) fun t _ y => ?_
  blk_simp
  have hN : t.val < 96 := lt_of_lt_of_eq t.isLt N_1
  have h' : 8 * (t.val / 8) < cfg1.N := lt_of_lt_of_eq (by omega) N_1.symm
  rw [after1_2, out V c t h']
  exact point1 V c t h' y

/-- The two branches' products with their weights, each weighted by its gate's columns of the projection. -/
def MERGE (A B : FVec Ideal S8192x1024 .bf16) (WA WB : FVec Ideal S1024x2048 .bf16) (P : FVec Ideal S8192x12288 .f32) : FVec Ideal S8192x2048 .bf16 := fun i =>
  Ideal.div 1 (1 + Ideal.exp (-P (ix2 (i 0) ⟨7168 + (i 1).val, by have h : (i 1).val < 2048 := (i 1).isLt; omega⟩))) * (∑ x : Fin 1024, A (ix2 (i 0) x) * WA (ix2 x (i 1)))
    + Ideal.div 1 (1 + Ideal.exp (-P (ix2 (i 0) ⟨9216 + (i 1).val, by have h : (i 1).val < 2048 := (i 1).isLt; omega⟩))) * (∑ x : Fin 1024, B (ix2 (i 0) x) * WB (ix2 x (i 1)))

/-- The merge call's windows at every grid point. -/
theorem idx2 : ∀ t : Fin cfg2.N, win2_0.index t = ![t.val % 8, 0] ∧ win2_1.index t = ![t.val % 8, 0] ∧ win2_2.index t = ![0, t.val / 8]
    ∧ win2_3.index t = ![0, t.val / 8] ∧ win2_4.index t = ![t.val % 8, 7 + t.val / 8] ∧ win2_5.index t = ![t.val % 8, 9 + t.val / 8]
    ∧ win2_6.index t = ![t.val % 8, t.val / 8] :=
  (by decide +kernel : ∀ t : Fin grid2.N, _)

/-- At a point and a place of its block, the stored value is the merged entry where the block lies. -/
theorem point2 (c : Dev nD) (t : Fin cfg2.N) (y) : k2_pay1 (iblk2 V c 0 t) (iblk2 V c 2 t) (iblk2 V c 1 t) (iblk2 V c 3 t) (iblk2 V c 4 t) (iblk2 V c 5 t) y
    = MERGE (V c main_arg3) (V c main_arg4) (V c main_v8) (V c main_v10) (V c main_v6) (((cfg2.win 6).blk t).view.emb y) := by
  pointwise [k2_pay1]
  unfold MERGE
  simp only [zero_sub]
  blk_point [iblk2, idx2 t]

/-- The merge call's array after its run. -/
theorem final2 (c : Dev nD) : (dat2 V c).arrAt 6 cfg2.N = MERGE (V c main_arg3) (V c main_arg4) (V c main_v8) (V c main_v10) (V c main_v6) := by
  refine (dat2 V c).arrAt_eq_of_covers 6 _ (by decide +kernel) fun t _ y => ?_
  blk_simp
  rw [after2_6]; frame_out
  exact point2 V c t y

/-- The product of an array of rows with a weight. -/
def LIN (Y : FVec Ideal S8192x2048 .bf16) (W : FVec Ideal S2048x2048 .bf16) : FVec Ideal S8192x2048 .f32 := fun i =>
  ∑ x : Fin 2048, Y (ix2 (i 0) x) * W (ix2 x (i 1))

/-- The normalised rows of `D`, added to `R`. -/
def TAIL (D R : FVec Ideal S8192x2048 .f32) (G : FVec Ideal S1x2048 .f32) : FVec Ideal S8192x2048 .f32 := fun i => R i + NORM D G i

/-- The output projection call's windows at every grid point. -/
theorem idx3 : ∀ t : Fin cfg3.N, win3_0.index t = ![t.val, 0] ∧ win3_1.index t = ![0, 0] ∧ win3_2.index t = ![t.val, 0]
    ∧ win3_3.index t = ![0, 0] ∧ win3_4.index t = ![0, 0] ∧ win3_5.index t = ![t.val, 0] ∧ win3_6.index t = ![t.val, 0] :=
  (by decide +kernel : ∀ t : Fin grid3.N, _)

/-- The lower half of a point's row block: its product's normalisation, added to the input rows. -/
theorem low (c : Dev nD) (t : Fin cfg3.N) (x : S256x2048.Idx) (i : S8192x2048.Idx)
    (hi0 : (i 0).val = t.val * 512 + (256 + (x 0).val)) (hi1 : (i 1).val = (x 1).val) :
    k3_pay4 (View.ld (iblk3 V c 0 t) r3_3) (View.ld (iblk3 V c 1 t) r3_1) (View.ld (iblk3 V c 3 t) r3_2) (View.ld (iblk3 V c 2 t) r3_3) x
    = TAIL (LIN (V c main_v11) (V c main_v13)) (V c main_v0) (V c main_v16) i := by
  pointwise [k3_pay4]
  unfold TAIL NORM LIN
  blk_point [iblk3, idx3 t]

/-- The upper half of a point's row block, the same. -/
theorem high (c : Dev nD) (t : Fin cfg3.N) (x : S256x2048.Idx) (i : S8192x2048.Idx)
    (hi0 : (i 0).val = t.val * 512 + (x 0).val) (hi1 : (i 1).val = (x 1).val) :
    k3_pay2 (View.ld (iblk3 V c 0 t) r3_0) (View.ld (iblk3 V c 1 t) r3_1) (View.ld (iblk3 V c 3 t) r3_2) (View.ld (iblk3 V c 2 t) r3_0) x
    = TAIL (LIN (V c main_v11) (V c main_v13)) (V c main_v0) (V c main_v16) i := by
  pointwise [k3_pay2]
  unfold TAIL NORM LIN
  blk_point [iblk3, idx3 t]

/-- At a point and a place of its block, the first stored value is the new row's entry where the block lies. -/
theorem point3 (c : Dev nD) (t : Fin cfg3.N) (y : S512x2048.Idx) (i : S8192x2048.Idx)
    (hi0 : (i 0).val = t.val * 512 + (y 0).val) (hi1 : (i 1).val = (y 1).val) :
    out3_5 (iblk3 V c 0 t) (iblk3 V c 1 t) (iblk3 V c 2 t) (iblk3 V c 3 t) (iblk3 V c 4 t) y
    = TAIL (LIN (V c main_v11) (V c main_v13)) (V c main_v0) (V c main_v16) i := by
  unfold out3_5
  canon_tiles x h
  · exact low V c t x i (by omega) (by omega)
  · exact high V c t x i (by omega) (by omega)

/-- A row block normalised once more. -/
theorem norm3 (X : FVec Ideal S256x2048 .f32) (Y : FVec Ideal S8192x2048 .f32) (g : Vec Ideal S1x2048 .f32) (A4 : FVec Ideal S1x2048 .f32)
    (x : S256x2048.Idx) (i : S8192x2048.Idx) (hX : ∀ k : Fin 2048, X (ix2 (x 0) k) = Y (ix2 (i 0) k)) (h1 : x 1 = i 1) (hg : ∀ z, g z = A4 z) :
    X x * Ideal.rsqrt (Ideal.div (∑ k : Fin 2048, X (ix2 (x 0) k) * X (ix2 (x 0) k)) (Ideal.ofBits .f32 0x45000000#32) + Ideal.ofBits .f32 0x358637BD#32) * g (ix2 0 (x 1))
      = NORM Y A4 i := by
  have h0 : X x = Y i := by
    have e := hX (x 1)
    rw [ix2_eta] at e
    rw [e, h1, ix2_eta]
  unfold NORM
  simp only [hX, h0, hg, h1]

/-- At a point and a place of its block, the second stored value is the new row's normalised entry. -/
theorem point3' (c : Dev nD) (t : Fin cfg3.N) (y : S512x2048.Idx) (i : S8192x2048.Idx)
    (hi0 : (i 0).val = t.val * 512 + (y 0).val) (hi1 : (i 1).val = (y 1).val) :
    out3_6 (iblk3 V c 0 t) (iblk3 V c 1 t) (iblk3 V c 2 t) (iblk3 V c 3 t) (iblk3 V c 4 t) y
    = NORM (TAIL (LIN (V c main_v11) (V c main_v13)) (V c main_v0) (V c main_v16)) (V c main_v17) i := by
  unfold out3_6
  canon_tiles x h
  · rw [← norm3 (k3_pay4 (View.ld (iblk3 V c 0 t) r3_3) (View.ld (iblk3 V c 1 t) r3_1) (View.ld (iblk3 V c 3 t) r3_2) (View.ld (iblk3 V c 2 t) r3_3))
      _ (View.ld (iblk3 V c 4 t) r3_2) _ x i (fun k => low V c t _ _ (by show (i 0).val = _; rw [hi0, h0]; rfl) rfl) (Fin.ext (by omega)) (fun z => by
        pointwise; blk_point [iblk3, idx3 t])]
    pointwise [k3_pay1, k3_pay5]
    rfl
  · rw [← norm3 (k3_pay2 (View.ld (iblk3 V c 0 t) r3_0) (View.ld (iblk3 V c 1 t) r3_1) (View.ld (iblk3 V c 3 t) r3_2) (View.ld (iblk3 V c 2 t) r3_0))
      _ (View.ld (iblk3 V c 4 t) r3_2) _ x i (fun k => high V c t _ _ (by show (i 0).val = _; rw [hi0, h0]; rfl) rfl) (Fin.ext (by omega)) (fun z => by
        pointwise; blk_point [iblk3, idx3 t])]
    pointwise [k3_pay3]
    rfl

/-- The output projection call's first array after its run, -/
theorem final3 (c : Dev nD) : (dat3 V c).arrAt 5 cfg3.N = TAIL (LIN (V c main_v11) (V c main_v13)) (V c main_v0) (V c main_v16) := by
  refine (dat3 V c).arrAt_eq_of_covers 5 _ (by decide +kernel) fun t _ y => ?_
  blk_simp
  rw [after3_5]
  exact point3 V c t y _ (by blk_simp [idx3 t]) (by blk_simp [idx3 t])

/-- and its second one. -/
theorem final3' (c : Dev nD) : (dat3 V c).arrAt 6 cfg3.N = NORM (TAIL (LIN (V c main_v11) (V c main_v13)) (V c main_v0) (V c main_v16)) (V c main_v17) := by
  refine (dat3 V c).arrAt_eq_of_covers 6 _ (by decide +kernel) fun t _ y => ?_
  blk_simp
  rw [after3_6]
  exact point3' V c t y _ (by blk_simp [idx3 t]) (by blk_simp [idx3 t])

/-- The second product over the squared, rectified hidden product. -/
def DOWN (H : FVec Ideal S8192x2048 .bf16) (WU : FVec Ideal S2048x8192 .bf16) (WD : FVec Ideal S8192x2048 .bf16) : FVec Ideal S8192x2048 .f32 := fun j =>
  ∑ l : Fin 8192, (max (∑ x : Fin 2048, H (ix2 (j 0) x) * WU (ix2 x l)) 0 * max (∑ x : Fin 2048, H (ix2 (j 0) x) * WU (ix2 x l)) 0) * WD (ix2 l (j 1))

/-- The perceptron call's windows at every grid point. -/
theorem idx4 : ∀ t : Fin cfg4.N, win4_0.index t = ![t.val / 8, 0] ∧ win4_1.index t = ![0, t.val % 8] ∧ win4_2.index t = ![t.val % 8, 0]
    ∧ win4_3.index t = ![t.val / 8, 0] ∧ win4_4.index t = ![0, 0] ∧ win4_5.index t = ![t.val / 8, 0] :=
  (by decide +kernel : ∀ t : Fin grid4.N, _)

/-- The accumulator is filled with zeros. -/
theorem hzero (j) : k4_pay1 (F := Ideal) j = 0 := by pointwise [k4_pay1]

/-- What a point adds to the accumulator: the product over its 1024 hidden units. -/
theorem hpay (v3 v4 v9 v12 j) : k4_pay2 (F := Ideal) v3 v4 v9 v12 j = v9 j
    + ∑ k : Fin 1024, (max (∑ x : Fin 2048, v3 (ix2 (j 0) x) * v4 (ix2 x k)) 0 * max (∑ x : Fin 2048, v3 (ix2 (j 0) x) * v4 (ix2 x k)) 0) * v12 (ix2 k (j 1)) := by
  pointwise [k4_pay2]

/-- After the last point of a row block's run, the accumulator holds the whole product at the block's rows. -/
theorem acc (c : Dev nD) (t : Fin cfg4.N) (h7 : t.val % 8 = 7) (y : S512x2048.Idx) :
    (outsAt4 V c t.val t.isLt).2 y = DOWN (V c main_v18_1) (V c main_v20) (V c main_v22) (((cfg4.win 5).blk t).view.emb y) := by
  rw [Pipeline.eq_sum_fin_of_reset_step_apply_of_flush (fun n h => (outsAt4 V c n h).2) 8 (fun _ => 0) _
    (fun t h j => by rw [outsAt4_A V c t h (by omega)]; frame_out; rw [hpay, hzero])
    (fun t h j => by
      by_cases h1 : t.val % 8 = 7
      · rw [outsAt4_C V c t h h1]; frame_out; simp only [read_unread_whole]; rw [hpay]
      · rw [outsAt4_B V c t h h1]; frame_out; simp only [read_unread_whole]; rw [hpay])
    t h7 _, zero_add]
  unfold DOWN
  refine Fin.sum_mul_add_congr fun s k hl => ?_
  blk_point [iblk4, idx4 t, idx4 ⟨_, Pipeline.run_point_lt_of_flush t h7 s⟩]

/-- What the last point of a run stores: the normalised accumulator added to the input block. -/
theorem out_last (c : Dev nD) (t : Fin cfg4.N) (h7 : t.val % 8 = 7) :
    (outsAt4 V c t.val t.isLt).1 = k4_pay3 (outsAt4 V c t.val t.isLt).2 (iblk4 V c 3 t) (iblk4 V c 4 t) := by
  rw [outsAt4_C V c t (by omega) h7]
  frame_out

/-- The normalisation of a row block of a product, added to the input block. -/
theorem tail (c : Dev nD) (t : Fin cfg4.N) (X : Vec Ideal S512x2048 .f32) (D : FVec Ideal S8192x2048 .f32)
    (hX : ∀ y, X y = D (((cfg4.win 5).blk t).view.emb y)) (y : S512x2048.Idx) :
    k4_pay3 X (iblk4 V c 3 t) (iblk4 V c 4 t) y = TAIL D (V c main_v18_0) (V c main_v24) (((cfg4.win 5).blk t).view.emb y) := by
  have hX' : ∀ k : Fin 2048, X (ix2 (y 0) k) = D (ix2 (((cfg4.win 5).blk t).view.emb y 0) k) := fun k => by
    rw [hX]; blk_ext [idx4 t]
  have hX0 : X y = D (((cfg4.win 5).blk t).view.emb y) := hX y
  pointwise [k4_pay3]
  unfold TAIL NORM
  simp only [hX', hX0]
  blk_point [iblk4, idx4 t]

/-- The perceptron call's array after its run. -/
theorem final4 (c : Dev nD) : (dat4 V c).arrAt 5 cfg4.N
    = TAIL (DOWN (V c main_v18_1) (V c main_v20) (V c main_v22)) (V c main_v18_0) (V c main_v24) := by
  refine (dat4 V c).arrAt_eq_of_covers 5 _ (by decide +kernel) fun t hf y => ?_
  blk_simp
  have h7 := (flush4_5 t).mp hf
  rw [after4_5, out_last V c t h7]
  exact tail V c t _ _ (acc V c t h7) y

end Calls

section Reference

/-- The reference's normalised rows of an array. -/
def RNORM (E : FVec Ideal S2x4096x2048 .f32) (g : FVec Ideal S1x2048 .f32) : FVec Ideal S2x4096x2048 .f32 :=
  (mulf (mulf E (broadcastInDim Cert.RefPromptOutIdeal.S2x4096x2048 ![0, 1, 2] bcast_S2x4096x1_S2x4096x2048_0_1_2 (Host.rsqrt (addf (Host.divf (broadcastInDim S2x4096x1 ![0, 1] bcast_S2x4096_S2x4096x1_0_1 (Host.reduceAdd (mulf E E) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim Cert.RefPromptOutIdeal.S2x4096x2048 ![0, 1, 2] bcast_S1x1x2048_S2x4096x2048_0_1_2 (broadcastInDim S1x1x2048 ![2] bcast_S2048_S1x1x2048_2 (shapeCast _ g Cert.RefPromptOutIdeal.Gen.shapeCasts_S1x2048_S2048))))

/-- The reference's projection. -/
def RPROJ (A0 : FVec Ideal S2x4096x2048 .f32) (A1 : FVec Ideal S1x2048x11344 .f32) (A2 : FVec Ideal S1x2048 .f32) : FVec Ideal S2x4096x11344 .f32 :=
  Host.dotGeneral dot_S2x4096x2048_S2048x11344_S2x4096x11344_2_0_01_1_n_n none (RNORM A0 A2) (shapeCast _ A1 Cert.RefPromptOutIdeal.Gen.shapeCasts_S1x2048x11344_S2048x11344)

/-- The reference's merge of the two branches. -/
def RMERGE (P : FVec Ideal S2x4096x11344 .f32) (A3 A4 : FVec Ideal S8192x1024 .bf16) (A5 A6 : FVec Ideal S1x1024x2048 .f32) : FVec Ideal S2x4096x2048 .f32 :=
  (addf (mulf (Host.divf (broadcastInDim Cert.RefPromptOutIdeal.S2x4096x2048 ![] bcast_S_S2x4096x2048 (constant S_ .f32 0x3F800000#32)) (addf (broadcastInDim Cert.RefPromptOutIdeal.S2x4096x2048 ![] bcast_S_S2x4096x2048 (constant S_ .f32 0x3F800000#32)) (Host.exp (Host.negf (extractStridedSlice Cert.RefPromptOutIdeal.S2x4096x2048 ![0, 0, 7248] P slices_S2x4096x11344_S2x4096x2048_0_0_7248))))) (Host.dotGeneral dot_S2x4096x1024_S1024x2048_S2x4096x2048_2_0_01_1_n_n none (shapeCast _ (extf .f32 A3 Cert.RefPromptOutIdeal.Gen.bitsLt_bf16_f32) shapeCasts_S8192x1024_S2x4096x1024) (shapeCast _ A5 Cert.RefPromptOutIdeal.Gen.shapeCasts_S1x1024x2048_S1024x2048))) (mulf (Host.divf (broadcastInDim Cert.RefPromptOutIdeal.S2x4096x2048 ![] bcast_S_S2x4096x2048 (constant S_ .f32 0x3F800000#32)) (addf (broadcastInDim Cert.RefPromptOutIdeal.S2x4096x2048 ![] bcast_S_S2x4096x2048 (constant S_ .f32 0x3F800000#32)) (Host.exp (Host.negf (extractStridedSlice Cert.RefPromptOutIdeal.S2x4096x2048 ![0, 0, 9296] P slices_S2x4096x11344_S2x4096x2048_0_0_9296))))) (Host.dotGeneral dot_S2x4096x1024_S1024x2048_S2x4096x2048_2_0_01_1_n_n none (shapeCast _ (extf .f32 A4 Cert.RefPromptOutIdeal.Gen.bitsLt_bf16_f32) shapeCasts_S8192x1024_S2x4096x1024) (shapeCast _ A6 Cert.RefPromptOutIdeal.Gen.shapeCasts_S1x1024x2048_S1024x2048))))

/-- The reference's product with the output weight. -/
def RLIN (Y : FVec Ideal S2x4096x2048 .f32) (A7 : FVec Ideal S1x2048x2048 .f32) : FVec Ideal S2x4096x2048 .f32 :=
  Host.dotGeneral dot_S2x4096x2048_S2048x2048_S2x4096x2048_2_0_01_1_n_n none Y (shapeCast _ A7 Cert.RefPromptOutIdeal.Gen.shapeCasts_S1x2048x2048_S2048x2048)

/-- The reference's rectified hidden product, -/
def RUP (H : FVec Ideal S2x4096x2048 .f32) (A10 : FVec Ideal S1x2048x8192 .f32) : FVec Ideal S2x4096x8192 .f32 :=
  maximumf (Host.dotGeneral dot_S2x4096x2048_S2048x8192_S2x4096x8192_2_0_01_1_n_n none H (shapeCast _ A10 Cert.RefPromptOutIdeal.Gen.shapeCasts_S1x2048x8192_S2048x8192)) (broadcastInDim S2x4096x8192 ![] bcast_S_S2x4096x8192 (constant S_ .f32 0x00000000#32))

/-- and its second product over it. -/
def RDOWN (U : FVec Ideal S2x4096x8192 .f32) (A11 : FVec Ideal S1x8192x2048 .f32) : FVec Ideal S2x4096x2048 .f32 :=
  Host.dotGeneral dot_S2x4096x8192_S8192x2048_S2x4096x2048_2_0_01_1_n_n none (mulf U U) (shapeCast _ A11 Cert.RefPromptOutIdeal.Gen.shapeCasts_S1x8192x2048_S8192x2048)

variable (b : Fin 2) (q : Fin 4096) (r : Fin 8192)

/-- A row, normalised, is the reference's row. -/
theorem norm_at (X : FVec Ideal S8192x2048 .f32) (G : FVec Ideal S1x2048 .f32) (E : FVec Ideal S2x4096x2048 .f32) (g : FVec Ideal S1x2048 .f32)
    (hX : ∀ d, X (ix2 r d) = E (ix3 b q d)) (hG : G = g) (d : Fin 2048) : NORM X G (ix2 r d) = RNORM E g (ix3 b q d) := by
  subst hG
  pointwise [RNORM]
  unfold NORM
  show X (ix2 r d) * Ideal.rsqrt (Ideal.div (∑ x : Fin 2048, X (ix2 r x) * X (ix2 r x)) _ + _) * G (ix2 0 d) = _
  simp only [hX]

/-- A row, normalised and added to another, is the reference's row. -/
theorem tail_at (D Q : FVec Ideal S8192x2048 .f32) (G : FVec Ideal S1x2048 .f32) (E S : FVec Ideal S2x4096x2048 .f32) (g : FVec Ideal S1x2048 .f32)
    (hD : ∀ d, D (ix2 r d) = E (ix3 b q d)) (hQ : ∀ d, Q (ix2 r d) = S (ix3 b q d)) (hG : G = g) (d : Fin 2048) :
    TAIL D Q G (ix2 r d) = addf S (RNORM E g) (ix3 b q d) := by
  show Q (ix2 r d) + NORM D G (ix2 r d) = S (ix3 b q d) + RNORM E g (ix3 b q d)
  rw [norm_at b q r D G E g hD hG d, hQ]

/-- A column of a row's projection is the reference's column behind it. -/
theorem proj_at (H : FVec Ideal S8192x2048 .bf16) (W : FVec Ideal S11344x2048 .f32)
    (A0 : FVec Ideal S2x4096x2048 .f32) (A1 : FVec Ideal S1x2048x11344 .f32) (A2 : FVec Ideal S1x2048 .f32)
    (hH : ∀ d, H (ix2 r d) = RNORM A0 A2 (ix3 b q d)) (hW : ∀ j x, W (ix2 j x) = A1 (ix3 0 x j))
    (k : Fin 12288) (j : Fin 11344) (hj : (col k).val = j.val) :
    PROJ H W (ix2 r k) = RPROJ A0 A1 A2 (ix3 b q j) := by
  pointwise [RPROJ]
  show ∑ x : Fin 2048, H (ix2 r x) * W (ix2 (col k) x) = _
  rw [show col k = j from Fin.ext hj]
  refine Finset.sum_congr rfl fun x _ => ?_
  rw [hH, hW]

/-- The merge of a row is the reference's. -/
theorem merge_at (A B : FVec Ideal S8192x1024 .bf16) (WA WB : FVec Ideal S1024x2048 .bf16) (P : FVec Ideal S8192x12288 .f32)
    (E : FVec Ideal S2x4096x11344 .f32) (A5 A6 : FVec Ideal S1x1024x2048 .f32) (h : r.val = b.val * 4096 + q.val)
    (hP : ∀ (k : Fin 12288) (j : Fin 11344), (col k).val = j.val → P (ix2 r k) = E (ix3 b q j))
    (hA : ∀ x d, WA (ix2 x d) = A5 (ix3 0 x d)) (hB : ∀ x d, WB (ix2 x d) = A6 (ix3 0 x d)) (d : Fin 2048) :
    MERGE A B WA WB P (ix2 r d) = RMERGE E A B A5 A6 (ix3 b q d) := by
  have hd : d.val < 2048 := d.isLt
  pointwise [RMERGE]
  show Ideal.div 1 (1 + Ideal.exp (-P (ix2 r ⟨7168 + d.val, _⟩))) * (∑ x : Fin 1024, A (ix2 r x) * WA (ix2 x d))
    + Ideal.div 1 (1 + Ideal.exp (-P (ix2 r ⟨9216 + d.val, _⟩))) * (∑ x : Fin 1024, B (ix2 r x) * WB (ix2 x d)) = _
  rw [hP ⟨7168 + d.val, by omega⟩ ⟨7248 + d.val, by omega⟩ (by dsimp only [col]; split <;> (try split) <;> omega),
    hP ⟨9216 + d.val, by omega⟩ ⟨9296 + d.val, by omega⟩ (by dsimp only [col]; split <;> (try split) <;> omega)]
  simp only [hA, hB]
  blk_point []

/-- The product of a row is the reference's. -/
theorem lin_at (Y : FVec Ideal S8192x2048 .bf16) (W : FVec Ideal S2048x2048 .bf16) (E : FVec Ideal S2x4096x2048 .f32) (A7 : FVec Ideal S1x2048x2048 .f32)
    (hY : ∀ d, Y (ix2 r d) = E (ix3 b q d)) (hW : ∀ x d, W (ix2 x d) = A7 (ix3 0 x d)) (d : Fin 2048) :
    LIN Y W (ix2 r d) = RLIN E A7 (ix3 b q d) := by
  pointwise [RLIN]
  show ∑ x : Fin 2048, Y (ix2 r x) * W (ix2 x d) = _
  simp only [hY, hW]

/-- The second product of a row is the reference's. -/
theorem down_at (H : FVec Ideal S8192x2048 .bf16) (WU : FVec Ideal S2048x8192 .bf16) (WD : FVec Ideal S8192x2048 .bf16)
    (E : FVec Ideal S2x4096x2048 .f32) (A10 : FVec Ideal S1x2048x8192 .f32) (A11 : FVec Ideal S1x8192x2048 .f32)
    (hH : ∀ d, H (ix2 r d) = E (ix3 b q d)) (hU : ∀ x l, WU (ix2 x l) = A10 (ix3 0 x l)) (hD : ∀ l d, WD (ix2 l d) = A11 (ix3 0 l d)) (d : Fin 2048) :
    DOWN H WU WD (ix2 r d) = RDOWN (RUP E A10) A11 (ix3 b q d) := by
  have hu : ∀ l : Fin 8192, RUP E A10 (ix3 b q l) = max (∑ x : Fin 2048, H (ix2 r x) * WU (ix2 x l)) 0 := fun l => by
    simp only [hH, hU]
    pointwise [RUP]
  pointwise [RDOWN]
  simp only [hu, ← hD]
  rfl

end Reference

section Run

variable (m : (ℓ : Loc nD τ sig) → Buf (Elt Ideal) ℓ) (ρ : Dev nD → PrngReg)

/-- The gain `main_v2` is the argument's. -/
theorem read_main_v2 (c : Dev nD) : V1 m ρ c main_v2 = m ((c : Thread nD τ).loc main_arg2) := by
  funext i
  show StableHlo.after hostOps0 (W0 m ρ c) (Proc.devRef .tc main_v2) i = _
  simp only [hostOps0]
  after_results_simp
  pointwise

/-- The gain `main_v16` is the argument's. -/
theorem read_main_v16 (c : Dev nD) : V7 m ρ c main_v16 = m ((c : Thread nD τ).loc main_arg8) := by
  funext i
  show StableHlo.after hostOps3 (W6 m ρ c) (Proc.devRef .tc main_v16) i = _
  simp only [hostOps3]
  after_results_simp
  rw [W6_args m ρ c main_arg8 (by decide)]
  pointwise

/-- The gain `main_v17` is the argument's. -/
theorem read_main_v17 (c : Dev nD) : V7 m ρ c main_v17 = m ((c : Thread nD τ).loc main_arg9) := by
  funext i
  show StableHlo.after hostOps3 (W6 m ρ c) (Proc.devRef .tc main_v17) i = _
  simp only [hostOps3]
  after_results_simp
  rw [W6_args m ρ c main_arg9 (by decide)]
  pointwise

/-- The gain `main_v24` is the argument's. -/
theorem read_main_v24 (c : Dev nD) : V9 m ρ c main_v24 = m ((c : Thread nD τ).loc main_arg12) := by
  funext i
  show StableHlo.after hostOps4 (W8 m ρ c) (Proc.devRef .tc main_v24) i = _
  simp only [hostOps4]
  after_results_simp
  rw [W8_args m ρ c main_arg12 (by decide)]
  pointwise

/-- The weight `main_v8` is the argument's. -/
theorem read_main_v8 (c : Dev nD) (x : Fin 1024) (d : Fin 2048) : V5 m ρ c main_v8 (ix2 x d) = m ((c : Thread nD τ).loc main_arg5) (ix3 0 x d) := by
  show StableHlo.after hostOps2 (W4 m ρ c) (Proc.devRef .tc main_v8) (ix2 x d) = _
  simp only [hostOps2]
  after_results_simp
  rw [W4_args m ρ c main_arg5 (by decide)]
  pointwise

/-- The weight `main_v10` is the argument's. -/
theorem read_main_v10 (c : Dev nD) (x : Fin 1024) (d : Fin 2048) : V5 m ρ c main_v10 (ix2 x d) = m ((c : Thread nD τ).loc main_arg6) (ix3 0 x d) := by
  show StableHlo.after hostOps2 (W4 m ρ c) (Proc.devRef .tc main_v10) (ix2 x d) = _
  simp only [hostOps2]
  after_results_simp
  rw [W4_args m ρ c main_arg6 (by decide)]
  pointwise

/-- The weight `main_v13` is the argument's. -/
theorem read_main_v13 (c : Dev nD) (x : Fin 2048) (d : Fin 2048) : V7 m ρ c main_v13 (ix2 x d) = m ((c : Thread nD τ).loc main_arg7) (ix3 0 x d) := by
  show StableHlo.after hostOps3 (W6 m ρ c) (Proc.devRef .tc main_v13) (ix2 x d) = _
  simp only [hostOps3]
  after_results_simp
  rw [W6_args m ρ c main_arg7 (by decide)]
  pointwise

/-- The weight `main_v20` is the argument's. -/
theorem read_main_v20 (c : Dev nD) (x : Fin 2048) (d : Fin 8192) : V9 m ρ c main_v20 (ix2 x d) = m ((c : Thread nD τ).loc main_arg10) (ix3 0 x d) := by
  show StableHlo.after hostOps4 (W8 m ρ c) (Proc.devRef .tc main_v20) (ix2 x d) = _
  simp only [hostOps4]
  after_results_simp
  rw [W8_args m ρ c main_arg10 (by decide)]
  pointwise

/-- The weight `main_v22` is the argument's. -/
theorem read_main_v22 (c : Dev nD) (x : Fin 8192) (d : Fin 2048) : V9 m ρ c main_v22 (ix2 x d) = m ((c : Thread nD τ).loc main_arg11) (ix3 0 x d) := by
  show StableHlo.after hostOps4 (W8 m ρ c) (Proc.devRef .tc main_v22) (ix2 x d) = _
  simp only [hostOps4]
  after_results_simp
  rw [W8_args m ρ c main_arg11 (by decide)]
  pointwise

/-- The transposed weight that the projection call is given. -/
theorem read_main_v5 (c : Dev nD) (j : Fin 11344) (x : Fin 2048) :
    V3 m ρ c main_v5 (ix2 j x) = m ((c : Thread nD τ).loc main_arg1) (ix3 0 x j) := by
  show StableHlo.after hostOps1 (W2 m ρ c) (Proc.devRef .tc main_v5) (ix2 j x) = _
  simp only [hostOps1]
  after_results_simp
  rw [W2_args m ρ c main_arg1 (by decide)]
  pointwise

variable (c : Dev nD) (b : Fin 2) (q : Fin 4096) (r : Fin 8192) (h : r.val = b.val * 4096 + q.val)

include h

/-- The rows that the normalisation call is given are the argument's. -/
theorem read_main_v0 (d : Fin 2048) : V1 m ρ c main_v0 (ix2 r d) = m ((c : Thread nD τ).loc main_arg0) (ix3 b q d) := by
  show StableHlo.after hostOps0 (W0 m ρ c) (Proc.devRef .tc main_v0) (ix2 r d) = _
  simp only [hostOps0]
  after_results_simp
  pointwise
  exact congrArg₂ (fun x y => m ((c : Thread nD τ).loc main_arg0) (ix3 x y d)) (Fin.ext (by dsimp only; omega)) (Fin.ext (by dsimp only; omega))

omit h in
/-- The output projection call is given the same rows. -/
theorem keep_main_v0 : V7 m ρ c main_v0 = V1 m ρ c main_v0 :=
  (W7_of m ρ c main_v0 (by decide)).trans <| (W6_of m ρ c main_v0 (by decide)).trans <| (W5_of m ρ c main_v0 (by decide)).trans <|
    (W4_of m ρ c main_v0 (by decide)).trans <| (W3_of m ρ c main_v0 (by decide)).trans (W2_of m ρ c main_v0 (by decide))

/-- The normalised rows. -/
theorem at_main_v3 (d : Fin 2048) : V3 m ρ c main_v3 (ix2 r d)
    = RNORM (m ((c : Thread nD τ).loc main_arg0)) (m ((c : Thread nD τ).loc main_arg2)) (ix3 b q d) := by
  have e : V3 m ρ c main_v3 = NORM (V1 m ρ c main_v0) (V1 m ρ c main_v2) :=
    (W3_of m ρ c main_v3 (by decide)).trans ((W2_arr m ρ c 2).trans (final0 (V1 m ρ) c))
  rw [e]
  exact norm_at b q r _ _ _ _ (read_main_v0 m ρ c b q r h) (read_main_v2 m ρ c) d

/-- The projection. -/
theorem at_main_v6 (k : Fin 12288) (j : Fin 11344) (hj : (col k).val = j.val) : V5 m ρ c main_v6 (ix2 r k)
    = RPROJ (m ((c : Thread nD τ).loc main_arg0)) (m ((c : Thread nD τ).loc main_arg1)) (m ((c : Thread nD τ).loc main_arg2)) (ix3 b q j) := by
  have e : V5 m ρ c main_v6 = PROJ (V3 m ρ c main_v3) (V3 m ρ c main_v5) :=
    (W5_of m ρ c main_v6 (by decide)).trans ((W4_arr m ρ c 2).trans (final1 (V3 m ρ) c))
  rw [e]
  exact proj_at b q r _ _ _ _ _ (at_main_v3 m ρ c b q r h) (read_main_v5 m ρ c) k j hj

omit h in
/-- The reference's merged rows of the arguments, -/
abbrev Y1 : FVec Ideal S2x4096x2048 .f32 :=
  RMERGE (RPROJ (m ((c : Thread nD τ).loc main_arg0)) (m ((c : Thread nD τ).loc main_arg1)) (m ((c : Thread nD τ).loc main_arg2)))
    (m ((c : Thread nD τ).loc main_arg3)) (m ((c : Thread nD τ).loc main_arg4)) (m ((c : Thread nD τ).loc main_arg5)) (m ((c : Thread nD τ).loc main_arg6))

omit h in
/-- its rows after the attention, -/
abbrev X1 : FVec Ideal S2x4096x2048 .f32 :=
  addf (m ((c : Thread nD τ).loc main_arg0)) (RNORM (RLIN (Y1 m c) (m ((c : Thread nD τ).loc main_arg7))) (m ((c : Thread nD τ).loc main_arg8)))

omit h in
/-- and its result. -/
abbrev OUT : FVec Ideal S2x4096x2048 .f32 :=
  addf (X1 m c) (RNORM (RDOWN (RUP (RNORM (X1 m c) (m ((c : Thread nD τ).loc main_arg9))) (m ((c : Thread nD τ).loc main_arg10)))
    (m ((c : Thread nD τ).loc main_arg11))) (m ((c : Thread nD τ).loc main_arg12)))

/-- The merged rows. -/
theorem at_main_v11 (d : Fin 2048) : V7 m ρ c main_v11 (ix2 r d) = Y1 m c (ix3 b q d) := by
  have e : V7 m ρ c main_v11 = MERGE (V5 m ρ c main_arg3) (V5 m ρ c main_arg4) (V5 m ρ c main_v8) (V5 m ρ c main_v10) (V5 m ρ c main_v6) :=
    (W7_of m ρ c main_v11 (by decide)).trans ((W6_arr m ρ c 6).trans (final2 (V5 m ρ) c))
  rw [e, show V5 m ρ c main_arg3 = _ from W5_args m ρ c main_arg3 (by decide), show V5 m ρ c main_arg4 = _ from W5_args m ρ c main_arg4 (by decide)]
  exact merge_at b q r _ _ _ _ _ _ _ _ h (at_main_v6 m ρ c b q r h) (read_main_v8 m ρ c) (read_main_v10 m ρ c) d

omit h in
/-- The output projection call's first array, -/
theorem eq_main_v18_0 : V9 m ρ c main_v18_0 = TAIL (LIN (V7 m ρ c main_v11) (V7 m ρ c main_v13)) (V7 m ρ c main_v0) (V7 m ρ c main_v16) :=
  (W9_of m ρ c main_v18_0 (by decide)).trans ((W8_arr m ρ c 5).trans (final3 (V7 m ρ) c))

omit h in
/-- and its second one. -/
theorem eq_main_v18_1 : V9 m ρ c main_v18_1 = NORM (TAIL (LIN (V7 m ρ c main_v11) (V7 m ρ c main_v13)) (V7 m ρ c main_v0) (V7 m ρ c main_v16)) (V7 m ρ c main_v17) :=
  (W9_of m ρ c main_v18_1 (by decide)).trans ((W8_arr m ρ c 6).trans (final3' (V7 m ρ) c))

/-- The rows after the attention, -/
theorem at_main_v18_0 (d : Fin 2048) : V9 m ρ c main_v18_0 (ix2 r d) = X1 m c (ix3 b q d) := by
  rw [eq_main_v18_0]
  exact tail_at b q r _ _ _ _ _ _ (lin_at b q r _ _ _ _ (at_main_v11 m ρ c b q r h) (read_main_v13 m ρ c))
    (fun d => (congrFun (keep_main_v0 m ρ c) _).trans (read_main_v0 m ρ c b q r h d)) (read_main_v16 m ρ c) d

/-- and normalised. -/
theorem at_main_v18_1 (d : Fin 2048) : V9 m ρ c main_v18_1 (ix2 r d) = RNORM (X1 m c) (m ((c : Thread nD τ).loc main_arg9)) (ix3 b q d) := by
  rw [eq_main_v18_1, ← eq_main_v18_0]
  exact norm_at b q r _ _ _ _ (at_main_v18_0 m ρ c b q r h) (read_main_v17 m ρ c) d

/-- The rows of the last call. -/
theorem at_main_v25 (d : Fin 2048) : W10 m ρ c (Proc.devRef .tc main_v25) (ix2 r d) = OUT m c (ix3 b q d) := by
  have e : W10 m ρ c (Proc.devRef .tc main_v25) = TAIL (DOWN (V9 m ρ c main_v18_1) (V9 m ρ c main_v20) (V9 m ρ c main_v22)) (V9 m ρ c main_v18_0) (V9 m ρ c main_v24) :=
    (W10_arr m ρ c 5).trans (final4 (V9 m ρ) c)
  rw [e]
  exact tail_at b q r _ _ _ _ _ _ (down_at b q r _ _ _ _ _ _ (at_main_v18_1 m ρ c b q r h) (read_main_v20 m ρ c) (read_main_v22 m ρ c))
    (at_main_v18_0 m ρ c b q r h) (read_main_v24 m ρ c) d

omit h in
/-- Where a row of the result lies. -/
theorem place (X : FVec Ideal S8192x2048 .f32) (i) (r : Fin 8192) (hr : r.val = (i 0).val * 4096 + (i 1).val) :
    shapeCast S2x4096x2048 X shapeCasts_S8192x2048_S2x4096x2048 i = X (ix2 r (i 2)) := by
  pointwise
  blk_ext []

omit h in
/-- The result is the reference's. -/
theorem value : W11 m ρ c (Proc.devRef .tc main_v26) = OUT m c := by
  funext i
  show StableHlo.after hostOps5 (W10 m ρ c) (Proc.devRef .tc main_v26) i = _
  simp only [hostOps5]
  after_results_simp
  have h0 : (i 0).val < 2 := (i 0).isLt
  have h1 : (i 1).val < 4096 := (i 1).isLt
  refine (place _ i ⟨(i 0).val * 4096 + (i 1).val, by omega⟩ rfl).trans ?_
  refine (at_main_v25 m ρ c (i 0) (i 1) _ rfl (i 2)).trans ?_
  exact congrArg (OUT m c) (eq_ix3 i).symm

omit h in
/-- Every run ends with the reference's result and its arguments unchanged. -/
theorem run : θ_run defs (onTc (τ := τ) (main (F := Ideal))) ⟨m, fun _ => 0, ρ⟩ (fun r => ∀ c : Dev nD,
      r.2.mem ((c.tc : Thread nD τ).loc main_v26) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(h.1 c _ (mem_uc main_v26 (by decide))).trans (value m ρ c),
    (h.1 c _ (mem_uc main_arg0 (by decide))).trans (W11_args m ρ c main_arg0 (by decide)),
    (h.1 c _ (mem_uc main_arg1 (by decide))).trans (W11_args m ρ c main_arg1 (by decide)),
    (h.1 c _ (mem_uc main_arg2 (by decide))).trans (W11_args m ρ c main_arg2 (by decide)),
    (h.1 c _ (mem_uc main_arg3 (by decide))).trans (W11_args m ρ c main_arg3 (by decide)),
    (h.1 c _ (mem_uc main_arg4 (by decide))).trans (W11_args m ρ c main_arg4 (by decide)),
    (h.1 c _ (mem_uc main_arg5 (by decide))).trans (W11_args m ρ c main_arg5 (by decide)),
    (h.1 c _ (mem_uc main_arg6 (by decide))).trans (W11_args m ρ c main_arg6 (by decide)),
    (h.1 c _ (mem_uc main_arg7 (by decide))).trans (W11_args m ρ c main_arg7 (by decide)),
    (h.1 c _ (mem_uc main_arg8 (by decide))).trans (W11_args m ρ c main_arg8 (by decide)),
    (h.1 c _ (mem_uc main_arg9 (by decide))).trans (W11_args m ρ c main_arg9 (by decide)),
    (h.1 c _ (mem_uc main_arg10 (by decide))).trans (W11_args m ρ c main_arg10 (by decide)),
    (h.1 c _ (mem_uc main_arg11 (by decide))).trans (W11_args m ρ c main_arg11 (by decide)),
    (h.1 c _ (mem_uc main_arg12 (by decide))).trans (W11_args m ρ c main_arg12 (by decide))⟩)
    (run_all m ρ)

end Run

end Cert.PromptOutIdeal.Out

end
-- ==== Proof.SampleOut.lean ====
/- The sample's output from the model's own arguments and the two branches' outputs: the value claim of
   the pair `SampleOutIdeal` / `RefSampleOutIdeal`. -/
module

public import proofs.«01_k».proof.Defs
public import proofs.«01_k».proof.Proof.SampleOutSteps
public import proofs.«01_k».proof.Proof.Gen.RefSampleOutIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SampleOutIdeal.Out

open Cert.SampleOutIdeal Cert.SampleOutIdeal.Gen Cert.SampleOutIdeal.Steps
open Cert.RefSampleOutIdeal.Gen (bcast_S128x4_S128x4x1_0_1 bcast_S128x4x1_S128x4x2048_0_1_2 bcast_S1x1x2048_S128x4x2048_0_1_2 bcast_S2048_S1x1x2048_2 bcast_S_S128x4x1 bcast_S_S128x4x2048 bcast_S_S128x4x8192 reducesTo_S128x4x2048_S128x4_d2 slices_S128x4x11344_S128x4x2048_0_0_7248 slices_S128x4x11344_S128x4x2048_0_0_9296 slices_S128x8x1024_S128x4x1024_0_0_0)
open Cert.RefSampleOutIdeal (S128x4x1 S128x4x1024 S128x4x11344 S128x4x8192 S1x1x2048 dot_S128x4x1024_S1024x2048_S128x4x2048_2_0_01_1_n_n dot_S128x4x2048_S2048x11344_S128x4x11344_2_0_01_1_n_n dot_S128x4x2048_S2048x2048_S128x4x2048_2_0_01_1_n_n dot_S128x4x2048_S2048x8192_S128x4x8192_2_0_01_1_n_n dot_S128x4x8192_S8192x2048_S128x4x2048_2_0_01_1_n_n)

section Calls

variable (V : (c : Dev nD) → (b : Ref sig .tc) → Buf (Elt Ideal) ((c : Thread nD τ).loc b))

/-- The normalised rows of an array of rows. -/
def NORM (X : FVec Ideal S1024x2048 .f32) (G : FVec Ideal S1x2048 .f32) : FVec Ideal S1024x2048 .bf16 := fun i =>
  X i * Ideal.rsqrt (Ideal.div (∑ x : Fin 2048, X (ix2 (i 0) x) * X (ix2 (i 0) x)) (Ideal.ofBits .f32 0x45000000#32) + Ideal.ofBits .f32 0x358637BD#32) * G (ix2 0 (i 1))

/-- The normalisation call's windows at every grid point. -/
theorem idx0 : ∀ t : Fin cfg0.N, win0_0.index t = ![t.val, 0] ∧ win0_1.index t = ![0, 0] ∧ win0_2.index t = ![t.val, 0] :=
  (by decide +kernel : ∀ t : Fin grid0.N, _)

/-- At a point and a place of its block, the value stored is the normalised row's entry where the block lies. -/
theorem point0 (c : Dev nD) (t : Fin cfg0.N) (y) : k0_pay1 (iblk0 V c 0 t) (iblk0 V c 1 t) y
    = NORM (V c main_v1) (V c main_v3) (((cfg0.win 2).blk t).view.emb y) := by
  pointwise [k0_pay1]
  unfold NORM
  blk_point [iblk0, idx0 t]

/-- The normalisation call's array after its run. -/
theorem final0 (c : Dev nD) : (dat0 V c).arrAt 2 cfg0.N = NORM (V c main_v1) (V c main_v3) := by
  refine (dat0 V c).arrAt_eq_of_covers 2 _ (by decide +kernel) fun t _ y => ?_
  blk_simp
  rw [after0_2]; frame_out
  exact point0 V c t y

/-- The element at which the weight window begins on the rows of the transposed weight. -/
abbrev wrow (q : ℕ) : ℕ := if q < 4 then 1024 * q else if q < 11 then 4176 + 1024 * (q - 4) else 4096

/-- The projection call's windows at every grid point. -/
theorem idx1 : ∀ t : Fin cfg1.N, win1_0.index t = ![0, 0] ∧ win1_1.index t = ![wrow t.val, 0]
    ∧ win1_2.index t = ![0, t.val] :=
  (by decide +kernel : ∀ t : Fin grid1.N, _)

/-- The row of the transposed weight behind a column of the projection. -/
def col (k : Fin 12288) : Fin 11344 :=
  ⟨if k.val < 4096 then k.val else if k.val < 11264 then k.val + 80 else k.val - 7168, by have := k.isLt; split <;> [skip; split] <;> omega⟩

/-- The row behind a column of row block `t` is that far past the row at which the window begins. -/
theorem col_at (t y : ℕ) (ht : t < 12) (hy : y < 1024) (k : Fin 12288) (h : k.val = t * 1024 + y) : (col k).val = wrow t + y := by
  show (if k.val < 4096 then k.val else if k.val < 11264 then k.val + 80 else k.val - 7168) = _
  rw [h]; dsimp only [wrow]
  split <;> split <;> (try split) <;> (try split) <;> omega

/-- The projection: each column is the product with its row of the transposed weight. -/
def PROJ (H : FVec Ideal S1024x2048 .bf16) (W : FVec Ideal S11344x2048 .f32) : FVec Ideal S1024x12288 .f32 := fun i =>
  ∑ x : Fin 2048, H (ix2 (i 0) x) * W (ix2 (col (i 1)) x)

/-- A place of the weight window lies, on the rows, that far past the row at which the window begins, -/
theorem wemb0 (t : Fin cfg1.N) (o : ℕ) (y : S1024x2048.Idx) (h : win1_1.index t = ![o, 0]) (z : S1024x2048.Idx) (hz : z = y) :
    (((View.whole main_v6).slice (win1_1.rect t)).emb z 0).val = o + (y 0).val := by
  subst hz
  have e := win1_1.rect_emb_val_off t z 0
  rw [h] at e
  exact e

/-- and on the columns where it is. -/
theorem wemb1 (t : Fin cfg1.N) (o : ℕ) (y : S1024x2048.Idx) (h : win1_1.index t = ![o, 0]) (z : S1024x2048.Idx) (hz : z = y) :
    (((View.whole main_v6).slice (win1_1.rect t)).emb z 1).val = (y 1).val := by
  subst hz
  have e := win1_1.rect_emb_val_off t z 1
  rw [h] at e
  exact e.trans (Nat.zero_add _)

/-- At a point and a place of its block, the product is the projection's entry where the block lies. -/
theorem point1 (c : Dev nD) (t : Fin cfg1.N) (y) :
    k1_pay2 (iblk1 V c 0 t) (k1_pay1 (iblk1 V c 1 t)) y
      = PROJ (V c main_v4) (V c main_v6) (((cfg1.win 2).blk t).view.emb y) := by
  pointwise [k1_pay2, k1_pay1]
  unfold PROJ
  have hN : t.val < 12 := lt_of_lt_of_eq t.isLt N_1
  have i1 := (idx1 t).2.1
  have hw : ((((cfg1.win 2).blk t).view.emb y 1 : Fin _) : ℕ) = t.val * 1024 + (y 1).val := by
    blk_simp [idx1 t]
  have hy : (y 1).val < 1024 := (y 1).isLt
  have hc := col_at t.val (y 1).val hN hy _ hw
  refine Finset.sum_congr rfl fun x _ => ?_
  refine congrArg₂ (· * ·) ?_ ?_
  · blk_point [iblk1, idx1 t]
  · show V c main_v6 _ = V c main_v6 _
    refine congrArg (V c main_v6) ((eq_ix2 _).trans (congrArg₂ ix2 (Fin.ext ?_) (Fin.ext ?_)))
    · exact (wemb0 t _ _ i1 _ rfl).trans hc.symm
    · exact wemb1 t _ _ i1 _ rfl

/-- The projection call's array after its run. -/
theorem final1 (c : Dev nD) : (dat1 V c).arrAt 2 cfg1.N = PROJ (V c main_v4) (V c main_v6) := by
  refine (dat1 V c).arrAt_eq_of_covers 2 _ (by decide +kernel) fun t _ y => ?_
  blk_simp
  rw [after1_2]
  unfold outsAt1
  frame_out
  exact point1 V c t y

/-- The two branches' products with their weights, each weighted by its gate's columns of the projection. -/
def MERGE (A B : FVec Ideal S1024x1024 .f32) (WA WB : FVec Ideal S1024x2048 .bf16) (P : FVec Ideal S1024x12288 .f32) : FVec Ideal S1024x2048 .bf16 := fun i =>
  Ideal.div 1 (1 + Ideal.exp (-P (ix2 (i 0) ⟨7168 + (i 1).val, by have h : (i 1).val < 2048 := (i 1).isLt; omega⟩))) * (∑ x : Fin 1024, A (ix2 (i 0) x) * WA (ix2 x (i 1)))
    + Ideal.div 1 (1 + Ideal.exp (-P (ix2 (i 0) ⟨9216 + (i 1).val, by have h : (i 1).val < 2048 := (i 1).isLt; omega⟩))) * (∑ x : Fin 1024, B (ix2 (i 0) x) * WB (ix2 x (i 1)))

/-- The merge call's windows at every grid point. -/
theorem idx2 : ∀ t : Fin cfg2.N, win2_0.index t = ![0, 0] ∧ win2_1.index t = ![0, 0] ∧ win2_2.index t = ![0, t.val]
    ∧ win2_3.index t = ![0, t.val] ∧ win2_4.index t = ![0, 7 + t.val] ∧ win2_5.index t = ![0, 9 + t.val]
    ∧ win2_6.index t = ![0, t.val] :=
  (by decide +kernel : ∀ t : Fin grid2.N, _)

/-- At a point and a place of its block, the stored value is the merged entry where the block lies. -/
theorem point2 (c : Dev nD) (t : Fin cfg2.N) (y) : k2_pay1 (iblk2 V c 0 t) (iblk2 V c 2 t) (iblk2 V c 1 t) (iblk2 V c 3 t) (iblk2 V c 4 t) (iblk2 V c 5 t) y
    = MERGE (V c main_v8) (V c main_v9) (V c main_v11) (V c main_v13) (V c main_v7) (((cfg2.win 6).blk t).view.emb y) := by
  pointwise [k2_pay1]
  unfold MERGE
  simp only [zero_sub]
  blk_point [iblk2, idx2 t]

/-- The merge call's array after its run. -/
theorem final2 (c : Dev nD) : (dat2 V c).arrAt 6 cfg2.N = MERGE (V c main_v8) (V c main_v9) (V c main_v11) (V c main_v13) (V c main_v7) := by
  refine (dat2 V c).arrAt_eq_of_covers 6 _ (by decide +kernel) fun t _ y => ?_
  blk_simp
  rw [after2_6]; frame_out
  exact point2 V c t y

/-- The product of an array of rows with a weight. -/
def LIN (Y : FVec Ideal S1024x2048 .bf16) (W : FVec Ideal S2048x2048 .bf16) : FVec Ideal S1024x2048 .f32 := fun i =>
  ∑ x : Fin 2048, Y (ix2 (i 0) x) * W (ix2 x (i 1))

/-- The normalised rows of `D`, added to `R`. -/
def TAIL (D R : FVec Ideal S1024x2048 .f32) (G : FVec Ideal S1x2048 .f32) : FVec Ideal S1024x2048 .f32 := fun i => R i + NORM D G i

/-- The output projection call's windows at every grid point. -/
theorem idx3 : ∀ t : Fin cfg3.N, win3_0.index t = ![t.val, 0] ∧ win3_1.index t = ![0, 0] ∧ win3_2.index t = ![t.val, 0]
    ∧ win3_3.index t = ![0, 0] ∧ win3_4.index t = ![0, 0] ∧ win3_5.index t = ![t.val, 0] ∧ win3_6.index t = ![t.val, 0] :=
  (by decide +kernel : ∀ t : Fin grid3.N, _)

/-- The lower half of a point's row block: its product's normalisation, added to the input rows. -/
theorem low (c : Dev nD) (t : Fin cfg3.N) (x : S256x2048.Idx) (i : S1024x2048.Idx)
    (hi0 : (i 0).val = t.val * 512 + (256 + (x 0).val)) (hi1 : (i 1).val = (x 1).val) :
    k3_pay4 (View.ld (iblk3 V c 0 t) r3_3) (View.ld (iblk3 V c 1 t) r3_1) (View.ld (iblk3 V c 3 t) r3_2) (View.ld (iblk3 V c 2 t) r3_3) x
    = TAIL (LIN (V c main_v14) (V c main_v16)) (V c main_v1) (V c main_v19) i := by
  pointwise [k3_pay4]
  unfold TAIL NORM LIN
  blk_point [iblk3, idx3 t]

/-- The upper half of a point's row block, the same. -/
theorem high (c : Dev nD) (t : Fin cfg3.N) (x : S256x2048.Idx) (i : S1024x2048.Idx)
    (hi0 : (i 0).val = t.val * 512 + (x 0).val) (hi1 : (i 1).val = (x 1).val) :
    k3_pay2 (View.ld (iblk3 V c 0 t) r3_0) (View.ld (iblk3 V c 1 t) r3_1) (View.ld (iblk3 V c 3 t) r3_2) (View.ld (iblk3 V c 2 t) r3_0) x
    = TAIL (LIN (V c main_v14) (V c main_v16)) (V c main_v1) (V c main_v19) i := by
  pointwise [k3_pay2]
  unfold TAIL NORM LIN
  blk_point [iblk3, idx3 t]

/-- At a point and a place of its block, the first stored value is the new row's entry where the block lies. -/
theorem point3 (c : Dev nD) (t : Fin cfg3.N) (y : S512x2048.Idx) (i : S1024x2048.Idx)
    (hi0 : (i 0).val = t.val * 512 + (y 0).val) (hi1 : (i 1).val = (y 1).val) :
    out3_5 (iblk3 V c 0 t) (iblk3 V c 1 t) (iblk3 V c 2 t) (iblk3 V c 3 t) (iblk3 V c 4 t) y
    = TAIL (LIN (V c main_v14) (V c main_v16)) (V c main_v1) (V c main_v19) i := by
  unfold out3_5
  canon_tiles x h
  · exact low V c t x i (by omega) (by omega)
  · exact high V c t x i (by omega) (by omega)

/-- A row block normalised once more. -/
theorem norm3 (X : FVec Ideal S256x2048 .f32) (Y : FVec Ideal S1024x2048 .f32) (g : Vec Ideal S1x2048 .f32) (A4 : FVec Ideal S1x2048 .f32)
    (x : S256x2048.Idx) (i : S1024x2048.Idx) (hX : ∀ k : Fin 2048, X (ix2 (x 0) k) = Y (ix2 (i 0) k)) (h1 : x 1 = i 1) (hg : ∀ z, g z = A4 z) :
    X x * Ideal.rsqrt (Ideal.div (∑ k : Fin 2048, X (ix2 (x 0) k) * X (ix2 (x 0) k)) (Ideal.ofBits .f32 0x45000000#32) + Ideal.ofBits .f32 0x358637BD#32) * g (ix2 0 (x 1))
      = NORM Y A4 i := by
  have h0 : X x = Y i := by
    have e := hX (x 1)
    rw [ix2_eta] at e
    rw [e, h1, ix2_eta]
  unfold NORM
  simp only [hX, h0, hg, h1]

/-- At a point and a place of its block, the second stored value is the new row's normalised entry. -/
theorem point3' (c : Dev nD) (t : Fin cfg3.N) (y : S512x2048.Idx) (i : S1024x2048.Idx)
    (hi0 : (i 0).val = t.val * 512 + (y 0).val) (hi1 : (i 1).val = (y 1).val) :
    out3_6 (iblk3 V c 0 t) (iblk3 V c 1 t) (iblk3 V c 2 t) (iblk3 V c 3 t) (iblk3 V c 4 t) y
    = NORM (TAIL (LIN (V c main_v14) (V c main_v16)) (V c main_v1) (V c main_v19)) (V c main_v20) i := by
  unfold out3_6
  canon_tiles x h
  · rw [← norm3 (k3_pay4 (View.ld (iblk3 V c 0 t) r3_3) (View.ld (iblk3 V c 1 t) r3_1) (View.ld (iblk3 V c 3 t) r3_2) (View.ld (iblk3 V c 2 t) r3_3))
      _ (View.ld (iblk3 V c 4 t) r3_2) _ x i (fun k => low V c t _ _ (by show (i 0).val = _; rw [hi0, h0]; rfl) rfl) (Fin.ext (by omega)) (fun z => by
        pointwise; blk_point [iblk3, idx3 t])]
    pointwise [k3_pay1, k3_pay5]
    rfl
  · rw [← norm3 (k3_pay2 (View.ld (iblk3 V c 0 t) r3_0) (View.ld (iblk3 V c 1 t) r3_1) (View.ld (iblk3 V c 3 t) r3_2) (View.ld (iblk3 V c 2 t) r3_0))
      _ (View.ld (iblk3 V c 4 t) r3_2) _ x i (fun k => high V c t _ _ (by show (i 0).val = _; rw [hi0, h0]; rfl) rfl) (Fin.ext (by omega)) (fun z => by
        pointwise; blk_point [iblk3, idx3 t])]
    pointwise [k3_pay3]
    rfl

/-- The output projection call's first array after its run, -/
theorem final3 (c : Dev nD) : (dat3 V c).arrAt 5 cfg3.N = TAIL (LIN (V c main_v14) (V c main_v16)) (V c main_v1) (V c main_v19) := by
  refine (dat3 V c).arrAt_eq_of_covers 5 _ (by decide +kernel) fun t _ y => ?_
  blk_simp
  rw [after3_5]
  exact point3 V c t y _ (by blk_simp [idx3 t]) (by blk_simp [idx3 t])

/-- and its second one. -/
theorem final3' (c : Dev nD) : (dat3 V c).arrAt 6 cfg3.N = NORM (TAIL (LIN (V c main_v14) (V c main_v16)) (V c main_v1) (V c main_v19)) (V c main_v20) := by
  refine (dat3 V c).arrAt_eq_of_covers 6 _ (by decide +kernel) fun t _ y => ?_
  blk_simp
  rw [after3_6]
  exact point3' V c t y _ (by blk_simp [idx3 t]) (by blk_simp [idx3 t])

/-- The second product over the squared, rectified hidden product. -/
def DOWN (H : FVec Ideal S1024x2048 .bf16) (WU : FVec Ideal S2048x8192 .bf16) (WD : FVec Ideal S8192x2048 .bf16) : FVec Ideal S1024x2048 .f32 := fun j =>
  ∑ l : Fin 8192, (max (∑ x : Fin 2048, H (ix2 (j 0) x) * WU (ix2 x l)) 0 * max (∑ x : Fin 2048, H (ix2 (j 0) x) * WU (ix2 x l)) 0) * WD (ix2 l (j 1))

/-- The perceptron call's windows at every grid point. -/
theorem idx4 : ∀ t : Fin cfg4.N, win4_0.index t = ![0, 0] ∧ win4_1.index t = ![0, t.val % 16] ∧ win4_2.index t = ![t.val % 16, 0]
    ∧ win4_3.index t = ![0, 0] ∧ win4_4.index t = ![0, 0] ∧ win4_5.index t = ![0, 0] :=
  (by decide +kernel : ∀ t : Fin grid4.N, _)

/-- The accumulator is filled with zeros. -/
theorem hzero (j) : k4_pay1 (F := Ideal) j = 0 := by pointwise [k4_pay1]

/-- What a point adds to the accumulator: the product over its 512 hidden units. -/
theorem hpay (v3 v4 v9 v12 j) : k4_pay2 (F := Ideal) v3 v4 v9 v12 j = v9 j
    + ∑ k : Fin 512, (max (∑ x : Fin 2048, v3 (ix2 (j 0) x) * v4 (ix2 x k)) 0 * max (∑ x : Fin 2048, v3 (ix2 (j 0) x) * v4 (ix2 x k)) 0) * v12 (ix2 k (j 1)) := by
  pointwise [k4_pay2]

/-- After the last point of a row block's run, the accumulator holds the whole product at the block's rows. -/
theorem acc (c : Dev nD) (t : Fin cfg4.N) (h15 : t.val % 16 = 15) (y : S1024x2048.Idx) :
    (outsAt4 V c t.val t.isLt).2 y = DOWN (V c main_v21_1) (V c main_v23) (V c main_v25) (((cfg4.win 5).blk t).view.emb y) := by
  rw [Pipeline.eq_sum_fin_of_reset_step_apply_of_flush (fun n h => (outsAt4 V c n h).2) 16 (fun _ => 0) _
    (fun t h j => by rw [outsAt4_A V c t h (by omega)]; frame_out; rw [hpay, hzero])
    (fun t h j => by
      by_cases h1 : t.val % 16 = 15
      · rw [outsAt4_C V c t h h1]; frame_out; simp only [read_unread_whole]; rw [hpay]
      · rw [outsAt4_B V c t h h1]; frame_out; simp only [read_unread_whole]; rw [hpay])
    t h15 _, zero_add]
  unfold DOWN
  refine Fin.sum_mul_add_congr fun s k hl => ?_
  blk_point [iblk4, idx4 t, idx4 ⟨_, Pipeline.run_point_lt_of_flush t h15 s⟩]

/-- What the last point of a run stores: the normalised accumulator added to the input block. -/
theorem out_last (c : Dev nD) (t : Fin cfg4.N) (h15 : t.val % 16 = 15) :
    (outsAt4 V c t.val t.isLt).1 = k4_pay3 (outsAt4 V c t.val t.isLt).2 (iblk4 V c 3 t) (iblk4 V c 4 t) := by
  rw [outsAt4_C V c t (by omega) h15]
  frame_out

/-- The normalisation of a row block of a product, added to the input block. -/
theorem tail (c : Dev nD) (t : Fin cfg4.N) (X : Vec Ideal S1024x2048 .f32) (D : FVec Ideal S1024x2048 .f32)
    (hX : ∀ y, X y = D (((cfg4.win 5).blk t).view.emb y)) (y : S1024x2048.Idx) :
    k4_pay3 X (iblk4 V c 3 t) (iblk4 V c 4 t) y = TAIL D (V c main_v21_0) (V c main_v27) (((cfg4.win 5).blk t).view.emb y) := by
  have hX' : ∀ k : Fin 2048, X (ix2 (y 0) k) = D (ix2 (((cfg4.win 5).blk t).view.emb y 0) k) := fun k => by
    rw [hX]; blk_ext [idx4 t]
  have hX0 : X y = D (((cfg4.win 5).blk t).view.emb y) := hX y
  pointwise [k4_pay3]
  unfold TAIL NORM
  simp only [hX', hX0]
  blk_point [iblk4, idx4 t]

/-- The perceptron call's array after its run. -/
theorem final4 (c : Dev nD) : (dat4 V c).arrAt 5 cfg4.N
    = TAIL (DOWN (V c main_v21_1) (V c main_v23) (V c main_v25)) (V c main_v21_0) (V c main_v27) := by
  refine (dat4 V c).arrAt_eq_of_covers 5 _ (by decide +kernel) fun t hf y => ?_
  blk_simp
  have h15 := (flush4_5 t).mp hf
  rw [after4_5, out_last V c t h15]
  exact tail V c t _ _ (acc V c t h15) y

end Calls

section Reference

/-- The reference's normalised rows of an array. -/
def RNORM (E : FVec Ideal S128x4x2048 .f32) (g : FVec Ideal S1x2048 .f32) : FVec Ideal S128x4x2048 .f32 :=
  (mulf (mulf E (broadcastInDim Cert.RefSampleOutIdeal.S128x4x2048 ![0, 1, 2] bcast_S128x4x1_S128x4x2048_0_1_2 (Host.rsqrt (addf (Host.divf (broadcastInDim S128x4x1 ![0, 1] bcast_S128x4_S128x4x1_0_1 (Host.reduceAdd (mulf E E) (constant Cert.RefSampleOutIdeal.S_ .f32 0x00000000#32) reducesTo_S128x4x2048_S128x4_d2 Cert.RefSampleOutIdeal.Gen.h_S_)) (broadcastInDim S128x4x1 ![] bcast_S_S128x4x1 (constant Cert.RefSampleOutIdeal.S_ .f32 0x45000000#32))) (broadcastInDim S128x4x1 ![] bcast_S_S128x4x1 (constant Cert.RefSampleOutIdeal.S_ .f32 0x358637BD#32)))))) (broadcastInDim Cert.RefSampleOutIdeal.S128x4x2048 ![0, 1, 2] bcast_S1x1x2048_S128x4x2048_0_1_2 (broadcastInDim S1x1x2048 ![2] bcast_S2048_S1x1x2048_2 (shapeCast _ g Cert.RefSampleOutIdeal.Gen.shapeCasts_S1x2048_S2048))))

/-- The reference's projection. -/
def RPROJ (A0 : FVec Ideal S128x4x2048 .f32) (A1 : FVec Ideal S1x2048x11344 .f32) (A2 : FVec Ideal S1x2048 .f32) : FVec Ideal S128x4x11344 .f32 :=
  Host.dotGeneral dot_S128x4x2048_S2048x11344_S128x4x11344_2_0_01_1_n_n none (RNORM A0 A2) (shapeCast _ A1 Cert.RefSampleOutIdeal.Gen.shapeCasts_S1x2048x11344_S2048x11344)

/-- The reference's merge of the two branches. -/
def RMERGE (P : FVec Ideal S128x4x11344 .f32) (A3 A4 : FVec Ideal S128x8x1024 .f32) (A5 A6 : FVec Ideal S1x1024x2048 .f32) : FVec Ideal S128x4x2048 .f32 :=
  (addf (mulf (Host.divf (broadcastInDim Cert.RefSampleOutIdeal.S128x4x2048 ![] bcast_S_S128x4x2048 (constant Cert.RefSampleOutIdeal.S_ .f32 0x3F800000#32)) (addf (broadcastInDim Cert.RefSampleOutIdeal.S128x4x2048 ![] bcast_S_S128x4x2048 (constant Cert.RefSampleOutIdeal.S_ .f32 0x3F800000#32)) (Host.exp (Host.negf (extractStridedSlice Cert.RefSampleOutIdeal.S128x4x2048 ![0, 0, 7248] P slices_S128x4x11344_S128x4x2048_0_0_7248))))) (Host.dotGeneral dot_S128x4x1024_S1024x2048_S128x4x2048_2_0_01_1_n_n none (extractStridedSlice S128x4x1024 ![0, 0, 0] A3 slices_S128x8x1024_S128x4x1024_0_0_0) (shapeCast _ A5 Cert.RefSampleOutIdeal.Gen.shapeCasts_S1x1024x2048_S1024x2048))) (mulf (Host.divf (broadcastInDim Cert.RefSampleOutIdeal.S128x4x2048 ![] bcast_S_S128x4x2048 (constant Cert.RefSampleOutIdeal.S_ .f32 0x3F800000#32)) (addf (broadcastInDim Cert.RefSampleOutIdeal.S128x4x2048 ![] bcast_S_S128x4x2048 (constant Cert.RefSampleOutIdeal.S_ .f32 0x3F800000#32)) (Host.exp (Host.negf (extractStridedSlice Cert.RefSampleOutIdeal.S128x4x2048 ![0, 0, 9296] P slices_S128x4x11344_S128x4x2048_0_0_9296))))) (Host.dotGeneral dot_S128x4x1024_S1024x2048_S128x4x2048_2_0_01_1_n_n none (extractStridedSlice S128x4x1024 ![0, 0, 0] A4 slices_S128x8x1024_S128x4x1024_0_0_0) (shapeCast _ A6 Cert.RefSampleOutIdeal.Gen.shapeCasts_S1x1024x2048_S1024x2048))))

/-- The reference's product with the output weight. -/
def RLIN (Y : FVec Ideal S128x4x2048 .f32) (A7 : FVec Ideal S1x2048x2048 .f32) : FVec Ideal S128x4x2048 .f32 :=
  Host.dotGeneral dot_S128x4x2048_S2048x2048_S128x4x2048_2_0_01_1_n_n none Y (shapeCast _ A7 Cert.RefSampleOutIdeal.Gen.shapeCasts_S1x2048x2048_S2048x2048)

/-- The reference's rectified hidden product, -/
def RUP (H : FVec Ideal S128x4x2048 .f32) (A10 : FVec Ideal S1x2048x8192 .f32) : FVec Ideal S128x4x8192 .f32 :=
  maximumf (Host.dotGeneral dot_S128x4x2048_S2048x8192_S128x4x8192_2_0_01_1_n_n none H (shapeCast _ A10 Cert.RefSampleOutIdeal.Gen.shapeCasts_S1x2048x8192_S2048x8192)) (broadcastInDim S128x4x8192 ![] bcast_S_S128x4x8192 (constant Cert.RefSampleOutIdeal.S_ .f32 0x00000000#32))

/-- and its second product over it. -/
def RDOWN (U : FVec Ideal S128x4x8192 .f32) (A11 : FVec Ideal S1x8192x2048 .f32) : FVec Ideal S128x4x2048 .f32 :=
  Host.dotGeneral dot_S128x4x8192_S8192x2048_S128x4x2048_2_0_01_1_n_n none (mulf U U) (shapeCast _ A11 Cert.RefSampleOutIdeal.Gen.shapeCasts_S1x8192x2048_S8192x2048)

variable (b : Fin 128) (q : Fin 4) (r : Fin 1024)

/-- A row, normalised, is the reference's row. -/
theorem norm_at (X : FVec Ideal S1024x2048 .f32) (G : FVec Ideal S1x2048 .f32) (E : FVec Ideal S128x4x2048 .f32) (g : FVec Ideal S1x2048 .f32)
    (hX : ∀ d, X (ix2 r d) = E (ix3 b q d)) (hG : G = g) (d : Fin 2048) : NORM X G (ix2 r d) = RNORM E g (ix3 b q d) := by
  subst hG
  pointwise [RNORM]
  unfold NORM
  show X (ix2 r d) * Ideal.rsqrt (Ideal.div (∑ x : Fin 2048, X (ix2 r x) * X (ix2 r x)) _ + _) * G (ix2 0 d) = _
  simp only [hX]

/-- A row, normalised and added to another, is the reference's row. -/
theorem tail_at (D Q : FVec Ideal S1024x2048 .f32) (G : FVec Ideal S1x2048 .f32) (E S : FVec Ideal S128x4x2048 .f32) (g : FVec Ideal S1x2048 .f32)
    (hD : ∀ d, D (ix2 r d) = E (ix3 b q d)) (hQ : ∀ d, Q (ix2 r d) = S (ix3 b q d)) (hG : G = g) (d : Fin 2048) :
    TAIL D Q G (ix2 r d) = addf S (RNORM E g) (ix3 b q d) := by
  show Q (ix2 r d) + NORM D G (ix2 r d) = S (ix3 b q d) + RNORM E g (ix3 b q d)
  rw [norm_at b q r D G E g hD hG d, hQ]

/-- A column of a row's projection is the reference's column behind it. -/
theorem proj_at (H : FVec Ideal S1024x2048 .bf16) (W : FVec Ideal S11344x2048 .f32)
    (A0 : FVec Ideal S128x4x2048 .f32) (A1 : FVec Ideal S1x2048x11344 .f32) (A2 : FVec Ideal S1x2048 .f32)
    (hH : ∀ d, H (ix2 r d) = RNORM A0 A2 (ix3 b q d)) (hW : ∀ j x, W (ix2 j x) = A1 (ix3 0 x j))
    (k : Fin 12288) (j : Fin 11344) (hj : (col k).val = j.val) :
    PROJ H W (ix2 r k) = RPROJ A0 A1 A2 (ix3 b q j) := by
  pointwise [RPROJ]
  show ∑ x : Fin 2048, H (ix2 r x) * W (ix2 (col k) x) = _
  rw [show col k = j from Fin.ext hj]
  refine Finset.sum_congr rfl fun x _ => ?_
  rw [hH, hW]

/-- The merge of a row is the reference's. -/
theorem merge_at (A B : FVec Ideal S1024x1024 .f32) (WA WB : FVec Ideal S1024x2048 .bf16) (P : FVec Ideal S1024x12288 .f32)
    (E : FVec Ideal S128x4x11344 .f32) (A3 A4 : FVec Ideal S128x8x1024 .f32) (A5 A6 : FVec Ideal S1x1024x2048 .f32)
    (hP : ∀ (k : Fin 12288) (j : Fin 11344), (col k).val = j.val → P (ix2 r k) = E (ix3 b q j))
    (hA : ∀ x d, WA (ix2 x d) = A5 (ix3 0 x d)) (hB : ∀ x d, WB (ix2 x d) = A6 (ix3 0 x d))
    (h3 : ∀ x, A (ix2 r x) = A3 (ix3 b ⟨q.val, by omega⟩ x)) (h4 : ∀ x, B (ix2 r x) = A4 (ix3 b ⟨q.val, by omega⟩ x)) (d : Fin 2048) :
    MERGE A B WA WB P (ix2 r d) = RMERGE E A3 A4 A5 A6 (ix3 b q d) := by
  have hd : d.val < 2048 := d.isLt
  pointwise [RMERGE]
  show Ideal.div 1 (1 + Ideal.exp (-P (ix2 r ⟨7168 + d.val, _⟩))) * (∑ x : Fin 1024, A (ix2 r x) * WA (ix2 x d))
    + Ideal.div 1 (1 + Ideal.exp (-P (ix2 r ⟨9216 + d.val, _⟩))) * (∑ x : Fin 1024, B (ix2 r x) * WB (ix2 x d)) = _
  rw [hP ⟨7168 + d.val, by omega⟩ ⟨7248 + d.val, by omega⟩ (by dsimp only [col]; split <;> (try split) <;> omega),
    hP ⟨9216 + d.val, by omega⟩ ⟨9296 + d.val, by omega⟩ (by dsimp only [col]; split <;> (try split) <;> omega)]
  simp only [hA, hB, h3, h4]

/-- The product of a row is the reference's. -/
theorem lin_at (Y : FVec Ideal S1024x2048 .bf16) (W : FVec Ideal S2048x2048 .bf16) (E : FVec Ideal S128x4x2048 .f32) (A7 : FVec Ideal S1x2048x2048 .f32)
    (hY : ∀ d, Y (ix2 r d) = E (ix3 b q d)) (hW : ∀ x d, W (ix2 x d) = A7 (ix3 0 x d)) (d : Fin 2048) :
    LIN Y W (ix2 r d) = RLIN E A7 (ix3 b q d) := by
  pointwise [RLIN]
  show ∑ x : Fin 2048, Y (ix2 r x) * W (ix2 x d) = _
  simp only [hY, hW]

/-- The second product of a row is the reference's. -/
theorem down_at (H : FVec Ideal S1024x2048 .bf16) (WU : FVec Ideal S2048x8192 .bf16) (WD : FVec Ideal S8192x2048 .bf16)
    (E : FVec Ideal S128x4x2048 .f32) (A10 : FVec Ideal S1x2048x8192 .f32) (A11 : FVec Ideal S1x8192x2048 .f32)
    (hH : ∀ d, H (ix2 r d) = E (ix3 b q d)) (hU : ∀ x l, WU (ix2 x l) = A10 (ix3 0 x l)) (hD : ∀ l d, WD (ix2 l d) = A11 (ix3 0 l d)) (d : Fin 2048) :
    DOWN H WU WD (ix2 r d) = RDOWN (RUP E A10) A11 (ix3 b q d) := by
  have hu : ∀ l : Fin 8192, RUP E A10 (ix3 b q l) = max (∑ x : Fin 2048, H (ix2 r x) * WU (ix2 x l)) 0 := fun l => by
    simp only [hH, hU]
    pointwise [RUP]
  pointwise [RDOWN]
  simp only [hu, ← hD]
  rfl

end Reference

section Run

variable (m : (ℓ : Loc nD τ sig) → Buf (Elt Ideal) ℓ) (ρ : Dev nD → PrngReg)

/-- The gain `main_v3` is the argument's. -/
theorem read_main_v3 (c : Dev nD) : V3 m ρ c main_v3 = m ((c : Thread nD τ).loc main_arg2) := by
  funext i
  show StableHlo.after hostOps0_2 (W2 m ρ c) (Proc.devRef .tc main_v3) i = _
  simp only [hostOps0_2]
  after_results_simp
  pointwise

/-- The gain `main_v19` is the argument's. -/
theorem read_main_v19 (c : Dev nD) : V9 m ρ c main_v19 = m ((c : Thread nD τ).loc main_arg8) := by
  funext i
  show StableHlo.after hostOps3 (W8 m ρ c) (Proc.devRef .tc main_v19) i = _
  simp only [hostOps3]
  after_results_simp
  rw [W8_args m ρ c main_arg8 (by decide)]
  pointwise

/-- The gain `main_v20` is the argument's. -/
theorem read_main_v20 (c : Dev nD) : V9 m ρ c main_v20 = m ((c : Thread nD τ).loc main_arg9) := by
  funext i
  show StableHlo.after hostOps3 (W8 m ρ c) (Proc.devRef .tc main_v20) i = _
  simp only [hostOps3]
  after_results_simp
  rw [W8_args m ρ c main_arg9 (by decide)]
  pointwise

/-- The gain `main_v27` is the argument's. -/
theorem read_main_v27 (c : Dev nD) : V11 m ρ c main_v27 = m ((c : Thread nD τ).loc main_arg12) := by
  funext i
  show StableHlo.after hostOps4 (W10 m ρ c) (Proc.devRef .tc main_v27) i = _
  simp only [hostOps4]
  after_results_simp
  rw [W10_args m ρ c main_arg12 (by decide)]
  pointwise

/-- The weight `main_v11` is the argument's. -/
theorem read_main_v11 (c : Dev nD) (x : Fin 1024) (d : Fin 2048) : V7 m ρ c main_v11 (ix2 x d) = m ((c : Thread nD τ).loc main_arg5) (ix3 0 x d) := by
  show StableHlo.after hostOps2 (W6 m ρ c) (Proc.devRef .tc main_v11) (ix2 x d) = _
  simp only [hostOps2]
  after_results_simp
  rw [W6_args m ρ c main_arg5 (by decide)]
  pointwise

/-- The weight `main_v13` is the argument's. -/
theorem read_main_v13 (c : Dev nD) (x : Fin 1024) (d : Fin 2048) : V7 m ρ c main_v13 (ix2 x d) = m ((c : Thread nD τ).loc main_arg6) (ix3 0 x d) := by
  show StableHlo.after hostOps2 (W6 m ρ c) (Proc.devRef .tc main_v13) (ix2 x d) = _
  simp only [hostOps2]
  after_results_simp
  rw [W6_args m ρ c main_arg6 (by decide)]
  pointwise

/-- The weight `main_v16` is the argument's. -/
theorem read_main_v16 (c : Dev nD) (x : Fin 2048) (d : Fin 2048) : V9 m ρ c main_v16 (ix2 x d) = m ((c : Thread nD τ).loc main_arg7) (ix3 0 x d) := by
  show StableHlo.after hostOps3 (W8 m ρ c) (Proc.devRef .tc main_v16) (ix2 x d) = _
  simp only [hostOps3]
  after_results_simp
  rw [W8_args m ρ c main_arg7 (by decide)]
  pointwise

/-- The weight `main_v23` is the argument's. -/
theorem read_main_v23 (c : Dev nD) (x : Fin 2048) (d : Fin 8192) : V11 m ρ c main_v23 (ix2 x d) = m ((c : Thread nD τ).loc main_arg10) (ix3 0 x d) := by
  show StableHlo.after hostOps4 (W10 m ρ c) (Proc.devRef .tc main_v23) (ix2 x d) = _
  simp only [hostOps4]
  after_results_simp
  rw [W10_args m ρ c main_arg10 (by decide)]
  pointwise

/-- The weight `main_v25` is the argument's. -/
theorem read_main_v25 (c : Dev nD) (x : Fin 8192) (d : Fin 2048) : V11 m ρ c main_v25 (ix2 x d) = m ((c : Thread nD τ).loc main_arg11) (ix3 0 x d) := by
  show StableHlo.after hostOps4 (W10 m ρ c) (Proc.devRef .tc main_v25) (ix2 x d) = _
  simp only [hostOps4]
  after_results_simp
  rw [W10_args m ρ c main_arg11 (by decide)]
  pointwise

/-- The transposed weight that the projection call is given. -/
theorem read_main_v6 (c : Dev nD) (j : Fin 11344) (x : Fin 2048) :
    V5 m ρ c main_v6 (ix2 j x) = m ((c : Thread nD τ).loc main_arg1) (ix3 0 x j) := by
  show StableHlo.after hostOps1 (W4 m ρ c) (Proc.devRef .tc main_v6) (ix2 j x) = _
  simp only [hostOps1]
  after_results_simp
  rw [W4_args m ρ c main_arg1 (by decide)]
  pointwise

variable (c : Dev nD) (b : Fin 128) (q : Fin 4) (r : Fin 1024) (h : r.val = b.val * 8 + q.val)

include h

/-- The padded rows that the normalisation call is given: four rows of each group of eight are the argument's. -/
theorem read_main_v1 (d : Fin 2048) : V3 m ρ c main_v1 (ix2 r d) = m ((c : Thread nD τ).loc main_arg0) (ix3 b q d) := by
  show StableHlo.after hostOps0_2 (StableHlo.after hostOps0_1 (StableHlo.after hostOps0 (W0 m ρ c))) (Proc.devRef .tc main_v1) (ix2 r d) = _
  simp only [hostOps0, hostOps0_1, hostOps0_2, StableHlo.TRef.binary, StableHlo.TRef.unary, StableHlo.TRef.toBuf, StableHlo.TRef.ofBuf, cast_eq]
  after_results_simp
  pointwise
  rw [dif_pos ⟨by omega, by omega⟩]
  exact congrArg₂ (fun x y => m ((c : Thread nD τ).loc main_arg0) (ix3 x y d)) (Fin.ext (by dsimp only; omega)) (Fin.ext (by dsimp only; omega))

/-- The real rows of `main_v8` are the argument's. -/
theorem read_main_v8 (x : Fin 1024) : V7 m ρ c main_v8 (ix2 r x) = m ((c : Thread nD τ).loc main_arg3) (ix3 b ⟨q.val, by omega⟩ x) := by
  show StableHlo.after hostOps2 (W6 m ρ c) (Proc.devRef .tc main_v8) (ix2 r x) = _
  simp only [hostOps2]
  after_results_simp
  rw [W6_args m ρ c main_arg3 (by decide)]
  pointwise
  exact congrArg₂ (fun u v => m ((c : Thread nD τ).loc main_arg3) (ix3 u v x)) (Fin.ext (by dsimp only; omega)) (Fin.ext (by dsimp only; omega))

/-- The real rows of `main_v9` are the argument's. -/
theorem read_main_v9 (x : Fin 1024) : V7 m ρ c main_v9 (ix2 r x) = m ((c : Thread nD τ).loc main_arg4) (ix3 b ⟨q.val, by omega⟩ x) := by
  show StableHlo.after hostOps2 (W6 m ρ c) (Proc.devRef .tc main_v9) (ix2 r x) = _
  simp only [hostOps2]
  after_results_simp
  rw [W6_args m ρ c main_arg4 (by decide)]
  pointwise
  exact congrArg₂ (fun u v => m ((c : Thread nD τ).loc main_arg4) (ix3 u v x)) (Fin.ext (by dsimp only; omega)) (Fin.ext (by dsimp only; omega))

omit h in
/-- The output projection call is given the same rows. -/
theorem keep_main_v1 : V9 m ρ c main_v1 = V3 m ρ c main_v1 :=
  (W9_of m ρ c main_v1 (by decide)).trans <| (W8_of m ρ c main_v1 (by decide)).trans <| (W7_of m ρ c main_v1 (by decide)).trans <|
    (W6_of m ρ c main_v1 (by decide)).trans <| (W5_of m ρ c main_v1 (by decide)).trans (W4_of m ρ c main_v1 (by decide))

/-- The normalised rows. -/
theorem at_main_v4 (d : Fin 2048) : V5 m ρ c main_v4 (ix2 r d)
    = RNORM (m ((c : Thread nD τ).loc main_arg0)) (m ((c : Thread nD τ).loc main_arg2)) (ix3 b q d) := by
  have e : V5 m ρ c main_v4 = NORM (V3 m ρ c main_v1) (V3 m ρ c main_v3) :=
    (W5_of m ρ c main_v4 (by decide)).trans ((W4_arr m ρ c 2).trans (final0 (V3 m ρ) c))
  rw [e]
  exact norm_at b q r _ _ _ _ (read_main_v1 m ρ c b q r h) (read_main_v3 m ρ c) d

/-- The projection. -/
theorem at_main_v7 (k : Fin 12288) (j : Fin 11344) (hj : (col k).val = j.val) : V7 m ρ c main_v7 (ix2 r k)
    = RPROJ (m ((c : Thread nD τ).loc main_arg0)) (m ((c : Thread nD τ).loc main_arg1)) (m ((c : Thread nD τ).loc main_arg2)) (ix3 b q j) := by
  have e : V7 m ρ c main_v7 = PROJ (V5 m ρ c main_v4) (V5 m ρ c main_v6) :=
    (W7_of m ρ c main_v7 (by decide)).trans ((W6_arr m ρ c 2).trans (final1 (V5 m ρ) c))
  rw [e]
  exact proj_at b q r _ _ _ _ _ (at_main_v4 m ρ c b q r h) (read_main_v6 m ρ c) k j hj

omit h in
/-- The reference's merged rows of the arguments, -/
abbrev Y1 : FVec Ideal S128x4x2048 .f32 :=
  RMERGE (RPROJ (m ((c : Thread nD τ).loc main_arg0)) (m ((c : Thread nD τ).loc main_arg1)) (m ((c : Thread nD τ).loc main_arg2)))
    (m ((c : Thread nD τ).loc main_arg3)) (m ((c : Thread nD τ).loc main_arg4)) (m ((c : Thread nD τ).loc main_arg5)) (m ((c : Thread nD τ).loc main_arg6))

omit h in
/-- its rows after the attention, -/
abbrev X1 : FVec Ideal S128x4x2048 .f32 :=
  addf (m ((c : Thread nD τ).loc main_arg0)) (RNORM (RLIN (Y1 m c) (m ((c : Thread nD τ).loc main_arg7))) (m ((c : Thread nD τ).loc main_arg8)))

omit h in
/-- and its result. -/
abbrev OUT : FVec Ideal S128x4x2048 .f32 :=
  addf (X1 m c) (RNORM (RDOWN (RUP (RNORM (X1 m c) (m ((c : Thread nD τ).loc main_arg9))) (m ((c : Thread nD τ).loc main_arg10)))
    (m ((c : Thread nD τ).loc main_arg11))) (m ((c : Thread nD τ).loc main_arg12)))

/-- The merged rows. -/
theorem at_main_v14 (d : Fin 2048) : V9 m ρ c main_v14 (ix2 r d) = Y1 m c (ix3 b q d) := by
  have e : V9 m ρ c main_v14 = MERGE (V7 m ρ c main_v8) (V7 m ρ c main_v9) (V7 m ρ c main_v11) (V7 m ρ c main_v13) (V7 m ρ c main_v7) :=
    (W9_of m ρ c main_v14 (by decide)).trans ((W8_arr m ρ c 6).trans (final2 (V7 m ρ) c))
  rw [e]
  exact merge_at b q r _ _ _ _ _ _ _ _ _ _ (at_main_v7 m ρ c b q r h) (read_main_v11 m ρ c) (read_main_v13 m ρ c) (read_main_v8 m ρ c b q r h) (read_main_v9 m ρ c b q r h) d

omit h in
/-- The output projection call's first array, -/
theorem eq_main_v21_0 : V11 m ρ c main_v21_0 = TAIL (LIN (V9 m ρ c main_v14) (V9 m ρ c main_v16)) (V9 m ρ c main_v1) (V9 m ρ c main_v19) :=
  (W11_of m ρ c main_v21_0 (by decide)).trans ((W10_arr m ρ c 5).trans (final3 (V9 m ρ) c))

omit h in
/-- and its second one. -/
theorem eq_main_v21_1 : V11 m ρ c main_v21_1 = NORM (TAIL (LIN (V9 m ρ c main_v14) (V9 m ρ c main_v16)) (V9 m ρ c main_v1) (V9 m ρ c main_v19)) (V9 m ρ c main_v20) :=
  (W11_of m ρ c main_v21_1 (by decide)).trans ((W10_arr m ρ c 6).trans (final3' (V9 m ρ) c))

/-- The rows after the attention, -/
theorem at_main_v21_0 (d : Fin 2048) : V11 m ρ c main_v21_0 (ix2 r d) = X1 m c (ix3 b q d) := by
  rw [eq_main_v21_0]
  exact tail_at b q r _ _ _ _ _ _ (lin_at b q r _ _ _ _ (at_main_v14 m ρ c b q r h) (read_main_v16 m ρ c))
    (fun d => (congrFun (keep_main_v1 m ρ c) _).trans (read_main_v1 m ρ c b q r h d)) (read_main_v19 m ρ c) d

/-- and normalised. -/
theorem at_main_v21_1 (d : Fin 2048) : V11 m ρ c main_v21_1 (ix2 r d) = RNORM (X1 m c) (m ((c : Thread nD τ).loc main_arg9)) (ix3 b q d) := by
  rw [eq_main_v21_1, ← eq_main_v21_0]
  exact norm_at b q r _ _ _ _ (at_main_v21_0 m ρ c b q r h) (read_main_v20 m ρ c) d

/-- The rows of the last call. -/
theorem at_main_v28 (d : Fin 2048) : W12 m ρ c (Proc.devRef .tc main_v28) (ix2 r d) = OUT m c (ix3 b q d) := by
  have e : W12 m ρ c (Proc.devRef .tc main_v28) = TAIL (DOWN (V11 m ρ c main_v21_1) (V11 m ρ c main_v23) (V11 m ρ c main_v25)) (V11 m ρ c main_v21_0) (V11 m ρ c main_v27) :=
    (W12_arr m ρ c 5).trans (final4 (V11 m ρ) c)
  rw [e]
  exact tail_at b q r _ _ _ _ _ _ (down_at b q r _ _ _ _ _ _ (at_main_v21_1 m ρ c b q r h) (read_main_v23 m ρ c) (read_main_v25 m ρ c))
    (at_main_v21_0 m ρ c b q r h) (read_main_v27 m ρ c) d

omit h in
/-- Where a row of the result lies. -/
theorem place (X : FVec Ideal S1024x2048 .f32) (i) (r : Fin 1024) (hr : r.val = (i 0).val * 8 + (i 1).val) :
    extractStridedSlice S128x4x2048 ![0, 0, 0] (shapeCast S128x8x2048 X shapeCasts_S1024x2048_S128x8x2048) slices_S128x8x2048_S128x4x2048_0_0_0 i = X (ix2 r (i 2)) := by
  pointwise
  blk_ext []

omit h in
/-- The result is the reference's. -/
theorem value : W13 m ρ c (Proc.devRef .tc main_v30) = OUT m c := by
  funext i
  show StableHlo.after hostOps5 (W12 m ρ c) (Proc.devRef .tc main_v30) i = _
  simp only [hostOps5]
  after_results_simp
  have h0 : (i 0).val < 128 := (i 0).isLt
  have h1 : (i 1).val < 4 := (i 1).isLt
  refine (place _ i ⟨(i 0).val * 8 + (i 1).val, by omega⟩ rfl).trans ?_
  refine (at_main_v28 m ρ c (i 0) (i 1) _ rfl (i 2)).trans ?_
  exact congrArg (OUT m c) (eq_ix3 i).symm

omit h in
/-- Every run ends with the reference's result and its arguments unchanged. -/
theorem run : θ_run defs (onTc (τ := τ) (main (F := Ideal))) ⟨m, fun _ => 0, ρ⟩ (fun r => ∀ c : Dev nD,
      r.2.mem ((c.tc : Thread nD τ).loc main_v30) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(h.1 c _ (mem_uc main_v30 (by decide))).trans (value m ρ c),
    (h.1 c _ (mem_uc main_arg0 (by decide))).trans (W13_args m ρ c main_arg0 (by decide)),
    (h.1 c _ (mem_uc main_arg1 (by decide))).trans (W13_args m ρ c main_arg1 (by decide)),
    (h.1 c _ (mem_uc main_arg2 (by decide))).trans (W13_args m ρ c main_arg2 (by decide)),
    (h.1 c _ (mem_uc main_arg3 (by decide))).trans (W13_args m ρ c main_arg3 (by decide)),
    (h.1 c _ (mem_uc main_arg4 (by decide))).trans (W13_args m ρ c main_arg4 (by decide)),
    (h.1 c _ (mem_uc main_arg5 (by decide))).trans (W13_args m ρ c main_arg5 (by decide)),
    (h.1 c _ (mem_uc main_arg6 (by decide))).trans (W13_args m ρ c main_arg6 (by decide)),
    (h.1 c _ (mem_uc main_arg7 (by decide))).trans (W13_args m ρ c main_arg7 (by decide)),
    (h.1 c _ (mem_uc main_arg8 (by decide))).trans (W13_args m ρ c main_arg8 (by decide)),
    (h.1 c _ (mem_uc main_arg9 (by decide))).trans (W13_args m ρ c main_arg9 (by decide)),
    (h.1 c _ (mem_uc main_arg10 (by decide))).trans (W13_args m ρ c main_arg10 (by decide)),
    (h.1 c _ (mem_uc main_arg11 (by decide))).trans (W13_args m ρ c main_arg11 (by decide)),
    (h.1 c _ (mem_uc main_arg12 (by decide))).trans (W13_args m ρ c main_arg12 (by decide))⟩)
    (run_all m ρ)

end Run

end Cert.SampleOutIdeal.Out

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Rms.Frame
public import proofs.«01_k».proof.Proof.Gen.RmsIdeal.Value
public import proofs.«01_k».proof.Proof.Gen.RefRmsIdeal.Run
public import proofs.«01_k».proof.Proof.Gen.Merge.Frame
public import proofs.«01_k».proof.Proof.Gen.MergeIdeal.Value
public import proofs.«01_k».proof.Proof.Gen.RefMergeIdeal.Run
public import proofs.«01_k».proof.Proof.Gen.ProjNorm.Frame
public import proofs.«01_k».proof.Proof.Gen.ProjNormIdeal.Value
public import proofs.«01_k».proof.Proof.Gen.RefProjNormIdeal.Run
public import proofs.«01_k».proof.Proof.Gen.Mlp.Frame
public import proofs.«01_k».proof.Proof.Gen.MlpIdeal.Value
public import proofs.«01_k».proof.Proof.Gen.RefMlpIdeal.Run
public import proofs.«01_k».proof.Proof.Gen.Sample.Frame
public import proofs.«01_k».proof.Proof.Gen.SampleIdeal.Frame
public import proofs.«01_k».proof.Proof.Gen.RefSampleIdeal.Run
public import proofs.«01_k».proof.Proof.Gen.SampleRms.Frame
public import proofs.«01_k».proof.Proof.Gen.SampleRmsIdeal.Frame
public import proofs.«01_k».proof.Proof.Gen.RefSampleRmsIdeal.Run
public import proofs.«01_k».proof.Proof.Gen.SampleMerge.Frame
public import proofs.«01_k».proof.Proof.Gen.SampleMergeIdeal.Value
public import proofs.«01_k».proof.Proof.Gen.RefSampleMergeIdeal.Run
public import proofs.«01_k».proof.Proof.Gen.SampleProjNorm.Frame
public import proofs.«01_k».proof.Proof.Gen.SampleProjNormIdeal.Value
public import proofs.«01_k».proof.Proof.Gen.RefSampleProjNormIdeal.Run
public import proofs.«01_k».proof.Proof.Gen.SampleMlp.Frame
public import proofs.«01_k».proof.Proof.Gen.SampleMlpIdeal.Frame
public import proofs.«01_k».proof.Proof.Gen.RefSampleMlpIdeal.Run
public import proofs.«01_k».proof.Proof.Gen.SampleRows.Frame
public import proofs.«01_k».proof.Proof.Gen.SampleRowsIdeal.Frame
public import proofs.«01_k».proof.Proof.Gen.RefSampleRowsIdeal.Run
public import proofs.«01_k».proof.Proof.Gen.PromptRows.Launch
public import proofs.«01_k».proof.Proof.Gen.PromptRows.Points
public import proofs.«01_k».proof.Proof.Gen.PromptRows.Skeleton
public import proofs.«01_k».proof.Proof.Gen.PromptRowsIdeal.Launch
public import proofs.«01_k».proof.Proof.Gen.PromptRowsIdeal.Points
public import proofs.«01_k».proof.Proof.Gen.PromptRowsIdeal.Skeleton
public import proofs.«01_k».proof.Proof.PromptRowsIdealSteps
public import proofs.«01_k».proof.Proof.PromptRowsSame
public import proofs.«01_k».proof.Proof.Gen.RefPromptRowsIdeal.Run
public import proofs.«01_k».proof.Proof.Gen.PromptOut.Launch
public import proofs.«01_k».proof.Proof.Gen.PromptOut.Points
public import proofs.«01_k».proof.Proof.Gen.PromptOut.Skeleton
public import proofs.«01_k».proof.Proof.Gen.PromptOutIdeal.Launch
public import proofs.«01_k».proof.Proof.Gen.PromptOutIdeal.Points
public import proofs.«01_k».proof.Proof.Gen.PromptOutIdeal.Skeleton
public import proofs.«01_k».proof.Proof.PromptOutSteps
public import proofs.«01_k».proof.Proof.PromptOutSame
public import proofs.«01_k».proof.Proof.Gen.RefPromptOutIdeal.Run
public import proofs.«01_k».proof.Proof.Gen.SampleOut.Launch
public import proofs.«01_k».proof.Proof.Gen.SampleOut.Points
public import proofs.«01_k».proof.Proof.Gen.SampleOut.Skeleton
public import proofs.«01_k».proof.Proof.Gen.SampleOutIdeal.Launch
public import proofs.«01_k».proof.Proof.Gen.SampleOutIdeal.Points
public import proofs.«01_k».proof.Proof.Gen.SampleOutIdeal.Skeleton
public import proofs.«01_k».proof.Proof.SampleOutSteps
public import proofs.«01_k».proof.Proof.SampleOutSame
public import proofs.«01_k».proof.Proof.Gen.RefSampleOutIdeal.Run
public import proofs.«01_k».proof.Proof.InProj
public import proofs.«01_k».proof.Proof.Rms
public import proofs.«01_k».proof.Proof.Merge
public import proofs.«01_k».proof.Proof.ProjNorm
public import proofs.«01_k».proof.Proof.Mlp
public import proofs.«01_k».proof.Proof.SampleInProj
public import proofs.«01_k».proof.Proof.SampleRms
public import proofs.«01_k».proof.Proof.SampleMerge
public import proofs.«01_k».proof.Proof.SampleProjNorm
public import proofs.«01_k».proof.Proof.SampleMlp
public import proofs.«01_k».proof.Proof.SampleRows
public import proofs.«01_k».proof.Proof.PromptRows
public import proofs.«01_k».proof.Proof.PromptOut
public import proofs.«01_k».proof.Proof.SampleOut
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.SL.Sem

/-- The projection's reference runs to the end from every launch, keeps its arguments and leaves every semaphore at zero. -/
theorem quiescent_ReferenceIdeal : quiescent_ReferenceIdeal := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

/-- From launches that agree on the arguments, the projection call and its reference end with the same results. -/
theorem algebraic_KernelIdeal_ReferenceIdeal : algebraic_KernelIdeal_ReferenceIdeal := by
  pair_intro
  · run_from Cert.KernelIdeal.Gen.run_main m g
    · exact Cert.KernelIdeal.Gen.W_main_arg1 m _ c
  · run_from Cert.ReferenceIdeal.Value.run m' g'
    · exact (Cert.KernelIdeal.Proj.final m c).symm
    · exact (Cert.KernelIdeal.Proj.value1 m c).symm
    · exact (Cert.KernelIdeal.Proj.value2 m c).symm
    · exact (Cert.KernelIdeal.Proj.value3 m c).symm
    · exact (Cert.KernelIdeal.Proj.value4 m c).symm
    · exact (Cert.KernelIdeal.Proj.value5 m c).symm

/-- The first normalisation's reference runs to the end from every launch, keeps its arguments and leaves every semaphore at zero. -/
theorem quiescent_RefRmsIdeal : quiescent_RefRmsIdeal := fun m ρ _ =>
  (θ_run Cert.RefRmsIdeal.defs _ _).mono (fun r h => ⟨fun c => (h c).2, sem_eq_zero_of_no_sems (by decide) r.2⟩)
    (Cert.RefRmsIdeal.Value.run (F := Ideal) m ρ)

/-- From launches that agree on the arguments, the first normalisation call and its reference end with the same results. -/
theorem algebraic_RmsIdeal_RefRmsIdeal : algebraic_RmsIdeal_RefRmsIdeal := by
  intro m ρ m' ρ' _ hagree
  refine ⟨_, Cert.RmsIdeal.Value.run_blocks (F := Ideal) m ρ, ?_⟩
  refine (θ_run Cert.RefRmsIdeal.defs _ _).mono (fun _ h c => ⟨?_, (h c).2⟩) (Cert.RefRmsIdeal.Value.run (F := Ideal) m' ρ')
  rw [(h c).1]
  simp only [hagree c]
  exact (Cert.RmsIdeal.Norm.final m c).symm

/-- The merge's reference runs to the end from every launch, keeps its arguments and leaves every semaphore at zero. -/
theorem quiescent_RefMergeIdeal : quiescent_RefMergeIdeal := fun m ρ _ =>
  (θ_run Cert.RefMergeIdeal.defs _ _).mono (fun r h => ⟨fun c => (h c).2, sem_eq_zero_of_no_sems (by decide) r.2⟩)
    (Cert.RefMergeIdeal.Value.run (F := Ideal) m ρ)

/-- From launches that agree on the arguments, the merge call and its reference end with the same results. -/
theorem algebraic_MergeIdeal_RefMergeIdeal : algebraic_MergeIdeal_RefMergeIdeal := by
  intro m ρ m' ρ' _ hagree
  refine ⟨_, Cert.MergeIdeal.Value.run_blocks (F := Ideal) m ρ, ?_⟩
  refine (θ_run Cert.RefMergeIdeal.defs _ _).mono (fun _ h c => ⟨?_, (h c).2⟩) (Cert.RefMergeIdeal.Value.run (F := Ideal) m' ρ')
  rw [(h c).1]
  simp only [hagree c]
  exact (Cert.MergeIdeal.Merge.final m c).symm

/-- The output projection's reference runs to the end from every launch, keeps its arguments and leaves every semaphore at zero. -/
theorem quiescent_RefProjNormIdeal : quiescent_RefProjNormIdeal := fun m ρ _ =>
  (θ_run Cert.RefProjNormIdeal.defs _ _).mono (fun r h => ⟨fun c => (h c).2.2, sem_eq_zero_of_no_sems (by decide) r.2⟩)
    (Cert.RefProjNormIdeal.Value.run (F := Ideal) m ρ)

/-- From launches that agree on the arguments, the output projection call and its reference end with the same results. -/
theorem algebraic_ProjNormIdeal_RefProjNormIdeal : algebraic_ProjNormIdeal_RefProjNormIdeal := by
  intro m ρ m' ρ' _ hagree
  refine ⟨_, _, Cert.ProjNormIdeal.Value.run_blocks (F := Ideal) m ρ, ?_⟩
  refine (θ_run Cert.RefProjNormIdeal.defs _ _).mono (fun _ h c => ⟨?_, ?_, (h c).2.2⟩) (Cert.RefProjNormIdeal.Value.run (F := Ideal) m' ρ')
  · rw [(h c).1]
    simp only [hagree c]
    exact (Cert.ProjNormIdeal.Proj.final1 m c).symm
  · rw [(h c).2.1]
    unfold Cert.RefProjNormIdeal.Value.res_main_v32
    simp only [hagree c]
    exact (Cert.ProjNormIdeal.Proj.final2 m c).symm

/-- The perceptron's reference runs to the end from every launch, keeps its arguments and leaves every semaphore at zero. -/
theorem quiescent_RefMlpIdeal : quiescent_RefMlpIdeal := fun m ρ _ =>
  (θ_run Cert.RefMlpIdeal.defs _ _).mono (fun r h => ⟨fun c => (h c).2, sem_eq_zero_of_no_sems (by decide) r.2⟩)
    (Cert.RefMlpIdeal.Value.run (F := Ideal) m ρ)

/-- From launches that agree on the arguments, the perceptron call and its reference end with the same results. -/
theorem algebraic_MlpIdeal_RefMlpIdeal : algebraic_MlpIdeal_RefMlpIdeal := by
  intro m ρ m' ρ' _ hagree
  refine ⟨_, Cert.MlpIdeal.Value.run_blocks (F := Ideal) m ρ, ?_⟩
  refine (θ_run Cert.RefMlpIdeal.defs _ _).mono (fun _ h c => ⟨?_, (h c).2⟩) (Cert.RefMlpIdeal.Value.run (F := Ideal) m' ρ')
  rw [(h c).1]
  simp only [hagree c]
  exact (Cert.MlpIdeal.Mlp.final m c).symm

/-- The sample's projection's reference runs to the end from every launch, keeps its arguments and leaves every semaphore at zero. -/
theorem quiescent_RefSampleIdeal : quiescent_RefSampleIdeal := fun m ρ _ =>
  (θ_run Cert.RefSampleIdeal.defs _ _).mono (fun r h => ⟨fun c => (h c).2.2.2.2.2.2, sem_eq_zero_of_no_sems (by decide) r.2⟩)
    (Cert.RefSampleIdeal.Value.run (F := Ideal) m ρ)

/-- From launches that agree on the arguments, the sample's projection call and its reference end with the same results. -/
theorem algebraic_SampleIdeal_RefSampleIdeal : algebraic_SampleIdeal_RefSampleIdeal := by
  pair_intro
  · run_from Cert.SampleIdeal.Gen.run_main m g
    · exact Cert.SampleIdeal.Gen.W_main_arg1 m _ c
  · run_from Cert.RefSampleIdeal.Value.run m' g'
    · exact (Cert.SampleIdeal.Proj.final m c).symm
    · exact (Cert.SampleIdeal.Proj.value1 m c).symm
    · exact (Cert.SampleIdeal.Proj.value2 m c).symm
    · exact (Cert.SampleIdeal.Proj.value3 m c).symm
    · exact (Cert.SampleIdeal.Proj.value4 m c).symm
    · exact (Cert.SampleIdeal.Proj.value5 m c).symm

/-- The sample's first normalisation's reference runs to the end from every launch, keeps its arguments and leaves every semaphore at zero. -/
theorem quiescent_RefSampleRmsIdeal : quiescent_RefSampleRmsIdeal := fun m ρ _ =>
  (θ_run Cert.RefSampleRmsIdeal.defs _ _).mono (fun r h => ⟨fun c => (h c).2, sem_eq_zero_of_no_sems (by decide) r.2⟩)
    (Cert.RefSampleRmsIdeal.Value.run (F := Ideal) m ρ)

/-- From launches that agree on the arguments, the sample's first normalisation call and its reference end with the same results. -/
theorem algebraic_SampleRmsIdeal_RefSampleRmsIdeal : algebraic_SampleRmsIdeal_RefSampleRmsIdeal := by
  pair_intro
  · run_from Cert.SampleRmsIdeal.Gen.run_main m g
    · exact Cert.SampleRmsIdeal.Gen.W_main_arg0 m _ c
    · exact Cert.SampleRmsIdeal.Gen.W_main_arg1 m _ c
  · run_from Cert.RefSampleRmsIdeal.Value.run m' g'
    exact (Cert.SampleRmsIdeal.Norm.value m c).symm

/-- The sample's merge's reference runs to the end from every launch, keeps its arguments and leaves every semaphore at zero. -/
theorem quiescent_RefSampleMergeIdeal : quiescent_RefSampleMergeIdeal := fun m ρ _ =>
  (θ_run Cert.RefSampleMergeIdeal.defs _ _).mono (fun r h => ⟨fun c => (h c).2, sem_eq_zero_of_no_sems (by decide) r.2⟩)
    (Cert.RefSampleMergeIdeal.Value.run (F := Ideal) m ρ)

/-- From launches that agree on the arguments, the sample's merge call and its reference end with the same results. -/
theorem algebraic_SampleMergeIdeal_RefSampleMergeIdeal : algebraic_SampleMergeIdeal_RefSampleMergeIdeal := by
  intro m ρ m' ρ' _ hagree
  refine ⟨_, Cert.SampleMergeIdeal.Value.run_blocks (F := Ideal) m ρ, ?_⟩
  refine (θ_run Cert.RefSampleMergeIdeal.defs _ _).mono (fun _ h c => ⟨?_, (h c).2⟩) (Cert.RefSampleMergeIdeal.Value.run (F := Ideal) m' ρ')
  rw [(h c).1]
  simp only [hagree c]
  exact (Cert.SampleMergeIdeal.Merge.final m c).symm

/-- The sample's output projection's reference runs to the end from every launch, keeps its arguments and leaves every semaphore at zero. -/
theorem quiescent_RefSampleProjNormIdeal : quiescent_RefSampleProjNormIdeal := fun m ρ _ =>
  (θ_run Cert.RefSampleProjNormIdeal.defs _ _).mono (fun r h => ⟨fun c => (h c).2.2, sem_eq_zero_of_no_sems (by decide) r.2⟩)
    (Cert.RefSampleProjNormIdeal.Value.run (F := Ideal) m ρ)

/-- From launches that agree on the arguments, the sample's output projection call and its reference end with the same results. -/
theorem algebraic_SampleProjNormIdeal_RefSampleProjNormIdeal : algebraic_SampleProjNormIdeal_RefSampleProjNormIdeal := by
  intro m ρ m' ρ' _ hagree
  refine ⟨_, _, Cert.SampleProjNormIdeal.Value.run_blocks (F := Ideal) m ρ, ?_⟩
  refine (θ_run Cert.RefSampleProjNormIdeal.defs _ _).mono (fun _ h c => ⟨?_, ?_, (h c).2.2⟩) (Cert.RefSampleProjNormIdeal.Value.run (F := Ideal) m' ρ')
  · rw [(h c).1]
    simp only [hagree c]
    exact (Cert.SampleProjNormIdeal.Proj.final1 m c).symm
  · rw [(h c).2.1]
    unfold Cert.RefSampleProjNormIdeal.Value.res_main_v32
    simp only [hagree c]
    exact (Cert.SampleProjNormIdeal.Proj.final2 m c).symm

/-- The sample's perceptron's reference runs to the end from every launch, keeps its arguments and leaves every semaphore at zero. -/
theorem quiescent_RefSampleMlpIdeal : quiescent_RefSampleMlpIdeal := fun m ρ _ =>
  (θ_run Cert.RefSampleMlpIdeal.defs _ _).mono (fun r h => ⟨fun c => (h c).2, sem_eq_zero_of_no_sems (by decide) r.2⟩)
    (Cert.RefSampleMlpIdeal.Value.run (F := Ideal) m ρ)

/-- From launches that agree on the arguments, the sample's perceptron call and its reference end with the same results. -/
theorem algebraic_SampleMlpIdeal_RefSampleMlpIdeal : algebraic_SampleMlpIdeal_RefSampleMlpIdeal := by
  pair_intro
  · run_from Cert.SampleMlpIdeal.Gen.run_main m g
    · exact Cert.SampleMlpIdeal.Gen.W_main_arg1 m _ c
    · exact Cert.SampleMlpIdeal.Gen.W_main_arg2 m _ c
    · exact Cert.SampleMlpIdeal.Gen.W_main_arg4 m _ c
  · run_from Cert.RefSampleMlpIdeal.Value.run m' g'
    unfold Cert.RefSampleMlpIdeal.Value.res_main_v25
    simp only [hagree c]
    exact (Cert.SampleMlpIdeal.Mlp.value m c).symm

/-- The reference of the sample's cache rows runs to the end from every launch, keeps its arguments and leaves every semaphore at zero. -/
theorem quiescent_RefSampleRowsIdeal : quiescent_RefSampleRowsIdeal := fun m ρ _ =>
  (θ_run Cert.RefSampleRowsIdeal.defs _ _).mono (fun r h => ⟨fun c => (h c).2.2.2.2.2, sem_eq_zero_of_no_sems (by decide) r.2⟩)
    (Cert.RefSampleRowsIdeal.Value.run (F := Ideal) m ρ)

/-- From launches that agree on the arguments, the sample's first normalisation and projection calls and its reference end with the same results. -/
theorem algebraic_SampleRowsIdeal_RefSampleRowsIdeal : algebraic_SampleRowsIdeal_RefSampleRowsIdeal := by
  intro m ρ m' ρ' _ hagree
  refine ⟨_, _, _, _, _, Cert.SampleRowsIdeal.Rows.run m ρ, ?_⟩
  refine (θ_run Cert.RefSampleRowsIdeal.defs _ _).mono (fun _ h c => ?_) (Cert.RefSampleRowsIdeal.Value.run (F := Ideal) m' ρ')
  obtain ⟨h1, h2, h3, h4, h5, ha⟩ := h c
  simp only [hagree c] at h1 h2 h3 h4 h5
  exact ⟨h1, h2, h3, h4, h5, ha⟩

/-- The reference of the prompt's cache rows runs to the end from every launch, keeps its arguments and leaves every semaphore at zero. -/
theorem quiescent_RefPromptRowsIdeal : quiescent_RefPromptRowsIdeal := fun m ρ _ =>
  (θ_run Cert.RefPromptRowsIdeal.defs _ _).mono (fun r h => ⟨fun c => (h c).2.2.2.2.2, sem_eq_zero_of_no_sems (by decide) r.2⟩)
    (Cert.RefPromptRowsIdeal.Value.run (F := Ideal) m ρ)

/-- From launches that agree on the arguments, the prompt's first normalisation and projection calls and its reference end with the same results. -/
theorem algebraic_PromptRowsIdeal_RefPromptRowsIdeal : algebraic_PromptRowsIdeal_RefPromptRowsIdeal := by
  intro m ρ m' ρ' _ hagree
  refine ⟨_, _, _, _, _, Cert.PromptRowsIdeal.Rows.run m ρ, ?_⟩
  refine (θ_run Cert.RefPromptRowsIdeal.defs _ _).mono (fun _ h c => ?_) (Cert.RefPromptRowsIdeal.Value.run (F := Ideal) m' ρ')
  obtain ⟨h1, h2, h3, h4, h5, ha⟩ := h c
  simp only [hagree c] at h1 h2 h3 h4 h5
  exact ⟨h1, h2, h3, h4, h5, ha⟩

/-- The reference of the prompt's result runs to the end from every launch, keeps its arguments and leaves every semaphore at zero. -/
theorem quiescent_RefPromptOutIdeal : quiescent_RefPromptOutIdeal := fun m ρ _ =>
  (θ_run Cert.RefPromptOutIdeal.defs _ _).mono (fun r h => ⟨fun c => (h c).2, sem_eq_zero_of_no_sems (by decide) r.2⟩)
    (Cert.RefPromptOutIdeal.Value.run (F := Ideal) m ρ)

/-- From launches that agree on the arguments, the prompt's calls outside its attentions and its reference end with the same results. -/
theorem algebraic_PromptOutIdeal_RefPromptOutIdeal : algebraic_PromptOutIdeal_RefPromptOutIdeal := by
  intro m ρ m' ρ' _ hagree
  refine ⟨_, Cert.PromptOutIdeal.Out.run m ρ, ?_⟩
  refine (θ_run Cert.RefPromptOutIdeal.defs _ _).mono (fun _ h c => ?_) (Cert.RefPromptOutIdeal.Value.run (F := Ideal) m' ρ')
  obtain ⟨h1, ha⟩ := h c
  unfold Cert.RefPromptOutIdeal.Value.res_main_v77 Cert.RefPromptOutIdeal.Value.res_main_v74 Cert.RefPromptOutIdeal.Value.res_main_v57 Cert.RefPromptOutIdeal.Value.res_main_v42 Cert.RefPromptOutIdeal.Value.res_main_v15 at h1
  simp only [hagree c] at h1
  exact ⟨h1, ha⟩

/-- The reference of the sample's result runs to the end from every launch, keeps its arguments and leaves every semaphore at zero. -/
theorem quiescent_RefSampleOutIdeal : quiescent_RefSampleOutIdeal := fun m ρ _ =>
  (θ_run Cert.RefSampleOutIdeal.defs _ _).mono (fun r h => ⟨fun c => (h c).2, sem_eq_zero_of_no_sems (by decide) r.2⟩)
    (Cert.RefSampleOutIdeal.Value.run (F := Ideal) m ρ)

/-- From launches that agree on the arguments, the sample's calls outside its attentions and its reference end with the same results. -/
theorem algebraic_SampleOutIdeal_RefSampleOutIdeal : algebraic_SampleOutIdeal_RefSampleOutIdeal := by
  intro m ρ m' ρ' _ hagree
  refine ⟨_, Cert.SampleOutIdeal.Out.run m ρ, ?_⟩
  refine (θ_run Cert.RefSampleOutIdeal.defs _ _).mono (fun _ h c => ?_) (Cert.RefSampleOutIdeal.Value.run (F := Ideal) m' ρ')
  obtain ⟨h1, ha⟩ := h c
  unfold Cert.RefSampleOutIdeal.Value.res_main_v75 Cert.RefSampleOutIdeal.Value.res_main_v72 Cert.RefSampleOutIdeal.Value.res_main_v55 Cert.RefSampleOutIdeal.Value.res_main_v40 Cert.RefSampleOutIdeal.Value.res_main_v15 at h1
  simp only [hagree c] at h1
  exact ⟨h1, ha⟩

/-- All the claims. -/
theorem claim : Cert.Claim := ⟨Cert.Kernel.Gen.facts, Cert.KernelIdeal.Gen.facts, Cert.ReferenceIdeal.Gen.facts, Cert.Rms.Gen.facts, Cert.RmsIdeal.Gen.facts, Cert.RefRmsIdeal.Gen.facts, Cert.Merge.Gen.facts, Cert.MergeIdeal.Gen.facts, Cert.RefMergeIdeal.Gen.facts, Cert.ProjNorm.Gen.facts, Cert.ProjNormIdeal.Gen.facts, Cert.RefProjNormIdeal.Gen.facts, Cert.Mlp.Gen.facts, Cert.MlpIdeal.Gen.facts, Cert.RefMlpIdeal.Gen.facts, Cert.Sample.Gen.facts, Cert.SampleIdeal.Gen.facts, Cert.RefSampleIdeal.Gen.facts, Cert.SampleRms.Gen.facts, Cert.SampleRmsIdeal.Gen.facts, Cert.RefSampleRmsIdeal.Gen.facts, Cert.SampleMerge.Gen.facts, Cert.SampleMergeIdeal.Gen.facts, Cert.RefSampleMergeIdeal.Gen.facts, Cert.SampleProjNorm.Gen.facts, Cert.SampleProjNormIdeal.Gen.facts, Cert.RefSampleProjNormIdeal.Gen.facts, Cert.SampleMlp.Gen.facts, Cert.SampleMlpIdeal.Gen.facts, Cert.RefSampleMlpIdeal.Gen.facts, Cert.SampleRows.Gen.facts, Cert.SampleRowsIdeal.Gen.facts, Cert.RefSampleRowsIdeal.Gen.facts, Cert.PromptRows.Gen.facts, Cert.PromptRowsIdeal.Gen.facts, Cert.RefPromptRowsIdeal.Gen.facts, Cert.PromptOut.Gen.facts, Cert.PromptOutIdeal.Gen.facts, Cert.RefPromptOutIdeal.Gen.facts, Cert.SampleOut.Gen.facts, Cert.SampleOutIdeal.Gen.facts, Cert.RefSampleOutIdeal.Gen.facts,
  fun m ρ _ => Cert.Kernel.Gen.frame m ρ, fun m ρ _ => Cert.KernelIdeal.Gen.frame m ρ, quiescent_ReferenceIdeal,
  fun m ρ _ => Cert.Rms.Gen.frame m ρ, fun m ρ _ => Cert.RmsIdeal.Gen.frame m ρ, quiescent_RefRmsIdeal,
  fun m ρ _ => Cert.Merge.Gen.frame m ρ, fun m ρ _ => Cert.MergeIdeal.Gen.frame m ρ, quiescent_RefMergeIdeal,
  fun m ρ _ => Cert.ProjNorm.Gen.frame m ρ, fun m ρ _ => Cert.ProjNormIdeal.Gen.frame m ρ, quiescent_RefProjNormIdeal,
  fun m ρ _ => Cert.Mlp.Gen.frame m ρ, fun m ρ _ => Cert.MlpIdeal.Gen.frame m ρ, quiescent_RefMlpIdeal,
  fun m ρ _ => Cert.Sample.Gen.frame m ρ, fun m ρ _ => Cert.SampleIdeal.Gen.frame m ρ, quiescent_RefSampleIdeal,
  fun m ρ _ => Cert.SampleRms.Gen.frame m ρ, fun m ρ _ => Cert.SampleRmsIdeal.Gen.frame m ρ, quiescent_RefSampleRmsIdeal,
  fun m ρ _ => Cert.SampleMerge.Gen.frame m ρ, fun m ρ _ => Cert.SampleMergeIdeal.Gen.frame m ρ, quiescent_RefSampleMergeIdeal,
  fun m ρ _ => Cert.SampleProjNorm.Gen.frame m ρ, fun m ρ _ => Cert.SampleProjNormIdeal.Gen.frame m ρ, quiescent_RefSampleProjNormIdeal,
  fun m ρ _ => Cert.SampleMlp.Gen.frame m ρ, fun m ρ _ => Cert.SampleMlpIdeal.Gen.frame m ρ, quiescent_RefSampleMlpIdeal,
  fun m ρ _ => Cert.SampleRows.Gen.frame m ρ, fun m ρ _ => Cert.SampleRowsIdeal.Gen.frame m ρ, quiescent_RefSampleRowsIdeal,
  fun m ρ _ => Cert.PromptRows.Same.arrays_kept m ρ, fun m ρ _ => Cert.PromptRowsIdeal.Steps.arrays_kept m ρ, quiescent_RefPromptRowsIdeal,
  fun m ρ _ => Cert.PromptOut.Same.arrays_kept m ρ, fun m ρ _ => Cert.PromptOutIdeal.Steps.arrays_kept m ρ, quiescent_RefPromptOutIdeal,
  fun m ρ _ => Cert.SampleOut.Same.arrays_kept m ρ, fun m ρ _ => Cert.SampleOutIdeal.Steps.arrays_kept m ρ, quiescent_RefSampleOutIdeal,
  (trivial : preserves_Kernel_KernelIdeal), algebraic_KernelIdeal_ReferenceIdeal,
  (trivial : preserves_Rms_RmsIdeal), algebraic_RmsIdeal_RefRmsIdeal,
  (trivial : preserves_Merge_MergeIdeal), algebraic_MergeIdeal_RefMergeIdeal,
  (trivial : preserves_ProjNorm_ProjNormIdeal), algebraic_ProjNormIdeal_RefProjNormIdeal,
  (trivial : preserves_Mlp_MlpIdeal), algebraic_MlpIdeal_RefMlpIdeal,
  (trivial : preserves_Sample_SampleIdeal), algebraic_SampleIdeal_RefSampleIdeal,
  (trivial : preserves_SampleRms_SampleRmsIdeal), algebraic_SampleRmsIdeal_RefSampleRmsIdeal,
  (trivial : preserves_SampleMerge_SampleMergeIdeal), algebraic_SampleMergeIdeal_RefSampleMergeIdeal,
  (trivial : preserves_SampleProjNorm_SampleProjNormIdeal), algebraic_SampleProjNormIdeal_RefSampleProjNormIdeal,
  (trivial : preserves_SampleMlp_SampleMlpIdeal), algebraic_SampleMlpIdeal_RefSampleMlpIdeal,
  (trivial : preserves_SampleRows_SampleRowsIdeal), algebraic_SampleRowsIdeal_RefSampleRowsIdeal,
  (trivial : preserves_PromptRows_PromptRowsIdeal), algebraic_PromptRowsIdeal_RefPromptRowsIdeal,
  (trivial : preserves_PromptOut_PromptOutIdeal), algebraic_PromptOutIdeal_RefPromptOutIdeal,
  (trivial : preserves_SampleOut_SampleOutIdeal), algebraic_SampleOutIdeal_RefSampleOutIdeal⟩

end Cert.Proof

end
